-- ==== Defs.lean ====
def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWRefIdeal (m : (ℓ : Loc Cert.FfnWRefIdeal.nD Cert.FfnWRefIdeal.τ Cert.FfnWRefIdeal.sig) → Buf (Elt Ideal) ℓ) : Prop :=
  True

def Pre_FfnF (m : (ℓ : Loc Cert.FfnF.nD Cert.FfnF.τ Cert.FfnF.sig) → Buf (Elt Bits) ℓ) : Prop :=
  True

def Pre_FfnFIdeal (m : (ℓ : Loc Cert.FfnFIdeal.nD Cert.FfnFIdeal.τ Cert.FfnFIdeal.sig) → Buf (Elt Ideal) ℓ) : Prop :=
  True

def Pre_FfnFRefIdeal (m : (ℓ : Loc Cert.FfnFRefIdeal.nD Cert.FfnFRefIdeal.τ Cert.FfnFRefIdeal.sig) → Buf (Elt Ideal) ℓ) : Prop :=
  True

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBIdeal_finite [hPre_finite : Cert.Pre_finite.Facts] (m : (ℓ : Loc Cert.FfnBIdeal.nD Cert.FfnBIdeal.τ Cert.FfnBIdeal.sig) → Buf (Elt Ideal) ℓ) : Prop :=
  ∀ c : Dev Cert.FfnBIdeal.nD,
    (Cert.Pre_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6)) (m ((c.tc : Thread Cert.FfnBIdeal.nD Cert.FfnBIdeal.τ).loc Cert.FfnBIdeal.main_arg7)) (m ((c.tc : Thread Cert.FfnBIdeal.nD Cert.FfnBIdeal.τ).loc Cert.FfnBIdeal.main_arg8))) = (fun _ => 1#1)

def Pre_FfnBRefIdeal (m : (ℓ : Loc Cert.FfnBRefIdeal.nD Cert.FfnBRefIdeal.τ Cert.FfnBRefIdeal.sig) → Buf (Elt Ideal) ℓ) : Prop :=
  True

def Pre_FfnBRefIdeal_finite [hPre_finite : Cert.Pre_finite.Facts] (m : (ℓ : Loc Cert.FfnBRefIdeal.nD Cert.FfnBRefIdeal.τ Cert.FfnBRefIdeal.sig) → Buf (Elt Ideal) ℓ) : Prop :=
  ∀ c : Dev Cert.FfnBRefIdeal.nD,
    (Cert.Pre_finite.fn (F := Ideal) (m ((c.tc : Thread Cert.FfnBRefIdeal.nD Cert.FfnBRefIdeal.τ).loc Cert.FfnBRefIdeal.main_arg0)) (m ((c.tc : Thread Cert.FfnBRefIdeal.nD Cert.FfnBRefIdeal.τ).loc Cert.FfnBRefIdeal.main_arg1)) (m ((c.tc : Thread Cert.FfnBRefIdeal.nD Cert.FfnBRefIdeal.τ).loc Cert.FfnBRefIdeal.main_arg2)) (m ((c.tc : Thread Cert.FfnBRefIdeal.nD Cert.FfnBRefIdeal.τ).loc Cert.FfnBRefIdeal.main_arg3)) (m ((c.tc : Thread Cert.FfnBRefIdeal.nD Cert.FfnBRefIdeal.τ).loc Cert.FfnBRefIdeal.main_arg4)) (m ((c.tc : Thread Cert.FfnBRefIdeal.nD Cert.FfnBRefIdeal.τ).loc Cert.FfnBRefIdeal.main_arg5)) (m ((c.tc : Thread Cert.FfnBRefIdeal.nD Cert.FfnBRefIdeal.τ).loc Cert.FfnBRefIdeal.main_arg6)) (m ((c.tc : Thread Cert.FfnBRefIdeal.nD Cert.FfnBRefIdeal.τ).loc Cert.FfnBRefIdeal.main_arg7)) (m ((c.tc : Thread Cert.FfnBRefIdeal.nD Cert.FfnBRefIdeal.τ).loc Cert.FfnBRefIdeal.main_arg8))) = (fun _ => 1#1)

def Pre_FfnL (m : (ℓ : Loc Cert.FfnL.nD Cert.FfnL.τ Cert.FfnL.sig) → Buf (Elt Bits) ℓ) : Prop :=
  True

def Pre_FfnLIdeal (m : (ℓ : Loc Cert.FfnLIdeal.nD Cert.FfnLIdeal.τ Cert.FfnLIdeal.sig) → Buf (Elt Ideal) ℓ) : Prop :=
  True

def Pre_FfnLIdeal_finite_l [hPre_finite_l : Cert.Pre_finite_l.Facts] (m : (ℓ : Loc Cert.FfnLIdeal.nD Cert.FfnLIdeal.τ Cert.FfnLIdeal.sig) → Buf (Elt Ideal) ℓ) : Prop :=
  ∀ c : Dev Cert.FfnLIdeal.nD,
    (Cert.Pre_finite_l.fn (F := Ideal) (m ((c.tc : Thread Cert.FfnLIdeal.nD Cert.FfnLIdeal.τ).loc Cert.FfnLIdeal.main_arg0)) (m ((c.tc : Thread Cert.FfnLIdeal.nD Cert.FfnLIdeal.τ).loc Cert.FfnLIdeal.main_arg1)) (m ((c.tc : Thread Cert.FfnLIdeal.nD Cert.FfnLIdeal.τ).loc Cert.FfnLIdeal.main_arg2)) (m ((c.tc : Thread Cert.FfnLIdeal.nD Cert.FfnLIdeal.τ).loc Cert.FfnLIdeal.main_arg3)) (m ((c.tc : Thread Cert.FfnLIdeal.nD Cert.FfnLIdeal.τ).loc Cert.FfnLIdeal.main_arg4)) (m ((c.tc : Thread Cert.FfnLIdeal.nD Cert.FfnLIdeal.τ).loc Cert.FfnLIdeal.main_arg5)) (m ((c.tc : Thread Cert.FfnLIdeal.nD Cert.FfnLIdeal.τ).loc Cert.FfnLIdeal.main_arg6)) (m ((c.tc : Thread Cert.FfnLIdeal.nD Cert.FfnLIdeal.τ).loc Cert.FfnLIdeal.main_arg7)) (m ((c.tc : Thread Cert.FfnLIdeal.nD Cert.FfnLIdeal.τ).loc Cert.FfnLIdeal.main_arg8)) (m ((c.tc : Thread Cert.FfnLIdeal.nD Cert.FfnLIdeal.τ).loc Cert.FfnLIdeal.main_arg9))) = (fun _ => 1#1)

def Pre_FfnLRefIdeal (m : (ℓ : Loc Cert.FfnLRefIdeal.nD Cert.FfnLRefIdeal.τ Cert.FfnLRefIdeal.sig) → Buf (Elt Ideal) ℓ) : Prop :=
  True

def Pre_FfnLRefIdeal_finite_l [hPre_finite_l : Cert.Pre_finite_l.Facts] (m : (ℓ : Loc Cert.FfnLRefIdeal.nD Cert.FfnLRefIdeal.τ Cert.FfnLRefIdeal.sig) → Buf (Elt Ideal) ℓ) : Prop :=
  ∀ c : Dev Cert.FfnLRefIdeal.nD,
    (Cert.Pre_finite_l.fn (F := Ideal) (m ((c.tc : Thread Cert.FfnLRefIdeal.nD Cert.FfnLRefIdeal.τ).loc Cert.FfnLRefIdeal.main_arg0)) (m ((c.tc : Thread Cert.FfnLRefIdeal.nD Cert.FfnLRefIdeal.τ).loc Cert.FfnLRefIdeal.main_arg1)) (m ((c.tc : Thread Cert.FfnLRefIdeal.nD Cert.FfnLRefIdeal.τ).loc Cert.FfnLRefIdeal.main_arg2)) (m ((c.tc : Thread Cert.FfnLRefIdeal.nD Cert.FfnLRefIdeal.τ).loc Cert.FfnLRefIdeal.main_arg3)) (m ((c.tc : Thread Cert.FfnLRefIdeal.nD Cert.FfnLRefIdeal.τ).loc Cert.FfnLRefIdeal.main_arg4)) (m ((c.tc : Thread Cert.FfnLRefIdeal.nD Cert.FfnLRefIdeal.τ).loc Cert.FfnLRefIdeal.main_arg5)) (m ((c.tc : Thread Cert.FfnLRefIdeal.nD Cert.FfnLRefIdeal.τ).loc Cert.FfnLRefIdeal.main_arg6)) (m ((c.tc : Thread Cert.FfnLRefIdeal.nD Cert.FfnLRefIdeal.τ).loc Cert.FfnLRefIdeal.main_arg7)) (m ((c.tc : Thread Cert.FfnLRefIdeal.nD Cert.FfnLRefIdeal.τ).loc Cert.FfnLRefIdeal.main_arg8)) (m ((c.tc : Thread Cert.FfnLRefIdeal.nD Cert.FfnLRefIdeal.τ).loc Cert.FfnLRefIdeal.main_arg9))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1)
      ∧ r.2.mem ((c.tc : Thread Cert.FfnW.nD Cert.FfnW.τ).loc Cert.FfnW.main_arg2) = m ((c.tc : Thread Cert.FfnW.nD Cert.FfnW.τ).loc Cert.FfnW.main_arg2)
      ∧ r.2.mem ((c.tc : Thread Cert.FfnW.nD Cert.FfnW.τ).loc Cert.FfnW.main_arg3) = m ((c.tc : Thread Cert.FfnW.nD Cert.FfnW.τ).loc Cert.FfnW.main_arg3)
      ∧ r.2.mem ((c.tc : Thread Cert.FfnW.nD Cert.FfnW.τ).loc Cert.FfnW.main_arg4) = m ((c.tc : Thread Cert.FfnW.nD Cert.FfnW.τ).loc Cert.FfnW.main_arg4)
      ∧ r.2.mem ((c.tc : Thread Cert.FfnW.nD Cert.FfnW.τ).loc Cert.FfnW.main_arg5) = m ((c.tc : Thread Cert.FfnW.nD Cert.FfnW.τ).loc Cert.FfnW.main_arg5))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
      ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
      ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4)
      ∧ r.2.mem ((c.tc : Thread Cert.FfnWIdeal.nD Cert.FfnWIdeal.τ).loc Cert.FfnWIdeal.main_arg5) = m ((c.tc : Thread Cert.FfnWIdeal.nD Cert.FfnWIdeal.τ).loc Cert.FfnWIdeal.main_arg5))
      ∧ r.2.sem = fun _ => 0)

def quiescent_FfnWRefIdeal [hFfnWRefIdeal : Cert.FfnWRefIdeal.Facts] : Prop :=
  ∀ (m : (ℓ : Loc Cert.FfnWRefIdeal.nD Cert.FfnWRefIdeal.τ Cert.FfnWRefIdeal.sig) → Buf (Elt Ideal) ℓ) (g : Dev Cert.FfnWRefIdeal.nD → PrngReg), Pre_FfnWRefIdeal m →
    θ_run (Cert.FfnWRefIdeal.defs (F := Ideal)) (onTc (τ := Cert.FfnWRefIdeal.τ) (Cert.FfnWRefIdeal.main (F := Ideal))) ⟨m, fun _ => 0, g⟩ (fun r => (∀ c : Dev Cert.FfnWRefIdeal.nD,
      r.2.mem ((c.tc : Thread Cert.FfnWRefIdeal.nD Cert.FfnWRefIdeal.τ).loc Cert.FfnWRefIdeal.main_arg0) = m ((c.tc : Thread Cert.FfnWRefIdeal.nD Cert.FfnWRefIdeal.τ).loc Cert.FfnWRefIdeal.main_arg0)
      ∧ r.2.mem ((c.tc : Thread Cert.FfnWRefIdeal.nD Cert.FfnWRefIdeal.τ).loc Cert.FfnWRefIdeal.main_arg1) = m ((c.tc : Thread Cert.FfnWRefIdeal.nD Cert.FfnWRefIdeal.τ).loc Cert.FfnWRefIdeal.main_arg1)
      ∧ r.2.mem ((c.tc : Thread Cert.FfnWRefIdeal.nD Cert.FfnWRefIdeal.τ).loc Cert.FfnWRefIdeal.main_arg2) = m ((c.tc : Thread Cert.FfnWRefIdeal.nD Cert.FfnWRefIdeal.τ).loc Cert.FfnWRefIdeal.main_arg2)
      ∧ r.2.mem ((c.tc : Thread Cert.FfnWRefIdeal.nD Cert.FfnWRefIdeal.τ).loc Cert.FfnWRefIdeal.main_arg3) = m ((c.tc : Thread Cert.FfnWRefIdeal.nD Cert.FfnWRefIdeal.τ).loc Cert.FfnWRefIdeal.main_arg3)
      ∧ r.2.mem ((c.tc : Thread Cert.FfnWRefIdeal.nD Cert.FfnWRefIdeal.τ).loc Cert.FfnWRefIdeal.main_arg4) = m ((c.tc : Thread Cert.FfnWRefIdeal.nD Cert.FfnWRefIdeal.τ).loc Cert.FfnWRefIdeal.main_arg4)
      ∧ r.2.mem ((c.tc : Thread Cert.FfnWRefIdeal.nD Cert.FfnWRefIdeal.τ).loc Cert.FfnWRefIdeal.main_arg5) = m ((c.tc : Thread Cert.FfnWRefIdeal.nD Cert.FfnWRefIdeal.τ).loc Cert.FfnWRefIdeal.main_arg5))
      ∧ r.2.sem = fun _ => 0)

def quiescent_FfnF [hFfnF : Cert.FfnF.Facts] : Prop :=
  ∀ (m : (ℓ : Loc Cert.FfnF.nD Cert.FfnF.τ Cert.FfnF.sig) → Buf (Elt Bits) ℓ) (g : Dev Cert.FfnF.nD → PrngReg), Pre_FfnF m →
    θ_run (Cert.FfnF.defs (F := Bits)) (onTc (τ := Cert.FfnF.τ) (Cert.FfnF.main (F := Bits))) ⟨m, fun _ => 0, g⟩ (fun r => (∀ c : Dev Cert.FfnF.nD,
      r.2.mem ((c.tc : Thread Cert.FfnF.nD Cert.FfnF.τ).loc Cert.FfnF.main_arg0) = m ((c.tc : Thread Cert.FfnF.nD Cert.FfnF.τ).loc Cert.FfnF.main_arg0)
      ∧ r.2.mem ((c.tc : Thread Cert.FfnF.nD Cert.FfnF.τ).loc Cert.FfnF.main_arg1) = m ((c.tc : Thread Cert.FfnF.nD Cert.FfnF.τ).loc Cert.FfnF.main_arg1)
      ∧ r.2.mem ((c.tc : Thread Cert.FfnF.nD Cert.FfnF.τ).loc Cert.FfnF.main_arg2) = m ((c.tc : Thread Cert.FfnF.nD Cert.FfnF.τ).loc Cert.FfnF.main_arg2)
      ∧ r.2.mem ((c.tc : Thread Cert.FfnF.nD Cert.FfnF.τ).loc Cert.FfnF.main_arg3) = m ((c.tc : Thread Cert.FfnF.nD Cert.FfnF.τ).loc Cert.FfnF.main_arg3)
      ∧ r.2.mem ((c.tc : Thread Cert.FfnF.nD Cert.FfnF.τ).loc Cert.FfnF.main_arg4) = m ((c.tc : Thread Cert.FfnF.nD Cert.FfnF.τ).loc Cert.FfnF.main_arg4))
      ∧ r.2.sem = fun _ => 0)

def quiescent_FfnFIdeal [hFfnFIdeal : Cert.FfnFIdeal.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
      ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4))
      ∧ r.2.sem = fun _ => 0)

def quiescent_FfnFRefIdeal [hFfnFRefIdeal : Cert.FfnFRefIdeal.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2)
      ∧ r.2.mem ((c.tc : Thread Cert.FfnFRefIdeal.nD Cert.FfnFRefIdeal.τ).loc Cert.FfnFRefIdeal.main_arg3) = m ((c.tc : Thread Cert.FfnFRefIdeal.nD Cert.FfnFRefIdeal.τ).loc Cert.FfnFRefIdeal.main_arg3)
      ∧ r.2.mem ((c.tc : Thread Cert.FfnFRefIdeal.nD Cert.FfnFRefIdeal.τ).loc Cert.FfnFRefIdeal.main_arg4) = m ((c.tc : Thread Cert.FfnFRefIdeal.nD Cert.FfnFRefIdeal.τ).loc Cert.FfnFRefIdeal.main_arg4))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5)
      ∧ r.2.mem ((c.tc : Thread Cert.FfnB.nD Cert.FfnB.τ).loc Cert.FfnB.main_arg6) = m ((c.tc : Thread Cert.FfnB.nD Cert.FfnB.τ).loc Cert.FfnB.main_arg6)
      ∧ r.2.mem ((c.tc : Thread Cert.FfnB.nD Cert.FfnB.τ).loc Cert.FfnB.main_arg7) = m ((c.tc : Thread Cert.FfnB.nD Cert.FfnB.τ).loc Cert.FfnB.main_arg7)
      ∧ r.2.mem ((c.tc : Thread Cert.FfnB.nD Cert.FfnB.τ).loc Cert.FfnB.main_arg8) = m ((c.tc : Thread Cert.FfnB.nD Cert.FfnB.τ).loc Cert.FfnB.main_arg8))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6)
      ∧ r.2.mem ((c.tc : Thread Cert.FfnBIdeal.nD Cert.FfnBIdeal.τ).loc Cert.FfnBIdeal.main_arg7) = m ((c.tc : Thread Cert.FfnBIdeal.nD Cert.FfnBIdeal.τ).loc Cert.FfnBIdeal.main_arg7)
      ∧ r.2.mem ((c.tc : Thread Cert.FfnBIdeal.nD Cert.FfnBIdeal.τ).loc Cert.FfnBIdeal.main_arg8) = m ((c.tc : Thread Cert.FfnBIdeal.nD Cert.FfnBIdeal.τ).loc Cert.FfnBIdeal.main_arg8))
      ∧ r.2.sem = fun _ => 0)

def quiescent_FfnBIdeal_pre_finite [hFfnBIdeal : Cert.FfnBIdeal.Facts] [hPre_finite : Cert.Pre_finite.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal_finite m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6)
      ∧ r.2.mem ((c.tc : Thread Cert.FfnBIdeal.nD Cert.FfnBIdeal.τ).loc Cert.FfnBIdeal.main_arg7) = m ((c.tc : Thread Cert.FfnBIdeal.nD Cert.FfnBIdeal.τ).loc Cert.FfnBIdeal.main_arg7)
      ∧ r.2.mem ((c.tc : Thread Cert.FfnBIdeal.nD Cert.FfnBIdeal.τ).loc Cert.FfnBIdeal.main_arg8) = m ((c.tc : Thread Cert.FfnBIdeal.nD Cert.FfnBIdeal.τ).loc Cert.FfnBIdeal.main_arg8))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5)
      ∧ r.2.mem ((c.tc : Thread Cert.FfnBRefIdeal.nD Cert.FfnBRefIdeal.τ).loc Cert.FfnBRefIdeal.main_arg6) = m ((c.tc : Thread Cert.FfnBRefIdeal.nD Cert.FfnBRefIdeal.τ).loc Cert.FfnBRefIdeal.main_arg6)
      ∧ r.2.mem ((c.tc : Thread Cert.FfnBRefIdeal.nD Cert.FfnBRefIdeal.τ).loc Cert.FfnBRefIdeal.main_arg7) = m ((c.tc : Thread Cert.FfnBRefIdeal.nD Cert.FfnBRefIdeal.τ).loc Cert.FfnBRefIdeal.main_arg7)
      ∧ r.2.mem ((c.tc : Thread Cert.FfnBRefIdeal.nD Cert.FfnBRefIdeal.τ).loc Cert.FfnBRefIdeal.main_arg8) = m ((c.tc : Thread Cert.FfnBRefIdeal.nD Cert.FfnBRefIdeal.τ).loc Cert.FfnBRefIdeal.main_arg8))
      ∧ r.2.sem = fun _ => 0)

def quiescent_FfnBRefIdeal_pre_finite [hFfnBRefIdeal : Cert.FfnBRefIdeal.Facts] [hPre_finite : Cert.Pre_finite.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal_finite m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5)
      ∧ r.2.mem ((c.tc : Thread Cert.FfnBRefIdeal.nD Cert.FfnBRefIdeal.τ).loc Cert.FfnBRefIdeal.main_arg6) = m ((c.tc : Thread Cert.FfnBRefIdeal.nD Cert.FfnBRefIdeal.τ).loc Cert.FfnBRefIdeal.main_arg6)
      ∧ r.2.mem ((c.tc : Thread Cert.FfnBRefIdeal.nD Cert.FfnBRefIdeal.τ).loc Cert.FfnBRefIdeal.main_arg7) = m ((c.tc : Thread Cert.FfnBRefIdeal.nD Cert.FfnBRefIdeal.τ).loc Cert.FfnBRefIdeal.main_arg7)
      ∧ r.2.mem ((c.tc : Thread Cert.FfnBRefIdeal.nD Cert.FfnBRefIdeal.τ).loc Cert.FfnBRefIdeal.main_arg8) = m ((c.tc : Thread Cert.FfnBRefIdeal.nD Cert.FfnBRefIdeal.τ).loc Cert.FfnBRefIdeal.main_arg8))
      ∧ r.2.sem = fun _ => 0)

def quiescent_FfnL [hFfnL : Cert.FfnL.Facts] : Prop :=
  ∀ (m : (ℓ : Loc Cert.FfnL.nD Cert.FfnL.τ Cert.FfnL.sig) → Buf (Elt Bits) ℓ) (g : Dev Cert.FfnL.nD → PrngReg), Pre_FfnL m →
    θ_run (Cert.FfnL.defs (F := Bits)) (onTc (τ := Cert.FfnL.τ) (Cert.FfnL.main (F := Bits))) ⟨m, fun _ => 0, g⟩ (fun r => (∀ c : Dev Cert.FfnL.nD,
      r.2.mem ((c.tc : Thread Cert.FfnL.nD Cert.FfnL.τ).loc Cert.FfnL.main_arg0) = m ((c.tc : Thread Cert.FfnL.nD Cert.FfnL.τ).loc Cert.FfnL.main_arg0)
      ∧ r.2.mem ((c.tc : Thread Cert.FfnL.nD Cert.FfnL.τ).loc Cert.FfnL.main_arg1) = m ((c.tc : Thread Cert.FfnL.nD Cert.FfnL.τ).loc Cert.FfnL.main_arg1)
      ∧ r.2.mem ((c.tc : Thread Cert.FfnL.nD Cert.FfnL.τ).loc Cert.FfnL.main_arg2) = m ((c.tc : Thread Cert.FfnL.nD Cert.FfnL.τ).loc Cert.FfnL.main_arg2)
      ∧ r.2.mem ((c.tc : Thread Cert.FfnL.nD Cert.FfnL.τ).loc Cert.FfnL.main_arg3) = m ((c.tc : Thread Cert.FfnL.nD Cert.FfnL.τ).loc Cert.FfnL.main_arg3)
      ∧ r.2.mem ((c.tc : Thread Cert.FfnL.nD Cert.FfnL.τ).loc Cert.FfnL.main_arg4) = m ((c.tc : Thread Cert.FfnL.nD Cert.FfnL.τ).loc Cert.FfnL.main_arg4)
      ∧ r.2.mem ((c.tc : Thread Cert.FfnL.nD Cert.FfnL.τ).loc Cert.FfnL.main_arg5) = m ((c.tc : Thread Cert.FfnL.nD Cert.FfnL.τ).loc Cert.FfnL.main_arg5)
      ∧ r.2.mem ((c.tc : Thread Cert.FfnL.nD Cert.FfnL.τ).loc Cert.FfnL.main_arg6) = m ((c.tc : Thread Cert.FfnL.nD Cert.FfnL.τ).loc Cert.FfnL.main_arg6)
      ∧ r.2.mem ((c.tc : Thread Cert.FfnL.nD Cert.FfnL.τ).loc Cert.FfnL.main_arg7) = m ((c.tc : Thread Cert.FfnL.nD Cert.FfnL.τ).loc Cert.FfnL.main_arg7)
      ∧ r.2.mem ((c.tc : Thread Cert.FfnL.nD Cert.FfnL.τ).loc Cert.FfnL.main_arg8) = m ((c.tc : Thread Cert.FfnL.nD Cert.FfnL.τ).loc Cert.FfnL.main_arg8)
      ∧ r.2.mem ((c.tc : Thread Cert.FfnL.nD Cert.FfnL.τ).loc Cert.FfnL.main_arg9) = m ((c.tc : Thread Cert.FfnL.nD Cert.FfnL.τ).loc Cert.FfnL.main_arg9))
      ∧ r.2.sem = fun _ => 0)

def quiescent_FfnLIdeal [hFfnLIdeal : Cert.FfnLIdeal.Facts] : Prop :=
  ∀ (m : (ℓ : Loc Cert.FfnLIdeal.nD Cert.FfnLIdeal.τ Cert.FfnLIdeal.sig) → Buf (Elt Ideal) ℓ) (g : Dev Cert.FfnLIdeal.nD → PrngReg), Pre_FfnLIdeal m →
    θ_run (Cert.FfnLIdeal.defs (F := Ideal)) (onTc (τ := Cert.FfnLIdeal.τ) (Cert.FfnLIdeal.main (F := Ideal))) ⟨m, fun _ => 0, g⟩ (fun r => (∀ c : Dev Cert.FfnLIdeal.nD,
      r.2.mem ((c.tc : Thread Cert.FfnLIdeal.nD Cert.FfnLIdeal.τ).loc Cert.FfnLIdeal.main_arg0) = m ((c.tc : Thread Cert.FfnLIdeal.nD Cert.FfnLIdeal.τ).loc Cert.FfnLIdeal.main_arg0)
      ∧ r.2.mem ((c.tc : Thread Cert.FfnLIdeal.nD Cert.FfnLIdeal.τ).loc Cert.FfnLIdeal.main_arg1) = m ((c.tc : Thread Cert.FfnLIdeal.nD Cert.FfnLIdeal.τ).loc Cert.FfnLIdeal.main_arg1)
      ∧ r.2.mem ((c.tc : Thread Cert.FfnLIdeal.nD Cert.FfnLIdeal.τ).loc Cert.FfnLIdeal.main_arg2) = m ((c.tc : Thread Cert.FfnLIdeal.nD Cert.FfnLIdeal.τ).loc Cert.FfnLIdeal.main_arg2)
      ∧ r.2.mem ((c.tc : Thread Cert.FfnLIdeal.nD Cert.FfnLIdeal.τ).loc Cert.FfnLIdeal.main_arg3) = m ((c.tc : Thread Cert.FfnLIdeal.nD Cert.FfnLIdeal.τ).loc Cert.FfnLIdeal.main_arg3)
      ∧ r.2.mem ((c.tc : Thread Cert.FfnLIdeal.nD Cert.FfnLIdeal.τ).loc Cert.FfnLIdeal.main_arg4) = m ((c.tc : Thread Cert.FfnLIdeal.nD Cert.FfnLIdeal.τ).loc Cert.FfnLIdeal.main_arg4)
      ∧ r.2.mem ((c.tc : Thread Cert.FfnLIdeal.nD Cert.FfnLIdeal.τ).loc Cert.FfnLIdeal.main_arg5) = m ((c.tc : Thread Cert.FfnLIdeal.nD Cert.FfnLIdeal.τ).loc Cert.FfnLIdeal.main_arg5)
      ∧ r.2.mem ((c.tc : Thread Cert.FfnLIdeal.nD Cert.FfnLIdeal.τ).loc Cert.FfnLIdeal.main_arg6) = m ((c.tc : Thread Cert.FfnLIdeal.nD Cert.FfnLIdeal.τ).loc Cert.FfnLIdeal.main_arg6)
      ∧ r.2.mem ((c.tc : Thread Cert.FfnLIdeal.nD Cert.FfnLIdeal.τ).loc Cert.FfnLIdeal.main_arg7) = m ((c.tc : Thread Cert.FfnLIdeal.nD Cert.FfnLIdeal.τ).loc Cert.FfnLIdeal.main_arg7)
      ∧ r.2.mem ((c.tc : Thread Cert.FfnLIdeal.nD Cert.FfnLIdeal.τ).loc Cert.FfnLIdeal.main_arg8) = m ((c.tc : Thread Cert.FfnLIdeal.nD Cert.FfnLIdeal.τ).loc Cert.FfnLIdeal.main_arg8)
      ∧ r.2.mem ((c.tc : Thread Cert.FfnLIdeal.nD Cert.FfnLIdeal.τ).loc Cert.FfnLIdeal.main_arg9) = m ((c.tc : Thread Cert.FfnLIdeal.nD Cert.FfnLIdeal.τ).loc Cert.FfnLIdeal.main_arg9))
      ∧ r.2.sem = fun _ => 0)

def quiescent_FfnLIdeal_pre_finite_l [hFfnLIdeal : Cert.FfnLIdeal.Facts] [hPre_finite_l : Cert.Pre_finite_l.Facts] : Prop :=
  ∀ (m : (ℓ : Loc Cert.FfnLIdeal.nD Cert.FfnLIdeal.τ Cert.FfnLIdeal.sig) → Buf (Elt Ideal) ℓ) (g : Dev Cert.FfnLIdeal.nD → PrngReg), Pre_FfnLIdeal_finite_l m →
    θ_run (Cert.FfnLIdeal.defs (F := Ideal)) (onTc (τ := Cert.FfnLIdeal.τ) (Cert.FfnLIdeal.main (F := Ideal))) ⟨m, fun _ => 0, g⟩ (fun r => (∀ c : Dev Cert.FfnLIdeal.nD,
      r.2.mem ((c.tc : Thread Cert.FfnLIdeal.nD Cert.FfnLIdeal.τ).loc Cert.FfnLIdeal.main_arg0) = m ((c.tc : Thread Cert.FfnLIdeal.nD Cert.FfnLIdeal.τ).loc Cert.FfnLIdeal.main_arg0)
      ∧ r.2.mem ((c.tc : Thread Cert.FfnLIdeal.nD Cert.FfnLIdeal.τ).loc Cert.FfnLIdeal.main_arg1) = m ((c.tc : Thread Cert.FfnLIdeal.nD Cert.FfnLIdeal.τ).loc Cert.FfnLIdeal.main_arg1)
      ∧ r.2.mem ((c.tc : Thread Cert.FfnLIdeal.nD Cert.FfnLIdeal.τ).loc Cert.FfnLIdeal.main_arg2) = m ((c.tc : Thread Cert.FfnLIdeal.nD Cert.FfnLIdeal.τ).loc Cert.FfnLIdeal.main_arg2)
      ∧ r.2.mem ((c.tc : Thread Cert.FfnLIdeal.nD Cert.FfnLIdeal.τ).loc Cert.FfnLIdeal.main_arg3) = m ((c.tc : Thread Cert.FfnLIdeal.nD Cert.FfnLIdeal.τ).loc Cert.FfnLIdeal.main_arg3)
      ∧ r.2.mem ((c.tc : Thread Cert.FfnLIdeal.nD Cert.FfnLIdeal.τ).loc Cert.FfnLIdeal.main_arg4) = m ((c.tc : Thread Cert.FfnLIdeal.nD Cert.FfnLIdeal.τ).loc Cert.FfnLIdeal.main_arg4)
      ∧ r.2.mem ((c.tc : Thread Cert.FfnLIdeal.nD Cert.FfnLIdeal.τ).loc Cert.FfnLIdeal.main_arg5) = m ((c.tc : Thread Cert.FfnLIdeal.nD Cert.FfnLIdeal.τ).loc Cert.FfnLIdeal.main_arg5)
      ∧ r.2.mem ((c.tc : Thread Cert.FfnLIdeal.nD Cert.FfnLIdeal.τ).loc Cert.FfnLIdeal.main_arg6) = m ((c.tc : Thread Cert.FfnLIdeal.nD Cert.FfnLIdeal.τ).loc Cert.FfnLIdeal.main_arg6)
      ∧ r.2.mem ((c.tc : Thread Cert.FfnLIdeal.nD Cert.FfnLIdeal.τ).loc Cert.FfnLIdeal.main_arg7) = m ((c.tc : Thread Cert.FfnLIdeal.nD Cert.FfnLIdeal.τ).loc Cert.FfnLIdeal.main_arg7)
      ∧ r.2.mem ((c.tc : Thread Cert.FfnLIdeal.nD Cert.FfnLIdeal.τ).loc Cert.FfnLIdeal.main_arg8) = m ((c.tc : Thread Cert.FfnLIdeal.nD Cert.FfnLIdeal.τ).loc Cert.FfnLIdeal.main_arg8)
      ∧ r.2.mem ((c.tc : Thread Cert.FfnLIdeal.nD Cert.FfnLIdeal.τ).loc Cert.FfnLIdeal.main_arg9) = m ((c.tc : Thread Cert.FfnLIdeal.nD Cert.FfnLIdeal.τ).loc Cert.FfnLIdeal.main_arg9))
      ∧ r.2.sem = fun _ => 0)

def quiescent_FfnLRefIdeal [hFfnLRefIdeal : Cert.FfnLRefIdeal.Facts] : Prop :=
  ∀ (m : (ℓ : Loc Cert.FfnLRefIdeal.nD Cert.FfnLRefIdeal.τ Cert.FfnLRefIdeal.sig) → Buf (Elt Ideal) ℓ) (g : Dev Cert.FfnLRefIdeal.nD → PrngReg), Pre_FfnLRefIdeal m →
    θ_run (Cert.FfnLRefIdeal.defs (F := Ideal)) (onTc (τ := Cert.FfnLRefIdeal.τ) (Cert.FfnLRefIdeal.main (F := Ideal))) ⟨m, fun _ => 0, g⟩ (fun r => (∀ c : Dev Cert.FfnLRefIdeal.nD,
      r.2.mem ((c.tc : Thread Cert.FfnLRefIdeal.nD Cert.FfnLRefIdeal.τ).loc Cert.FfnLRefIdeal.main_arg0) = m ((c.tc : Thread Cert.FfnLRefIdeal.nD Cert.FfnLRefIdeal.τ).loc Cert.FfnLRefIdeal.main_arg0)
      ∧ r.2.mem ((c.tc : Thread Cert.FfnLRefIdeal.nD Cert.FfnLRefIdeal.τ).loc Cert.FfnLRefIdeal.main_arg1) = m ((c.tc : Thread Cert.FfnLRefIdeal.nD Cert.FfnLRefIdeal.τ).loc Cert.FfnLRefIdeal.main_arg1)
      ∧ r.2.mem ((c.tc : Thread Cert.FfnLRefIdeal.nD Cert.FfnLRefIdeal.τ).loc Cert.FfnLRefIdeal.main_arg2) = m ((c.tc : Thread Cert.FfnLRefIdeal.nD Cert.FfnLRefIdeal.τ).loc Cert.FfnLRefIdeal.main_arg2)
      ∧ r.2.mem ((c.tc : Thread Cert.FfnLRefIdeal.nD Cert.FfnLRefIdeal.τ).loc Cert.FfnLRefIdeal.main_arg3) = m ((c.tc : Thread Cert.FfnLRefIdeal.nD Cert.FfnLRefIdeal.τ).loc Cert.FfnLRefIdeal.main_arg3)
      ∧ r.2.mem ((c.tc : Thread Cert.FfnLRefIdeal.nD Cert.FfnLRefIdeal.τ).loc Cert.FfnLRefIdeal.main_arg4) = m ((c.tc : Thread Cert.FfnLRefIdeal.nD Cert.FfnLRefIdeal.τ).loc Cert.FfnLRefIdeal.main_arg4)
      ∧ r.2.mem ((c.tc : Thread Cert.FfnLRefIdeal.nD Cert.FfnLRefIdeal.τ).loc Cert.FfnLRefIdeal.main_arg5) = m ((c.tc : Thread Cert.FfnLRefIdeal.nD Cert.FfnLRefIdeal.τ).loc Cert.FfnLRefIdeal.main_arg5)
      ∧ r.2.mem ((c.tc : Thread Cert.FfnLRefIdeal.nD Cert.FfnLRefIdeal.τ).loc Cert.FfnLRefIdeal.main_arg6) = m ((c.tc : Thread Cert.FfnLRefIdeal.nD Cert.FfnLRefIdeal.τ).loc Cert.FfnLRefIdeal.main_arg6)
      ∧ r.2.mem ((c.tc : Thread Cert.FfnLRefIdeal.nD Cert.FfnLRefIdeal.τ).loc Cert.FfnLRefIdeal.main_arg7) = m ((c.tc : Thread Cert.FfnLRefIdeal.nD Cert.FfnLRefIdeal.τ).loc Cert.FfnLRefIdeal.main_arg7)
      ∧ r.2.mem ((c.tc : Thread Cert.FfnLRefIdeal.nD Cert.FfnLRefIdeal.τ).loc Cert.FfnLRefIdeal.main_arg8) = m ((c.tc : Thread Cert.FfnLRefIdeal.nD Cert.FfnLRefIdeal.τ).loc Cert.FfnLRefIdeal.main_arg8)
      ∧ r.2.mem ((c.tc : Thread Cert.FfnLRefIdeal.nD Cert.FfnLRefIdeal.τ).loc Cert.FfnLRefIdeal.main_arg9) = m ((c.tc : Thread Cert.FfnLRefIdeal.nD Cert.FfnLRefIdeal.τ).loc Cert.FfnLRefIdeal.main_arg9))
      ∧ r.2.sem = fun _ => 0)

def quiescent_FfnLRefIdeal_pre_finite_l [hFfnLRefIdeal : Cert.FfnLRefIdeal.Facts] [hPre_finite_l : Cert.Pre_finite_l.Facts] : Prop :=
  ∀ (m : (ℓ : Loc Cert.FfnLRefIdeal.nD Cert.FfnLRefIdeal.τ Cert.FfnLRefIdeal.sig) → Buf (Elt Ideal) ℓ) (g : Dev Cert.FfnLRefIdeal.nD → PrngReg), Pre_FfnLRefIdeal_finite_l m →
    θ_run (Cert.FfnLRefIdeal.defs (F := Ideal)) (onTc (τ := Cert.FfnLRefIdeal.τ) (Cert.FfnLRefIdeal.main (F := Ideal))) ⟨m, fun _ => 0, g⟩ (fun r => (∀ c : Dev Cert.FfnLRefIdeal.nD,
      r.2.mem ((c.tc : Thread Cert.FfnLRefIdeal.nD Cert.FfnLRefIdeal.τ).loc Cert.FfnLRefIdeal.main_arg0) = m ((c.tc : Thread Cert.FfnLRefIdeal.nD Cert.FfnLRefIdeal.τ).loc Cert.FfnLRefIdeal.main_arg0)
      ∧ r.2.mem ((c.tc : Thread Cert.FfnLRefIdeal.nD Cert.FfnLRefIdeal.τ).loc Cert.FfnLRefIdeal.main_arg1) = m ((c.tc : Thread Cert.FfnLRefIdeal.nD Cert.FfnLRefIdeal.τ).loc Cert.FfnLRefIdeal.main_arg1)
      ∧ r.2.mem ((c.tc : Thread Cert.FfnLRefIdeal.nD Cert.FfnLRefIdeal.τ).loc Cert.FfnLRefIdeal.main_arg2) = m ((c.tc : Thread Cert.FfnLRefIdeal.nD Cert.FfnLRefIdeal.τ).loc Cert.FfnLRefIdeal.main_arg2)
      ∧ r.2.mem ((c.tc : Thread Cert.FfnLRefIdeal.nD Cert.FfnLRefIdeal.τ).loc Cert.FfnLRefIdeal.main_arg3) = m ((c.tc : Thread Cert.FfnLRefIdeal.nD Cert.FfnLRefIdeal.τ).loc Cert.FfnLRefIdeal.main_arg3)
      ∧ r.2.mem ((c.tc : Thread Cert.FfnLRefIdeal.nD Cert.FfnLRefIdeal.τ).loc Cert.FfnLRefIdeal.main_arg4) = m ((c.tc : Thread Cert.FfnLRefIdeal.nD Cert.FfnLRefIdeal.τ).loc Cert.FfnLRefIdeal.main_arg4)
      ∧ r.2.mem ((c.tc : Thread Cert.FfnLRefIdeal.nD Cert.FfnLRefIdeal.τ).loc Cert.FfnLRefIdeal.main_arg5) = m ((c.tc : Thread Cert.FfnLRefIdeal.nD Cert.FfnLRefIdeal.τ).loc Cert.FfnLRefIdeal.main_arg5)
      ∧ r.2.mem ((c.tc : Thread Cert.FfnLRefIdeal.nD Cert.FfnLRefIdeal.τ).loc Cert.FfnLRefIdeal.main_arg6) = m ((c.tc : Thread Cert.FfnLRefIdeal.nD Cert.FfnLRefIdeal.τ).loc Cert.FfnLRefIdeal.main_arg6)
      ∧ r.2.mem ((c.tc : Thread Cert.FfnLRefIdeal.nD Cert.FfnLRefIdeal.τ).loc Cert.FfnLRefIdeal.main_arg7) = m ((c.tc : Thread Cert.FfnLRefIdeal.nD Cert.FfnLRefIdeal.τ).loc Cert.FfnLRefIdeal.main_arg7)
      ∧ r.2.mem ((c.tc : Thread Cert.FfnLRefIdeal.nD Cert.FfnLRefIdeal.τ).loc Cert.FfnLRefIdeal.main_arg8) = m ((c.tc : Thread Cert.FfnLRefIdeal.nD Cert.FfnLRefIdeal.τ).loc Cert.FfnLRefIdeal.main_arg8)
      ∧ r.2.mem ((c.tc : Thread Cert.FfnLRefIdeal.nD Cert.FfnLRefIdeal.τ).loc Cert.FfnLRefIdeal.main_arg9) = m ((c.tc : Thread Cert.FfnLRefIdeal.nD Cert.FfnLRefIdeal.τ).loc Cert.FfnLRefIdeal.main_arg9))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def preserves_GluBwd_GluBwdIdeal : Prop :=
  True

def algebraic_GluBwdIdeal_GluRefIdeal [hGluBwdIdeal : Cert.GluBwdIdeal.Facts] [hGluRefIdeal : Cert.GluRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluBwdIdeal m →
    (∀ c : Dev Cert.GluBwdIdeal.nD,
      m' ((c.tc : Thread Cert.GluRefIdeal.nD Cert.GluRefIdeal.τ).loc Cert.GluRefIdeal.main_arg0) = m ((c.tc : Thread Cert.GluBwdIdeal.nD Cert.GluBwdIdeal.τ).loc Cert.GluBwdIdeal.main_arg0)
      ∧ m' ((c.tc : Thread Cert.GluRefIdeal.nD Cert.GluRefIdeal.τ).loc Cert.GluRefIdeal.main_arg1) = m ((c.tc : Thread Cert.GluBwdIdeal.nD Cert.GluBwdIdeal.τ).loc Cert.GluBwdIdeal.main_arg1)
      ∧ m' ((c.tc : Thread Cert.GluRefIdeal.nD Cert.GluRefIdeal.τ).loc Cert.GluRefIdeal.main_arg2) = m ((c.tc : Thread Cert.GluBwdIdeal.nD Cert.GluBwdIdeal.τ).loc Cert.GluBwdIdeal.main_arg2)) →
    ∃ (v0 : (c : Dev Cert.GluBwdIdeal.nD) → Buf (Elt Ideal) ((c.tc : Thread Cert.GluBwdIdeal.nD Cert.GluBwdIdeal.τ).loc Cert.GluBwdIdeal.main_v1)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v1) = v0 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v363) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_FfnW_FfnWIdeal : Prop :=
  True

def algebraic_FfnWIdeal_FfnWRefIdeal [hFfnWIdeal : Cert.FfnWIdeal.Facts] [hFfnWRefIdeal : Cert.FfnWRefIdeal.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWRefIdeal.nD Cert.FfnWRefIdeal.τ Cert.FfnWRefIdeal.sig) → Buf (Elt Ideal) ℓ) (g' : Dev Cert.FfnWRefIdeal.nD → PrngReg), Pre_FfnWIdeal m →
    (∀ c : Dev Cert.FfnWIdeal.nD,
      m' ((c.tc : Thread Cert.FfnWRefIdeal.nD Cert.FfnWRefIdeal.τ).loc Cert.FfnWRefIdeal.main_arg0) = m ((c.tc : Thread Cert.FfnWIdeal.nD Cert.FfnWIdeal.τ).loc Cert.FfnWIdeal.main_arg0)
      ∧ m' ((c.tc : Thread Cert.FfnWRefIdeal.nD Cert.FfnWRefIdeal.τ).loc Cert.FfnWRefIdeal.main_arg1) = m ((c.tc : Thread Cert.FfnWIdeal.nD Cert.FfnWIdeal.τ).loc Cert.FfnWIdeal.main_arg1)
      ∧ m' ((c.tc : Thread Cert.FfnWRefIdeal.nD Cert.FfnWRefIdeal.τ).loc Cert.FfnWRefIdeal.main_arg2) = m ((c.tc : Thread Cert.FfnWIdeal.nD Cert.FfnWIdeal.τ).loc Cert.FfnWIdeal.main_arg2)
      ∧ m' ((c.tc : Thread Cert.FfnWRefIdeal.nD Cert.FfnWRefIdeal.τ).loc Cert.FfnWRefIdeal.main_arg3) = m ((c.tc : Thread Cert.FfnWIdeal.nD Cert.FfnWIdeal.τ).loc Cert.FfnWIdeal.main_arg3)
      ∧ m' ((c.tc : Thread Cert.FfnWRefIdeal.nD Cert.FfnWRefIdeal.τ).loc Cert.FfnWRefIdeal.main_arg4) = m ((c.tc : Thread Cert.FfnWIdeal.nD Cert.FfnWIdeal.τ).loc Cert.FfnWIdeal.main_arg4)
      ∧ m' ((c.tc : Thread Cert.FfnWRefIdeal.nD Cert.FfnWRefIdeal.τ).loc Cert.FfnWRefIdeal.main_arg5) = m ((c.tc : Thread Cert.FfnWIdeal.nD Cert.FfnWIdeal.τ).loc Cert.FfnWIdeal.main_arg5)) →
    ∃ (v0 : (c : Dev Cert.FfnWIdeal.nD) → Buf (Elt Ideal) ((c.tc : Thread Cert.FfnWIdeal.nD Cert.FfnWIdeal.τ).loc Cert.FfnWIdeal.main_v0_0)) (v1 : (c : Dev Cert.FfnWIdeal.nD) → Buf (Elt Ideal) ((c.tc : Thread Cert.FfnWIdeal.nD Cert.FfnWIdeal.τ).loc Cert.FfnWIdeal.main_v0_1)) (v2 : (c : Dev Cert.FfnWIdeal.nD) → Buf (Elt Ideal) ((c.tc : Thread Cert.FfnWIdeal.nD Cert.FfnWIdeal.τ).loc Cert.FfnWIdeal.main_v0_2)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v0_0) = v0 c
          ∧ r.2.mem ((c.tc : Thread Cert.FfnWIdeal.nD Cert.FfnWIdeal.τ).loc Cert.FfnWIdeal.main_v0_1) = v1 c
          ∧ r.2.mem ((c.tc : Thread Cert.FfnWIdeal.nD Cert.FfnWIdeal.τ).loc Cert.FfnWIdeal.main_v0_2) = v2 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
          ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
          ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
          ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4)
          ∧ r.2.mem ((c.tc : Thread Cert.FfnWIdeal.nD Cert.FfnWIdeal.τ).loc Cert.FfnWIdeal.main_arg5) = m ((c.tc : Thread Cert.FfnWIdeal.nD Cert.FfnWIdeal.τ).loc Cert.FfnWIdeal.main_arg5))
      ∧ θ_run (Cert.FfnWRefIdeal.defs (F := Ideal)) (onTc (τ := Cert.FfnWRefIdeal.τ) (Cert.FfnWRefIdeal.main (F := Ideal))) ⟨m', fun _ => 0, g'⟩ (fun r => ∀ c : Dev Cert.FfnWRefIdeal.nD,
          r.2.mem ((c.tc : Thread Cert.FfnWRefIdeal.nD Cert.FfnWRefIdeal.τ).loc Cert.FfnWRefIdeal.main_v29) = v0 c
          ∧ r.2.mem ((c.tc : Thread Cert.FfnWRefIdeal.nD Cert.FfnWRefIdeal.τ).loc Cert.FfnWRefIdeal.main_v32) = v1 c
          ∧ r.2.mem ((c.tc : Thread Cert.FfnWRefIdeal.nD Cert.FfnWRefIdeal.τ).loc Cert.FfnWRefIdeal.main_v34) = v2 c
          ∧ r.2.mem ((c.tc : Thread Cert.FfnWRefIdeal.nD Cert.FfnWRefIdeal.τ).loc Cert.FfnWRefIdeal.main_arg0) = m' ((c.tc : Thread Cert.FfnWRefIdeal.nD Cert.FfnWRefIdeal.τ).loc Cert.FfnWRefIdeal.main_arg0)
          ∧ r.2.mem ((c.tc : Thread Cert.FfnWRefIdeal.nD Cert.FfnWRefIdeal.τ).loc Cert.FfnWRefIdeal.main_arg1) = m' ((c.tc : Thread Cert.FfnWRefIdeal.nD Cert.FfnWRefIdeal.τ).loc Cert.FfnWRefIdeal.main_arg1)
          ∧ r.2.mem ((c.tc : Thread Cert.FfnWRefIdeal.nD Cert.FfnWRefIdeal.τ).loc Cert.FfnWRefIdeal.main_arg2) = m' ((c.tc : Thread Cert.FfnWRefIdeal.nD Cert.FfnWRefIdeal.τ).loc Cert.FfnWRefIdeal.main_arg2)
          ∧ r.2.mem ((c.tc : Thread Cert.FfnWRefIdeal.nD Cert.FfnWRefIdeal.τ).loc Cert.FfnWRefIdeal.main_arg3) = m' ((c.tc : Thread Cert.FfnWRefIdeal.nD Cert.FfnWRefIdeal.τ).loc Cert.FfnWRefIdeal.main_arg3)
          ∧ r.2.mem ((c.tc : Thread Cert.FfnWRefIdeal.nD Cert.FfnWRefIdeal.τ).loc Cert.FfnWRefIdeal.main_arg4) = m' ((c.tc : Thread Cert.FfnWRefIdeal.nD Cert.FfnWRefIdeal.τ).loc Cert.FfnWRefIdeal.main_arg4)
          ∧ r.2.mem ((c.tc : Thread Cert.FfnWRefIdeal.nD Cert.FfnWRefIdeal.τ).loc Cert.FfnWRefIdeal.main_arg5) = m' ((c.tc : Thread Cert.FfnWRefIdeal.nD Cert.FfnWRefIdeal.τ).loc Cert.FfnWRefIdeal.main_arg5))

def preserves_FfnF_FfnFIdeal : Prop :=
  True

def algebraic_FfnFIdeal_FfnFRefIdeal [hFfnFIdeal : Cert.FfnFIdeal.Facts] [hFfnFRefIdeal : Cert.FfnFRefIdeal.Facts] : Prop :=
  ∀ (m : (ℓ : Loc Cert.FfnFIdeal.nD Cert.FfnFIdeal.τ Cert.FfnFIdeal.sig) → Buf (Elt Ideal) ℓ) (g : Dev Cert.FfnFIdeal.nD → PrngReg)
    (m' : (ℓ : Loc Cert.FfnFRefIdeal.nD Cert.FfnFRefIdeal.τ Cert.FfnFRefIdeal.sig) → Buf (Elt Ideal) ℓ) (g' : Dev Cert.FfnFRefIdeal.nD → PrngReg), Pre_FfnFIdeal m →
    (∀ c : Dev Cert.FfnFIdeal.nD,
      m' ((c.tc : Thread Cert.FfnFRefIdeal.nD Cert.FfnFRefIdeal.τ).loc Cert.FfnFRefIdeal.main_arg0) = m ((c.tc : Thread Cert.FfnFIdeal.nD Cert.FfnFIdeal.τ).loc Cert.FfnFIdeal.main_arg0)
      ∧ m' ((c.tc : Thread Cert.FfnFRefIdeal.nD Cert.FfnFRefIdeal.τ).loc Cert.FfnFRefIdeal.main_arg1) = m ((c.tc : Thread Cert.FfnFIdeal.nD Cert.FfnFIdeal.τ).loc Cert.FfnFIdeal.main_arg1)
      ∧ m' ((c.tc : Thread Cert.FfnFRefIdeal.nD Cert.FfnFRefIdeal.τ).loc Cert.FfnFRefIdeal.main_arg2) = m ((c.tc : Thread Cert.FfnFIdeal.nD Cert.FfnFIdeal.τ).loc Cert.FfnFIdeal.main_arg2)
      ∧ m' ((c.tc : Thread Cert.FfnFRefIdeal.nD Cert.FfnFRefIdeal.τ).loc Cert.FfnFRefIdeal.main_arg3) = m ((c.tc : Thread Cert.FfnFIdeal.nD Cert.FfnFIdeal.τ).loc Cert.FfnFIdeal.main_arg3)
      ∧ m' ((c.tc : Thread Cert.FfnFRefIdeal.nD Cert.FfnFRefIdeal.τ).loc Cert.FfnFRefIdeal.main_arg4) = m ((c.tc : Thread Cert.FfnFIdeal.nD Cert.FfnFIdeal.τ).loc Cert.FfnFIdeal.main_arg4)) →
    ∃ (v0 : (c : Dev Cert.FfnFIdeal.nD) → Buf (Elt Ideal) ((c.tc : Thread Cert.FfnFIdeal.nD Cert.FfnFIdeal.τ).loc Cert.FfnFIdeal.main_v0_0)) (v1 : (c : Dev Cert.FfnFIdeal.nD) → Buf (Elt Ideal) ((c.tc : Thread Cert.FfnFIdeal.nD Cert.FfnFIdeal.τ).loc Cert.FfnFIdeal.main_v0_1)) (v2 : (c : Dev Cert.FfnFIdeal.nD) → Buf (Elt Ideal) ((c.tc : Thread Cert.FfnFIdeal.nD Cert.FfnFIdeal.τ).loc Cert.FfnFIdeal.main_v0_2)) (v3 : (c : Dev Cert.FfnFIdeal.nD) → Buf (Elt Ideal) ((c.tc : Thread Cert.FfnFIdeal.nD Cert.FfnFIdeal.τ).loc Cert.FfnFIdeal.main_v0_3)) (v4 : (c : Dev Cert.FfnFIdeal.nD) → Buf (Elt Ideal) ((c.tc : Thread Cert.FfnFIdeal.nD Cert.FfnFIdeal.τ).loc Cert.FfnFIdeal.main_v0_4)),
      θ_run (Cert.FfnFIdeal.defs (F := Ideal)) (onTc (τ := Cert.FfnFIdeal.τ) (Cert.FfnFIdeal.main (F := Ideal))) ⟨m, fun _ => 0, g⟩ (fun r => ∀ c : Dev Cert.FfnFIdeal.nD,
          r.2.mem ((c.tc : Thread Cert.FfnFIdeal.nD Cert.FfnFIdeal.τ).loc Cert.FfnFIdeal.main_v0_0) = v0 c
          ∧ r.2.mem ((c.tc : Thread Cert.FfnFIdeal.nD Cert.FfnFIdeal.τ).loc Cert.FfnFIdeal.main_v0_1) = v1 c
          ∧ r.2.mem ((c.tc : Thread Cert.FfnFIdeal.nD Cert.FfnFIdeal.τ).loc Cert.FfnFIdeal.main_v0_2) = v2 c
          ∧ r.2.mem ((c.tc : Thread Cert.FfnFIdeal.nD Cert.FfnFIdeal.τ).loc Cert.FfnFIdeal.main_v0_3) = v3 c
          ∧ r.2.mem ((c.tc : Thread Cert.FfnFIdeal.nD Cert.FfnFIdeal.τ).loc Cert.FfnFIdeal.main_v0_4) = v4 c
          ∧ r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
          ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
          ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
          ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
          ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4))
      ∧ θ_run (Cert.FfnFRefIdeal.defs (F := Ideal)) (onTc (τ := Cert.FfnFRefIdeal.τ) (Cert.FfnFRefIdeal.main (F := Ideal))) ⟨m', fun _ => 0, g'⟩ (fun r => ∀ c : Dev Cert.FfnFRefIdeal.nD,
          r.2.mem ((c.tc : Thread Cert.FfnFRefIdeal.nD Cert.FfnFRefIdeal.τ).loc Cert.FfnFRefIdeal.main_v37) = v0 c
          ∧ r.2.mem ((c.tc : Thread Cert.FfnFRefIdeal.nD Cert.FfnFRefIdeal.τ).loc Cert.FfnFRefIdeal.main_v38) = v1 c
          ∧ r.2.mem ((c.tc : Thread Cert.FfnFRefIdeal.nD Cert.FfnFRefIdeal.τ).loc Cert.FfnFRefIdeal.main_v41) = v2 c
          ∧ r.2.mem ((c.tc : Thread Cert.FfnFRefIdeal.nD Cert.FfnFRefIdeal.τ).loc Cert.FfnFRefIdeal.main_v44) = v3 c
          ∧ r.2.mem ((c.tc : Thread Cert.FfnFRefIdeal.nD Cert.FfnFRefIdeal.τ).loc Cert.FfnFRefIdeal.main_v45) = v4 c
          ∧ r.2.mem ((c.tc : Thread Cert.FfnFRefIdeal.nD Cert.FfnFRefIdeal.τ).loc Cert.FfnFRefIdeal.main_arg0) = m' ((c.tc : Thread Cert.FfnFRefIdeal.nD Cert.FfnFRefIdeal.τ).loc Cert.FfnFRefIdeal.main_arg0)
          ∧ r.2.mem ((c.tc : Thread Cert.FfnFRefIdeal.nD Cert.FfnFRefIdeal.τ).loc Cert.FfnFRefIdeal.main_arg1) = m' ((c.tc : Thread Cert.FfnFRefIdeal.nD Cert.FfnFRefIdeal.τ).loc Cert.FfnFRefIdeal.main_arg1)
          ∧ r.2.mem ((c.tc : Thread Cert.FfnFRefIdeal.nD Cert.FfnFRefIdeal.τ).loc Cert.FfnFRefIdeal.main_arg2) = m' ((c.tc : Thread Cert.FfnFRefIdeal.nD Cert.FfnFRefIdeal.τ).loc Cert.FfnFRefIdeal.main_arg2)
          ∧ r.2.mem ((c.tc : Thread Cert.FfnFRefIdeal.nD Cert.FfnFRefIdeal.τ).loc Cert.FfnFRefIdeal.main_arg3) = m' ((c.tc : Thread Cert.FfnFRefIdeal.nD Cert.FfnFRefIdeal.τ).loc Cert.FfnFRefIdeal.main_arg3)
          ∧ r.2.mem ((c.tc : Thread Cert.FfnFRefIdeal.nD Cert.FfnFRefIdeal.τ).loc Cert.FfnFRefIdeal.main_arg4) = m' ((c.tc : Thread Cert.FfnFRefIdeal.nD Cert.FfnFRefIdeal.τ).loc Cert.FfnFRefIdeal.main_arg4))

def preserves_FfnB_FfnBIdeal : Prop :=
  True

def algebraic_FfnBIdeal_FfnBRefIdeal_pre_finite [hFfnBIdeal : Cert.FfnBIdeal.Facts] [hFfnBRefIdeal : Cert.FfnBRefIdeal.Facts] [hPre_finite : Cert.Pre_finite.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal_finite m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)
      ∧ m' ((c.tc : Thread Cert.FfnBRefIdeal.nD Cert.FfnBRefIdeal.τ).loc Cert.FfnBRefIdeal.main_arg5) = m ((c.tc : Thread Cert.FfnBIdeal.nD Cert.FfnBIdeal.τ).loc Cert.FfnBIdeal.main_arg5)
      ∧ m' ((c.tc : Thread Cert.FfnBRefIdeal.nD Cert.FfnBRefIdeal.τ).loc Cert.FfnBRefIdeal.main_arg6) = m ((c.tc : Thread Cert.FfnBIdeal.nD Cert.FfnBIdeal.τ).loc Cert.FfnBIdeal.main_arg6)
      ∧ m' ((c.tc : Thread Cert.FfnBRefIdeal.nD Cert.FfnBRefIdeal.τ).loc Cert.FfnBRefIdeal.main_arg7) = m ((c.tc : Thread Cert.FfnBIdeal.nD Cert.FfnBIdeal.τ).loc Cert.FfnBIdeal.main_arg7)
      ∧ m' ((c.tc : Thread Cert.FfnBRefIdeal.nD Cert.FfnBRefIdeal.τ).loc Cert.FfnBRefIdeal.main_arg8) = m ((c.tc : Thread Cert.FfnBIdeal.nD Cert.FfnBIdeal.τ).loc Cert.FfnBIdeal.main_arg8)) →
    ∃ (v0 : (c : Dev Cert.FfnBIdeal.nD) → Buf (Elt Ideal) ((c.tc : Thread Cert.FfnBIdeal.nD Cert.FfnBIdeal.τ).loc Cert.FfnBIdeal.main_v0_0)) (v1 : (c : Dev Cert.FfnBIdeal.nD) → Buf (Elt Ideal) ((c.tc : Thread Cert.FfnBIdeal.nD Cert.FfnBIdeal.τ).loc Cert.FfnBIdeal.main_v0_1)) (v2 : (c : Dev Cert.FfnBIdeal.nD) → Buf (Elt Ideal) ((c.tc : Thread Cert.FfnBIdeal.nD Cert.FfnBIdeal.τ).loc Cert.FfnBIdeal.main_v0_2)) (v3 : (c : Dev Cert.FfnBIdeal.nD) → Buf (Elt Ideal) ((c.tc : Thread Cert.FfnBIdeal.nD Cert.FfnBIdeal.τ).loc Cert.FfnBIdeal.main_v0_3)) (v4 : (c : Dev Cert.FfnBIdeal.nD) → Buf (Elt Ideal) ((c.tc : Thread Cert.FfnBIdeal.nD Cert.FfnBIdeal.τ).loc Cert.FfnBIdeal.main_v0_4)) (v5 : (c : Dev Cert.FfnBIdeal.nD) → Buf (Elt Ideal) ((c.tc : Thread Cert.FfnBIdeal.nD Cert.FfnBIdeal.τ).loc Cert.FfnBIdeal.main_v0_5)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v0_0) = v0 c
          ∧ r.2.mem ((c.tc : Thread Cert.FfnBIdeal.nD Cert.FfnBIdeal.τ).loc Cert.FfnBIdeal.main_v0_1) = v1 c
          ∧ r.2.mem ((c.tc : Thread Cert.FfnBIdeal.nD Cert.FfnBIdeal.τ).loc Cert.FfnBIdeal.main_v0_2) = v2 c
          ∧ r.2.mem ((c.tc : Thread Cert.FfnBIdeal.nD Cert.FfnBIdeal.τ).loc Cert.FfnBIdeal.main_v0_3) = v3 c
          ∧ r.2.mem ((c.tc : Thread Cert.FfnBIdeal.nD Cert.FfnBIdeal.τ).loc Cert.FfnBIdeal.main_v0_4) = v4 c
          ∧ r.2.mem ((c.tc : Thread Cert.FfnBIdeal.nD Cert.FfnBIdeal.τ).loc Cert.FfnBIdeal.main_v0_5) = v5 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
          ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6)
          ∧ r.2.mem ((c.tc : Thread Cert.FfnBIdeal.nD Cert.FfnBIdeal.τ).loc Cert.FfnBIdeal.main_arg7) = m ((c.tc : Thread Cert.FfnBIdeal.nD Cert.FfnBIdeal.τ).loc Cert.FfnBIdeal.main_arg7)
          ∧ r.2.mem ((c.tc : Thread Cert.FfnBIdeal.nD Cert.FfnBIdeal.τ).loc Cert.FfnBIdeal.main_arg8) = m ((c.tc : Thread Cert.FfnBIdeal.nD Cert.FfnBIdeal.τ).loc Cert.FfnBIdeal.main_arg8))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v97) = v0 c
          ∧ r.2.mem ((c.tc : Thread Cert.FfnBRefIdeal.nD Cert.FfnBRefIdeal.τ).loc Cert.FfnBRefIdeal.main_v98) = v1 c
          ∧ r.2.mem ((c.tc : Thread Cert.FfnBRefIdeal.nD Cert.FfnBRefIdeal.τ).loc Cert.FfnBRefIdeal.main_v101) = v2 c
          ∧ r.2.mem ((c.tc : Thread Cert.FfnBRefIdeal.nD Cert.FfnBRefIdeal.τ).loc Cert.FfnBRefIdeal.main_v104) = v3 c
          ∧ r.2.mem ((c.tc : Thread Cert.FfnBRefIdeal.nD Cert.FfnBRefIdeal.τ).loc Cert.FfnBRefIdeal.main_v80) = v4 c
          ∧ r.2.mem ((c.tc : Thread Cert.FfnBRefIdeal.nD Cert.FfnBRefIdeal.τ).loc Cert.FfnBRefIdeal.main_v27) = v5 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4)
          ∧ r.2.mem ((c.tc : Thread Cert.FfnBRefIdeal.nD Cert.FfnBRefIdeal.τ).loc Cert.FfnBRefIdeal.main_arg5) = m' ((c.tc : Thread Cert.FfnBRefIdeal.nD Cert.FfnBRefIdeal.τ).loc Cert.FfnBRefIdeal.main_arg5)
          ∧ r.2.mem ((c.tc : Thread Cert.FfnBRefIdeal.nD Cert.FfnBRefIdeal.τ).loc Cert.FfnBRefIdeal.main_arg6) = m' ((c.tc : Thread Cert.FfnBRefIdeal.nD Cert.FfnBRefIdeal.τ).loc Cert.FfnBRefIdeal.main_arg6)
          ∧ r.2.mem ((c.tc : Thread Cert.FfnBRefIdeal.nD Cert.FfnBRefIdeal.τ).loc Cert.FfnBRefIdeal.main_arg7) = m' ((c.tc : Thread Cert.FfnBRefIdeal.nD Cert.FfnBRefIdeal.τ).loc Cert.FfnBRefIdeal.main_arg7)
          ∧ r.2.mem ((c.tc : Thread Cert.FfnBRefIdeal.nD Cert.FfnBRefIdeal.τ).loc Cert.FfnBRefIdeal.main_arg8) = m' ((c.tc : Thread Cert.FfnBRefIdeal.nD Cert.FfnBRefIdeal.τ).loc Cert.FfnBRefIdeal.main_arg8))

def preserves_FfnL_FfnLIdeal : Prop :=
  True

def algebraic_FfnLIdeal_FfnLRefIdeal_pre_finite_l [hFfnLIdeal : Cert.FfnLIdeal.Facts] [hFfnLRefIdeal : Cert.FfnLRefIdeal.Facts] [hPre_finite_l : Cert.Pre_finite_l.Facts] : Prop :=
  ∀ (m : (ℓ : Loc Cert.FfnLIdeal.nD Cert.FfnLIdeal.τ Cert.FfnLIdeal.sig) → Buf (Elt Ideal) ℓ) (g : Dev Cert.FfnLIdeal.nD → PrngReg)
    (m' : (ℓ : Loc Cert.FfnLRefIdeal.nD Cert.FfnLRefIdeal.τ Cert.FfnLRefIdeal.sig) → Buf (Elt Ideal) ℓ) (g' : Dev Cert.FfnLRefIdeal.nD → PrngReg), Pre_FfnLIdeal_finite_l m →
    (∀ c : Dev Cert.FfnLIdeal.nD,
      m' ((c.tc : Thread Cert.FfnLRefIdeal.nD Cert.FfnLRefIdeal.τ).loc Cert.FfnLRefIdeal.main_arg0) = m ((c.tc : Thread Cert.FfnLIdeal.nD Cert.FfnLIdeal.τ).loc Cert.FfnLIdeal.main_arg0)
      ∧ m' ((c.tc : Thread Cert.FfnLRefIdeal.nD Cert.FfnLRefIdeal.τ).loc Cert.FfnLRefIdeal.main_arg1) = m ((c.tc : Thread Cert.FfnLIdeal.nD Cert.FfnLIdeal.τ).loc Cert.FfnLIdeal.main_arg1)
      ∧ m' ((c.tc : Thread Cert.FfnLRefIdeal.nD Cert.FfnLRefIdeal.τ).loc Cert.FfnLRefIdeal.main_arg2) = m ((c.tc : Thread Cert.FfnLIdeal.nD Cert.FfnLIdeal.τ).loc Cert.FfnLIdeal.main_arg2)
      ∧ m' ((c.tc : Thread Cert.FfnLRefIdeal.nD Cert.FfnLRefIdeal.τ).loc Cert.FfnLRefIdeal.main_arg3) = m ((c.tc : Thread Cert.FfnLIdeal.nD Cert.FfnLIdeal.τ).loc Cert.FfnLIdeal.main_arg3)
      ∧ m' ((c.tc : Thread Cert.FfnLRefIdeal.nD Cert.FfnLRefIdeal.τ).loc Cert.FfnLRefIdeal.main_arg4) = m ((c.tc : Thread Cert.FfnLIdeal.nD Cert.FfnLIdeal.τ).loc Cert.FfnLIdeal.main_arg4)
      ∧ m' ((c.tc : Thread Cert.FfnLRefIdeal.nD Cert.FfnLRefIdeal.τ).loc Cert.FfnLRefIdeal.main_arg5) = m ((c.tc : Thread Cert.FfnLIdeal.nD Cert.FfnLIdeal.τ).loc Cert.FfnLIdeal.main_arg5)
      ∧ m' ((c.tc : Thread Cert.FfnLRefIdeal.nD Cert.FfnLRefIdeal.τ).loc Cert.FfnLRefIdeal.main_arg6) = m ((c.tc : Thread Cert.FfnLIdeal.nD Cert.FfnLIdeal.τ).loc Cert.FfnLIdeal.main_arg6)
      ∧ m' ((c.tc : Thread Cert.FfnLRefIdeal.nD Cert.FfnLRefIdeal.τ).loc Cert.FfnLRefIdeal.main_arg7) = m ((c.tc : Thread Cert.FfnLIdeal.nD Cert.FfnLIdeal.τ).loc Cert.FfnLIdeal.main_arg7)
      ∧ m' ((c.tc : Thread Cert.FfnLRefIdeal.nD Cert.FfnLRefIdeal.τ).loc Cert.FfnLRefIdeal.main_arg8) = m ((c.tc : Thread Cert.FfnLIdeal.nD Cert.FfnLIdeal.τ).loc Cert.FfnLIdeal.main_arg8)
      ∧ m' ((c.tc : Thread Cert.FfnLRefIdeal.nD Cert.FfnLRefIdeal.τ).loc Cert.FfnLRefIdeal.main_arg9) = m ((c.tc : Thread Cert.FfnLIdeal.nD Cert.FfnLIdeal.τ).loc Cert.FfnLIdeal.main_arg9)) →
    ∃ (v0 : (c : Dev Cert.FfnLIdeal.nD) → Buf (Elt Ideal) ((c.tc : Thread Cert.FfnLIdeal.nD Cert.FfnLIdeal.τ).loc Cert.FfnLIdeal.main_v0_0)) (v1 : (c : Dev Cert.FfnLIdeal.nD) → Buf (Elt Ideal) ((c.tc : Thread Cert.FfnLIdeal.nD Cert.FfnLIdeal.τ).loc Cert.FfnLIdeal.main_v0_1)) (v2 : (c : Dev Cert.FfnLIdeal.nD) → Buf (Elt Ideal) ((c.tc : Thread Cert.FfnLIdeal.nD Cert.FfnLIdeal.τ).loc Cert.FfnLIdeal.main_v0_2)) (v3 : (c : Dev Cert.FfnLIdeal.nD) → Buf (Elt Ideal) ((c.tc : Thread Cert.FfnLIdeal.nD Cert.FfnLIdeal.τ).loc Cert.FfnLIdeal.main_v0_3)) (v4 : (c : Dev Cert.FfnLIdeal.nD) → Buf (Elt Ideal) ((c.tc : Thread Cert.FfnLIdeal.nD Cert.FfnLIdeal.τ).loc Cert.FfnLIdeal.main_v0_4)) (v5 : (c : Dev Cert.FfnLIdeal.nD) → Buf (Elt Ideal) ((c.tc : Thread Cert.FfnLIdeal.nD Cert.FfnLIdeal.τ).loc Cert.FfnLIdeal.main_v0_5)) (v6 : (c : Dev Cert.FfnLIdeal.nD) → Buf (Elt Ideal) ((c.tc : Thread Cert.FfnLIdeal.nD Cert.FfnLIdeal.τ).loc Cert.FfnLIdeal.main_v0_6)),
      θ_run (Cert.FfnLIdeal.defs (F := Ideal)) (onTc (τ := Cert.FfnLIdeal.τ) (Cert.FfnLIdeal.main (F := Ideal))) ⟨m, fun _ => 0, g⟩ (fun r => ∀ c : Dev Cert.FfnLIdeal.nD,
          r.2.mem ((c.tc : Thread Cert.FfnLIdeal.nD Cert.FfnLIdeal.τ).loc Cert.FfnLIdeal.main_v0_0) = v0 c
          ∧ r.2.mem ((c.tc : Thread Cert.FfnLIdeal.nD Cert.FfnLIdeal.τ).loc Cert.FfnLIdeal.main_v0_1) = v1 c
          ∧ r.2.mem ((c.tc : Thread Cert.FfnLIdeal.nD Cert.FfnLIdeal.τ).loc Cert.FfnLIdeal.main_v0_2) = v2 c
          ∧ r.2.mem ((c.tc : Thread Cert.FfnLIdeal.nD Cert.FfnLIdeal.τ).loc Cert.FfnLIdeal.main_v0_3) = v3 c
          ∧ r.2.mem ((c.tc : Thread Cert.FfnLIdeal.nD Cert.FfnLIdeal.τ).loc Cert.FfnLIdeal.main_v0_4) = v4 c
          ∧ r.2.mem ((c.tc : Thread Cert.FfnLIdeal.nD Cert.FfnLIdeal.τ).loc Cert.FfnLIdeal.main_v0_5) = v5 c
          ∧ r.2.mem ((c.tc : Thread Cert.FfnLIdeal.nD Cert.FfnLIdeal.τ).loc Cert.FfnLIdeal.main_v0_6) = v6 c
          ∧ r.2.mem ((c.tc : Thread Cert.FfnLIdeal.nD Cert.FfnLIdeal.τ).loc Cert.FfnLIdeal.main_arg0) = m ((c.tc : Thread Cert.FfnLIdeal.nD Cert.FfnLIdeal.τ).loc Cert.FfnLIdeal.main_arg0)
          ∧ r.2.mem ((c.tc : Thread Cert.FfnLIdeal.nD Cert.FfnLIdeal.τ).loc Cert.FfnLIdeal.main_arg1) = m ((c.tc : Thread Cert.FfnLIdeal.nD Cert.FfnLIdeal.τ).loc Cert.FfnLIdeal.main_arg1)
          ∧ r.2.mem ((c.tc : Thread Cert.FfnLIdeal.nD Cert.FfnLIdeal.τ).loc Cert.FfnLIdeal.main_arg2) = m ((c.tc : Thread Cert.FfnLIdeal.nD Cert.FfnLIdeal.τ).loc Cert.FfnLIdeal.main_arg2)
          ∧ r.2.mem ((c.tc : Thread Cert.FfnLIdeal.nD Cert.FfnLIdeal.τ).loc Cert.FfnLIdeal.main_arg3) = m ((c.tc : Thread Cert.FfnLIdeal.nD Cert.FfnLIdeal.τ).loc Cert.FfnLIdeal.main_arg3)
          ∧ r.2.mem ((c.tc : Thread Cert.FfnLIdeal.nD Cert.FfnLIdeal.τ).loc Cert.FfnLIdeal.main_arg4) = m ((c.tc : Thread Cert.FfnLIdeal.nD Cert.FfnLIdeal.τ).loc Cert.FfnLIdeal.main_arg4)
          ∧ r.2.mem ((c.tc : Thread Cert.FfnLIdeal.nD Cert.FfnLIdeal.τ).loc Cert.FfnLIdeal.main_arg5) = m ((c.tc : Thread Cert.FfnLIdeal.nD Cert.FfnLIdeal.τ).loc Cert.FfnLIdeal.main_arg5)
          ∧ r.2.mem ((c.tc : Thread Cert.FfnLIdeal.nD Cert.FfnLIdeal.τ).loc Cert.FfnLIdeal.main_arg6) = m ((c.tc : Thread Cert.FfnLIdeal.nD Cert.FfnLIdeal.τ).loc Cert.FfnLIdeal.main_arg6)
          ∧ r.2.mem ((c.tc : Thread Cert.FfnLIdeal.nD Cert.FfnLIdeal.τ).loc Cert.FfnLIdeal.main_arg7) = m ((c.tc : Thread Cert.FfnLIdeal.nD Cert.FfnLIdeal.τ).loc Cert.FfnLIdeal.main_arg7)
          ∧ r.2.mem ((c.tc : Thread Cert.FfnLIdeal.nD Cert.FfnLIdeal.τ).loc Cert.FfnLIdeal.main_arg8) = m ((c.tc : Thread Cert.FfnLIdeal.nD Cert.FfnLIdeal.τ).loc Cert.FfnLIdeal.main_arg8)
          ∧ r.2.mem ((c.tc : Thread Cert.FfnLIdeal.nD Cert.FfnLIdeal.τ).loc Cert.FfnLIdeal.main_arg9) = m ((c.tc : Thread Cert.FfnLIdeal.nD Cert.FfnLIdeal.τ).loc Cert.FfnLIdeal.main_arg9))
      ∧ θ_run (Cert.FfnLRefIdeal.defs (F := Ideal)) (onTc (τ := Cert.FfnLRefIdeal.τ) (Cert.FfnLRefIdeal.main (F := Ideal))) ⟨m', fun _ => 0, g'⟩ (fun r => ∀ c : Dev Cert.FfnLRefIdeal.nD,
          r.2.mem ((c.tc : Thread Cert.FfnLRefIdeal.nD Cert.FfnLRefIdeal.τ).loc Cert.FfnLRefIdeal.main_v112) = v0 c
          ∧ r.2.mem ((c.tc : Thread Cert.FfnLRefIdeal.nD Cert.FfnLRefIdeal.τ).loc Cert.FfnLRefIdeal.main_v113) = v1 c
          ∧ r.2.mem ((c.tc : Thread Cert.FfnLRefIdeal.nD Cert.FfnLRefIdeal.τ).loc Cert.FfnLRefIdeal.main_v116) = v2 c
          ∧ r.2.mem ((c.tc : Thread Cert.FfnLRefIdeal.nD Cert.FfnLRefIdeal.τ).loc Cert.FfnLRefIdeal.main_v119) = v3 c
          ∧ r.2.mem ((c.tc : Thread Cert.FfnLRefIdeal.nD Cert.FfnLRefIdeal.τ).loc Cert.FfnLRefIdeal.main_v95) = v4 c
          ∧ r.2.mem ((c.tc : Thread Cert.FfnLRefIdeal.nD Cert.FfnLRefIdeal.τ).loc Cert.FfnLRefIdeal.main_v42) = v5 c
          ∧ r.2.mem ((c.tc : Thread Cert.FfnLRefIdeal.nD Cert.FfnLRefIdeal.τ).loc Cert.FfnLRefIdeal.main_v120) = v6 c
          ∧ r.2.mem ((c.tc : Thread Cert.FfnLRefIdeal.nD Cert.FfnLRefIdeal.τ).loc Cert.FfnLRefIdeal.main_arg0) = m' ((c.tc : Thread Cert.FfnLRefIdeal.nD Cert.FfnLRefIdeal.τ).loc Cert.FfnLRefIdeal.main_arg0)
          ∧ r.2.mem ((c.tc : Thread Cert.FfnLRefIdeal.nD Cert.FfnLRefIdeal.τ).loc Cert.FfnLRefIdeal.main_arg1) = m' ((c.tc : Thread Cert.FfnLRefIdeal.nD Cert.FfnLRefIdeal.τ).loc Cert.FfnLRefIdeal.main_arg1)
          ∧ r.2.mem ((c.tc : Thread Cert.FfnLRefIdeal.nD Cert.FfnLRefIdeal.τ).loc Cert.FfnLRefIdeal.main_arg2) = m' ((c.tc : Thread Cert.FfnLRefIdeal.nD Cert.FfnLRefIdeal.τ).loc Cert.FfnLRefIdeal.main_arg2)
          ∧ r.2.mem ((c.tc : Thread Cert.FfnLRefIdeal.nD Cert.FfnLRefIdeal.τ).loc Cert.FfnLRefIdeal.main_arg3) = m' ((c.tc : Thread Cert.FfnLRefIdeal.nD Cert.FfnLRefIdeal.τ).loc Cert.FfnLRefIdeal.main_arg3)
          ∧ r.2.mem ((c.tc : Thread Cert.FfnLRefIdeal.nD Cert.FfnLRefIdeal.τ).loc Cert.FfnLRefIdeal.main_arg4) = m' ((c.tc : Thread Cert.FfnLRefIdeal.nD Cert.FfnLRefIdeal.τ).loc Cert.FfnLRefIdeal.main_arg4)
          ∧ r.2.mem ((c.tc : Thread Cert.FfnLRefIdeal.nD Cert.FfnLRefIdeal.τ).loc Cert.FfnLRefIdeal.main_arg5) = m' ((c.tc : Thread Cert.FfnLRefIdeal.nD Cert.FfnLRefIdeal.τ).loc Cert.FfnLRefIdeal.main_arg5)
          ∧ r.2.mem ((c.tc : Thread Cert.FfnLRefIdeal.nD Cert.FfnLRefIdeal.τ).loc Cert.FfnLRefIdeal.main_arg6) = m' ((c.tc : Thread Cert.FfnLRefIdeal.nD Cert.FfnLRefIdeal.τ).loc Cert.FfnLRefIdeal.main_arg6)
          ∧ r.2.mem ((c.tc : Thread Cert.FfnLRefIdeal.nD Cert.FfnLRefIdeal.τ).loc Cert.FfnLRefIdeal.main_arg7) = m' ((c.tc : Thread Cert.FfnLRefIdeal.nD Cert.FfnLRefIdeal.τ).loc Cert.FfnLRefIdeal.main_arg7)
          ∧ r.2.mem ((c.tc : Thread Cert.FfnLRefIdeal.nD Cert.FfnLRefIdeal.τ).loc Cert.FfnLRefIdeal.main_arg8) = m' ((c.tc : Thread Cert.FfnLRefIdeal.nD Cert.FfnLRefIdeal.τ).loc Cert.FfnLRefIdeal.main_arg8)
          ∧ r.2.mem ((c.tc : Thread Cert.FfnLRefIdeal.nD Cert.FfnLRefIdeal.τ).loc Cert.FfnLRefIdeal.main_arg9) = m' ((c.tc : Thread Cert.FfnLRefIdeal.nD Cert.FfnLRefIdeal.τ).loc Cert.FfnLRefIdeal.main_arg9))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v0_0)) (v1 : (c : Dev Cert.MixInIdeal.nD) → Buf (Elt Ideal) ((c.tc : Thread Cert.MixInIdeal.nD Cert.MixInIdeal.τ).loc Cert.MixInIdeal.main_v0_1)) (v2 : (c : Dev Cert.MixInIdeal.nD) → Buf (Elt Ideal) ((c.tc : Thread Cert.MixInIdeal.nD Cert.MixInIdeal.τ).loc Cert.MixInIdeal.main_v0_2)) (v3 : (c : Dev Cert.MixInIdeal.nD) → Buf (Elt Ideal) ((c.tc : Thread Cert.MixInIdeal.nD Cert.MixInIdeal.τ).loc Cert.MixInIdeal.main_v0_3)) (v4 : (c : Dev Cert.MixInIdeal.nD) → Buf (Elt Ideal) ((c.tc : Thread Cert.MixInIdeal.nD Cert.MixInIdeal.τ).loc Cert.MixInIdeal.main_v0_4)) (v5 : (c : Dev Cert.MixInIdeal.nD) → Buf (Elt Ideal) ((c.tc : Thread Cert.MixInIdeal.nD Cert.MixInIdeal.τ).loc Cert.MixInIdeal.main_v0_5)) (v6 : (c : Dev Cert.MixInIdeal.nD) → Buf (Elt Ideal) ((c.tc : Thread Cert.MixInIdeal.nD Cert.MixInIdeal.τ).loc Cert.MixInIdeal.main_v0_6)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0_0) = v0 c
          ∧ r.2.mem ((c.tc : Thread Cert.MixInIdeal.nD Cert.MixInIdeal.τ).loc Cert.MixInIdeal.main_v0_1) = v1 c
          ∧ r.2.mem ((c.tc : Thread Cert.MixInIdeal.nD Cert.MixInIdeal.τ).loc Cert.MixInIdeal.main_v0_2) = v2 c
          ∧ r.2.mem ((c.tc : Thread Cert.MixInIdeal.nD Cert.MixInIdeal.τ).loc Cert.MixInIdeal.main_v0_3) = v3 c
          ∧ r.2.mem ((c.tc : Thread Cert.MixInIdeal.nD Cert.MixInIdeal.τ).loc Cert.MixInIdeal.main_v0_4) = v4 c
          ∧ r.2.mem ((c.tc : Thread Cert.MixInIdeal.nD Cert.MixInIdeal.τ).loc Cert.MixInIdeal.main_v0_5) = v5 c
          ∧ r.2.mem ((c.tc : Thread Cert.MixInIdeal.nD Cert.MixInIdeal.τ).loc Cert.MixInIdeal.main_v0_6) = v6 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v12) = v0 c
          ∧ r.2.mem ((c.tc : Thread Cert.MixInRefIdeal.nD Cert.MixInRefIdeal.τ).loc Cert.MixInRefIdeal.main_v16) = v1 c
          ∧ r.2.mem ((c.tc : Thread Cert.MixInRefIdeal.nD Cert.MixInRefIdeal.τ).loc Cert.MixInRefIdeal.main_v17) = v2 c
          ∧ r.2.mem ((c.tc : Thread Cert.MixInRefIdeal.nD Cert.MixInRefIdeal.τ).loc Cert.MixInRefIdeal.main_v18) = v3 c
          ∧ r.2.mem ((c.tc : Thread Cert.MixInRefIdeal.nD Cert.MixInRefIdeal.τ).loc Cert.MixInRefIdeal.main_v19) = v4 c
          ∧ r.2.mem ((c.tc : Thread Cert.MixInRefIdeal.nD Cert.MixInRefIdeal.τ).loc Cert.MixInRefIdeal.main_v20) = v5 c
          ∧ r.2.mem ((c.tc : Thread Cert.MixInRefIdeal.nD Cert.MixInRefIdeal.τ).loc Cert.MixInRefIdeal.main_v21) = v6 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v54) = v0 c
          ∧ r.2.mem ((c.tc : Thread Cert.MixOutRefIdeal.nD Cert.MixOutRefIdeal.τ).loc Cert.MixOutRefIdeal.main_v41) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def Claim : Prop :=
  ∃ (hGluBwd : Cert.GluBwd.Facts) (hGluBwdIdeal : Cert.GluBwdIdeal.Facts) (hGluRefIdeal : Cert.GluRefIdeal.Facts) (hFfnW : Cert.FfnW.Facts) (hFfnWIdeal : Cert.FfnWIdeal.Facts) (hFfnWRefIdeal : Cert.FfnWRefIdeal.Facts) (hFfnF : Cert.FfnF.Facts) (hFfnFIdeal : Cert.FfnFIdeal.Facts) (hFfnFRefIdeal : Cert.FfnFRefIdeal.Facts) (hFfnB : Cert.FfnB.Facts) (hFfnBIdeal : Cert.FfnBIdeal.Facts) (hFfnBRefIdeal : Cert.FfnBRefIdeal.Facts) (hFfnL : Cert.FfnL.Facts) (hFfnLIdeal : Cert.FfnLIdeal.Facts) (hFfnLRefIdeal : Cert.FfnLRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hPre_finite : Cert.Pre_finite.Facts) (hPre_finite_l : Cert.Pre_finite_l.Facts),
    quiescent_GluBwd (hGluBwd := hGluBwd)
    ∧ quiescent_GluBwdIdeal (hGluBwdIdeal := hGluBwdIdeal)
    ∧ quiescent_GluRefIdeal (hGluRefIdeal := hGluRefIdeal)
    ∧ quiescent_FfnW (hFfnW := hFfnW)
    ∧ quiescent_FfnWIdeal (hFfnWIdeal := hFfnWIdeal)
    ∧ quiescent_FfnWRefIdeal (hFfnWRefIdeal := hFfnWRefIdeal)
    ∧ quiescent_FfnF (hFfnF := hFfnF)
    ∧ quiescent_FfnFIdeal (hFfnFIdeal := hFfnFIdeal)
    ∧ quiescent_FfnFRefIdeal (hFfnFRefIdeal := hFfnFRefIdeal)
    ∧ quiescent_FfnB (hFfnB := hFfnB)
    ∧ quiescent_FfnBIdeal (hFfnBIdeal := hFfnBIdeal)
    ∧ quiescent_FfnBIdeal_pre_finite (hFfnBIdeal := hFfnBIdeal) (hPre_finite := hPre_finite)
    ∧ quiescent_FfnBRefIdeal (hFfnBRefIdeal := hFfnBRefIdeal)
    ∧ quiescent_FfnBRefIdeal_pre_finite (hFfnBRefIdeal := hFfnBRefIdeal) (hPre_finite := hPre_finite)
    ∧ quiescent_FfnL (hFfnL := hFfnL)
    ∧ quiescent_FfnLIdeal (hFfnLIdeal := hFfnLIdeal)
    ∧ quiescent_FfnLIdeal_pre_finite_l (hFfnLIdeal := hFfnLIdeal) (hPre_finite_l := hPre_finite_l)
    ∧ quiescent_FfnLRefIdeal (hFfnLRefIdeal := hFfnLRefIdeal)
    ∧ quiescent_FfnLRefIdeal_pre_finite_l (hFfnLRefIdeal := hFfnLRefIdeal) (hPre_finite_l := hPre_finite_l)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ preserves_GluBwd_GluBwdIdeal
    ∧ algebraic_GluBwdIdeal_GluRefIdeal (hGluBwdIdeal := hGluBwdIdeal) (hGluRefIdeal := hGluRefIdeal)
    ∧ preserves_FfnW_FfnWIdeal
    ∧ algebraic_FfnWIdeal_FfnWRefIdeal (hFfnWIdeal := hFfnWIdeal) (hFfnWRefIdeal := hFfnWRefIdeal)
    ∧ preserves_FfnF_FfnFIdeal
    ∧ algebraic_FfnFIdeal_FfnFRefIdeal (hFfnFIdeal := hFfnFIdeal) (hFfnFRefIdeal := hFfnFRefIdeal)
    ∧ preserves_FfnB_FfnBIdeal
    ∧ algebraic_FfnBIdeal_FfnBRefIdeal_pre_finite (hFfnBIdeal := hFfnBIdeal) (hFfnBRefIdeal := hFfnBRefIdeal) (hPre_finite := hPre_finite)
    ∧ preserves_FfnL_FfnLIdeal
    ∧ algebraic_FfnLIdeal_FfnLRefIdeal_pre_finite_l (hFfnLIdeal := hFfnLIdeal) (hFfnLRefIdeal := hFfnLRefIdeal) (hPre_finite_l := hPre_finite_l)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
-- ==== Pre_finite.lean ====
abbrev S4096x1024 : Shape := ⟨2, ![4096, 1024]⟩
abbrev S1x1024 : Shape := ⟨2, ![1, 1024]⟩
abbrev S4x4096x704 : Shape := ⟨3, ![4, 4096, 704]⟩
abbrev S8x704x1024 : Shape := ⟨3, ![8, 704, 1024]⟩
abbrev S8x352x1024 : Shape := ⟨3, ![8, 352, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S4x4096x704 : S_.BroadcastsInDim S4x4096x704 (![] : Fin 0 → Fin S4x4096x704.rank)
  reducesTo_S4x4096x704_S_d0_1_2 : S4x4096x704.ReducesTo [0, 1, 2] S_
  bcast_S_S8x352x1024 : S_.BroadcastsInDim S8x352x1024 (![] : Fin 0 → Fin S8x352x1024.rank)
  reducesTo_S8x352x1024_S_d0_1_2 : S8x352x1024.ReducesTo [0, 1, 2] S_

variable [Facts]

def fn_part1 {F : FTy → Type} [FloatOps F] (main_v14 : IVec S_ 1) (main_v16 : FVec F S8x352x1024 .f32) (main_cst_4 : FVec F S_ .f32) : IVec S_ 1 :=
  let main_v17 : FVec F S8x352x1024 .f32 := broadcastInDim S8x352x1024 ![] bcast_S_S8x352x1024 main_cst_4
  let main_v18 : IVec S8x352x1024 1 := cmpf .olt main_v16 main_v17
  let main_c_5 : IVec S_ 1 := constantI S_ 1 1#1
  let main_v19 : IVec S_ 1 := (fun x v => Host.reduce IntOp.andi x v reducesTo_S8x352x1024_S_d0_1_2 h_S_) main_v18 main_c_5
  let main_v20 : IVec S_ 1 := andi main_v14 main_v19
  main_v20

def fn {F : FTy → Type} [FloatOps F] (main_arg0 : FVec F S4096x1024 .f32) (main_arg1 : FVec F S4096x1024 .bf16) (main_arg2 : FVec F S4096x1024 .f32) (main_arg3 : FVec F S1x1024 .f32) (main_arg4 : FVec F S1x1024 .f32) (main_arg5 : FVec F S4x4096x704 .bf16) (main_arg6 : FVec F S4x4096x704 .bf16) (main_arg7 : FVec F S8x704x1024 .bf16) (main_arg8 : FVec F S8x352x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg4
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4x4096x704 .f32 := (extf .f32 · bitsLt_bf16_f32) main_arg6
  let main_v10 : FVec F S4x4096x704 .f32 := Host.absf main_v9
  let main_cst_2 : FVec F S_ .f32 := constant S_ .f32 0x7F800000#32
  let main_v11 : FVec F S4x4096x704 .f32 := broadcastInDim S4x4096x704 ![] bcast_S_S4x4096x704 main_cst_2
  let main_v12 : IVec S4x4096x704 1 := cmpf .olt main_v10 main_v11
  let main_c_3 : IVec S_ 1 := constantI S_ 1 1#1
  let main_v13 : IVec S_ 1 := (fun x v => Host.reduce IntOp.andi x v reducesTo_S4x4096x704_S_d0_1_2 h_S_) main_v12 main_c_3
  let main_v14 : IVec S_ 1 := andi main_v8 main_v13
  let main_v15 : FVec F S8x352x1024 .f32 := (extf .f32 · bitsLt_bf16_f32) main_arg8
  let main_v16 : FVec F S8x352x1024 .f32 := Host.absf main_v15
  let main_cst_4 : FVec F S_ .f32 := constant S_ .f32 0x7F800000#32
  fn_part1 (F := F) main_v14 main_v16 main_cst_4
-- ==== Pre_finite_l.lean ====
abbrev S4096x1024 : Shape := ⟨2, ![4096, 1024]⟩
abbrev S1x1024 : Shape := ⟨2, ![1, 1024]⟩
abbrev S4x4096x704 : Shape := ⟨3, ![4, 4096, 704]⟩
abbrev S8x704x1024 : Shape := ⟨3, ![8, 704, 1024]⟩
abbrev S8x352x1024 : Shape := ⟨3, ![8, 352, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S4x4096x704 : S_.BroadcastsInDim S4x4096x704 (![] : Fin 0 → Fin S4x4096x704.rank)
  reducesTo_S4x4096x704_S_d0_1_2 : S4x4096x704.ReducesTo [0, 1, 2] S_
  bcast_S_S8x352x1024 : S_.BroadcastsInDim S8x352x1024 (![] : Fin 0 → Fin S8x352x1024.rank)
  reducesTo_S8x352x1024_S_d0_1_2 : S8x352x1024.ReducesTo [0, 1, 2] S_

variable [Facts]

def fn_part1 {F : FTy → Type} [FloatOps F] (main_arg9 : FVec F S8x352x1024 .bf16) (main_v13 : IVec S_ 1) (main_v15 : FVec F S4x4096x704 .f32) (main_v16 : FVec F S4x4096x704 .f32) : IVec S_ 1 :=
  let main_v17 : IVec S4x4096x704 1 := cmpf .olt main_v15 main_v16
  let main_c_5 : IVec S_ 1 := constantI S_ 1 1#1
  let main_v18 : IVec S_ 1 := (fun x v => Host.reduce IntOp.andi x v reducesTo_S4x4096x704_S_d0_1_2 h_S_) main_v17 main_c_5
  let main_v19 : IVec S_ 1 := andi main_v13 main_v18
  let main_v20 : FVec F S8x352x1024 .f32 := (extf .f32 · bitsLt_bf16_f32) main_arg9
  let main_v21 : FVec F S8x352x1024 .f32 := Host.absf main_v20
  let main_cst_6 : FVec F S_ .f32 := constant S_ .f32 0x7F800000#32
  let main_v22 : FVec F S8x352x1024 .f32 := broadcastInDim S8x352x1024 ![] bcast_S_S8x352x1024 main_cst_6
  let main_v23 : IVec S8x352x1024 1 := cmpf .olt main_v21 main_v22
  let main_c_7 : IVec S_ 1 := constantI S_ 1 1#1
  let main_v24 : IVec S_ 1 := (fun x v => Host.reduce IntOp.andi x v reducesTo_S8x352x1024_S_d0_1_2 h_S_) main_v23 main_c_7
  let main_v25 : IVec S_ 1 := andi main_v19 main_v24
  main_v25

def fn {F : FTy → Type} [FloatOps F] (main_arg0 : FVec F S4096x1024 .f32) (main_arg1 : FVec F S4096x1024 .f32) (main_arg2 : FVec F S4096x1024 .bf16) (main_arg3 : FVec F S4096x1024 .f32) (main_arg4 : FVec F S1x1024 .f32) (main_arg5 : FVec F S1x1024 .f32) (main_arg6 : FVec F S4x4096x704 .bf16) (main_arg7 : FVec F S4x4096x704 .bf16) (main_arg8 : FVec F S8x704x1024 .bf16) (main_arg9 : FVec F S8x352x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg5
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S4x4096x704 .f32 := (extf .f32 · bitsLt_bf16_f32) main_arg7
  let main_v15 : FVec F S4x4096x704 .f32 := Host.absf main_v14
  let main_cst_4 : FVec F S_ .f32 := constant S_ .f32 0x7F800000#32
  let main_v16 : FVec F S4x4096x704 .f32 := broadcastInDim S4x4096x704 ![] bcast_S_S4x4096x704 main_cst_4
  fn_part1 (F := F) main_arg9 main_v13 main_v15 main_v16
-- ==== GluBwd.lean ====
abbrev S4096x256 : Shape := ⟨2, ![4096, 256]⟩
abbrev S4096x512 : Shape := ⟨2, ![4096, 512]⟩
abbrev S31x256 : Shape := ⟨2, ![31, 256]⟩
abbrev S_ : Shape := ⟨0, ![]⟩
abbrev S32x256 : Shape := ⟨2, ![32, 256]⟩
abbrev S512x256 : Shape := ⟨2, ![512, 256]⟩
abbrev S512x512 : Shape := ⟨2, ![512, 512]⟩
abbrev S544x256 : Shape := ⟨2, ![544, 256]⟩
abbrev S1x256 : Shape := ⟨2, ![1, 256]⟩

abbrev nBuf : Space → Nat
  | .hbm => 7
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S31x256, .f32⟩
  | .hbm, ⟨3, _⟩ => ⟨S_, .i32⟩
  | .hbm, ⟨4, _⟩ => ⟨S_, .f32⟩
  | .hbm, ⟨5, _⟩ => ⟨S32x256, .f32⟩
  | .hbm, ⟨6, _⟩ => ⟨S4096x512, .f32⟩
  | .local _ .vmem, ⟨0, _⟩ => ⟨S512x256, .f32⟩
  | .local _ .vmem, ⟨1, _⟩ => ⟨S512x256, .f32⟩
  | .local _ .vmem, ⟨2, _⟩ => ⟨S32x256, .f32⟩
  | .local _ .vmem, ⟨3, _⟩ => ⟨S32x256, .f32⟩
  | .local _ .vmem, ⟨4, _⟩ => ⟨S512x512, .f32⟩
  | .local _ .vmem, ⟨5, _⟩ => ⟨S512x512, .f32⟩
  | .local _ .vmem, ⟨6, _⟩ => ⟨S32x256, .f32⟩
  | .local _ .vmem, ⟨7, _⟩ => ⟨S512x512, .f32⟩
  | .local _ .vmem, ⟨8, _⟩ => ⟨S512x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluRefIdeal.lean ====
abbrev S4096x256 : Shape := ⟨2, ![4096, 256]⟩
abbrev S4096x512 : Shape := ⟨2, ![4096, 512]⟩
abbrev S31x256 : Shape := ⟨2, ![31, 256]⟩
abbrev S_ : Shape := ⟨0, ![]⟩
abbrev S30x256 : Shape := ⟨2, ![30, 256]⟩
abbrev S4126x256 : Shape := ⟨2, ![4126, 256]⟩
abbrev S1x256 : Shape := ⟨2, ![1, 256]⟩
abbrev S256 : Shape := ⟨1, ![256]⟩

abbrev nBuf : Space → Nat
  | .hbm => 404
  | .vmem => 0
  | .smem => 0
  | _ => 0

abbrev hbmTy0_0 (i : Nat) : BufTy := match i % 128 with
  | 0 => ⟨S4096x256, .f32⟩
  | 1 => ⟨S4096x512, .f32⟩
  | 2 => ⟨S31x256, .f32⟩
  | 3 => ⟨S4096x256, .f32⟩
  | 4 => ⟨S4096x256, .f32⟩
  | 5 => ⟨S4096x256, .f32⟩
  | 6 => ⟨S4096x256, .f32⟩
  | 7 => ⟨S_, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S4096x256, .f32⟩
  | 18 => ⟨S_, .f32⟩
  | 19 => ⟨S30x256, .f32⟩
  | 20 => ⟨S4126x256, .f32⟩
  | 21 => ⟨S_, .f32⟩
  | 22 => ⟨S30x256, .f32⟩
  | 23 => ⟨S4096x256, .f32⟩
  | 24 => ⟨S1x256, .f32⟩
  | 25 => ⟨S256, .f32⟩
  | 26 => ⟨S1x256, .f32⟩
  | 27 => ⟨S4096x256, .f32⟩
  | 28 => ⟨S4096x256, .f32⟩
  | 29 => ⟨S_, .f32⟩
  | 30 => ⟨S4096x256, .f32⟩
  | 31 => ⟨S4096x256, .f32⟩
  | 32 => ⟨S4096x256, .f32⟩
  | 33 => ⟨S1x256, .f32⟩
  | 34 => ⟨S256, .f32⟩
  | 35 => ⟨S1x256, .f32⟩
  | 36 => ⟨S4096x256, .f32⟩
  | 37 => ⟨S4096x256, .f32⟩
  | 38 => ⟨S4096x256, .f32⟩
  | 39 => ⟨S4096x256, .f32⟩
  | 40 => ⟨S1x256, .f32⟩
  | 41 => ⟨S256, .f32⟩
  | 42 => ⟨S1x256, .f32⟩
  | 43 => ⟨S4096x256, .f32⟩
  | 44 => ⟨S4096x256, .f32⟩
  | 45 => ⟨S4096x256, .f32⟩
  | 46 => ⟨S4096x256, .f32⟩
  | 47 => ⟨S1x256, .f32⟩
  | 48 => ⟨S256, .f32⟩
  | 49 => ⟨S1x256, .f32⟩
  | 50 => ⟨S4096x256, .f32⟩
  | 51 => ⟨S4096x256, .f32⟩
  | 52 => ⟨S4096x256, .f32⟩
  | 53 => ⟨S4096x256, .f32⟩
  | 54 => ⟨S1x256, .f32⟩
  | 55 => ⟨S256, .f32⟩
  | 56 => ⟨S1x256, .f32⟩
  | 57 => ⟨S4096x256, .f32⟩
  | 58 => ⟨S4096x256, .f32⟩
  | 59 => ⟨S4096x256, .f32⟩
  | 60 => ⟨S4096x256, .f32⟩
  | 61 => ⟨S1x256, .f32⟩
  | 62 => ⟨S256, .f32⟩
  | 63 => ⟨S1x256, .f32⟩
  | 64 => ⟨S4096x256, .f32⟩
  | 65 => ⟨S4096x256, .f32⟩
  | 66 => ⟨S4096x256, .f32⟩
  | 67 => ⟨S4096x256, .f32⟩
  | 68 => ⟨S1x256, .f32⟩
  | 69 => ⟨S256, .f32⟩
  | 70 => ⟨S1x256, .f32⟩
  | 71 => ⟨S4096x256, .f32⟩
  | 72 => ⟨S4096x256, .f32⟩
  | 73 => ⟨S4096x256, .f32⟩
  | 74 => ⟨S4096x256, .f32⟩
  | 75 => ⟨S1x256, .f32⟩
  | 76 => ⟨S256, .f32⟩
  | 77 => ⟨S1x256, .f32⟩
  | 78 => ⟨S4096x256, .f32⟩
  | 79 => ⟨S4096x256, .f32⟩
  | 80 => ⟨S4096x256, .f32⟩
  | 81 => ⟨S4096x256, .f32⟩
  | 82 => ⟨S1x256, .f32⟩
  | 83 => ⟨S256, .f32⟩
  | 84 => ⟨S1x256, .f32⟩
  | 85 => ⟨S4096x256, .f32⟩
  | 86 => ⟨S4096x256, .f32⟩
  | 87 => ⟨S4096x256, .f32⟩
  | 88 => ⟨S4096x256, .f32⟩
  | 89 => ⟨S1x256, .f32⟩
  | 90 => ⟨S256, .f32⟩
  | 91 => ⟨S1x256, .f32⟩
  | 92 => ⟨S4096x256, .f32⟩
  | 93 => ⟨S4096x256, .f32⟩
  | 94 => ⟨S4096x256, .f32⟩
  | 95 => ⟨S4096x256, .f32⟩
  | 96 => ⟨S1x256, .f32⟩
  | 97 => ⟨S256, .f32⟩
  | 98 => ⟨S1x256, .f32⟩
  | 99 => ⟨S4096x256, .f32⟩
  | 100 => ⟨S4096x256, .f32⟩
  | 101 => ⟨S4096x256, .f32⟩
  | 102 => ⟨S4096x256, .f32⟩
  | 103 => ⟨S1x256, .f32⟩
  | 104 => ⟨S256, .f32⟩
  | 105 => ⟨S1x256, .f32⟩
  | 106 => ⟨S4096x256, .f32⟩
  | 107 => ⟨S4096x256, .f32⟩
  | 108 => ⟨S4096x256, .f32⟩
  | 109 => ⟨S4096x256, .f32⟩
  | 110 => ⟨S1x256, .f32⟩
  | 111 => ⟨S256, .f32⟩
  | 112 => ⟨S1x256, .f32⟩
  | 113 => ⟨S4096x256, .f32⟩
  | 114 => ⟨S4096x256, .f32⟩
  | 115 => ⟨S4096x256, .f32⟩
  | 116 => ⟨S4096x256, .f32⟩
  | 117 => ⟨S1x256, .f32⟩
  | 118 => ⟨S256, .f32⟩
  | 119 => ⟨S1x256, .f32⟩
  | 120 => ⟨S4096x256, .f32⟩
  | 121 => ⟨S4096x256, .f32⟩
  | 122 => ⟨S4096x256, .f32⟩
  | 123 => ⟨S4096x256, .f32⟩
  | 124 => ⟨S1x256, .f32⟩
  | 125 => ⟨S256, .f32⟩
  | 126 => ⟨S1x256, .f32⟩
  | 127 => ⟨S4096x256, .f32⟩
  | _ => ⟨S4096x256, .f32⟩

abbrev hbmTy0_1 (i : Nat) : BufTy := match i % 128 with
  | 0 => ⟨S4096x256, .f32⟩
  | 1 => ⟨S4096x256, .f32⟩
  | 2 => ⟨S4096x256, .f32⟩
  | 3 => ⟨S1x256, .f32⟩
  | 4 => ⟨S256, .f32⟩
  | 5 => ⟨S1x256, .f32⟩
  | 6 => ⟨S4096x256, .f32⟩
  | 7 => ⟨S4096x256, .f32⟩
  | 8 => ⟨S4096x256, .f32⟩
  | 9 => ⟨S4096x256, .f32⟩
  | 10 => ⟨S1x256, .f32⟩
  | 11 => ⟨S256, .f32⟩
  | 12 => ⟨S1x256, .f32⟩
  | 13 => ⟨S4096x256, .f32⟩
  | 14 => ⟨S4096x256, .f32⟩
  | 15 => ⟨S4096x256, .f32⟩
  | 16 => ⟨S4096x256, .f32⟩
  | 17 => ⟨S1x256, .f32⟩
  | 18 => ⟨S256, .f32⟩
  | 19 => ⟨S1x256, .f32⟩
  | 20 => ⟨S4096x256, .f32⟩
  | 21 => ⟨S4096x256, .f32⟩
  | 22 => ⟨S4096x256, .f32⟩
  | 23 => ⟨S4096x256, .f32⟩
  | 24 => ⟨S1x256, .f32⟩
  | 25 => ⟨S256, .f32⟩
  | 26 => ⟨S1x256, .f32⟩
  | 27 => ⟨S4096x256, .f32⟩
  | 28 => ⟨S4096x256, .f32⟩
  | 29 => ⟨S4096x256, .f32⟩
  | 30 => ⟨S4096x256, .f32⟩
  | 31 => ⟨S1x256, .f32⟩
  | 32 => ⟨S256, .f32⟩
  | 33 => ⟨S1x256, .f32⟩
  | 34 => ⟨S4096x256, .f32⟩
  | 35 => ⟨S4096x256, .f32⟩
  | 36 => ⟨S4096x256, .f32⟩
  | 37 => ⟨S4096x256, .f32⟩
  | 38 => ⟨S1x256, .f32⟩
  | 39 => ⟨S256, .f32⟩
  | 40 => ⟨S1x256, .f32⟩
  | 41 => ⟨S4096x256, .f32⟩
  | 42 => ⟨S4096x256, .f32⟩
  | 43 => ⟨S4096x256, .f32⟩
  | 44 => ⟨S4096x256, .f32⟩
  | 45 => ⟨S1x256, .f32⟩
  | 46 => ⟨S256, .f32⟩
  | 47 => ⟨S1x256, .f32⟩
  | 48 => ⟨S4096x256, .f32⟩
  | 49 => ⟨S4096x256, .f32⟩
  | 50 => ⟨S4096x256, .f32⟩
  | 51 => ⟨S4096x256, .f32⟩
  | 52 => ⟨S1x256, .f32⟩
  | 53 => ⟨S256, .f32⟩
  | 54 => ⟨S1x256, .f32⟩
  | 55 => ⟨S4096x256, .f32⟩
  | 56 => ⟨S4096x256, .f32⟩
  | 57 => ⟨S4096x256, .f32⟩
  | 58 => ⟨S4096x256, .f32⟩
  | 59 => ⟨S1x256, .f32⟩
  | 60 => ⟨S256, .f32⟩
  | 61 => ⟨S1x256, .f32⟩
  | 62 => ⟨S4096x256, .f32⟩
  | 63 => ⟨S4096x256, .f32⟩
  | 64 => ⟨S4096x256, .f32⟩
  | 65 => ⟨S4096x256, .f32⟩
  | 66 => ⟨S1x256, .f32⟩
  | 67 => ⟨S256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S1x256, .f32⟩
  | 74 => ⟨S256, .f32⟩
  | 75 => ⟨S1x256, .f32⟩
  | 76 => ⟨S4096x256, .f32⟩
  | 77 => ⟨S4096x256, .f32⟩
  | 78 => ⟨S4096x256, .f32⟩
  | 79 => ⟨S4096x256, .f32⟩
  | 80 => ⟨S1x256, .f32⟩
  | 81 => ⟨S256, .f32⟩
  | 82 => ⟨S1x256, .f32⟩
  | 83 => ⟨S4096x256, .f32⟩
  | 84 => ⟨S4096x256, .f32⟩
  | 85 => ⟨S4096x256, .f32⟩
  | 86 => ⟨S4096x256, .f32⟩
  | 87 => ⟨S1x256, .f32⟩
  | 88 => ⟨S256, .f32⟩
  | 89 => ⟨S1x256, .f32⟩
  | 90 => ⟨S4096x256, .f32⟩
  | 91 => ⟨S4096x256, .f32⟩
  | 92 => ⟨S4096x256, .f32⟩
  | 93 => ⟨S4096x256, .f32⟩
  | 94 => ⟨S1x256, .f32⟩
  | 95 => ⟨S256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S1x256, .f32⟩
  | 102 => ⟨S256, .f32⟩
  | 103 => ⟨S1x256, .f32⟩
  | 104 => ⟨S4096x256, .f32⟩
  | 105 => ⟨S4096x256, .f32⟩
  | 106 => ⟨S4096x256, .f32⟩
  | 107 => ⟨S4096x256, .f32⟩
  | 108 => ⟨S1x256, .f32⟩
  | 109 => ⟨S256, .f32⟩
  | 110 => ⟨S1x256, .f32⟩
  | 111 => ⟨S4096x256, .f32⟩
  | 112 => ⟨S4096x256, .f32⟩
  | 113 => ⟨S4096x256, .f32⟩
  | 114 => ⟨S4096x256, .f32⟩
  | 115 => ⟨S4096x256, .f32⟩
  | 116 => ⟨S4096x256, .f32⟩
  | 117 => ⟨S4096x256, .f32⟩
  | 118 => ⟨S_, .f32⟩
  | 119 => ⟨S4126x256, .f32⟩
  | 120 => ⟨S4096x256, .f32⟩
  | 121 => ⟨S4096x256, .f32⟩
  | 122 => ⟨S_, .f32⟩
  | 123 => ⟨S4126x256, .f32⟩
  | 124 => ⟨S4126x256, .f32⟩
  | 125 => ⟨S4096x256, .f32⟩
  | 126 => ⟨S4096x256, .f32⟩
  | 127 => ⟨S_, .f32⟩
  | _ => ⟨S4096x256, .f32⟩

abbrev hbmTy0_2 (i : Nat) : BufTy := match i % 128 with
  | 0 => ⟨S4126x256, .f32⟩
  | 1 => ⟨S4126x256, .f32⟩
  | 2 => ⟨S4096x256, .f32⟩
  | 3 => ⟨S4096x256, .f32⟩
  | 4 => ⟨S_, .f32⟩
  | 5 => ⟨S4126x256, .f32⟩
  | 6 => ⟨S4126x256, .f32⟩
  | 7 => ⟨S4096x256, .f32⟩
  | 8 => ⟨S4096x256, .f32⟩
  | 9 => ⟨S_, .f32⟩
  | 10 => ⟨S4126x256, .f32⟩
  | 11 => ⟨S4126x256, .f32⟩
  | 12 => ⟨S4096x256, .f32⟩
  | 13 => ⟨S4096x256, .f32⟩
  | 14 => ⟨S_, .f32⟩
  | 15 => ⟨S4126x256, .f32⟩
  | 16 => ⟨S4126x256, .f32⟩
  | 17 => ⟨S4096x256, .f32⟩
  | 18 => ⟨S4096x256, .f32⟩
  | 19 => ⟨S_, .f32⟩
  | 20 => ⟨S4126x256, .f32⟩
  | 21 => ⟨S4126x256, .f32⟩
  | 22 => ⟨S4096x256, .f32⟩
  | 23 => ⟨S4096x256, .f32⟩
  | 24 => ⟨S_, .f32⟩
  | 25 => ⟨S4126x256, .f32⟩
  | 26 => ⟨S4126x256, .f32⟩
  | 27 => ⟨S4096x256, .f32⟩
  | 28 => ⟨S4096x256, .f32⟩
  | 29 => ⟨S_, .f32⟩
  | 30 => ⟨S4126x256, .f32⟩
  | 31 => ⟨S4126x256, .f32⟩
  | 32 => ⟨S4096x256, .f32⟩
  | 33 => ⟨S4096x256, .f32⟩
  | 34 => ⟨S_, .f32⟩
  | 35 => ⟨S4126x256, .f32⟩
  | 36 => ⟨S4126x256, .f32⟩
  | 37 => ⟨S4096x256, .f32⟩
  | 38 => ⟨S4096x256, .f32⟩
  | 39 => ⟨S_, .f32⟩
  | 40 => ⟨S4126x256, .f32⟩
  | 41 => ⟨S4126x256, .f32⟩
  | 42 => ⟨S4096x256, .f32⟩
  | 43 => ⟨S4096x256, .f32⟩
  | 44 => ⟨S_, .f32⟩
  | 45 => ⟨S4126x256, .f32⟩
  | 46 => ⟨S4126x256, .f32⟩
  | 47 => ⟨S4096x256, .f32⟩
  | 48 => ⟨S4096x256, .f32⟩
  | 49 => ⟨S_, .f32⟩
  | 50 => ⟨S4126x256, .f32⟩
  | 51 => ⟨S4126x256, .f32⟩
  | 52 => ⟨S4096x256, .f32⟩
  | 53 => ⟨S4096x256, .f32⟩
  | 54 => ⟨S_, .f32⟩
  | 55 => ⟨S4126x256, .f32⟩
  | 56 => ⟨S4126x256, .f32⟩
  | 57 => ⟨S4096x256, .f32⟩
  | 58 => ⟨S4096x256, .f32⟩
  | 59 => ⟨S_, .f32⟩
  | 60 => ⟨S4126x256, .f32⟩
  | 61 => ⟨S4126x256, .f32⟩
  | 62 => ⟨S4096x256, .f32⟩
  | 63 => ⟨S4096x256, .f32⟩
  | 64 => ⟨S_, .f32⟩
  | 65 => ⟨S4126x256, .f32⟩
  | 66 => ⟨S4126x256, .f32⟩
  | 67 => ⟨S4096x256, .f32⟩
  | 68 => ⟨S4096x256, .f32⟩
  | 69 => ⟨S_, .f32⟩
  | 70 => ⟨S4126x256, .f32⟩
  | 71 => ⟨S4126x256, .f32⟩
  | 72 => ⟨S4096x256, .f32⟩
  | 73 => ⟨S4096x256, .f32⟩
  | 74 => ⟨S_, .f32⟩
  | 75 => ⟨S4126x256, .f32⟩
  | 76 => ⟨S4126x256, .f32⟩
  | 77 => ⟨S4096x256, .f32⟩
  | 78 => ⟨S4096x256, .f32⟩
  | 79 => ⟨S_, .f32⟩
  | 80 => ⟨S4126x256, .f32⟩
  | 81 => ⟨S4126x256, .f32⟩
  | 82 => ⟨S4096x256, .f32⟩
  | 83 => ⟨S4096x256, .f32⟩
  | 84 => ⟨S_, .f32⟩
  | 85 => ⟨S4126x256, .f32⟩
  | 86 => ⟨S4126x256, .f32⟩
  | 87 => ⟨S4096x256, .f32⟩
  | 88 => ⟨S4096x256, .f32⟩
  | 89 => ⟨S_, .f32⟩
  | 90 => ⟨S4126x256, .f32⟩
  | 91 => ⟨S4126x256, .f32⟩
  | 92 => ⟨S4096x256, .f32⟩
  | 93 => ⟨S4096x256, .f32⟩
  | 94 => ⟨S_, .f32⟩
  | 95 => ⟨S4126x256, .f32⟩
  | 96 => ⟨S4126x256, .f32⟩
  | 97 => ⟨S4096x256, .f32⟩
  | 98 => ⟨S4096x256, .f32⟩
  | 99 => ⟨S_, .f32⟩
  | 100 => ⟨S4126x256, .f32⟩
  | 101 => ⟨S4126x256, .f32⟩
  | 102 => ⟨S4096x256, .f32⟩
  | 103 => ⟨S4096x256, .f32⟩
  | 104 => ⟨S_, .f32⟩
  | 105 => ⟨S4126x256, .f32⟩
  | 106 => ⟨S4126x256, .f32⟩
  | 107 => ⟨S4096x256, .f32⟩
  | 108 => ⟨S4096x256, .f32⟩
  | 109 => ⟨S_, .f32⟩
  | 110 => ⟨S4126x256, .f32⟩
  | 111 => ⟨S4126x256, .f32⟩
  | 112 => ⟨S4096x256, .f32⟩
  | 113 => ⟨S4096x256, .f32⟩
  | 114 => ⟨S_, .f32⟩
  | 115 => ⟨S4126x256, .f32⟩
  | 116 => ⟨S4126x256, .f32⟩
  | 117 => ⟨S4096x256, .f32⟩
  | 118 => ⟨S4096x256, .f32⟩
  | 119 => ⟨S_, .f32⟩
  | 120 => ⟨S4126x256, .f32⟩
  | 121 => ⟨S4126x256, .f32⟩
  | 122 => ⟨S4096x256, .f32⟩
  | 123 => ⟨S4096x256, .f32⟩
  | 124 => ⟨S_, .f32⟩
  | 125 => ⟨S4126x256, .f32⟩
  | 126 => ⟨S4126x256, .f32⟩
  | 127 => ⟨S4096x256, .f32⟩
  | _ => ⟨S4096x256, .f32⟩

abbrev hbmTy0_3 (i : Nat) : BufTy := match i % 128 with
  | 0 => ⟨S4096x256, .f32⟩
  | 1 => ⟨S_, .f32⟩
  | 2 => ⟨S4126x256, .f32⟩
  | 3 => ⟨S4126x256, .f32⟩
  | 4 => ⟨S4096x256, .f32⟩
  | 5 => ⟨S4096x256, .f32⟩
  | 6 => ⟨S_, .f32⟩
  | 7 => ⟨S4126x256, .f32⟩
  | 8 => ⟨S4126x256, .f32⟩
  | 9 => ⟨S4096x256, .f32⟩
  | 10 => ⟨S4096x256, .f32⟩
  | 11 => ⟨S_, .f32⟩
  | 12 => ⟨S4126x256, .f32⟩
  | 13 => ⟨S4126x256, .f32⟩
  | 14 => ⟨S30x256, .f32⟩
  | 15 => ⟨S4096x256, .f32⟩
  | 16 => ⟨S4096x256, .f32⟩
  | 17 => ⟨S4096x256, .f32⟩
  | 18 => ⟨S4096x256, .f32⟩
  | 19 => ⟨S4096x512, .f32⟩
  | _ => ⟨S4096x256, .f32⟩

abbrev hbmTy (i : Nat) : BufTy := match i / 128 with
  | 0 => hbmTy0_0 i
  | 1 => hbmTy0_1 i
  | 2 => hbmTy0_2 i
  | 3 => hbmTy0_3 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_cst_5 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_cst_6 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_cst_7 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_cst_8 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_cst_9 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_cst_10 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_cst_11 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_cst_12 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_cst_13 : Ref sig .tc := ⟨.hbm, 285, rfl⟩
abbrev main_v268 : Ref sig .tc := ⟨.hbm, 286, rfl⟩
abbrev main_v269 : Ref sig .tc := ⟨.hbm, 287, rfl⟩
abbrev main_v270 : Ref sig .tc := ⟨.hbm, 288, rfl⟩
abbrev main_v271 : Ref sig .tc := ⟨.hbm, 289, rfl⟩
abbrev main_cst_14 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_cst_15 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_cst_16 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_cst_17 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_cst_18 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_cst_19 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_cst_20 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_cst_21 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_cst_22 : Ref sig .tc := ⟨.hbm, 330, rfl⟩
abbrev main_v304 : Ref sig .tc := ⟨.hbm, 331, rfl⟩
abbrev main_v305 : Ref sig .tc := ⟨.hbm, 332, rfl⟩
abbrev main_v306 : Ref sig .tc := ⟨.hbm, 333, rfl⟩
abbrev main_v307 : Ref sig .tc := ⟨.hbm, 334, rfl⟩
abbrev main_cst_23 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_cst_24 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev main_cst_25 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_cst_26 : Ref sig .tc := ⟨.hbm, 350, rfl⟩
abbrev main_v320 : Ref sig .tc := ⟨.hbm, 351, rfl⟩
abbrev main_v321 : Ref sig .tc := ⟨.hbm, 352, rfl⟩
abbrev main_v322 : Ref sig .tc := ⟨.hbm, 353, rfl⟩
abbrev main_v323 : Ref sig .tc := ⟨.hbm, 354, rfl⟩
abbrev main_cst_27 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_cst_28 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_cst_29 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_cst_30 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_cst_31 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_v343 : Ref sig .tc := ⟨.hbm, 379, rfl⟩
abbrev main_cst_32 : Ref sig .tc := ⟨.hbm, 380, rfl⟩
abbrev main_v344 : Ref sig .tc := ⟨.hbm, 381, rfl⟩
abbrev main_v345 : Ref sig .tc := ⟨.hbm, 382, rfl⟩
abbrev main_v346 : Ref sig .tc := ⟨.hbm, 383, rfl⟩
abbrev main_v347 : Ref sig .tc := ⟨.hbm, 384, rfl⟩
abbrev main_cst_33 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_cst_34 : Ref sig .tc := ⟨.hbm, 390, rfl⟩
abbrev main_v352 : Ref sig .tc := ⟨.hbm, 391, rfl⟩
abbrev main_v353 : Ref sig .tc := ⟨.hbm, 392, rfl⟩
abbrev main_v354 : Ref sig .tc := ⟨.hbm, 393, rfl⟩
abbrev main_v355 : Ref sig .tc := ⟨.hbm, 394, rfl⟩
abbrev main_cst_35 : Ref sig .tc := ⟨.hbm, 395, rfl⟩
abbrev main_v356 : Ref sig .tc := ⟨.hbm, 396, rfl⟩
abbrev main_v357 : Ref sig .tc := ⟨.hbm, 397, rfl⟩
abbrev main_v358 : Ref sig .tc := ⟨.hbm, 398, rfl⟩
abbrev main_v359 : Ref sig .tc := ⟨.hbm, 399, rfl⟩
abbrev main_v360 : Ref sig .tc := ⟨.hbm, 400, rfl⟩
abbrev main_v361 : Ref sig .tc := ⟨.hbm, 401, rfl⟩
abbrev main_v362 : Ref sig .tc := ⟨.hbm, 402, rfl⟩
abbrev main_v363 : Ref sig .tc := ⟨.hbm, 403, rfl⟩

abbrev nD : Nat := 1
abbrev τ : Topo := Topo.v7x

variable {F : FTy → Type} [FloatOps F]
-- ==== FfnW.lean ====
abbrev S4096x1024 : Shape := ⟨2, ![4096, 1024]⟩
abbrev S4x4096x704 : Shape := ⟨3, ![4, 4096, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 9
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .hbm, ⟨6, _⟩ => ⟨S4x704x1024, .bf16⟩
  | .hbm, ⟨7, _⟩ => ⟨S4x704x1024, .bf16⟩
  | .hbm, ⟨8, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S704x1024, .f32⟩
  | .local _ .vmem, ⟨19, _⟩ => ⟨S704x1024, .f32⟩
  | .local _ .vmem, ⟨20, _⟩ => ⟨S704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_33 : BitVec 32 := 0#32
  let v42 : BitVec 1 := Scalar.cmpi .ne v41 c0_i32_33
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnWRefIdeal.lean ====
abbrev S4096x1024 : Shape := ⟨2, ![4096, 1024]⟩
abbrev S4x4096x704 : Shape := ⟨3, ![4, 4096, 704]⟩
abbrev S4096x4x704 : Shape := ⟨3, ![4096, 4, 704]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .hbm, ⟨6, _⟩ => ⟨S4096x1024, .f32⟩
  | .hbm, ⟨7, _⟩ => ⟨S4x4096x704, .f32⟩
  | .hbm, ⟨8, _⟩ => ⟨S4096x4x704, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4x4096x704, .f32⟩
  | .hbm, ⟨20, _⟩ => ⟨S4096x4x704, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S1024x2816, .f32⟩
  | .hbm, ⟨25, _⟩ => ⟨S_, .f32⟩
  | .hbm, ⟨26, _⟩ => ⟨S2816x1024, .f32⟩
  | .hbm, ⟨27, _⟩ => ⟨S4096x2816, .f32⟩
  | .hbm, ⟨28, _⟩ => ⟨S4x4096x704, .f32⟩
  | .hbm, ⟨29, _⟩ => ⟨S4096x4x704, .f32⟩
  | .hbm, ⟨30, _⟩ => ⟨S4096x2816, .f32⟩
  | .hbm, ⟨31, _⟩ => ⟨S2816x1024, .f32⟩
  | .hbm, ⟨32, _⟩ => ⟨S1024x2816, .f32⟩
  | .hbm, ⟨33, _⟩ => ⟨S4096x2816, .f32⟩
  | .hbm, ⟨34, _⟩ => ⟨S4x4096x704, .f32⟩
  | .hbm, ⟨35, _⟩ => ⟨S4096x4x704, .f32⟩
  | .hbm, ⟨36, _⟩ => ⟨S4096x2816, .f32⟩
  | .hbm, ⟨37, _⟩ => ⟨S2816x1024, .f32⟩
  | .hbm, ⟨38, _⟩ => ⟨S1024x2816, .f32⟩
  | .hbm, ⟨39, _⟩ => ⟨S4096x1024, .f32⟩
  | .hbm, ⟨40, _⟩ => ⟨S4096x1024, .f32⟩
  | .hbm, ⟨41, _⟩ => ⟨S1024x2816, .f32⟩
  | .hbm, ⟨42, _⟩ => ⟨S2816x1024, .f32⟩
  | .hbm, ⟨43, _⟩ => ⟨S2816x1024, .f32⟩
  | .hbm, ⟨44, _⟩ => ⟨S4x704x1024, .f32⟩
  | .hbm, ⟨45, _⟩ => ⟨S4x704x1024, .bf16⟩
  | .hbm, ⟨46, _⟩ => ⟨S2816x1024, .f32⟩
  | .hbm, ⟨47, _⟩ => ⟨S4x704x1024, .f32⟩
  | .hbm, ⟨48, _⟩ => ⟨S4x704x1024, .bf16⟩
  | .hbm, ⟨49, _⟩ => ⟨S4x704x1024, .f32⟩
  | .hbm, ⟨50, _⟩ => ⟨S4x704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== FfnF.lean ====
abbrev S4096x1024 : Shape := ⟨2, ![4096, 1024]⟩
abbrev S1x1024 : Shape := ⟨2, ![1, 1024]⟩
abbrev S8x704x1024 : Shape := ⟨3, ![8, 704, 1024]⟩
abbrev S8x352x1024 : Shape := ⟨3, ![8, 352, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S2x352x1024 : Shape := ⟨3, ![2, 352, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 10
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S8x704x1024, .bf16⟩
  | .hbm, ⟨4, _⟩ => ⟨S8x352x1024, .bf16⟩
  | .hbm, ⟨5, _⟩ => ⟨S4096x1024, .f32⟩
  | .hbm, ⟨6, _⟩ => ⟨S4096x1024, .bf16⟩
  | .hbm, ⟨7, _⟩ => ⟨S4x4096x704, .bf16⟩
  | .hbm, ⟨8, _⟩ => ⟨S4x4096x704, .bf16⟩
  | .hbm, ⟨9, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S2x352x1024, .bf16⟩
  | .local _ .vmem, ⟨9, _⟩ => ⟨S2x352x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_26 : BitVec 32 := 0#32
  let v37 : BitVec 1 := Scalar.cmpi .ne v36 c0_i32_26
  v37

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnFRefIdeal.lean ====
abbrev S4096x1024 : Shape := ⟨2, ![4096, 1024]⟩
abbrev S1x1024 : Shape := ⟨2, ![1, 1024]⟩
abbrev S8x704x1024 : Shape := ⟨3, ![8, 704, 1024]⟩
abbrev S8x352x1024 : Shape := ⟨3, ![8, 352, 1024]⟩
abbrev S5632x1024 : Shape := ⟨2, ![5632, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S8x704x1024, .bf16⟩
  | .hbm, ⟨4, _⟩ => ⟨S8x352x1024, .bf16⟩
  | .hbm, ⟨5, _⟩ => ⟨S8x704x1024, .f32⟩
  | .hbm, ⟨6, _⟩ => ⟨S5632x1024, .f32⟩
  | .hbm, ⟨7, _⟩ => ⟨S1024x5632, .f32⟩
  | .hbm, ⟨8, _⟩ => ⟨S8x352x1024, .f32⟩
  | .hbm, ⟨9, _⟩ => ⟨S2816x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S4096x4x704, .f32⟩
  | .hbm, ⟨60, _⟩ => ⟨S4x4096x704, .f32⟩
  | .hbm, ⟨61, _⟩ => ⟨S4x4096x704, .bf16⟩
  | .hbm, ⟨62, _⟩ => ⟨S4096x4x704, .f32⟩
  | .hbm, ⟨63, _⟩ => ⟨S4x4096x704, .f32⟩
  | .hbm, ⟨64, _⟩ => ⟨S4x4096x704, .bf16⟩
  | .hbm, ⟨65, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== FfnB.lean ====
abbrev S4096x1024 : Shape := ⟨2, ![4096, 1024]⟩
abbrev S1x1024 : Shape := ⟨2, ![1, 1024]⟩
abbrev S4x4096x704 : Shape := ⟨3, ![4, 4096, 704]⟩
abbrev S8x704x1024 : Shape := ⟨3, ![8, 704, 1024]⟩
abbrev S8x352x1024 : Shape := ⟨3, ![8, 352, 1024]⟩
abbrev S512x1024 : Shape := ⟨2, ![512, 1024]⟩
abbrev S1x512x704 : Shape := ⟨3, ![1, 512, 704]⟩
abbrev S1x704x1024 : Shape := ⟨3, ![1, 704, 1024]⟩
abbrev S2x352x1024 : Shape := ⟨3, ![2, 352, 1024]⟩
abbrev S512 : Shape := ⟨1, ![512]⟩
abbrev S512x1 : Shape := ⟨2, ![512, 1]⟩
abbrev S1024 : Shape := ⟨1, ![1024]⟩
abbrev S704x1024 : Shape := ⟨2, ![704, 1024]⟩
abbrev S512x704 : Shape := ⟨2, ![512, 704]⟩

abbrev nBuf : Space → Nat
  | .hbm => 15
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4x4096x704, .bf16⟩
  | .hbm, ⟨6, _⟩ => ⟨S4x4096x704, .bf16⟩
  | .hbm, ⟨7, _⟩ => ⟨S8x704x1024, .bf16⟩
  | .hbm, ⟨8, _⟩ => ⟨S8x352x1024, .bf16⟩
  | .hbm, ⟨9, _⟩ => ⟨S4096x1024, .f32⟩
  | .hbm, ⟨10, _⟩ => ⟨S4096x1024, .bf16⟩
  | .hbm, ⟨11, _⟩ => ⟨S4x4096x704, .bf16⟩
  | .hbm, ⟨12, _⟩ => ⟨S4x4096x704, .bf16⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S2x352x1024, .bf16⟩
  | .local _ .vmem, ⟨17, _⟩ => ⟨S2x352x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x512x704, .bf16⟩
  | .local _ .vmem, ⟨26, _⟩ => ⟨S1x1024, .f32⟩
  | .local _ .vmem, ⟨27, _⟩ => ⟨S1x1024, .f32⟩
  | .local _ .vmem, ⟨28, _⟩ => ⟨S512x1024, .bf16⟩
  | .local _ .vmem, ⟨29, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_36 : BitVec 32 := 0#32
  let v52 : BitVec 1 := Scalar.cmpi .ne v51 c0_i32_36
  v52

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2x352x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== FfnBRefIdeal.lean ====
abbrev S4096x1024 : Shape := ⟨2, ![4096, 1024]⟩
abbrev S1x1024 : Shape := ⟨2, ![1, 1024]⟩
abbrev S4x4096x704 : Shape := ⟨3, ![4, 4096, 704]⟩
abbrev S8x704x1024 : Shape := ⟨3, ![8, 704, 1024]⟩
abbrev S8x352x1024 : Shape := ⟨3, ![8, 352, 1024]⟩
abbrev S5632x1024 : Shape := ⟨2, ![5632, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x4x704 : Shape := ⟨3, ![4096, 4, 704]⟩
abbrev S4096x2816 : Shape := ⟨2, ![4096, 2816]⟩
abbrev S4096x5632 : Shape := ⟨2, ![4096, 5632]⟩

abbrev nBuf : Space → Nat
  | .hbm => 148
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x1024, .f32⟩
  | 3 => ⟨S1x1024, .f32⟩
  | 4 => ⟨S1x1024, .f32⟩
  | 5 => ⟨S4x4096x704, .bf16⟩
  | 6 => ⟨S4x4096x704, .bf16⟩
  | 7 => ⟨S8x704x1024, .bf16⟩
  | 8 => ⟨S8x352x1024, .bf16⟩
  | 9 => ⟨S8x704x1024, .f32⟩
  | 10 => ⟨S5632x1024, .f32⟩
  | 11 => ⟨S1024x5632, .f32⟩
  | 12 => ⟨S8x352x1024, .f32⟩
  | 13 => ⟨S2816x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S4096x1024, .f32⟩
  | 41 => ⟨S_, .f32⟩
  | 42 => ⟨S1024, .f32⟩
  | 43 => ⟨S1x1024, .f32⟩
  | 44 => ⟨S4096x1024, .f32⟩
  | 45 => ⟨S4096x1024, .f32⟩
  | 46 => ⟨S4096x1024, .f32⟩
  | 47 => ⟨S_, .f32⟩
  | 48 => ⟨S4096, .f32⟩
  | 49 => ⟨S4096x1, .f32⟩
  | 50 => ⟨S4096x1024, .f32⟩
  | 51 => ⟨S4096x1024, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4x4096x704, .f32⟩
  | 64 => ⟨S4096x4x704, .f32⟩
  | 65 => ⟨S4096x2816, .f32⟩
  | 66 => ⟨S4x4096x704, .f32⟩
  | 67 => ⟨S4096x4x704, .f32⟩
  | 68 => ⟨S4096x2816, .f32⟩
  | 69 => ⟨S4096x2816, .f32⟩
  | 70 => ⟨S4096x2816, .f32⟩
  | 71 => ⟨S_, .f32⟩
  | 72 => ⟨S4096x2816, .f32⟩
  | 73 => ⟨S4096x2816, .f32⟩
  | 74 => ⟨S_, .f32⟩
  | 75 => ⟨S4096x2816, .f32⟩
  | 76 => ⟨S4096x2816, .f32⟩
  | 77 => ⟨S_, .f32⟩
  | 78 => ⟨S4096x2816, .f32⟩
  | 79 => ⟨S4096x2816, .f32⟩
  | 80 => ⟨S4096x2816, .f32⟩
  | 81 => ⟨S4096x2816, .f32⟩
  | 82 => ⟨S4096x2816, .f32⟩
  | 83 => ⟨S4096x1024, .f32⟩
  | 84 => ⟨S4096x2816, .f32⟩
  | 85 => ⟨S4096x2816, .f32⟩
  | 86 => ⟨S4096x2816, .f32⟩
  | 87 => ⟨S4096x2816, .f32⟩
  | 88 => ⟨S4096x2816, .f32⟩
  | 89 => ⟨S4096x2816, .f32⟩
  | 90 => ⟨S4096x2816, .f32⟩
  | 91 => ⟨S_, .f32⟩
  | 92 => ⟨S4096x1024, .f32⟩
  | 93 => ⟨S4096x5632, .f32⟩
  | 94 => ⟨S4096x2816, .f32⟩
  | 95 => ⟨S4096x2816, .f32⟩
  | 96 => ⟨S4096x5632, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096x1, .f32⟩
  | 107 => ⟨S4096x1, .f32⟩
  | 108 => ⟨S4096x1, .f32⟩
  | 109 => ⟨S4096x1, .f32⟩
  | 110 => ⟨S_, .f32⟩
  | 111 => ⟨S4096x1, .f32⟩
  | 112 => ⟨S4096x1, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .bf16⟩
  | 14 => ⟨S4096x4x704, .f32⟩
  | 15 => ⟨S4x4096x704, .f32⟩
  | 16 => ⟨S4x4096x704, .bf16⟩
  | 17 => ⟨S4096x4x704, .f32⟩
  | 18 => ⟨S4x4096x704, .f32⟩
  | 19 => ⟨S4x4096x704, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_v50_2 : Ref sig .tc := ⟨.hbm, 76, rfl⟩
abbrev main_call0_cst_1 : Ref sig .tc := ⟨.hbm, 77, rfl⟩
abbrev main_call0_v6 : Ref sig .tc := ⟨.hbm, 78, rfl⟩
abbrev main_call0_v7 : Ref sig .tc := ⟨.hbm, 79, rfl⟩
abbrev main_v50_1 : Ref sig .tc := ⟨.hbm, 80, rfl⟩
abbrev main_v50_0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v56 : Ref sig .tc := ⟨.hbm, 90, rfl⟩
abbrev main_cst_9 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_10 : Ref sig .tc := ⟨.hbm, 99, rfl⟩
abbrev main_v64 : Ref sig .tc := ⟨.hbm, 100, rfl⟩
abbrev main_v65 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_13 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_14 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_15 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_16 : Ref sig .tc := ⟨.hbm, 130, rfl⟩
abbrev main_v89 : Ref sig .tc := ⟨.hbm, 131, rfl⟩
abbrev main_v90 : Ref sig .tc := ⟨.hbm, 132, rfl⟩
abbrev main_cst_17 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]
-- ==== FfnL.lean ====
abbrev S4096x1024 : Shape := ⟨2, ![4096, 1024]⟩
abbrev S1x1024 : Shape := ⟨2, ![1, 1024]⟩
abbrev S4x4096x704 : Shape := ⟨3, ![4, 4096, 704]⟩
abbrev S8x704x1024 : Shape := ⟨3, ![8, 704, 1024]⟩
abbrev S8x352x1024 : Shape := ⟨3, ![8, 352, 1024]⟩
abbrev S1x128 : Shape := ⟨2, ![1, 128]⟩
abbrev S512x1024 : Shape := ⟨2, ![512, 1024]⟩
abbrev S1x512x704 : Shape := ⟨3, ![1, 512, 704]⟩
abbrev S1x704x1024 : Shape := ⟨3, ![1, 704, 1024]⟩
abbrev S2x352x1024 : Shape := ⟨3, ![2, 352, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩
abbrev S704x1024 : Shape := ⟨2, ![704, 1024]⟩
abbrev S512x704 : Shape := ⟨2, ![512, 704]⟩

abbrev nBuf : Space → Nat
  | .hbm => 17
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4x4096x704, .bf16⟩
  | .hbm, ⟨7, _⟩ => ⟨S4x4096x704, .bf16⟩
  | .hbm, ⟨8, _⟩ => ⟨S8x704x1024, .bf16⟩
  | .hbm, ⟨9, _⟩ => ⟨S8x352x1024, .bf16⟩
  | .hbm, ⟨10, _⟩ => ⟨S4096x1024, .f32⟩
  | .hbm, ⟨11, _⟩ => ⟨S4096x1024, .bf16⟩
  | .hbm, ⟨12, _⟩ => ⟨S4x4096x704, .bf16⟩
  | .hbm, ⟨13, _⟩ => ⟨S4x4096x704, .bf16⟩
  | .hbm, ⟨14, _⟩ => ⟨S1x1024, .f32⟩
  | .hbm, ⟨15, _⟩ => ⟨S1x1024, .f32⟩
  | .hbm, ⟨16, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S2x352x1024, .bf16⟩
  | .local _ .vmem, ⟨19, _⟩ => ⟨S2x352x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x512x704, .bf16⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x1024, .f32⟩
  | .local _ .vmem, ⟨29, _⟩ => ⟨S1x1024, .f32⟩
  | .local _ .vmem, ⟨30, _⟩ => ⟨S1x128, .f32⟩
  | .local _ .vmem, ⟨31, _⟩ => ⟨S512x1024, .bf16⟩
  | .local _ .vmem, ⟨32, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem17_0 : DmaSem sig := 30

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_36 : BitVec 32 := 0#32
  let v52 : BitVec 1 := Scalar.cmpi .ne v51 c0_i32_36
  v52

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2x352x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== FfnLRefIdeal.lean ====
abbrev S4096x1024 : Shape := ⟨2, ![4096, 1024]⟩
abbrev S1x1024 : Shape := ⟨2, ![1, 1024]⟩
abbrev S4x4096x704 : Shape := ⟨3, ![4, 4096, 704]⟩
abbrev S8x704x1024 : Shape := ⟨3, ![8, 704, 1024]⟩
abbrev S8x352x1024 : Shape := ⟨3, ![8, 352, 1024]⟩
abbrev S_ : Shape := ⟨0, ![]⟩
abbrev S4096 : Shape := ⟨1, ![4096]⟩
abbrev S5632x1024 : Shape := ⟨2, ![5632, 1024]⟩
abbrev S1024x5632 : Shape := ⟨2, ![1024, 5632]⟩
abbrev S2816x1024 : Shape := ⟨2, ![2816, 1024]⟩
abbrev S4096x1 : Shape := ⟨2, ![4096, 1]⟩
abbrev S1024 : Shape := ⟨1, ![1024]⟩
abbrev S4096x4x704 : Shape := ⟨3, ![4096, 4, 704]⟩
abbrev S4096x2816 : Shape := ⟨2, ![4096, 2816]⟩
abbrev S4096x5632 : Shape := ⟨2, ![4096, 5632]⟩
abbrev S1x128 : Shape := ⟨2, ![1, 128]⟩

abbrev nBuf : Space → Nat
  | .hbm => 173
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .bf16⟩
  | 3 => ⟨S4096x1024, .f32⟩
  | 4 => ⟨S1x1024, .f32⟩
  | 5 => ⟨S1x1024, .f32⟩
  | 6 => ⟨S4x4096x704, .bf16⟩
  | 7 => ⟨S4x4096x704, .bf16⟩
  | 8 => ⟨S8x704x1024, .bf16⟩
  | 9 => ⟨S8x352x1024, .bf16⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096, .f32⟩
  | 17 => ⟨S_, .f32⟩
  | 18 => ⟨S4096, .f32⟩
  | 19 => ⟨S4096, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S4096, .f32⟩
  | 28 => ⟨S_, .f32⟩
  | 29 => ⟨S4096, .f32⟩
  | 30 => ⟨S4096, .f32⟩
  | 31 => ⟨S4096x1024, .f32⟩
  | 32 => ⟨S4096x1024, .f32⟩
  | 33 => ⟨S8x704x1024, .f32⟩
  | 34 => ⟨S5632x1024, .f32⟩
  | 35 => ⟨S1024x5632, .f32⟩
  | 36 => ⟨S8x352x1024, .f32⟩
  | 37 => ⟨S2816x1024, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1024, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4096x1024, .f32⟩
  | 65 => ⟨S_, .f32⟩
  | 66 => ⟨S1024, .f32⟩
  | 67 => ⟨S1x1024, .f32⟩
  | 68 => ⟨S4096x1024, .f32⟩
  | 69 => ⟨S4096x1024, .f32⟩
  | 70 => ⟨S4096x1024, .f32⟩
  | 71 => ⟨S_, .f32⟩
  | 72 => ⟨S4096, .f32⟩
  | 73 => ⟨S4096x1, .f32⟩
  | 74 => ⟨S4096x1024, .f32⟩
  | 75 => ⟨S4096x1024, .f32⟩
  | 76 => ⟨S4096x1, .f32⟩
  | 77 => ⟨S_, .f32⟩
  | 78 => ⟨S4096x1, .f32⟩
  | 79 => ⟨S4096x1, .f32⟩
  | 80 => ⟨S_, .f32⟩
  | 81 => ⟨S4096, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S4x4096x704, .f32⟩
  | 88 => ⟨S4096x4x704, .f32⟩
  | 89 => ⟨S4096x2816, .f32⟩
  | 90 => ⟨S4x4096x704, .f32⟩
  | 91 => ⟨S4096x4x704, .f32⟩
  | 92 => ⟨S4096x2816, .f32⟩
  | 93 => ⟨S4096x2816, .f32⟩
  | 94 => ⟨S4096x2816, .f32⟩
  | 95 => ⟨S_, .f32⟩
  | 96 => ⟨S4096x2816, .f32⟩
  | 97 => ⟨S4096x2816, .f32⟩
  | 98 => ⟨S_, .f32⟩
  | 99 => ⟨S4096x2816, .f32⟩
  | 100 => ⟨S4096x2816, .f32⟩
  | 101 => ⟨S_, .f32⟩
  | 102 => ⟨S4096x2816, .f32⟩
  | 103 => ⟨S4096x2816, .f32⟩
  | 104 => ⟨S4096x2816, .f32⟩
  | 105 => ⟨S4096x2816, .f32⟩
  | 106 => ⟨S4096x2816, .f32⟩
  | 107 => ⟨S4096x1024, .f32⟩
  | 108 => ⟨S4096x2816, .f32⟩
  | 109 => ⟨S4096x2816, .f32⟩
  | 110 => ⟨S4096x2816, .f32⟩
  | 111 => ⟨S4096x2816, .f32⟩
  | 112 => ⟨S4096x2816, .f32⟩
  | 113 => ⟨S4096x2816, .f32⟩
  | 114 => ⟨S4096x2816, .f32⟩
  | 115 => ⟨S_, .f32⟩
  | 116 => ⟨S4096x1024, .f32⟩
  | 117 => ⟨S4096x5632, .f32⟩
  | 118 => ⟨S4096x2816, .f32⟩
  | 119 => ⟨S4096x2816, .f32⟩
  | 120 => ⟨S4096x5632, .f32⟩
  | 121 => ⟨S4096x1024, .f32⟩
  | 122 => ⟨S4096x1024, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S4096x1, .f32⟩
  | 5 => ⟨S4096x1, .f32⟩
  | 6 => ⟨S_, .f32⟩
  | 7 => ⟨S4096x1, .f32⟩
  | 8 => ⟨S4096x1, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S_, .f32⟩
  | 15 => ⟨S1024, .f32⟩
  | 16 => ⟨S1x1024, .f32⟩
  | 17 => ⟨S4096x1024, .f32⟩
  | 18 => ⟨S4096x1024, .f32⟩
  | 19 => ⟨S4096x1024, .f32⟩
  | 20 => ⟨S_, .f32⟩
  | 21 => ⟨S4096, .f32⟩
  | 22 => ⟨S4096x1, .f32⟩
  | 23 => ⟨S4096x1024, .f32⟩
  | 24 => ⟨S4096x1024, .f32⟩
  | 25 => ⟨S4096x1, .f32⟩
  | 26 => ⟨S_, .f32⟩
  | 27 => ⟨S4096x1, .f32⟩
  | 28 => ⟨S4096x1, .f32⟩
  | 29 => ⟨S_, .f32⟩
  | 30 => ⟨S4096, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .bf16⟩
  | 38 => ⟨S4096x4x704, .f32⟩
  | 39 => ⟨S4x4096x704, .f32⟩
  | 40 => ⟨S4x4096x704, .bf16⟩
  | 41 => ⟨S4096x4x704, .f32⟩
  | 42 => ⟨S4x4096x704, .f32⟩
  | 43 => ⟨S4x4096x704, .bf16⟩
  | 44 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_cst_4 : Ref sig .tc := ⟨.hbm, 24, rfl⟩
abbrev main_cst_5 : Ref sig .tc := ⟨.hbm, 25, rfl⟩
abbrev main_v9 : Ref sig .tc := ⟨.hbm, 26, rfl⟩
abbrev main_v10 : Ref sig .tc := ⟨.hbm, 27, rfl⟩
abbrev main_cst_6 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_v25 : Ref sig .tc := ⟨.hbm, 45, rfl⟩
abbrev main_cst_9 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_14 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_15 : Ref sig .tc := ⟨.hbm, 77, rfl⟩
abbrev main_v51 : Ref sig .tc := ⟨.hbm, 78, rfl⟩
abbrev main_v52 : Ref sig .tc := ⟨.hbm, 79, rfl⟩
abbrev main_cst_16 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call0_v0 : Ref sig .tc := ⟨.hbm, 93, rfl⟩
abbrev main_call0_v1 : Ref sig .tc := ⟨.hbm, 94, rfl⟩
abbrev main_call0_cst : Ref sig .tc := ⟨.hbm, 95, rfl⟩
abbrev main_call0_v2 : Ref sig .tc := ⟨.hbm, 96, rfl⟩
abbrev main_call0_v3 : Ref sig .tc := ⟨.hbm, 97, rfl⟩
abbrev main_call0_cst_0 : Ref sig .tc := ⟨.hbm, 98, rfl⟩
abbrev main_call0_v4 : Ref sig .tc := ⟨.hbm, 99, rfl⟩
abbrev main_v65_2 : Ref sig .tc := ⟨.hbm, 100, rfl⟩
abbrev main_call0_cst_1 : Ref sig .tc := ⟨.hbm, 101, rfl⟩
abbrev main_call0_v6 : Ref sig .tc := ⟨.hbm, 102, rfl⟩
abbrev main_call0_v7 : Ref sig .tc := ⟨.hbm, 103, rfl⟩
abbrev main_v65_1 : Ref sig .tc := ⟨.hbm, 104, rfl⟩
abbrev main_v65_0 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v71 : Ref sig .tc := ⟨.hbm, 114, rfl⟩
abbrev main_cst_17 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_18 : Ref sig .tc := ⟨.hbm, 123, rfl⟩
abbrev main_v79 : Ref sig .tc := ⟨.hbm, 124, rfl⟩
abbrev main_v80 : Ref sig .tc := ⟨.hbm, 125, rfl⟩
abbrev main_cst_19 : Ref sig .tc := ⟨.hbm, 126, rfl⟩
abbrev main_v81 : Ref sig .tc := ⟨.hbm, 127, rfl⟩
abbrev main_v82 : Ref sig .tc := ⟨.hbm, 128, rfl⟩
abbrev main_cst_20 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_21 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_22 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_23 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_24 : Ref sig .tc := ⟨.hbm, 154, rfl⟩
abbrev main_v104 : Ref sig .tc := ⟨.hbm, 155, rfl⟩
abbrev main_v105 : Ref sig .tc := ⟨.hbm, 156, rfl⟩
abbrev main_cst_25 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩

abbrev nD : Nat := 1
abbrev τ : Topo := Topo.v7x

variable {F : FTy → Type} [FloatOps F]
-- ==== MixIn.lean ====
abbrev S4096x1024 : Shape := ⟨2, ![4096, 1024]⟩
abbrev S1x1024 : Shape := ⟨2, ![1, 1024]⟩
abbrev S1792x1024 : Shape := ⟨2, ![1792, 1024]⟩
abbrev S4096x256 : Shape := ⟨2, ![4096, 256]⟩
abbrev S4096x512 : Shape := ⟨2, ![4096, 512]⟩
abbrev S4096x128 : Shape := ⟨2, ![4096, 128]⟩
abbrev S1024x1024 : Shape := ⟨2, ![1024, 1024]⟩
abbrev S1024x256 : Shape := ⟨2, ![1024, 256]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S1024x1792 : Shape := ⟨2, ![1024, 1792]⟩

abbrev nBuf : Space → Nat
  | .hbm => 10
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1792x1024, .bf16⟩
  | .hbm, ⟨3, _⟩ => ⟨S4096x1024, .bf16⟩
  | .hbm, ⟨4, _⟩ => ⟨S4096x256, .f32⟩
  | .hbm, ⟨5, _⟩ => ⟨S4096x256, .f32⟩
  | .hbm, ⟨6, _⟩ => ⟨S4096x512, .f32⟩
  | .hbm, ⟨7, _⟩ => ⟨S4096x128, .f32⟩
  | .hbm, ⟨8, _⟩ => ⟨S4096x128, .f32⟩
  | .hbm, ⟨9, _⟩ => ⟨S4096x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1792x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x512, .f32⟩
  | .local _ .vmem, ⟨11, _⟩ => ⟨S1024x512, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x512, .f32⟩
  | .local _ .vmem, ⟨17, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixInRefIdeal.lean ====
abbrev S4096x1024 : Shape := ⟨2, ![4096, 1024]⟩
abbrev S1x1024 : Shape := ⟨2, ![1, 1024]⟩
abbrev S1792x1024 : Shape := ⟨2, ![1792, 1024]⟩
abbrev S_ : Shape := ⟨0, ![]⟩
abbrev S4096 : Shape := ⟨1, ![4096]⟩
abbrev S4096x1 : Shape := ⟨2, ![4096, 1]⟩
abbrev S1024x1792 : Shape := ⟨2, ![1024, 1792]⟩
abbrev S4096x1792 : Shape := ⟨2, ![4096, 1792]⟩
abbrev S4096x256 : Shape := ⟨2, ![4096, 256]⟩
abbrev S4096x512 : Shape := ⟨2, ![4096, 512]⟩
abbrev S4096x128 : Shape := ⟨2, ![4096, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1792x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1792x1024, .f32⟩
  | .hbm, ⟨20, _⟩ => ⟨S1024x1792, .f32⟩
  | .hbm, ⟨21, _⟩ => ⟨S4096x1792, .f32⟩
  | .hbm, ⟨22, _⟩ => ⟨S4096x256, .f32⟩
  | .hbm, ⟨23, _⟩ => ⟨S4096x256, .f32⟩
  | .hbm, ⟨24, _⟩ => ⟨S4096x512, .f32⟩
  | .hbm, ⟨25, _⟩ => ⟨S4096x128, .f32⟩
  | .hbm, ⟨26, _⟩ => ⟨S4096x128, .f32⟩
  | .hbm, ⟨27, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== MixOut.lean ====
abbrev S4096x1024 : Shape := ⟨2, ![4096, 1024]⟩
abbrev S4096x256 : Shape := ⟨2, ![4096, 256]⟩
abbrev S4096x512 : Shape := ⟨2, ![4096, 512]⟩
abbrev S1x1024 : Shape := ⟨2, ![1, 1024]⟩
abbrev S1024x1024 : Shape := ⟨2, ![1024, 1024]⟩
abbrev S1024x256 : Shape := ⟨2, ![1024, 256]⟩
abbrev S1024x512 : Shape := ⟨2, ![1024, 512]⟩
abbrev S1024 : Shape := ⟨1, ![1024]⟩
abbrev S1024x1 : Shape := ⟨2, ![1024, 1]⟩
abbrev S1x256 : Shape := ⟨2, ![1, 256]⟩
abbrev S1x512 : Shape := ⟨2, ![1, 512]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x512, .f32⟩
  | .hbm, ⟨3, _⟩ => ⟨S4096x256, .f32⟩
  | .hbm, ⟨4, _⟩ => ⟨S1x1024, .f32⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x256, .f32⟩
  | .local _ .vmem, ⟨7, _⟩ => ⟨S1024x256, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutRefIdeal.lean ====
abbrev S4096x1024 : Shape := ⟨2, ![4096, 1024]⟩
abbrev S4096x256 : Shape := ⟨2, ![4096, 256]⟩
abbrev S4096x512 : Shape := ⟨2, ![4096, 512]⟩
abbrev S1x1024 : Shape := ⟨2, ![1, 1024]⟩
abbrev S1024x1024 : Shape := ⟨2, ![1024, 1024]⟩
abbrev S1x256 : Shape := ⟨2, ![1, 256]⟩
abbrev S1x512 : Shape := ⟨2, ![1, 512]⟩
abbrev S_ : Shape := ⟨0, ![]⟩
abbrev S4096 : Shape := ⟨1, ![4096]⟩
abbrev S4096x1 : Shape := ⟨2, ![4096, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x512, .f32⟩
  | .hbm, ⟨3, _⟩ => ⟨S4096x256, .f32⟩
  | .hbm, ⟨4, _⟩ => ⟨S1x1024, .f32⟩
  | .hbm, ⟨5, _⟩ => ⟨S1024x1024, .bf16⟩
  | .hbm, ⟨6, _⟩ => ⟨S1x1024, .f32⟩
  | .hbm, ⟨7, _⟩ => ⟨S1x256, .f32⟩
  | .hbm, ⟨8, _⟩ => ⟨S1x512, .f32⟩
  | .hbm, ⟨9, _⟩ => ⟨S1x256, .f32⟩
  | .hbm, ⟨10, _⟩ => ⟨S4096x256, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x512, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x256, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x1024, .f32⟩
  | .hbm, ⟨56, _⟩ => ⟨S1024x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Proof.Sigmoid.lean ====
/-
  The logistic function over the extended reals: the kernels spell it `0.5 * tanh (0.5 * x) + 0.5`, the reference
  `1 / (1 + exp (-x))`. The two agree everywhere, the infinities included.
-/
module

public import Idealize.ShloMosaic.Lib.IdealHost
public import Idealize.ShloMosaic.PureOps.Ideal.Laws
public import Idealize.ShloMosaic.Lib.Pointwise

@[expose] public section

noncomputable section

namespace Cert.Sigmoid

open Idealize.ShloMosaic

/-- The `f32` word of one half denotes one half. -/
theorem ofBits_half : Ideal.ofBits .f32 0x3F000000#32 = ((1 / 2 : ℝ) : EReal) := by
  simp [Ideal.ofBits, Ideal.ieee, -EReal.coe_mul]; norm_num

/-- The `bf16` word of one half denotes one half. -/
theorem ofBits_half_bf16 : Ideal.ofBits .bf16 0x3F00#16 = ((1 / 2 : ℝ) : EReal) := by
  simp [Ideal.ofBits, Ideal.ieee, -EReal.coe_mul]; norm_num

/-- `0.5 * tanh (0.5 * x) + 0.5` is the logistic function of `x`. -/
theorem half_tanh (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot,
      show (-1 : EReal) = ((-1 : ℝ) : EReal) from rfl, ← EReal.coe_mul, ← EReal.coe_add]
    norm_num
  | top =>
    rw [EReal.coe_mul_top_of_pos (by norm_num), Ideal.tanh_top, Ideal.logistic_top,
      show (1 : EReal) = ((1 : ℝ) : EReal) from rfl, ← EReal.coe_mul, ← EReal.coe_add]
    norm_num
  | coe x =>
    rw [← EReal.coe_mul, Ideal.tanh_coe, ← EReal.coe_mul, ← EReal.coe_add, Ideal.logistic_coe]
    congr 1
    rw [Real.tanh_eq_sinh_div_cosh, Real.sinh_eq, Real.cosh_eq]
    have h1 : 0 < Real.exp (1 / 2 * x) := Real.exp_pos _
    have h2 : Real.exp (-(1 / 2 * x)) = (Real.exp (1 / 2 * x))⁻¹ := Real.exp_neg _
    have h3 : Real.exp (-x) = (Real.exp (1 / 2 * x))⁻¹ * (Real.exp (1 / 2 * x))⁻¹ := by
      rw [← h2, ← Real.exp_add]; congr 1; ring
    rw [h3, h2]
    have h4 : Real.exp (1 / 2 * x) ≠ 0 := h1.ne'
    field_simp
    ring

end Cert.Sigmoid

end
-- ==== Proof.Glu.Tile.lean ====
/-
  One tile of the gated-convolution gradient, read entry by entry at the extended reals.

  The kernel lays 512 rows of the cotangent and the 32 rows that follow them (zeros after the last tile) on top of one
  another, and forms each of the 31 taps by rotating that stack and keeping its first 512 rows. Here a rotated and
  cut stack is read as the stack some rows further down (`tap_apply`), so the taps become a sum over `Fin 31`.
-/
module

public import proofs.«01_k».proof.Defs
public import proofs.«01_k».proof.Proof.Gen.GluBwdIdeal.Value
public import Idealize.ShloMosaic.Lib.Pipeline.Value
public import Idealize.ShloMosaic.Lib.Pointwise
public import proofs.«01_k».proof.Proof.Sigmoid

@[expose] public section

set_option maxRecDepth 16384

noncomputable section

namespace Cert.Glu

open Idealize.ShloMosaic

/-- The first 512 rows of the stack rotated by `n` are the stack read `544 - n` rows further down. -/
theorem tap_apply {α : Type} (n : BitVec 32) (x : (⟨2, ![544, 256]⟩ : Shape).Idx → α)
    (h : (⟨2, ![544, 256]⟩ : Shape).Rotates 0 none) (r : Fin 512) (hr : r.val + 0 < 544) (c : Fin 256)
    (lo : 513 ≤ n.toNat) (hi : n.toNat ≤ 544) :
    dynamicRotate 0 n none x h (ix2 ⟨r.val + 0, hr⟩ c)
      = x (ix2 ⟨r.val + (544 - n.toNat), by have := r.isLt; omega⟩ c) := by
  have hr := r.isLt
  show x _ = x _
  congr 1
  funext a
  match a with
  | ⟨0, _⟩ =>
    refine Fin.ext ?_
    show ((r.val + 0) + 544 - (n.toNat + 0) % 544) % 544 = r.val + (544 - n.toNat)
    omega
  | ⟨1, _⟩ => rfl

/-- The first 512 rows of the stack. -/
theorem cut_apply {α : Type} (x : (⟨2, ![544, 256]⟩ : Shape).Idx → α)
    (h' : (⟨2, ![544, 256]⟩ : Shape).Slices ![0, 0] ⟨2, ![512, 256]⟩) (r : Fin 512) (c : Fin 256) :
    extractStridedSlice ⟨2, ![512, 256]⟩ ![0, 0] x h' (ix2 r c)
      = x (ix2 ⟨r.val + 0, by have := r.isLt; omega⟩ c) := by
  show x _ = x _
  congr 1
  funext a
  match a with
  | ⟨0, _⟩ => exact Fin.ext (Nat.add_comm _ _)
  | ⟨1, _⟩ => exact Fin.ext (Nat.zero_add _)

/-- One row of filter taps, spread over the tile. -/
theorem row_apply {α : Type} (x : (⟨2, ![1, 256]⟩ : Shape).Idx → α)
    (h : (⟨2, ![1, 256]⟩ : Shape).Broadcasts ⟨2, ![512, 256]⟩) (r : Fin 512) (c : Fin 256) :
    broadcastTo ⟨2, ![512, 256]⟩ x h (ix2 r c) = x (ix2 0 c) := by
  pointwise

/-! ## The convolution's tile -/

open Cert.GluBwdIdeal Cert.GluBwdIdeal.Gen

/-- A row of the staged filter, loaded. -/
theorem ld_row (x : Vec Ideal S32x256 .f32) (k : Nat) (hk : k < 32)
    (h : ∀ a, (![k, 0] : Fin 2 → Nat) a + S1x256.size a ≤ S32x256.size a) (c : Fin 256) :
    View.ld x (Rect.unit (s := S32x256) ![k, 0] S1x256.size h) (ix2 0 c) = x (ix2 ⟨k, hk⟩ c) := by
  show x _ = x _
  congr 1
  funext a
  match a with
  | ⟨0, _⟩ => exact Fin.ext (by show k + 1 * 0 = k; omega)
  | ⟨1, _⟩ => exact Fin.ext (by show 0 + 1 * c.val = c.val; omega)

/-- The 31 taps of a stack of 544 rows, at one entry of the tile. -/
def taps (s : FVec Ideal S544x256 .f32) (w : Vec Ideal S32x256 .f32) (r : Fin 512) (c : Fin 256) : EReal :=
  ∑ j : Fin 31, w (ix2 ⟨j.val, by have := j.isLt; omega⟩ c)
    * s (ix2 ⟨r.val + (30 - j.val), by have := r.isLt; omega⟩ c)

/-- Two halves laid side by side, read in the left one. -/
theorem halves_left {α : Type} (x y : (⟨2, ![512, 256]⟩ : Shape).Idx → α)
    (h : Shape.Concatenates [⟨2, ![512, 256]⟩, ⟨2, ![512, 256]⟩] ⟨2, ![512, 512]⟩ 1) (r : Fin 512) (c : Fin 512)
    (hc : c.val < 256) :
    concatenate ⟨2, ![512, 512]⟩ 1 [⟨⟨2, ![512, 256]⟩, x⟩, ⟨⟨2, ![512, 256]⟩, y⟩] h (ix2 r c) = x (ix2 r ⟨c.val, hc⟩) := by
  pointwise
  rw [dif_pos hc]

/-- … and in the right one. -/
theorem halves_right {α : Type} (x y : (⟨2, ![512, 256]⟩ : Shape).Idx → α)
    (h : Shape.Concatenates [⟨2, ![512, 256]⟩, ⟨2, ![512, 256]⟩] ⟨2, ![512, 512]⟩ 1) (r : Fin 512) (c : Fin 512)
    (hc : ¬ c.val < 256) :
    concatenate ⟨2, ![512, 512]⟩ 1 [⟨⟨2, ![512, 256]⟩, x⟩, ⟨⟨2, ![512, 256]⟩, y⟩] h (ix2 r c)
      = y (ix2 r ⟨c.val - 256, by have := c.isLt; omega⟩) := by
  pointwise
  rw [dif_neg hc]

theorem addf_at {s : Shape} (x y : FVec Ideal s .f32) (i : s.Idx) : addf x y i = x i + y i := rfl
theorem subf_at {s : Shape} (x y : FVec Ideal s .f32) (i : s.Idx) : subf x y i = x i - y i := rfl
theorem mulf_at {s : Shape} (x y : FVec Ideal s .f32) (i : s.Idx) : mulf x y i = x i * y i := rfl
theorem tanh_at {s : Shape} (x : FVec Ideal s .f32) (i : s.Idx) : tanh x i = Ideal.tanh (x i) := rfl
theorem const_at {s : Shape} (b : BitVec 32) (i : s.Idx) :
    broadcast s (Scalar.ofBits (F := Ideal) .f32 b) i = Ideal.ofBits .f32 b := rfl

/-- The tile's taps, spelt out. -/
theorem taps_eq (s : FVec Ideal S544x256 .f32) (w : Vec Ideal S32x256 .f32) (r : Fin 512) (c : Fin 256) (f : Nat → EReal)
    (hf : ∀ j : Fin 31, f j.val = w (ix2 ⟨j.val, by have := j.isLt; omega⟩ c)
      * s (ix2 ⟨r.val + (30 - j.val), by have := r.isLt; omega⟩ c)) :
    0 + f 0 + f 1 + f 2 + f 3 + f 4 + f 5 + f 6 + f 7 + f 8 + f 9 + f 10 + f 11 + f 12 + f 13 + f 14 + f 15 + f 16
      + f 17 + f 18 + f 19 + f 20 + f 21 + f 22 + f 23 + f 24 + f 25 + f 26 + f 27 + f 28 + f 29 + f 30 = taps s w r c := by
  unfold taps
  rw [← Finset.sum_congr rfl fun j _ => hf j, Fin.sum_univ_eq_sum_range f 31]
  simp only [Finset.sum_range_succ, Finset.sum_range_zero]

/-- One tap as the kernel forms it, and as `taps` lists it. -/
def tapTerm (s : FVec Ideal S544x256 .f32) (w : Vec Ideal S32x256 .f32) (r : Fin 512) (c : Fin 256) (j : Nat) : EReal :=
  if h : j < 31 then w (ix2 ⟨j, by omega⟩ c) * s (ix2 ⟨r.val + (30 - j), by have := r.isLt; omega⟩ c) else 0

/-- The kernel's tap `k`: row `k` of the filter times the stack rotated by `514 + k`. -/
theorem tap_term (s : FVec Ideal S544x256 .f32) (w : Vec Ideal S32x256 .f32) (r : Fin 512) (c : Fin 256) (k : Nat) (n : BitVec 32)
    (hr : r.val + 0 < 544) (h : ∀ a, (![k, 0] : Fin 2 → Nat) a + S1x256.size a ≤ S32x256.size a)
    (h' : S544x256.Rotates 0 none) (hk : k < 30) (hn : n.toNat = 514 + k) :
    View.ld w (Rect.unit (s := S32x256) ![k, 0] S1x256.size h) (ix2 0 c) * dynamicRotate 0 n none s h' (ix2 ⟨r.val + 0, hr⟩ c)
      = tapTerm s w r c k := by
  rw [tap_apply n s h' r hr c (by omega) (by omega), ld_row w k (by omega), tapTerm, dif_pos (by omega)]
  congr 4
  omega

/-- The last tap: the stack unrotated. -/
theorem tap_last (s : FVec Ideal S544x256 .f32) (w : Vec Ideal S32x256 .f32) (r : Fin 512) (c : Fin 256)
    (hr : r.val + 0 < 544) (h : ∀ a, (![30, 0] : Fin 2 → Nat) a + S1x256.size a ≤ S32x256.size a) :
    View.ld w (Rect.unit (s := S32x256) ![30, 0] S1x256.size h) (ix2 0 c) * s (ix2 ⟨r.val + 0, hr⟩ c) = tapTerm s w r c 30 := by
  rw [ld_row w 30 (by omega), tapTerm, dif_pos (by omega)]

/-- The tile's entries: the taps times the gate on the left, the taps times the gate's derivative on the right. -/
theorem out_apply (i : grid0.Coords) (x0 : Vec Ideal S512x256 .f32) (x1 : Vec Ideal S32x256 .f32) (x2 : Vec Ideal S512x512 .f32)
    (x3 : Vec Ideal S32x256 .f32) (r : Fin 512) (c : Fin 512) :
    out0_4 i x0 x1 x2 x3 (ix2 r c)
      = if hc : c.val < 256 then taps (k0_pay2 i (View.ld x0 r0_0) (View.ld x1 r0_1)) x3 r ⟨c.val, hc⟩
          * Ideal.logistic (x2 (ix2 r ⟨256 + c.val, by omega⟩))
        else taps (k0_pay2 i (View.ld x0 r0_0) (View.ld x1 r0_1)) x3 r ⟨c.val - 256, by have := c.isLt; omega⟩
          * x2 (ix2 r ⟨c.val - 256, by have := c.isLt; omega⟩) * Ideal.logistic (x2 (ix2 r c))
          * (1 - Ideal.logistic (x2 (ix2 r c))) := by
  unfold_out out0_4
  rw [View.canon_unit_zero (by decide)]
  have gate (c : Fin 256) : View.ld x2 r0_34 (ix2 r c) = x2 (ix2 r ⟨256 + c.val, by have := c.isLt; omega⟩) := by
    show x2 _ = x2 _
    congr 1
    funext a
    match a with
    | ⟨0, _⟩ => exact Fin.ext (by show 0 + 1 * r.val = r.val; omega)
    | ⟨1, _⟩ => exact Fin.ext (by show 256 + 1 * c.val = 256 + c.val; omega)
  have lin (c : Fin 256) : View.ld x2 r0_33 (ix2 r c) = x2 (ix2 r ⟨c.val, by have := c.isLt; omega⟩) := by
    show x2 _ = x2 _
    congr 1
    funext a
    match a with
    | ⟨0, _⟩ => exact Fin.ext (by show 0 + 1 * r.val = r.val; omega)
    | ⟨1, _⟩ => exact Fin.ext (by show 0 + 1 * c.val = c.val; omega)
  simp only [k0_pay1, k0_pay3]
  generalize k0_pay2 i (View.ld x0 r0_0) (View.ld x1 r0_1) = s
  have sum (c : Fin 256) := taps_eq s x3 r c (tapTerm s x3 r c) fun j => dif_pos j.isLt
  by_cases hc : c.val < 256
  · rw [halves_left _ _ _ r c hc, dif_pos hc]
    simp only [k0_pay4, k0_pay5, k0_pay6, k0_pay7, k0_pay8, k0_pay9, k0_pay10, k0_pay11, k0_pay12, shapeCast_self,
      addf_at, mulf_at, subf_at, tanh_at, const_at, row_apply, cut_apply, gate, lin, Sigmoid.ofBits_half, Sigmoid.half_tanh]
    rw [← sum]
    refine congrArg (· * _) (congrArg₂ (· + ·) ?_ (tap_last _ _ _ _ _ _))
    iterate 30
      refine congrArg₂ (· + ·) ?_ (tap_term _ _ _ _ _ _ _ _ _ ?hk ?hn)
      case hk => decide
      case hn => decide
    exact Ideal.ofBits_zero_f32
  · rw [halves_right _ _ _ r c hc, dif_neg hc]
    have hcc : (⟨256 + (c.val - 256), by have := c.isLt; omega⟩ : Fin 512) = c := Fin.ext (by show 256 + (c.val - 256) = c.val; omega)
    simp only [k0_pay4, k0_pay5, k0_pay6, k0_pay7, k0_pay8, k0_pay9, k0_pay10, k0_pay11, k0_pay12, shapeCast_self,
      addf_at, mulf_at, subf_at, tanh_at, const_at, row_apply, cut_apply, gate, lin, Sigmoid.ofBits_half, Sigmoid.half_tanh,
      Ideal.ofBits_one_f32, hcc]
    rw [← sum]
    refine congrArg (· * _ * _ * _) (congrArg₂ (· + ·) ?_ (tap_last _ _ _ _ _ _))
    iterate 30
      refine congrArg₂ (· + ·) ?_ (tap_term _ _ _ _ _ _ _ _ _ ?hk' ?hn')
      case hk' => decide
      case hn' => decide
    exact Ideal.ofBits_zero_f32

end Cert.Glu

end
-- ==== Proof.Glu.Kernel.lean ====
/-
  The gradient of the gated convolution the kernel computes: its result array, entry by entry.
-/
module

public import proofs.«01_k».proof.Proof.Glu.Tile

@[expose] public section

set_option maxRecDepth 16384

noncomputable section

namespace Cert.Glu

open Idealize.ShloMosaic Idealize.ShloMosaic.TcCoe Idealize.SL.Sem
open Idealize.ShloMosaic.Pipeline (Dat)

/-! ## The function -/

/-- Row `r` of the cotangent; zero past its end. -/
def rowAt (dy : FVec Ideal ⟨2, ![4096, 256]⟩ .f32) (r : Nat) (c : Fin 256) : EReal :=
  if h : r < 4096 then dy (ix2 ⟨r, h⟩ c) else 0

/-- The transposed causal convolution: the cotangent of the convolution's input. -/
def convT (dy : FVec Ideal ⟨2, ![4096, 256]⟩ .f32) (w : FVec Ideal ⟨2, ![31, 256]⟩ .f32) (r : Fin 4096) (c : Fin 256) : EReal :=
  ∑ j : Fin 31, w (ix2 j c) * rowAt dy (r.val + (30 - j.val)) c

/-- The cotangents of the two halves of the gated unit's input, side by side: row `r`, column `k`. -/
def gradAt (dy : FVec Ideal ⟨2, ![4096, 256]⟩ .f32) (g : FVec Ideal ⟨2, ![4096, 512]⟩ .f32) (w : FVec Ideal ⟨2, ![31, 256]⟩ .f32)
    (r : Fin 4096) (k : Fin 512) : EReal :=
  if hc : k.val < 256 then
    convT dy w r ⟨k.val, hc⟩ * Ideal.logistic (g (ix2 r ⟨256 + k.val, by omega⟩))
  else
    convT dy w r ⟨k.val - 256, by have := k.isLt; omega⟩ * g (ix2 r ⟨k.val - 256, by have := k.isLt; omega⟩)
      * Ideal.logistic (g (ix2 r k)) * (1 - Ideal.logistic (g (ix2 r k)))

/-- The same as one array. -/
def grad (dy : FVec Ideal ⟨2, ![4096, 256]⟩ .f32) (g : FVec Ideal ⟨2, ![4096, 512]⟩ .f32) (w : FVec Ideal ⟨2, ![31, 256]⟩ .f32) :
    FVec Ideal ⟨2, ![4096, 512]⟩ .f32 := fun i => gradAt dy g w (i 0) (i 1)

/-! ## The kernel's blocks -/

open Cert.GluBwdIdeal Cert.GluBwdIdeal.Gen

variable (m : (ℓ : Loc nD τ sig) → Buf (Elt Ideal) ℓ) (ρ : Dev nD → PrngReg)

theorem hz2 : (![0, 0] : Fin 2 → Nat) = fun _ => 0 := by decide
theorem coords_eq : ∀ t : Fin grid0.N, (grid0.coords t 0).val = t.val ∧ t.val < 8 := by decide +kernel
theorem index0 : ∀ t : Fin grid0.N, win0_0.index t 0 = t.val ∧ win0_0.index t 1 = 0 := by decide +kernel
theorem index1 : ∀ t : Fin grid0.N, (t.val < 7 → win0_1.index t 0 = (t.val + 1) * 16) ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel

theorem blk0 (c : Dev nD) (t : Fin cfg0.N) (r : Fin 512) (k : Fin 256) :
    iblk m c 0 t (ix2 r k) = m ((c : Thread nD τ).loc main_arg0) (ix2 ⟨t.val * 512 + r.val, by have := (coords_eq t).2; omega⟩ k) := by
  have h := index0 t
  show V m c main_arg0 _ = _
  rw [V_main_arg0]
  congr 1
  funext a
  match a with
  | ⟨0, _⟩ => exact Fin.ext (by show win0_0.index t 0 * 512 + 1 * r.val = t.val * 512 + r.val; rw [h.1]; omega)
  | ⟨1, _⟩ => exact Fin.ext (by show win0_0.index t 1 * 256 + 1 * k.val = k.val; rw [h.2]; omega)

theorem blk1 (c : Dev nD) (t : Fin cfg0.N) (r : Fin 32) (k : Fin 256) (ht : t.val < 7) :
    iblk m c 1 t (ix2 r k) = m ((c : Thread nD τ).loc main_arg0) (ix2 ⟨(t.val + 1) * 512 + r.val, by omega⟩ k) := by
  have h := index1 t
  show V m c main_arg0 _ = _
  rw [V_main_arg0]
  congr 1
  funext a
  match a with
  | ⟨0, _⟩ => exact Fin.ext (by show win0_1.index t 0 * 32 + 1 * r.val = (t.val + 1) * 512 + r.val; rw [h.1 ht]; omega)
  | ⟨1, _⟩ => exact Fin.ext (by show win0_1.index t 1 * 256 + 1 * k.val = k.val; rw [h.2]; omega)

theorem blk2 (c : Dev nD) (t : Fin cfg0.N) (r : Fin 512) (k : Fin 512) :
    iblk m c 2 t (ix2 r k) = m ((c : Thread nD τ).loc main_arg1) (ix2 ⟨t.val * 512 + r.val, by have := (coords_eq t).2; omega⟩ k) := by
  have h := index2 t
  show V m c main_arg1 _ = _
  rw [V_main_arg1]
  congr 1
  funext a
  match a with
  | ⟨0, _⟩ => exact Fin.ext (by show win0_2.index t 0 * 512 + 1 * r.val = t.val * 512 + r.val; rw [h.1]; omega)
  | ⟨1, _⟩ => exact Fin.ext (by show win0_2.index t 1 * 512 + 1 * k.val = k.val; rw [h.2]; omega)

theorem staged (c : Dev nD) : V m c main_v0
    = pad (α := EReal) S32x256 ![0, 0] ![1, 0] ![0, 0] (m ((c : Thread nD τ).loc main_arg2)) (sitofp (F := Ideal) .f32 (constantI S_ 32 0#32)) pads_S31x256_S32x256_010_000 h_S_ := by
  show StableHlo.after (List.flatten [hostOps0, hostOps0_1]) (fun b => m (c, b)) (Proc.devRef .tc main_v0) = _
  simp only [hostOps0, hostOps0_1, List.flatten_cons, List.flatten_nil, List.append_nil, List.cons_append, List.nil_append]
  after_results
  rfl

/-- The staged filter's first 31 rows are the filter. -/
theorem blk3 (c : Dev nD) (t : Fin cfg0.N) (j : Fin 31) (k : Fin 256) :
    iblk m c 3 t (ix2 ⟨j.val, by omega⟩ k) = m ((c : Thread nD τ).loc main_arg2) (ix2 j k) := by
  have h := index3 t
  have e : iblk m c 3 t (ix2 ⟨j.val, by omega⟩ k) = V m c main_v0 (ix2 ⟨j.val, by omega⟩ k) := by
    show V m c main_v0 _ = _
    congr 1
    funext a
    match a with
    | ⟨0, _⟩ => exact Fin.ext (by show win0_3.index t 0 * 32 + 1 * j.val = j.val; rw [h.1]; omega)
    | ⟨1, _⟩ => exact Fin.ext (by show win0_3.index t 1 * 256 + 1 * k.val = k.val; rw [h.2]; omega)
  rw [e]
  rw [staged]
  pointwise
  have hj := j.isLt
  have hk := k.isLt
  rw [dif_pos (by intro a; match a with | ⟨0, _⟩ => exact ⟨Nat.zero_le _, Nat.mod_one _, by show (j.val - 0) / (0 + 1) < 31; omega⟩ | ⟨1, _⟩ => exact ⟨Nat.zero_le _, Nat.mod_one _, by show (k.val - 0) / (0 + 1) < 256; omega⟩)]

/-- The stack: the cotangent's rows from the tile's first on, zero past the cotangent's end. -/
theorem stack_apply (c : Dev nD) (t : Fin cfg0.N) (q : Fin 544) (k : Fin 256) :
    k0_pay2 (grid0.coords t) (View.ld (iblk m c 0 t) r0_0) (View.ld (iblk m c 1 t) r0_1) (ix2 q k)
      = rowAt (m ((c : Thread nD τ).loc main_arg0)) (t.val * 512 + q.val) k := by
  have ht := coords_eq t
  have e0 : View.ld (iblk m c 0 t) r0_0 = iblk m c 0 t := View.ld_unit_zero (S := ⟨2, ![512, 256]⟩) hz2 _ _
  have e1 : View.ld (iblk m c 1 t) r0_1 = iblk m c 1 t := View.ld_unit_zero (S := ⟨2, ![32, 256]⟩) hz2 _ _
  rw [e0, e1]
  unfold k0_pay2
  pointwise
  by_cases hq : q.val < 512
  · rw [dif_pos hq, blk0 m c t ⟨q.val, hq⟩ k, rowAt, dif_pos (by omega)]
  · rw [dif_neg hq]
    have hsel : Scalar.cmpi .slt (BitVec.ofNat 32 (grid0.coords t 0).val) 7#32 = if t.val < 7 then 1#1 else 0#1 := by
      rw [ht.1]
      have h8 := ht.2
      generalize t.val = n at h8
      clear * - h8
      revert h8
      revert n
      decide
    rw [hsel]
    by_cases h7 : t.val < 7
    · rw [if_pos h7, rowAt, dif_pos (by omega)]
      refine (blk1 m c t ⟨q.val - 512, by omega⟩ k h7).trans ?_
      congr 2
      refine Fin.ext ?_
      show (t.val + 1) * 512 + (q.val - 512) = t.val * 512 + q.val
      omega
    · rw [if_neg h7, rowAt, dif_neg (by omega)]
      rfl

/-- The taps of tile `t` are the transposed convolution's rows from `512 t` on. -/
theorem taps_blk (c : Dev nD) (t : Fin cfg0.N) (r : Fin 512) (k : Fin 256) :
    taps (k0_pay2 (grid0.coords t) (View.ld (iblk m c 0 t) r0_0) (View.ld (iblk m c 1 t) r0_1)) (iblk m c 3 t) r k
      = convT (m ((c : Thread nD τ).loc main_arg0)) (m ((c : Thread nD τ).loc main_arg2))
          ⟨t.val * 512 + r.val, by have := (coords_eq t).2; omega⟩ k :=
  Finset.sum_congr rfl fun j _ => by
    rw [stack_apply, blk3 m c t j k]
    congr 2
    show t.val * 512 + (r.val + (30 - j.val)) = t.val * 512 + r.val + (30 - j.val)
    omega

/-- What the body leaves in the staging buffer at tile `t`, entry by entry. -/
theorem out_blk (c : Dev nD) (t : Fin cfg0.N) (r k : Fin 512) :
    out0_4 (grid0.coords t) (iblk m c 0 t) (iblk m c 1 t) (iblk m c 2 t) (iblk m c 3 t) (ix2 r k)
      = grad (m ((c : Thread nD τ).loc main_arg0)) (m ((c : Thread nD τ).loc main_arg1)) (m ((c : Thread nD τ).loc main_arg2))
          (ix2 ⟨t.val * 512 + r.val, by have := (coords_eq t).2; omega⟩ k) := by
  rw [out_apply]
  show _ = gradAt _ _ _ ⟨t.val * 512 + r.val, by have := (coords_eq t).2; omega⟩ k
  unfold gradAt
  by_cases hk : k.val < 256
  · rw [dif_pos hk, dif_pos hk]
    exact congrArg₂ (· * ·) (taps_blk m c t r _) (congrArg Ideal.logistic (blk2 m c t r _))
  · rw [dif_neg hk, dif_neg hk]
    exact congrArg₂ (· * ·) (congrArg₂ (· * ·) (congrArg₂ (· * ·) (taps_blk m c t r _) (blk2 m c t r _))
      (congrArg Ideal.logistic (blk2 m c t r _))) (congrArg (1 - Ideal.logistic ·) (blk2 m c t r _))

/-- An array read through block `t`. -/
theorem read_blk (X : FVec Ideal S4096x512 .f32) (t : Fin cfg0.N) (r k : Fin 512) :
    (win0_4.blk t).view.read (Elt Ideal) X (ix2 r k) = X (ix2 ⟨t.val * 512 + r.val, by have := (coords_eq t).2; omega⟩ k) := by
  have h := index4 t
  show X _ = _
  congr 1
  funext a
  match a with
  | ⟨0, _⟩ => exact Fin.ext (by show win0_4.index t 0 * 512 + 1 * r.val = t.val * 512 + r.val; rw [h.1]; omega)
  | ⟨1, _⟩ => exact Fin.ext (by show win0_4.index t 1 * 512 + 1 * k.val = k.val; rw [h.2]; omega)

/-- What each point writes back is its block of `grad`. -/
theorem flushed_eq (c : Dev nD) (t : Fin cfg0.N) :
    (dats m 0 c).flushed 4 t = (win0_4.blk t).view.read (Elt Ideal)
      (grad (m ((c : Thread nD τ).loc main_arg0)) (m ((c : Thread nD τ).loc main_arg1)) (m ((c : Thread nD τ).loc main_arg2))) := by
  rw [Value.flushed4]
  funext i
  obtain ⟨r, k, rfl⟩ : ∃ (r : Fin 512) (k : Fin 512), i = ix2 r k := ⟨i 0, i 1, eq_ix2 i⟩
  exact (out_blk m c t r k).trans (read_blk _ t r k).symm

/-- An index of the result array is in point `t`'s block when its row is among the block's 512. -/
theorem mem_blk (t : Fin cfg0.N) (i : S4096x512.Idx) :
    i ∈ ((cfg0.win 4).blk t).view.set ↔ t.val * 512 ≤ (i 0 : Nat) ∧ (i 0 : Nat) < t.val * 512 + 512 := by
  show i ∈ ((View.whole main_v1).slice (win0_4.rect t)).set ↔ _
  rw [View.set_slice_whole, Rect.mem_set_unit]
  have h1 : (i 1 : Nat) < 512 := (i 1).isLt
  have e := index4 t
  refine ⟨fun h => ?_, fun h a => ?_⟩
  · have : win0_4.index t 0 * 512 ≤ (i 0 : Nat) ∧ (i 0 : Nat) < win0_4.index t 0 * 512 + 512 := h 0
    rw [e.1] at this; exact this
  · match a with
    | ⟨0, _⟩ => show win0_4.index t 0 * 512 ≤ (i 0 : Nat) ∧ (i 0 : Nat) < win0_4.index t 0 * 512 + 512
                rw [e.1]; exact h
    | ⟨1, _⟩ => show win0_4.index t 1 * 512 ≤ (i 1 : Nat) ∧ (i 1 : Nat) < win0_4.index t 1 * 512 + 512
                rw [e.2, Nat.zero_mul, Nat.zero_add]; exact ⟨Nat.zero_le _, h1⟩

/-- The blocks cover the array. -/
theorem cover (i : S4096x512.Idx) : ∃ t : Fin cfg0.N, (cfg0.win 4).flush t = true ∧ i ∈ ((cfg0.win 4).blk t).view.set := by
  have hi : (i 0 : Nat) < 4096 := (i 0).isLt
  obtain ⟨t, ht⟩ : ∃ t : Fin cfg0.N, t.val = (i 0 : Nat) / 512 := ⟨⟨(i 0 : Nat) / 512, by show (i 0 : Nat) / 512 < 8; omega⟩, rfl⟩
  exact ⟨t, flush0_4 t, (mem_blk t i).2 (by rw [ht]; omega)⟩

/-- The result array after the run. -/
theorem final (c : Dev nD) : (dats m 0 c).arrAt 4 cfg0.N
    = grad (m ((c : Thread nD τ).loc main_arg0)) (m ((c : Thread nD τ).loc main_arg1)) (m ((c : Thread nD τ).loc main_arg2)) :=
  (dats m 0 c).arrAt_eq_of_cover 4 (grad (m ((c : Thread nD τ).loc main_arg0)) (m ((c : Thread nD τ).loc main_arg1)) (m ((c : Thread nD τ).loc main_arg2)))
    (fun t _ => flushed_eq m c t) cover

end Cert.Glu

end
-- ==== Proof.Glu.Ref.lean ====
/-
  The gradient of the gated convolution the reference computes: its result array, entry by entry.
-/
module

public import proofs.«01_k».proof.Proof.Glu.Kernel
public import proofs.«01_k».proof.Proof.Gen.GluRefIdeal.Run
public import Idealize.ShloMosaic.Lib.KernelVsHost
public import proofs.«01_k».proof.Defs

@[expose] public section

set_option maxRecDepth 16384

noncomputable section

namespace Cert.Glu.Ref

open Idealize.ShloMosaic Idealize.ShloMosaic.TcCoe Idealize.SL.Sem
open Cert.GluRefIdeal Cert.GluRefIdeal.Gen Cert.GluRefIdeal.Value

/-- A row of the filter, spread over the sequence. -/
theorem row_at (w : FVec Ideal S31x256 .f32) (j : Nat) (hj : j < 31) (hs : S31x256.Slices ![j, 0] S1x256)
    (h1 : S1x256.ShapeCasts S256) (h2 : S256.BroadcastsInDim S1x256 (![1] : Fin 1 → Fin S1x256.rank)) (h3 : S1x256.BroadcastsInDim S4096x256 (![0, 1] : Fin 2 → Fin S4096x256.rank))
    (r : Fin 4096) (k : Fin 256) :
    broadcastInDim S4096x256 ![0, 1] h3 (broadcastInDim S1x256 ![1] h2 (shapeCast S256 (extractStridedSlice S1x256 ![j, 0] w hs) h1)) (ix2 r k)
      = w (ix2 ⟨j, hj⟩ k) := by
  pointwise

/-- What tap j adds to row `r`: zero past the last tap. -/
def tapTerm (dy : FVec Ideal S4096x256 .f32) (w : FVec Ideal S31x256 .f32) (r : Fin 4096) (k : Fin 256) (j : Nat) : EReal :=
  if h : j < 31 then w (ix2 ⟨j, h⟩ k) * rowAt dy (r.val + (30 - j)) k else 0

/-- One shifted product, read 30 rows down. -/
theorem tap_term (dy dy' : FVec Ideal S4096x256 .f32) (hd : dy' = dy) (w : FVec Ideal S31x256 .f32) (j h : Nat) (hs : S31x256.Slices ![j, 0] S1x256)
    (h1 : S1x256.ShapeCasts S256) (h2 : S256.BroadcastsInDim S1x256 (![1] : Fin 1 → Fin S1x256.rank)) (h3 : S1x256.BroadcastsInDim S4096x256 (![0, 1] : Fin 2 → Fin S4096x256.rank))
    (hp : S4096x256.Pads ![j, 0] ![h, 0] ![0, 0] S4126x256) (hu : 0 < S_.numel) (hj : j < 31)
    (r : Fin 4096) (k : Fin 256) (hr : 30 + r.val < 4126) :
    pad (α := EReal) S4126x256 ![j, 0] ![h, 0] ![0, 0] (mulf dy' (broadcastInDim S4096x256 ![0, 1] h3
        (broadcastInDim S1x256 ![1] h2 (shapeCast S256 (extractStridedSlice S1x256 ![j, 0] w hs) h1))))
        (constant (F := Ideal) S_ .f32 0x00000000#32) hp hu (ix2 ⟨30 + r.val, hr⟩ k)
      = tapTerm dy w r k j := by
  subst hd
  have hr' := r.isLt
  rw [tapTerm, dif_pos hj, rowAt]
  by_cases hi : r.val + (30 - j) < 4096
  · rw [dif_pos hi]
    refine (pad_apply_of_inside _ _ _ _ _ hp hu _ (ix2 ⟨r.val + (30 - j), hi⟩ k) fun a => ?_).trans ?_
    · match a with
      | ⟨0, _⟩ => show 30 + r.val = j + (r.val + (30 - j)) * (0 + 1); omega
      | ⟨1, _⟩ => show k.val = 0 + k.val * (0 + 1); omega
    · rw [mulf_at, row_at w j hj]
      exact EReal.mul_comm _ _
  · rw [dif_neg hi, mul_zero]
    refine (pad_apply_of_not_inside _ _ _ _ _ hp hu _ (0 : Fin 2) ?_).trans Ideal.ofBits_zero_f32
    show ¬(j ≤ 30 + r.val ∧ (30 + r.val - j) % (0 + 1) = 0 ∧ (30 + r.val - j) / (0 + 1) < 4096)
    omega

/-- The taps from the last to the first. -/
theorem taps_down (dy : FVec Ideal S4096x256 .f32) (w : FVec Ideal S31x256 .f32) (r : Fin 4096) (k : Fin 256) (f : Nat → EReal)
    (hf : ∀ j : Fin 31, f j.val = w (ix2 j k) * rowAt dy (r.val + (30 - j.val)) k) :
    f 30 + f 29 + f 28 + f 27 + f 26 + f 25 + f 24 + f 23 + f 22 + f 21 + f 20 + f 19 + f 18 + f 17 + f 16 + f 15 + f 14
      + f 13 + f 12 + f 11 + f 10 + f 9 + f 8 + f 7 + f 6 + f 5 + f 4 + f 3 + f 2 + f 1 + f 0 = convT dy w r k := by
  unfold convT
  rw [← Finset.sum_congr rfl fun j _ => hf j, Fin.sum_univ_eq_sum_range f 31, ← Finset.sum_range_reflect]
  simp only [Finset.sum_range_succ, Finset.sum_range_zero, zero_add]

variable (V0 : Valuation τ sig (Elt Ideal))

/-- The cotangent of the convolution's input. -/
theorem conv_at (r : Fin 4096) (k : Fin 256) :
    res_main_v359 V0 (ix2 r k) = convT (V0 (Proc.devRef .tc main_arg0)) (V0 (Proc.devRef .tc main_arg2)) r k := by
  have e : res_main_v359 V0 (ix2 r k) = res_main_v357 V0 (ix2 ⟨30 + r.val, by omega⟩ k) := by
    rw [res_main_v359]
    show res_main_v357 V0 _ = _
    congr 1
    funext a
    match a with
    | ⟨0, _⟩ => rfl
    | ⟨1, _⟩ => exact Fin.ext (Nat.zero_add _)
  rw [e, ← taps_down _ _ r k (tapTerm (V0 (Proc.devRef .tc main_arg0)) (V0 (Proc.devRef .tc main_arg2)) r k) fun j => dif_pos j.isLt]
  simp only [res_main_v18, res_main_v26, res_main_v33, res_main_v40, res_main_v47, res_main_v54, res_main_v61, res_main_v68, res_main_v75, res_main_v82, res_main_v89, res_main_v96, res_main_v103, res_main_v110, res_main_v117, res_main_v124, res_main_v131, res_main_v138, res_main_v145, res_main_v152, res_main_v159, res_main_v166, res_main_v173, res_main_v180, res_main_v187, res_main_v194, res_main_v201, res_main_v208, res_main_v215, res_main_v222, res_main_v229, res_main_v233, res_main_v305, res_main_v357, addf_at]
  iterate 30
    refine congrArg₂ (· + ·) ?_ (tap_term _ _ (shapeCast_self _ _) _ _ _ _ _ _ _ _ _ ?hj _ _ _)
    case hj => decide
  exact tap_term _ _ (shapeCast_self _ _) _ _ _ _ _ _ _ _ _ (by decide) _ _ _

/-- The gate. -/
theorem gate_at (r : Fin 4096) (k : Fin 256) :
    res_main_v7 V0 (ix2 r k) = Ideal.logistic (V0 (Proc.devRef .tc main_arg1) (ix2 r ⟨256 + k.val, by omega⟩)) := by
  have one (i : S4096x256.Idx) : broadcastInDim (α := EReal) S4096x256 ![] bcast_S_S4096x256 (constant (F := Ideal) S_ .f32 0x3F800000#32) i = 1 :=
    Ideal.ofBits_one_f32
  rw [res_main_v7]
  refine (congrArg₂ (fun a b : EReal => Ideal.div a (b + Ideal.exp (-_))) (one _) (one _)).trans ?_
  show Ideal.div 1 (1 + Ideal.exp (- _)) = Ideal.div 1 (1 + Ideal.exp (- _))
  congr 4
  show V0 (Proc.devRef .tc main_arg1) _ = _
  congr 1
  funext a
  match a with
  | ⟨0, _⟩ => exact Fin.ext (Nat.zero_add _)
  | ⟨1, _⟩ => rfl

/-- The linear half. -/
theorem lin_at (r : Fin 4096) (k : Fin 256) :
    res_main_v0 V0 (ix2 r k) = V0 (Proc.devRef .tc main_arg1) (ix2 r ⟨k.val, by omega⟩) := by
  rw [res_main_v0]
  pointwise

theorem order (a b s u : EReal) : a * b * (s * u) = b * a * s * u := by rw [mul_comm a b, ← mul_assoc]

/-- The result. -/
theorem result :
    concatenate S4096x512 1 [⟨S4096x256, (mulf (res_main_v359 V0) (res_main_v7 V0))⟩, ⟨S4096x256, (mulf (mulf (res_main_v0 V0) (res_main_v359 V0)) (mulf (res_main_v7 V0) (subf (broadcastInDim S4096x256 ![] bcast_S_S4096x256 (constant S_ .f32 0x3F800000#32)) (res_main_v7 V0))))⟩] concatenates_S4096x256_S4096x256_S4096x512_d1
      = grad (V0 (Proc.devRef .tc main_arg0)) (V0 (Proc.devRef .tc main_arg1)) (V0 (Proc.devRef .tc main_arg2)) := by
  funext i
  obtain ⟨r, k, rfl⟩ : ∃ (r : Fin 4096) (k : Fin 512), i = ix2 r k := ⟨i 0, i 1, eq_ix2 i⟩
  show _ = gradAt _ _ _ r k
  unfold gradAt
  have one (i : S4096x256.Idx) : broadcastInDim (α := EReal) S4096x256 ![] bcast_S_S4096x256 (constant (F := Ideal) S_ .f32 0x3F800000#32) i = 1 :=
    Ideal.ofBits_one_f32
  pointwise
  by_cases hk : k.val < 256
  · rw [dif_pos hk, dif_pos hk]
    exact congrArg₂ (· * ·) (conv_at V0 r _) (gate_at V0 r _)
  · rw [dif_neg hk, dif_neg hk]
    have hkk : (⟨256 + (k.val - 256), by omega⟩ : Fin 512) = k := Fin.ext (by show 256 + (k.val - 256) = k.val; omega)
    refine (order _ _ _ _).trans ?_
    rw [lin_at, conv_at, gate_at, hkk]

/-- From any launch, the kernel's result array and the reference's are the same function of the arguments. -/
theorem algebraic : Cert.algebraic_GluBwdIdeal_GluRefIdeal := fun m g m' g' _ hagree =>
  ⟨fun c => grad (m ((c.tc : Thread Cert.GluBwdIdeal.nD Cert.GluBwdIdeal.τ).loc Cert.GluBwdIdeal.main_arg0))
      (m ((c.tc : Thread Cert.GluBwdIdeal.nD Cert.GluBwdIdeal.τ).loc Cert.GluBwdIdeal.main_arg1))
      (m ((c.tc : Thread Cert.GluBwdIdeal.nD Cert.GluBwdIdeal.τ).loc Cert.GluBwdIdeal.main_arg2)),
    (θ_run _ _ _).mono (fun _ h c => ⟨(h c).1.trans (Cert.Glu.final m c), (h c).2⟩) (Cert.GluBwdIdeal.Value.run_blocks m g),
    (θ_run _ _ _).mono (fun _ h c => ⟨(h c).1.trans ((result (StableHlo.launchContents m' c)).trans
        (congr (congrArg₂ grad (hagree c).1 (hagree c).2.1) (hagree c).2.2)), (h c).2⟩) (run m' g')⟩

end Cert.Glu.Ref

end
-- ==== Proof.WGrad.Step.lean ====
/-
  One point of the weight-gradient kernel's grid: what it leaves in the three accumulators, and what the last point of
  a column chunk stores.
-/
module

public import proofs.«01_k».proof.Defs
public import proofs.«01_k».proof.Proof.Gen.FfnWIdeal.Value
public import Idealize.ShloMosaic.Lib.Pipeline.Value
public import Idealize.ShloMosaic.Lib.Pointwise
public import proofs.«01_k».proof.Proof.Sigmoid

@[expose] public section

set_option maxRecDepth 16384

noncomputable section

namespace Cert.WGrad

open Idealize.ShloMosaic Idealize.ShloMosaic.TcCoe Idealize.SL.Sem
open Idealize.ShloMosaic.Pipeline (Dat)
open Cert.FfnWIdeal Cert.FfnWIdeal.Gen

variable (m : (ℓ : Loc nD τ sig) → Buf (Elt Ideal) ℓ)

theorem hz2 : (![0, 0] : Fin 2 → Nat) = fun _ => 0 := by decide
theorem hz3 : (![0, 0, 0] : Fin 3 → Nat) = fun _ => 0 := by decide

/-- The accumulators and stored blocks before point `t`. -/
abbrev before (c : Dev nD) (t : Fin cfg0.N) := outsAt0 m c (t.val - 1) (Nat.lt_of_le_of_lt (Nat.sub_le _ _) t.isLt)

theorem acc0_A (c : Dev nD) (t : Fin cfg0.N) (h0 : t.val % 4 = 0) (h1 : ¬t.val % 4 = 3) :
    (outsAt0 m c t.val t.isLt).2.2.2.1 = k0_pay10 (iblk m c 0 t) (k0_pay6 (F := Ideal)) (iblk m c 4 t) := by
  rw [outsAt0_A m c t h0 h1]
  dsimp only
  unfold sout0_A_0
  rw [View.read_writes_eq_canon _ _ _ (fun y => scover0_A_0 (y := y) ..)]
  unfold kernelRun0_A
  dsimp only
  sl_unfold_words
  rw [View.canon_cons_unit_zero (S := S704x1024) hz2, View.readCov_unit_zero (S := S704x1024) _ hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

theorem acc1_A (c : Dev nD) (t : Fin cfg0.N) (h0 : t.val % 4 = 0) (h1 : ¬t.val % 4 = 3) :
    (outsAt0 m c t.val t.isLt).2.2.2.2.1 = k0_pay1 (k0_pay7 (F := Ideal)) (k0_pay11 (iblk m c 0 t) (iblk m c 5 t)) := by
  rw [outsAt0_A m c t h0 h1]
  dsimp only
  unfold sout0_A_1
  rw [View.read_writes_eq_canon _ _ _ (fun y => scover0_A_1 (y := y) ..)]
  unfold kernelRun0_A
  dsimp only
  sl_unfold_words
  rw [View.canon_cons_unit_zero (S := S704x1024) hz2, View.readCov_unit_zero (S := S704x1024) _ hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

theorem acc2_A (c : Dev nD) (t : Fin cfg0.N) (h0 : t.val % 4 = 0) (h1 : ¬t.val % 4 = 3) :
    (outsAt0 m c t.val t.isLt).2.2.2.2.2 = k0_pay2 (k0_pay9 (iblk m c 2 t) (iblk m c 3 t)) (k0_pay8 (F := Ideal)) (iblk m c 1 t) := by
  rw [outsAt0_A m c t h0 h1]
  dsimp only
  unfold sout0_A_2
  rw [View.read_writes_eq_canon _ _ _ (fun y => scover0_A_2 (y := y) ..)]
  unfold kernelRun0_A
  dsimp only
  sl_unfold_words
  rw [View.canon_cons_unit_zero (S := S704x1024) hz2, View.readCov_unit_zero (S := S704x1024) _ hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

theorem acc0_B (c : Dev nD) (t : Fin cfg0.N) (h0 : ¬t.val % 4 = 0) (h1 : ¬t.val % 4 = 3) :
    (outsAt0 m c t.val t.isLt).2.2.2.1 = k0_pay10 (iblk m c 0 t) (before m c t).2.2.2.1 (iblk m c 4 t) := by
  rw [outsAt0_B m c t h0 h1]
  dsimp only
  unfold sout0_B_0
  rw [View.read_writes_eq_canon _ _ _ (fun y => scover0_B_0 (y := y) ..)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

theorem acc1_B (c : Dev nD) (t : Fin cfg0.N) (h0 : ¬t.val % 4 = 0) (h1 : ¬t.val % 4 = 3) :
    (outsAt0 m c t.val t.isLt).2.2.2.2.1 = k0_pay1 (before m c t).2.2.2.2.1 (k0_pay11 (iblk m c 0 t) (iblk m c 5 t)) := by
  rw [outsAt0_B m c t h0 h1]
  dsimp only
  unfold sout0_B_1
  rw [View.read_writes_eq_canon _ _ _ (fun y => scover0_B_1 (y := y) ..)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

theorem acc2_B (c : Dev nD) (t : Fin cfg0.N) (h0 : ¬t.val % 4 = 0) (h1 : ¬t.val % 4 = 3) :
    (outsAt0 m c t.val t.isLt).2.2.2.2.2 = k0_pay2 (k0_pay9 (iblk m c 2 t) (iblk m c 3 t)) (before m c t).2.2.2.2.2 (iblk m c 1 t) := by
  rw [outsAt0_B m c t h0 h1]
  dsimp only
  unfold sout0_B_2
  rw [View.read_writes_eq_canon _ _ _ (fun y => scover0_B_2 (y := y) ..)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

theorem acc0_C (c : Dev nD) (t : Fin cfg0.N) (h0 : ¬t.val % 4 = 0) (h1 : t.val % 4 = 3) :
    (outsAt0 m c t.val t.isLt).2.2.2.1 = k0_pay10 (iblk m c 0 t) (before m c t).2.2.2.1 (iblk m c 4 t) := by
  rw [outsAt0_C m c t h0 h1]
  dsimp only
  unfold sout0_C_0
  rw [View.read_writes_eq_canon _ _ _ (fun y => scover0_C_0 (y := y) ..)]
  unfold kernelRun0_C
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

theorem acc1_C (c : Dev nD) (t : Fin cfg0.N) (h0 : ¬t.val % 4 = 0) (h1 : t.val % 4 = 3) :
    (outsAt0 m c t.val t.isLt).2.2.2.2.1 = k0_pay1 (before m c t).2.2.2.2.1 (k0_pay11 (iblk m c 0 t) (iblk m c 5 t)) := by
  rw [outsAt0_C m c t h0 h1]
  dsimp only
  unfold sout0_C_1
  rw [View.read_writes_eq_canon _ _ _ (fun y => scover0_C_1 (y := y) ..)]
  unfold kernelRun0_C
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

theorem acc2_C (c : Dev nD) (t : Fin cfg0.N) (h0 : ¬t.val % 4 = 0) (h1 : t.val % 4 = 3) :
    (outsAt0 m c t.val t.isLt).2.2.2.2.2 = k0_pay2 (k0_pay9 (iblk m c 2 t) (iblk m c 3 t)) (before m c t).2.2.2.2.2 (iblk m c 1 t) := by
  rw [outsAt0_C m c t h0 h1]
  dsimp only
  unfold sout0_C_2
  rw [View.read_writes_eq_canon _ _ _ (fun y => scover0_C_2 (y := y) ..)]
  unfold kernelRun0_C
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

theorem out6_C (c : Dev nD) (t : Fin cfg0.N) (h0 : ¬t.val % 4 = 0) (h1 : t.val % 4 = 3) :
    (outsAt0 m c t.val t.isLt).1 = k0_pay3 ((outsAt0 m c t.val t.isLt).2.2.2.1) := by
  rw [acc0_C m c t h0 h1, outsAt0_C m c t h0 h1]
  dsimp only
  unfold out0_C_6
  rw [View.read_writes_eq_canon _ _ _ (fun y => cover0_C_6 (y := y) ..)]
  unfold kernelRun0_C
  dsimp only
  sl_unfold_words
  rw [View.canon_unit_zero hz3, View.readCov_unit_zero (S := S704x1024) _ hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

theorem out7_C (c : Dev nD) (t : Fin cfg0.N) (h0 : ¬t.val % 4 = 0) (h1 : t.val % 4 = 3) :
    (outsAt0 m c t.val t.isLt).2.1 = k0_pay4 ((outsAt0 m c t.val t.isLt).2.2.2.2.1) := by
  rw [acc1_C m c t h0 h1, outsAt0_C m c t h0 h1]
  dsimp only
  unfold out0_C_7
  rw [View.read_writes_eq_canon _ _ _ (fun y => cover0_C_7 (y := y) ..)]
  unfold kernelRun0_C
  dsimp only
  sl_unfold_words
  rw [View.canon_unit_zero hz3, View.readCov_unit_zero (S := S704x1024) _ hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

theorem out8_C (c : Dev nD) (t : Fin cfg0.N) (h0 : ¬t.val % 4 = 0) (h1 : t.val % 4 = 3) :
    (outsAt0 m c t.val t.isLt).2.2.1 = k0_pay5 ((outsAt0 m c t.val t.isLt).2.2.2.2.2) := by
  rw [acc2_C m c t h0 h1, outsAt0_C m c t h0 h1]
  dsimp only
  unfold out0_C_8
  rw [View.read_writes_eq_canon _ _ _ (fun y => cover0_C_8 (y := y) ..)]
  unfold kernelRun0_C
  dsimp only
  sl_unfold_words
  rw [View.canon_unit_zero hz3, View.readCov_unit_zero (S := S704x1024) _ hz2]
  simp only [View.readAt_eq_ld, (hs0_0 t).read_unread, (hs0_1 t).read_unread, (hs0_2 t).read_unread, (hs0_3 t).read_unread, (hs0_4 t).read_unread,
    (hs0_5 t).read_unread, (Memref.isWhole_whole _).read_unread, View.ld_unit_zero (S := S1024x1024) hz2,
    View.ld_unit_zero (S := S1x1024x704) hz3, View.ld_unit_zero (S := S704x1024) hz2]

end Cert.WGrad

end
-- ==== Proof.WGrad.Kernel.lean ====
/-
  The weight gradients the kernel computes: its three result arrays, entry by entry.

  A point adds one tile of 1024 rows to each accumulator, so after `i + 1` points of a chunk an accumulator holds the sum
  over the first `1024 (i + 1)` rows, and after the fourth the sum over all 4096.
-/
module

public import proofs.«01_k».proof.Proof.WGrad.Step

@[expose] public section

set_option maxRecDepth 16384

noncomputable section

namespace Cert.WGrad

open Idealize.ShloMosaic Idealize.ShloMosaic.TcCoe Idealize.SL.Sem
open Idealize.ShloMosaic.Pipeline (Dat)

/-! ## The functions -/

/-- The product of a chunked array's transpose with `b`, chunk by chunk: at `(f, k, d)` the sum over the 4096 rows `r` of
    `a (f, r, k) * b (r, d)`. -/
def wsum (a : FVec Ideal ⟨3, ![4, 4096, 704]⟩ .bf16) (b : FVec Ideal ⟨2, ![4096, 1024]⟩ .bf16) :
    FVec Ideal ⟨3, ![4, 704, 1024]⟩ .bf16 :=
  fun i => ∑ r : Fin 4096, (a (ix3 (i 0) r (i 1)) : EReal) * b (ix2 r (i 2))

/-- `g * logistic g * u`. -/
def gated (x y : EReal) : EReal := x * Ideal.logistic x * y

/-- The same entry by entry. -/
def act (g u : FVec Ideal ⟨3, ![4, 4096, 704]⟩ .bf16) : FVec Ideal ⟨3, ![4, 4096, 704]⟩ .bf16 := fun i => gated (g i) (u i)

/-- One term of `wsum`, by the row's number; zero past the last row. -/
def term (a : FVec Ideal ⟨3, ![4, 4096, 704]⟩ .bf16) (b : FVec Ideal ⟨2, ![4096, 1024]⟩ .bf16) (f : Fin 4) (k : Fin 704)
    (d : Fin 1024) (r : ℕ) : EReal := if h : r < 4096 then (a (ix3 f ⟨r, h⟩ k) : EReal) * b (ix2 ⟨r, h⟩ d) else 0

theorem sum_add_tile (X : ℕ → EReal) (n w : ℕ) :
    ∑ r ∈ Finset.range n, X r + ∑ r : Fin w, X (n + r.val) = ∑ r ∈ Finset.range (n + w), X r := by
  rw [Finset.sum_range_add, ← Finset.sum_range (fun r => X (n + r))]

theorem sum_term (a : FVec Ideal ⟨3, ![4, 4096, 704]⟩ .bf16) (b : FVec Ideal ⟨2, ![4096, 1024]⟩ .bf16) (f : Fin 4) (k : Fin 704)
    (d : Fin 1024) : ∑ r ∈ Finset.range 4096, term a b f k d r = wsum a b (ix3 f k d) := by
  rw [Finset.sum_range]
  exact Finset.sum_congr rfl fun r _ => dif_pos r.isLt

/-- The sum over a tile's 1024 rows. -/
def tileSum (y x : Fin 1024 → EReal) : EReal := ∑ r : Fin 1024, y r * x r

theorem tileSum_eq (y x : Fin 1024 → EReal) (X : ℕ → EReal) (n : ℕ) (h : ∀ r : Fin 1024, y r * x r = X (n + r.val)) :
    tileSum y x = ∑ r : Fin 1024, X (n + r.val) := Finset.sum_congr rfl fun r _ => h r

theorem mul_congr {x x' y y' : EReal} (hx : x = x') (hy : y = y') : x * y = x' * y' := hx ▸ hy ▸ rfl

/-! ## The payloads at an entry -/

open Cert.FfnWIdeal Cert.FfnWIdeal.Gen

theorem pay6_apply (k : Fin 704) (d : Fin 1024) : k0_pay6 (F := Ideal) (ix2 k d) = (0 : EReal) := by
  unfold k0_pay6; pointwise
theorem pay7_apply (k : Fin 704) (d : Fin 1024) : k0_pay7 (F := Ideal) (ix2 k d) = (0 : EReal) := by
  unfold k0_pay7; pointwise
theorem pay8_apply (k : Fin 704) (d : Fin 1024) : k0_pay8 (F := Ideal) (ix2 k d) = (0 : EReal) := by
  unfold k0_pay8; pointwise

theorem pay10_apply (x : Vec Ideal S1024x1024 .bf16) (s : Vec Ideal S704x1024 .f32) (y : Vec Ideal S1x1024x704 .bf16)
    (k : Fin 704) (d : Fin 1024) :
    k0_pay10 x s y (ix2 k d) = (s (ix2 k d) : EReal) + tileSum (fun r => y (ix3 0 r k)) (fun r => x (ix2 r d)) := by
  unfold k0_pay10 tileSum
  pointwise

theorem pay1_apply (x : Vec Ideal S1024x1024 .bf16) (s : Vec Ideal S704x1024 .f32) (y : Vec Ideal S1x1024x704 .bf16)
    (k : Fin 704) (d : Fin 1024) :
    k0_pay1 s (k0_pay11 x y) (ix2 k d) = (s (ix2 k d) : EReal) + tileSum (fun r => y (ix3 0 r k)) (fun r => x (ix2 r d)) := by
  unfold k0_pay1 k0_pay11 tileSum
  pointwise

theorem pay2_apply (x : Vec Ideal S1024x1024 .bf16) (s : Vec Ideal S704x1024 .f32) (g u : Vec Ideal S1x1024x704 .bf16)
    (k : Fin 704) (d : Fin 1024) :
    k0_pay2 (k0_pay9 g u) s x (ix2 k d)
      = (s (ix2 k d) : EReal) + tileSum (fun r => gated (g (ix3 0 r k)) (u (ix3 0 r k))) (fun r => x (ix2 r d)) := by
  unfold k0_pay2 k0_pay9 tileSum gated
  pointwise
  rw [Sigmoid.ofBits_half_bf16]
  simp only [Sigmoid.half_tanh]

theorem pay3_apply (s : Vec Ideal S704x1024 .f32) (k : Fin 704) (d : Fin 1024) : k0_pay3 s (ix3 0 k d) = s (ix2 k d) := by
  unfold k0_pay3; pointwise
theorem pay4_apply (s : Vec Ideal S704x1024 .f32) (k : Fin 704) (d : Fin 1024) : k0_pay4 s (ix3 0 k d) = s (ix2 k d) := by
  unfold k0_pay4; pointwise
theorem pay5_apply (s : Vec Ideal S704x1024 .f32) (k : Fin 704) (d : Fin 1024) : k0_pay5 s (ix3 0 k d) = s (ix2 k d) := by
  unfold k0_pay5; pointwise

/-! ## The blocks -/

variable (m : (ℓ : Loc nD τ sig) → Buf (Elt Ideal) ℓ) (ρ : Dev nD → PrngReg)

theorem point_lt (t : Fin cfg0.N) : t.val < 16 := lt_of_lt_of_eq t.isLt (show cfg0.N = 16 from N_0)
theorem index0 : ∀ t : Fin grid0.N, win0_0.index t 0 = t.val % 4 ∧ win0_0.index t 1 = 0 := by decide +kernel
theorem index1 : ∀ t : Fin grid0.N, win0_1.index t 0 = t.val % 4 ∧ win0_1.index t 1 = 0 := by decide +kernel
theorem index2 : ∀ t : Fin grid0.N, win0_2.index t 0 = t.val / 4 ∧ win0_2.index t 1 = t.val % 4 ∧ win0_2.index t 2 = 0 := by decide +kernel
theorem index3 : ∀ t : Fin grid0.N, win0_3.index t 0 = t.val / 4 ∧ win0_3.index t 1 = t.val % 4 ∧ win0_3.index t 2 = 0 := by decide +kernel
theorem index4 : ∀ t : Fin grid0.N, win0_4.index t 0 = t.val / 4 ∧ win0_4.index t 1 = t.val % 4 ∧ win0_4.index t 2 = 0 := by decide +kernel
theorem index5 : ∀ t : Fin grid0.N, win0_5.index t 0 = t.val / 4 ∧ win0_5.index t 1 = t.val % 4 ∧ win0_5.index t 2 = 0 := by decide +kernel

theorem blk0 (c : Dev nD) (t : Fin cfg0.N) (r : Fin 1024) (d : Fin 1024) :
    iblk m c 0 t (ix2 r d) = m ((c : Thread nD τ).loc main_arg0) (ix2 ⟨t.val % 4 * 1024 + r.val, by omega⟩ d) := by
  have h := index0 t
  show V m c main_arg0 _ = _
  rw [V_main_arg0]
  congr 1
  funext a
  match a with
  | ⟨0, _⟩ => exact Fin.ext (by show win0_0.index t 0 * 1024 + 1 * r.val = t.val % 4 * 1024 + r.val; rw [h.1]; omega)
  | ⟨1, _⟩ => exact Fin.ext (by show win0_0.index t 1 * 1024 + 1 * d.val = d.val; rw [h.2]; omega)

theorem blk1 (c : Dev nD) (t : Fin cfg0.N) (r : Fin 1024) (d : Fin 1024) :
    iblk m c 1 t (ix2 r d) = m ((c : Thread nD τ).loc main_arg1) (ix2 ⟨t.val % 4 * 1024 + r.val, by omega⟩ d) := by
  have h := index1 t
  show V m c main_arg1 _ = _
  rw [V_main_arg1]
  congr 1
  funext a
  match a with
  | ⟨0, _⟩ => exact Fin.ext (by show win0_1.index t 0 * 1024 + 1 * r.val = t.val % 4 * 1024 + r.val; rw [h.1]; omega)
  | ⟨1, _⟩ => exact Fin.ext (by show win0_1.index t 1 * 1024 + 1 * d.val = d.val; rw [h.2]; omega)

theorem blk2 (c : Dev nD) (t : Fin cfg0.N) (r : Fin 1024) (k : Fin 704) :
    iblk m c 2 t (ix3 0 r k) = m ((c : Thread nD τ).loc main_arg2)
      (ix3 ⟨t.val / 4, by have := point_lt t; omega⟩ ⟨t.val % 4 * 1024 + r.val, by omega⟩ k) := by
  have h := index2 t
  show V m c main_arg2 _ = _
  rw [V_main_arg2]
  congr 1
  funext a
  match a with
  | ⟨0, _⟩ => exact Fin.ext (by show win0_2.index t 0 * 1 + 1 * 0 = t.val / 4; rw [h.1]; omega)
  | ⟨1, _⟩ => exact Fin.ext (by show win0_2.index t 1 * 1024 + 1 * r.val = t.val % 4 * 1024 + r.val; rw [h.2.1]; omega)
  | ⟨2, _⟩ => exact Fin.ext (by show win0_2.index t 2 * 704 + 1 * k.val = k.val; rw [h.2.2]; omega)

theorem blk3 (c : Dev nD) (t : Fin cfg0.N) (r : Fin 1024) (k : Fin 704) :
    iblk m c 3 t (ix3 0 r k) = m ((c : Thread nD τ).loc main_arg3)
      (ix3 ⟨t.val / 4, by have := point_lt t; omega⟩ ⟨t.val % 4 * 1024 + r.val, by omega⟩ k) := by
  have h := index3 t
  show V m c main_arg3 _ = _
  rw [V_main_arg3]
  congr 1
  funext a
  match a with
  | ⟨0, _⟩ => exact Fin.ext (by show win0_3.index t 0 * 1 + 1 * 0 = t.val / 4; rw [h.1]; omega)
  | ⟨1, _⟩ => exact Fin.ext (by show win0_3.index t 1 * 1024 + 1 * r.val = t.val % 4 * 1024 + r.val; rw [h.2.1]; omega)
  | ⟨2, _⟩ => exact Fin.ext (by show win0_3.index t 2 * 704 + 1 * k.val = k.val; rw [h.2.2]; omega)

theorem blk4 (c : Dev nD) (t : Fin cfg0.N) (r : Fin 1024) (k : Fin 704) :
    iblk m c 4 t (ix3 0 r k) = m ((c : Thread nD τ).loc main_arg4)
      (ix3 ⟨t.val / 4, by have := point_lt t; omega⟩ ⟨t.val % 4 * 1024 + r.val, by omega⟩ k) := by
  have h := index4 t
  show V m c main_arg4 _ = _
  rw [V_main_arg4]
  congr 1
  funext a
  match a with
  | ⟨0, _⟩ => exact Fin.ext (by show win0_4.index t 0 * 1 + 1 * 0 = t.val / 4; rw [h.1]; omega)
  | ⟨1, _⟩ => exact Fin.ext (by show win0_4.index t 1 * 1024 + 1 * r.val = t.val % 4 * 1024 + r.val; rw [h.2.1]; omega)
  | ⟨2, _⟩ => exact Fin.ext (by show win0_4.index t 2 * 704 + 1 * k.val = k.val; rw [h.2.2]; omega)

theorem blk5 (c : Dev nD) (t : Fin cfg0.N) (r : Fin 1024) (k : Fin 704) :
    iblk m c 5 t (ix3 0 r k) = m ((c : Thread nD τ).loc main_arg5)
      (ix3 ⟨t.val / 4, by have := point_lt t; omega⟩ ⟨t.val % 4 * 1024 + r.val, by omega⟩ k) := by
  have h := index5 t
  show V m c main_arg5 _ = _
  rw [V_main_arg5]
  congr 1
  funext a
  match a with
  | ⟨0, _⟩ => exact Fin.ext (by show win0_5.index t 0 * 1 + 1 * 0 = t.val / 4; rw [h.1]; omega)
  | ⟨1, _⟩ => exact Fin.ext (by show win0_5.index t 1 * 1024 + 1 * r.val = t.val % 4 * 1024 + r.val; rw [h.2.1]; omega)
  | ⟨2, _⟩ => exact Fin.ext (by show win0_5.index t 2 * 704 + 1 * k.val = k.val; rw [h.2.2]; omega)

/-! ## The accumulators -/

theorem tile0 (c : Dev nD) (t : Fin cfg0.N) (k : Fin 704) (d : Fin 1024) :
    tileSum (fun r => iblk m c 4 t (ix3 0 r k)) (fun r => iblk m c 0 t (ix2 r d))
      = ∑ r : Fin 1024, term (m ((c : Thread nD τ).loc main_arg4)) (m ((c : Thread nD τ).loc main_arg0))
          ⟨t.val / 4, by have := point_lt t; omega⟩ k d (t.val % 4 * 1024 + r.val) :=
  tileSum_eq _ _ _ _ fun r => by
    rw [term, dif_pos (by omega)]
    exact mul_congr (blk4 m c t r k) (blk0 m c t r d)

theorem acc0 (c : Dev nD) (k : Fin 704) (d : Fin 1024) : ∀ (i : ℕ) (hi : i < 4) (t : Fin cfg0.N), t.val % 4 = i →
    ((outsAt0 m c t.val t.isLt).2.2.2.1 (ix2 k d) : EReal)
      = ∑ r ∈ Finset.range ((i + 1) * 1024), term (m ((c : Thread nD τ).loc main_arg4)) (m ((c : Thread nD τ).loc main_arg0))
          ⟨t.val / 4, by have := point_lt t; omega⟩ k d r
  | 0, _, t, ht => by
    rw [acc0_A m c t ht (by omega), pay10_apply, pay6_apply, tile0, zero_add, ht, Finset.sum_range]
    exact Finset.sum_congr rfl fun r _ => by rw [Nat.zero_mul, Nat.zero_add]
  | i + 1, hi, t, ht => by
    have step : (outsAt0 m c t.val t.isLt).2.2.2.1 = k0_pay10 (iblk m c 0 t) (before m c t).2.2.2.1 (iblk m c 4 t) := by
      by_cases h3 : t.val % 4 = 3
      · exact acc0_C m c t (by omega) h3
      · exact acc0_B m c t (by omega) h3
    have ih := acc0 c k d i (by omega) ⟨t.val - 1, lt_of_le_of_lt (Nat.sub_le _ _) t.isLt⟩ (by dsimp only; omega)
    have e : (⟨(t.val - 1) / 4, by have := point_lt t; omega⟩ : Fin 4) = ⟨t.val / 4, by have := point_lt t; omega⟩ :=
      Fin.ext (by dsimp only; omega)
    rw [step, pay10_apply, tile0, ht, show (i + 1 + 1) * 1024 = (i + 1) * 1024 + 1024 by omega, ← sum_add_tile]
    exact congrArg₂ (· + ·) (ih.trans (by rw [e])) rfl

theorem tile1 (c : Dev nD) (t : Fin cfg0.N) (k : Fin 704) (d : Fin 1024) :
    tileSum (fun r => iblk m c 5 t (ix3 0 r k)) (fun r => iblk m c 0 t (ix2 r d))
      = ∑ r : Fin 1024, term (m ((c : Thread nD τ).loc main_arg5)) (m ((c : Thread nD τ).loc main_arg0))
          ⟨t.val / 4, by have := point_lt t; omega⟩ k d (t.val % 4 * 1024 + r.val) :=
  tileSum_eq _ _ _ _ fun r => by
    rw [term, dif_pos (by omega)]
    exact mul_congr (blk5 m c t r k) (blk0 m c t r d)

theorem acc1 (c : Dev nD) (k : Fin 704) (d : Fin 1024) : ∀ (i : ℕ) (hi : i < 4) (t : Fin cfg0.N), t.val % 4 = i →
    ((outsAt0 m c t.val t.isLt).2.2.2.2.1 (ix2 k d) : EReal)
      = ∑ r ∈ Finset.range ((i + 1) * 1024), term (m ((c : Thread nD τ).loc main_arg5)) (m ((c : Thread nD τ).loc main_arg0))
          ⟨t.val / 4, by have := point_lt t; omega⟩ k d r
  | 0, _, t, ht => by
    rw [acc1_A m c t ht (by omega), pay1_apply, pay7_apply, tile1, zero_add, ht, Finset.sum_range]
    exact Finset.sum_congr rfl fun r _ => by rw [Nat.zero_mul, Nat.zero_add]
  | i + 1, hi, t, ht => by
    have step : (outsAt0 m c t.val t.isLt).2.2.2.2.1 = k0_pay1 (before m c t).2.2.2.2.1 (k0_pay11 (iblk m c 0 t) (iblk m c 5 t)) := by
      by_cases h3 : t.val % 4 = 3
      · exact acc1_C m c t (by omega) h3
      · exact acc1_B m c t (by omega) h3
    have ih := acc1 c k d i (by omega) ⟨t.val - 1, lt_of_le_of_lt (Nat.sub_le _ _) t.isLt⟩ (by dsimp only; omega)
    have e : (⟨(t.val - 1) / 4, by have := point_lt t; omega⟩ : Fin 4) = ⟨t.val / 4, by have := point_lt t; omega⟩ :=
      Fin.ext (by dsimp only; omega)
    rw [step, pay1_apply, tile1, ht, show (i + 1 + 1) * 1024 = (i + 1) * 1024 + 1024 by omega, ← sum_add_tile]
    exact congrArg₂ (· + ·) (ih.trans (by rw [e])) rfl

theorem tile2 (c : Dev nD) (t : Fin cfg0.N) (k : Fin 704) (d : Fin 1024) :
    tileSum (fun r => gated (iblk m c 2 t (ix3 0 r k)) (iblk m c 3 t (ix3 0 r k))) (fun r => iblk m c 1 t (ix2 r d))
      = ∑ r : Fin 1024, term (act (m ((c : Thread nD τ).loc main_arg2)) (m ((c : Thread nD τ).loc main_arg3))) (m ((c : Thread nD τ).loc main_arg1))
          ⟨t.val / 4, by have := point_lt t; omega⟩ k d (t.val % 4 * 1024 + r.val) :=
  tileSum_eq _ _ _ _ fun r => by
    rw [term, dif_pos (by omega)]
    exact mul_congr (congrArg₂ gated (blk2 m c t r k) (blk3 m c t r k)) (blk1 m c t r d)

theorem acc2 (c : Dev nD) (k : Fin 704) (d : Fin 1024) : ∀ (i : ℕ) (hi : i < 4) (t : Fin cfg0.N), t.val % 4 = i →
    ((outsAt0 m c t.val t.isLt).2.2.2.2.2 (ix2 k d) : EReal)
      = ∑ r ∈ Finset.range ((i + 1) * 1024), term (act (m ((c : Thread nD τ).loc main_arg2)) (m ((c : Thread nD τ).loc main_arg3))) (m ((c : Thread nD τ).loc main_arg1))
          ⟨t.val / 4, by have := point_lt t; omega⟩ k d r
  | 0, _, t, ht => by
    rw [acc2_A m c t ht (by omega), pay2_apply, pay8_apply, tile2, zero_add, ht, Finset.sum_range]
    exact Finset.sum_congr rfl fun r _ => by rw [Nat.zero_mul, Nat.zero_add]
  | i + 1, hi, t, ht => by
    have step : (outsAt0 m c t.val t.isLt).2.2.2.2.2 = k0_pay2 (k0_pay9 (iblk m c 2 t) (iblk m c 3 t)) (before m c t).2.2.2.2.2 (iblk m c 1 t) := by
      by_cases h3 : t.val % 4 = 3
      · exact acc2_C m c t (by omega) h3
      · exact acc2_B m c t (by omega) h3
    have ih := acc2 c k d i (by omega) ⟨t.val - 1, lt_of_le_of_lt (Nat.sub_le _ _) t.isLt⟩ (by dsimp only; omega)
    have e : (⟨(t.val - 1) / 4, by have := point_lt t; omega⟩ : Fin 4) = ⟨t.val / 4, by have := point_lt t; omega⟩ :=
      Fin.ext (by dsimp only; omega)
    rw [step, pay2_apply, tile2, ht, show (i + 1 + 1) * 1024 = (i + 1) * 1024 + 1024 by omega, ← sum_add_tile]
    exact congrArg₂ (· + ·) (ih.trans (by rw [e])) rfl

/-! ## The result arrays -/

theorem result0 (c : Dev nD) : Value.G6 m c = wsum (m ((c : Thread nD τ).loc main_arg4)) (m ((c : Thread nD τ).loc main_arg0)) := by
  funext i
  obtain ⟨f, k, d, rfl⟩ : ∃ (f : Fin 4) (k : Fin 704) (d : Fin 1024), i = ix3 f k d := ⟨i 0, i 1, i 2, eq_ix3 i⟩
  have hf := f.isLt
  have hk := k.isLt
  have hd := d.isLt
  have hp : Value.pt6Of (ix3 f k d) = 4 * f.val + 3 := by
    show 4 * (1 * (f.val / 1 - 0) + 1 * (k.val / 704 - 0) + 1 * (d.val / 1024 - 0)) + 3 = _
    omega
  have hl : Value.loc6Of (ix3 f k d) = ix3 0 k d := by
    funext a
    match a with
    | ⟨0, _⟩ => exact Fin.ext (Nat.mod_one _)
    | ⟨1, _⟩ => exact Fin.ext (Nat.mod_eq_of_lt hk)
    | ⟨2, _⟩ => exact Fin.ext (Nat.mod_eq_of_lt hd)
  have ht : Value.pt6Of (ix3 f k d) < cfg0.N := by rw [hp, show cfg0.N = 16 from N_0]; omega
  unfold Value.G6
  rw [dif_pos ht, ← Value.outsAt0_sweep m c _ ht, hl]
  have h3 : Value.pt6Of (ix3 f k d) % 4 = 3 := by rw [hp]; omega
  have e : (⟨Value.pt6Of (ix3 f k d) / 4, by rw [hp]; omega⟩ : Fin 4) = f := Fin.ext (by dsimp only; rw [hp]; omega)
  refine (congrFun (out6_C m c ⟨_, ht⟩ (by dsimp only; omega) h3) _).trans ((pay3_apply _ k d).trans
    ((acc0 m c k d 3 (by omega) ⟨_, ht⟩ h3).trans ?_))
  rw [← sum_term]
  exact Finset.sum_congr rfl fun r _ => by dsimp only; rw [e]

theorem result1 (c : Dev nD) : Value.G7 m c = wsum (m ((c : Thread nD τ).loc main_arg5)) (m ((c : Thread nD τ).loc main_arg0)) := by
  funext i
  obtain ⟨f, k, d, rfl⟩ : ∃ (f : Fin 4) (k : Fin 704) (d : Fin 1024), i = ix3 f k d := ⟨i 0, i 1, i 2, eq_ix3 i⟩
  have hf := f.isLt
  have hk := k.isLt
  have hd := d.isLt
  have hp : Value.pt7Of (ix3 f k d) = 4 * f.val + 3 := by
    show 4 * (1 * (f.val / 1 - 0) + 1 * (k.val / 704 - 0) + 1 * (d.val / 1024 - 0)) + 3 = _
    omega
  have hl : Value.loc7Of (ix3 f k d) = ix3 0 k d := by
    funext a
    match a with
    | ⟨0, _⟩ => exact Fin.ext (Nat.mod_one _)
    | ⟨1, _⟩ => exact Fin.ext (Nat.mod_eq_of_lt hk)
    | ⟨2, _⟩ => exact Fin.ext (Nat.mod_eq_of_lt hd)
  have ht : Value.pt7Of (ix3 f k d) < cfg0.N := by rw [hp, show cfg0.N = 16 from N_0]; omega
  unfold Value.G7
  rw [dif_pos ht, ← Value.outsAt0_sweep m c _ ht, hl]
  have h3 : Value.pt7Of (ix3 f k d) % 4 = 3 := by rw [hp]; omega
  have e : (⟨Value.pt7Of (ix3 f k d) / 4, by rw [hp]; omega⟩ : Fin 4) = f := Fin.ext (by dsimp only; rw [hp]; omega)
  refine (congrFun (out7_C m c ⟨_, ht⟩ (by dsimp only; omega) h3) _).trans ((pay4_apply _ k d).trans
    ((acc1 m c k d 3 (by omega) ⟨_, ht⟩ h3).trans ?_))
  rw [← sum_term]
  exact Finset.sum_congr rfl fun r _ => by dsimp only; rw [e]

theorem result2 (c : Dev nD) : Value.G8 m c = wsum (act (m ((c : Thread nD τ).loc main_arg2)) (m ((c : Thread nD τ).loc main_arg3))) (m ((c : Thread nD τ).loc main_arg1)) := by
  funext i
  obtain ⟨f, k, d, rfl⟩ : ∃ (f : Fin 4) (k : Fin 704) (d : Fin 1024), i = ix3 f k d := ⟨i 0, i 1, i 2, eq_ix3 i⟩
  have hf := f.isLt
  have hk := k.isLt
  have hd := d.isLt
  have hp : Value.pt8Of (ix3 f k d) = 4 * f.val + 3 := by
    show 4 * (1 * (f.val / 1 - 0) + 1 * (k.val / 704 - 0) + 1 * (d.val / 1024 - 0)) + 3 = _
    omega
  have hl : Value.loc8Of (ix3 f k d) = ix3 0 k d := by
    funext a
    match a with
    | ⟨0, _⟩ => exact Fin.ext (Nat.mod_one _)
    | ⟨1, _⟩ => exact Fin.ext (Nat.mod_eq_of_lt hk)
    | ⟨2, _⟩ => exact Fin.ext (Nat.mod_eq_of_lt hd)
  have ht : Value.pt8Of (ix3 f k d) < cfg0.N := by rw [hp, show cfg0.N = 16 from N_0]; omega
  unfold Value.G8
  rw [dif_pos ht, ← Value.outsAt0_sweep m c _ ht, hl]
  have h3 : Value.pt8Of (ix3 f k d) % 4 = 3 := by rw [hp]; omega
  have e : (⟨Value.pt8Of (ix3 f k d) / 4, by rw [hp]; omega⟩ : Fin 4) = f := Fin.ext (by dsimp only; rw [hp]; omega)
  refine (congrFun (out8_C m c ⟨_, ht⟩ (by dsimp only; omega) h3) _).trans ((pay5_apply _ k d).trans
    ((acc2 m c k d 3 (by omega) ⟨_, ht⟩ h3).trans ?_))
  rw [← sum_term]
  exact Finset.sum_congr rfl fun r _ => by dsimp only; rw [e]

end Cert.WGrad

end
-- ==== Proof.WGrad.Ref.lean ====
/-
  The weight gradients the reference computes, entry by entry, and that the kernel's are the same.
-/
module

public import proofs.«01_k».proof.Proof.WGrad.Kernel
public import proofs.«01_k».proof.Proof.Gen.FfnWRefIdeal.Run
public import proofs.«01_k».proof.Defs

@[expose] public section

set_option maxRecDepth 16384

noncomputable section

namespace Cert.WGrad.Ref

open Idealize.ShloMosaic Idealize.ShloMosaic.TcCoe Idealize.SL.Sem
open Cert.FfnWRefIdeal Cert.FfnWRefIdeal.Gen Cert.FfnWRefIdeal.Value

/-- The gradient of a weight applied to the sequence. -/
theorem input_weight (a : FVec Ideal S4x4096x704 .bf16) (h : FVec Ideal S4096x1024 .bf16) :
    truncf .bf16 (shapeCast S4x704x1024 (transpose S2816x1024 [1, 0] (transpose S1024x2816 [1, 0] (Host.dotGeneral dot_S4096x2816_S4096x1024_S2816x1024_0_0_1_1_n_n none (shapeCast S4096x2816 (transpose S4096x4x704 [1, 0, 2] (extf .f32 a bitsLt_bf16_f32) transposes_S4x4096x704_S4096x4x704_1_0_2) shapeCasts_S4096x4x704_S4096x2816) (extf .f32 h bitsLt_bf16_f32)) transposes_S2816x1024_S1024x2816_1_0) transposes_S1024x2816_S2816x1024_1_0) shapeCasts_S2816x1024_S4x704x1024) bitsLt_bf16_f32
      = wsum a h := by
  funext i
  obtain ⟨f, k, d, rfl⟩ : ∃ (f : Fin 4) (k : Fin 704) (d : Fin 1024), i = ix3 f k d := ⟨i 0, i 1, i 2, eq_ix3 i⟩
  unfold wsum
  pointwise

/-- The gradient of the weight the gated product is multiplied by. -/
theorem output_weight (g u : FVec Ideal S4x4096x704 .bf16) (dd : FVec Ideal S4096x1024 .bf16) :
    truncf .bf16 (shapeCast S4x704x1024 (transpose S2816x1024 [1, 0] (Host.dotGeneral dot_S4096x1024_S4096x2816_S1024x2816_0_0_1_1_n_n none (extf .f32 dd bitsLt_bf16_f32) (mulf (mulf (shapeCast S4096x2816 (transpose S4096x4x704 [1, 0, 2] (extf .f32 g bitsLt_bf16_f32) transposes_S4x4096x704_S4096x4x704_1_0_2) shapeCasts_S4096x4x704_S4096x2816) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (shapeCast S4096x2816 (transpose S4096x4x704 [1, 0, 2] (extf .f32 g bitsLt_bf16_f32) transposes_S4x4096x704_S4096x4x704_1_0_2) shapeCasts_S4096x4x704_S4096x2816)))))) (shapeCast S4096x2816 (transpose S4096x4x704 [1, 0, 2] (extf .f32 u bitsLt_bf16_f32) transposes_S4x4096x704_S4096x4x704_1_0_2) shapeCasts_S4096x4x704_S4096x2816))) transposes_S1024x2816_S2816x1024_1_0) shapeCasts_S2816x1024_S4x704x1024) bitsLt_bf16_f32
      = wsum (act g u) dd := by
  funext i
  obtain ⟨f, k, d, rfl⟩ : ∃ (f : Fin 4) (k : Fin 704) (d : Fin 1024), i = ix3 f k d := ⟨i 0, i 1, i 2, eq_ix3 i⟩
  unfold wsum act gated
  pointwise
  exact Finset.sum_congr rfl fun r _ => EReal.mul_comm _ _

/-- From any launch, the kernel's result arrays and the reference's are the same functions of the arguments. -/
theorem algebraic : Cert.algebraic_FfnWIdeal_FfnWRefIdeal := fun m g m' g' _ hagree =>
  ⟨fun c => wsum (m ((c.tc : Thread Cert.FfnWIdeal.nD Cert.FfnWIdeal.τ).loc Cert.FfnWIdeal.main_arg4)) (m ((c.tc : Thread Cert.FfnWIdeal.nD Cert.FfnWIdeal.τ).loc Cert.FfnWIdeal.main_arg0)),
    fun c => wsum (m ((c.tc : Thread Cert.FfnWIdeal.nD Cert.FfnWIdeal.τ).loc Cert.FfnWIdeal.main_arg5)) (m ((c.tc : Thread Cert.FfnWIdeal.nD Cert.FfnWIdeal.τ).loc Cert.FfnWIdeal.main_arg0)),
    fun c => wsum (act (m ((c.tc : Thread Cert.FfnWIdeal.nD Cert.FfnWIdeal.τ).loc Cert.FfnWIdeal.main_arg2)) (m ((c.tc : Thread Cert.FfnWIdeal.nD Cert.FfnWIdeal.τ).loc Cert.FfnWIdeal.main_arg3)))
      (m ((c.tc : Thread Cert.FfnWIdeal.nD Cert.FfnWIdeal.τ).loc Cert.FfnWIdeal.main_arg1)),
    (θ_run _ _ _).mono (fun _ h c => ⟨(h c).1.trans (Cert.WGrad.result0 m c), (h c).2.1.trans (Cert.WGrad.result1 m c),
      (h c).2.2.1.trans (Cert.WGrad.result2 m c), (h c).2.2.2⟩) (Cert.FfnWIdeal.Value.run m g),
    (θ_run _ _ _).mono (fun _ h c =>
      have e := hagree c
      ⟨(h c).1.trans ((input_weight _ _).trans (congrArg₂ wsum e.2.2.2.2.1 e.1)),
        (h c).2.1.trans ((input_weight _ _).trans (congrArg₂ wsum e.2.2.2.2.2 e.1)),
        (h c).2.2.1.trans ((output_weight _ _ _).trans (congrArg₂ wsum (congrArg₂ act e.2.2.1 e.2.2.2.1) e.2.1)),
        (h c).2.2.2⟩) (run m' g')⟩

end Cert.WGrad.Ref

end
-- ==== Proof.Fwd.Body.lean ====
/-
  One point of the gated product's grid: the body's triple in each of its three cases, over any float values, with what
  every buffer holds afterwards written out.
-/
module

public import proofs.«01_k».proof.Proof.Gen.FfnFIdeal.Skeleton
public import proofs.«01_k».proof.Proof.Gen.FfnFIdeal.Frame
public import Idealize.ShloMosaic.Lib.Pipeline.Value
public import Idealize.ShloMosaic.Lib.Pipeline.KitQuiescent

@[expose] public section

set_option maxRecDepth 16384

noncomputable section

namespace Cert.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFIdeal Cert.FfnFIdeal.Gen

variable {F : FTy → Type} [FloatOps F]

local notation "𝕄" => MT nD τ sig Unit (Elt F) ℕ (UR sig nD τ) ℕ

theorem hz2 : (![0, 0] : Fin 2 → Nat) = fun _ => 0 := by decide
theorem hz3 : (![0, 0, 0] : Fin 3 → Nat) = fun _ => 0 := by decide

/-- A buffer whose last store filled it whole reads as that store's value. -/
theorem read_stored {S : Shape} {e : EltTy} (v : View sig .tc .vmem S e) {off : Fin S.rank → Nat} (h : off = fun _ => 0)
    (inb : ∀ a, off a + S.size a ≤ S.size a) (f : v.ty.Contents (Elt F)) (w : S.Idx → Elt F e)
    (L : List (View.Piece (Elt F) S e)) :
    v.read (Elt F) (v.writes (Elt F) f (⟨Rect.unit (s := S) off S.size inb, w⟩ :: L)) = w := by
  rw [View.read_writes_eq_canon _ _ _ (fun y => ⟨_, List.mem_cons_self, View.mem_set_unit_zero h inb y⟩),
    View.canon_cons_unit_zero h]

set_option maxHeartbeats 1600000 in
/-- The first hidden chunk: the row's norm is stored, and the accumulator starts from zero. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S2x352x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024x704 .bf16) (harg10 : arg10.IsWhole) (arg11 : Memref sig .tc .vmem S1x1024x704 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .f32) (harg14 : arg14.IsWhole)
    (hc0 : k0_cond1 i = 1#1) (hc1 : ¬k0_cond2 i = 1#1)
    (x0 : Vec F S1024x1024 .f32) (x1 : Vec F S1x1024 .f32) (x2 : Vec F S1x1024 .f32) (x3 x4 : Vec F S1x704x1024 .bf16) (x5 : Vec F S2x352x1024 .bf16)
    (xi6 : Vec F S1024x1024 .f32) (xi10 : Vec F S1024x1024 .bf16) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare xi6
        ∗ (∃ d, owns (c : Thread nD τ) arg9 fullShare d)
        ∗ (∃ d, owns (c : Thread nD τ) arg10 fullShare d)
        ∗ (∃ d, owns (c : Thread nD τ) arg11 fullShare d)
        ∗ owns (c : Thread nD τ) arg12 fullShare xi10
        ∗ (∃ d, owns (c : Thread nD τ) arg13 fullShare d)
        ∗ (∃ d, owns (c : Thread nD τ) arg14 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare (k0_pay4 x0 x1)
            ∗ owns (c : Thread nD τ) arg10 fullShare (k0_pay9 (k0_pay5 x0 x1) x3)
            ∗ owns (c : Thread nD τ) arg11 fullShare (k0_pay10 (k0_pay5 x0 x1) x4)
            ∗ owns (c : Thread nD τ) arg12 fullShare xi10
            ∗ owns (c : Thread nD τ) arg13 fullShare (k0_pay5 x0 x1)
            ∗ owns (c : Thread nD τ) arg14 fullShare (k0_pay1 k0_pay6 (k0_pay11 (k0_pay5 x0 x1) x3 x4) x5)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14) K := by
  simp only [cc0_ffn_fwd_eq_skeleton]; unfold cc0_ffn_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg12.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]
  isplitl [H8]
  · iexists _; isplitr
    swap; · iexact H8
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg12.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]
  isplitl [H9]
  · iexists _; isplitr
    swap; · iexact H9
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg12.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]
  isplitl [H10]
  · iexists _; isplitr; · ipureintro; exact harg12.read_unread _
    iexact H10
  isplitl [H11]
  · iexists _; isplitr
    swap; · iexact H11
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg12.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]
  · iexists _; isplitr
    swap; · iexact H12
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg12.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]

set_option maxHeartbeats 1600000 in
/-- A middle chunk: the product of this chunk is added to the accumulator. -/
theorem run_mid (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S2x352x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024x704 .bf16) (harg10 : arg10.IsWhole) (arg11 : Memref sig .tc .vmem S1x1024x704 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .f32) (harg14 : arg14.IsWhole)
    (hc0 : ¬k0_cond1 i = 1#1) (hc1 : ¬k0_cond2 i = 1#1)
    (x0 : Vec F S1024x1024 .f32) (x1 : Vec F S1x1024 .f32) (x2 : Vec F S1x1024 .f32) (x3 x4 : Vec F S1x704x1024 .bf16) (x5 : Vec F S2x352x1024 .bf16)
    (xi6 : Vec F S1024x1024 .f32) (xi7 xi10 hs : Vec F S1024x1024 .bf16) (acc : Vec F S1024x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare xi6
        ∗ owns (c : Thread nD τ) arg9 fullShare xi7
        ∗ (∃ d, owns (c : Thread nD τ) arg10 fullShare d)
        ∗ (∃ d, owns (c : Thread nD τ) arg11 fullShare d)
        ∗ owns (c : Thread nD τ) arg12 fullShare xi10
        ∗ owns (c : Thread nD τ) arg13 fullShare hs
        ∗ owns (c : Thread nD τ) arg14 fullShare acc
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xi7
            ∗ owns (c : Thread nD τ) arg10 fullShare (k0_pay9 hs x3)
            ∗ owns (c : Thread nD τ) arg11 fullShare (k0_pay10 hs x4)
            ∗ owns (c : Thread nD τ) arg12 fullShare xi10
            ∗ owns (c : Thread nD τ) arg13 fullShare hs
            ∗ owns (c : Thread nD τ) arg14 fullShare (k0_pay1 acc (k0_pay11 hs x3 x4) x5)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14) K := by
  simp only [cc0_ffn_fwd_eq_skeleton]; unfold cc0_ffn_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hf11; obtain rfl := harg14.eq_unread hf12
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg12.read_unread, harg13.read_unread, harg14.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]
  isplitl [H9]
  · iexists _; isplitr
    swap; · iexact H9
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg12.read_unread, harg13.read_unread, harg14.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]
  isplitl [H10]
  · iexists _; isplitr; · ipureintro; exact harg12.read_unread _
    iexact H10
  isplitl [H11]
  · iexists _; isplitr; · ipureintro; exact harg13.read_unread _
    iexact H11
  · iexists _; isplitr
    swap; · iexact H12
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg12.read_unread, harg13.read_unread, harg14.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]

set_option maxHeartbeats 1600000 in
/-- The last chunk: the accumulator is complete, and the row's result is stored. -/
theorem run_last (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S2x352x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024x704 .bf16) (harg10 : arg10.IsWhole) (arg11 : Memref sig .tc .vmem S1x1024x704 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .f32) (harg14 : arg14.IsWhole)
    (hc0 : ¬k0_cond1 i = 1#1) (hc1 : k0_cond2 i = 1#1)
    (x0 : Vec F S1024x1024 .f32) (x1 : Vec F S1x1024 .f32) (x2 : Vec F S1x1024 .f32) (x3 x4 : Vec F S1x704x1024 .bf16) (x5 : Vec F S2x352x1024 .bf16)
    (xi7 hs : Vec F S1024x1024 .bf16) (acc : Vec F S1024x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ owns (c : Thread nD τ) arg9 fullShare xi7
        ∗ (∃ d, owns (c : Thread nD τ) arg10 fullShare d)
        ∗ (∃ d, owns (c : Thread nD τ) arg11 fullShare d)
        ∗ (∃ d, owns (c : Thread nD τ) arg12 fullShare d)
        ∗ owns (c : Thread nD τ) arg13 fullShare hs
        ∗ owns (c : Thread nD τ) arg14 fullShare acc
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (k0_pay3 (k0_pay1 acc (k0_pay11 hs x3 x4) x5) x0 x2)
            ∗ owns (c : Thread nD τ) arg9 fullShare xi7
            ∗ owns (c : Thread nD τ) arg10 fullShare (k0_pay9 hs x3)
            ∗ owns (c : Thread nD τ) arg11 fullShare (k0_pay10 hs x4)
            ∗ owns (c : Thread nD τ) arg12 fullShare (k0_pay2 (k0_pay1 acc (k0_pay11 hs x3 x4) x5))
            ∗ owns (c : Thread nD τ) arg13 fullShare hs
            ∗ owns (c : Thread nD τ) arg14 fullShare (k0_pay1 acc (k0_pay11 hs x3 x4) x5)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13 arg14 harg14) K := by
  simp only [cc0_ffn_fwd_eq_skeleton]; unfold cc0_ffn_fwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg13.eq_unread hf11; obtain rfl := harg14.eq_unread hf12
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    refine (read_stored _ hz2 _ _ _ _).trans ?_
    simp only [View.readAt_eq_ld, harg2.read_unread, harg3.read_unread, harg4.read_unread, harg5.read_unread, harg6.read_unread, harg7.read_unread, harg9.read_unread, harg13.read_unread, harg14.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]
  isplitl [H7]
  · iexists _; isplitr; · ipureintro; exact harg9.read_unread _
    iexact H7
  isplitl [H8]
  · iexists _; isplitr
    swap; · iexact H8
    ipureintro
    sl_unfold_words
    refine (read_stored _ hz3 _ _ _ _).trans ?_
    simp only [View.readAt_eq_ld, harg2.read_unread, harg3.read_unread, harg4.read_unread, harg5.read_unread, harg6.read_unread, harg7.read_unread, harg9.read_unread, harg13.read_unread, harg14.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]
  isplitl [H9]
  · iexists _; isplitr
    swap; · iexact H9
    ipureintro
    sl_unfold_words
    refine (read_stored _ hz3 _ _ _ _).trans ?_
    simp only [View.readAt_eq_ld, harg2.read_unread, harg3.read_unread, harg4.read_unread, harg5.read_unread, harg6.read_unread, harg7.read_unread, harg9.read_unread, harg13.read_unread, harg14.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]
  isplitl [H10]
  · iexists _; isplitr
    swap; · iexact H10
    ipureintro
    sl_unfold_words
    refine (read_stored _ hz2 _ _ _ _).trans ?_
    simp only [View.readAt_eq_ld, harg2.read_unread, harg3.read_unread, harg4.read_unread, harg5.read_unread, harg6.read_unread, harg7.read_unread, harg9.read_unread, harg13.read_unread, harg14.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]
  isplitl [H11]
  · iexists _; isplitr; · ipureintro; exact harg13.read_unread _
    iexact H11
  · iexists _; isplitr
    swap; · iexact H12
    ipureintro
    sl_unfold_words
    refine (read_stored _ hz2 _ _ _ _).trans ?_
    simp only [View.readAt_eq_ld, harg2.read_unread, harg3.read_unread, harg4.read_unread, harg5.read_unread, harg6.read_unread, harg7.read_unread, harg9.read_unread, harg13.read_unread, harg14.read_unread, View.ld_unit_zero (S := S1024x1024) hz2, View.ld_unit_zero (S := S1x1024) hz2, View.ld_unit_zero (S := S1x704x1024) hz3, View.ld_unit_zero (S := S2x352x1024) hz3, View.readCov_unit_zero (S := S1024x1024) _ hz2]

end Cert.Fwd

end
-- ==== Proof.Fwd.Run.lean ====
/-
  The gated product's grid, run: what the scratch and the output blocks hold after each point, the body obligation at
  every point, and the launch. Everything is over any float values, so that both frames come from the one run.
-/
module

public import proofs.«01_k».proof.Proof.Fwd.Body
public import Idealize.ShloMosaic.Lib.Claim

@[expose] public section

set_option maxRecDepth 16384

noncomputable section

namespace Cert.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFIdeal Cert.FfnFIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem point_lt (t : Fin cfg0.N) : t.val < 16 := lt_of_lt_of_eq t.isLt (show cfg0.N = 16 from N_0)

theorem first_iff (t : Fin cfg0.N) : k0_cond1 (grid0.coords t) = 1#1 ↔ t.val % 4 = 0 := by
  have ht := point_lt t
  have e0 : (grid0.coords t 0).val = t.val / 4 % 4 := Pipeline.Grid.coords_val t 0 (by decide) rfl
  have e1 : (grid0.coords t 1).val = t.val / 1 % 4 := Pipeline.Grid.coords_val t 1 (by decide) rfl
  simp only [k0_cond1, e0, e1]
  word_cmp

theorem last_iff (t : Fin cfg0.N) : k0_cond2 (grid0.coords t) = 1#1 ↔ t.val % 4 = 3 := by
  have ht := point_lt t
  have e0 : (grid0.coords t 0).val = t.val / 4 % 4 := Pipeline.Grid.coords_val t 0 (by decide) rfl
  have e1 : (grid0.coords t 1).val = t.val / 1 % 4 := Pipeline.Grid.coords_val t 1 (by decide) rfl
  simp only [k0_cond2, e0, e1]
  word_cmp

theorem idle6_of_ne (t : Fin cfg0.N) (h : ¬t.val % 4 = 3) : cfg0.idle 6 (grid0.coords t) = true := by
  show (!(k0_cond2 (grid0.coords t) == 1#1)) = true
  rw [beq_eq_false_iff_ne.mpr (fun e => h ((last_iff t).mp e))]; rfl
theorem live6_of_eq (t : Fin cfg0.N) (h : t.val % 4 = 3) : cfg0.idle 6 (grid0.coords t) = false := by
  show (!(k0_cond2 (grid0.coords t) == 1#1)) = false
  rw [(last_iff t).mpr h]; rfl
theorem idle10_of_ne (t : Fin cfg0.N) (h : ¬t.val % 4 = 3) : cfg0.idle 10 (grid0.coords t) = true := idle6_of_ne t h
theorem live10_of_eq (t : Fin cfg0.N) (h : t.val % 4 = 3) : cfg0.idle 10 (grid0.coords t) = false := live6_of_eq t h
theorem idle7_of_ne (t : Fin cfg0.N) (h : ¬t.val % 4 = 0) : cfg0.idle 7 (grid0.coords t) = true := by
  show (!(k0_cond1 (grid0.coords t) == 1#1)) = true
  rw [beq_eq_false_iff_ne.mpr (fun e => h ((first_iff t).mp e))]; rfl
theorem live7_of_eq (t : Fin cfg0.N) (h : t.val % 4 = 0) : cfg0.idle 7 (grid0.coords t) = false := by
  show (!(k0_cond1 (grid0.coords t) == 1#1)) = false
  rw [(first_iff t).mpr h]; rfl
theorem noflush6 (t : Fin cfg0.N) (h : ¬t.val % 4 = 3) : (cfg0.win 6).flush t = false :=
  Bool.eq_false_iff.mpr fun e => h ((flush0_6 t).mp e)
theorem noflush7 (t : Fin cfg0.N) (h : ¬t.val % 4 = 3) : (cfg0.win 7).flush t = false :=
  Bool.eq_false_iff.mpr fun e => h ((flush0_7 t).mp e)
theorem noflush10 (t : Fin cfg0.N) (h : ¬t.val % 4 = 3) : (cfg0.win 10).flush t = false :=
  Bool.eq_false_iff.mpr fun e => h ((flush0_10 t).mp e)

/-- The first point of the row block `t` lies in, and the point before `t`. -/
def start (t : Fin cfg0.N) : Fin cfg0.N := ⟨t.val - t.val % 4, Nat.lt_of_le_of_lt (Nat.sub_le _ _) t.isLt⟩
def pred (t : Fin cfg0.N) : Fin cfg0.N := ⟨t.val - 1, Nat.lt_of_le_of_lt (Nat.sub_le _ _) t.isLt⟩

theorem start_of_eq (t : Fin cfg0.N) (h : t.val % 4 = 0) : start t = t :=
  Fin.ext (by show t.val - t.val % 4 = t.val; omega)
theorem start_pred (t : Fin cfg0.N) (h : ¬t.val % 4 = 0) : start (pred t) = start t :=
  Fin.ext (by show t.val - 1 - (t.val - 1) % 4 = t.val - t.val % 4; omega)

/-! ## What the buffers hold after a point -/

/-- The row's norm, as the output block holds it and as the scratch does. -/
def normAt (c : Dev nD) (t : Fin cfg0.N) : Vec F S1024x1024 .bf16 := k0_pay4 (iblk m c 0 (start t)) (iblk m c 1 (start t))
def heldAt (c : Dev nD) (t : Fin cfg0.N) : Vec F S1024x1024 .bf16 := k0_pay5 (iblk m c 0 (start t)) (iblk m c 1 (start t))

/-- The accumulator with this point's product added. -/
def addAt (c : Dev nD) (t : Fin cfg0.N) (acc : Vec F S1024x1024 .f32) : Vec F S1024x1024 .f32 :=
  k0_pay1 acc (k0_pay11 (heldAt m c t) (iblk m c 3 t) (iblk m c 4 t)) (iblk m c 5 t)

def accAt (c : Dev nD) : (n : ℕ) → n < cfg0.N → Vec F S1024x1024 .f32
  | 0, hn => addAt m c ⟨0, hn⟩ k0_pay6
  | n + 1, hn =>
    if (n + 1) % 4 = 0 then addAt m c ⟨n + 1, hn⟩ k0_pay6
    else addAt m c ⟨n + 1, hn⟩ (accAt c n (Nat.lt_of_succ_lt hn))

theorem accAt_first (c : Dev nD) (t : Fin cfg0.N) (h : t.val % 4 = 0) : accAt m c t.val t.isLt = addAt m c t k0_pay6 := by
  obtain ⟨n, hn⟩ := t
  cases n with
  | zero => rfl
  | succ n => unfold accAt; rw [if_pos h]

theorem accAt_next (c : Dev nD) (t : Fin cfg0.N) (h : ¬t.val % 4 = 0) :
    accAt m c t.val t.isLt = addAt m c t (accAt m c (t.val - 1) (pred t).isLt) := by
  obtain ⟨n, hn⟩ := t
  cases n with
  | zero => exact absurd rfl h
  | succ n => rw [accAt, if_neg h]; rfl

theorem heldAt_pred (c : Dev nD) (t : Fin cfg0.N) (h : ¬t.val % 4 = 0) : heldAt m c (pred t) = heldAt m c t := by
  unfold heldAt; rw [start_pred t h]

/-! ## The invariant and the proof data -/

abbrev scr0 : Memref sig .tc .vmem S1024x1024 .bf16 := Memref.whole cc0_scratch0
abbrev scr1 : Memref sig .tc .vmem S1024x1024 .f32 := Memref.whole cc0_scratch1

theorem PhiA_eq (c : Dev nD) : (Pipeline.ΦA spec0 c : sProp 𝕄)
    = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- Before the first point the scratch holds anything; afterwards the norm and the accumulator of the point before. -/
def Inv (c : Dev nD) : (n : ℕ) → n ≤ cfg0.N → sProp 𝕄
  | 0, _ => Pipeline.ΦA spec0 c
  | n + 1, hn => iprop(iprop(owns (c : Thread nD τ) scr0 fullShare (heldAt m c ⟨n, hn⟩) ∗ owns (c : Thread nD τ) scr1 fullShare (accAt m c n hn)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) scr0 fullShare (heldAt m c ⟨n, hn⟩) ∗ owns (c : Thread nD τ) scr1 fullShare (accAt m c n hn)) ∗ (∃ r, prngReg c r)) := rfl

theorem Inv_pos (c : Dev nD) (t : Fin cfg0.N) (hz : t.val ≠ 0) :
    Inv m c t.val (Nat.le_of_lt t.isLt) = iprop(iprop(owns (c : Thread nD τ) scr0 fullShare (heldAt m c (pred t)) ∗ owns (c : Thread nD τ) scr1 fullShare (accAt m c (t.val - 1) (pred t).isLt)) ∗ (∃ r, prngReg c r)) := by
  obtain ⟨n, hn⟩ := t
  cases n with
  | zero => exact absurd rfl hz
  | succ n => rfl

/-- From any point on, the scratch can be handed over at anything. -/
theorem Inv_forget (c : Dev nD) (n : ℕ) (h : n ≤ cfg0.N) : Inv m c n h ⊢ Pipeline.ΦA spec0 c := by
  cases n with
  | zero => exact Idealize.SL.BI.Entails.refl _
  | succ n =>
    rw [Inv_succ, PhiA_eq]
    iintro ⟨⟨HS0, HS1⟩, Hg⟩
    isplitl [HS0 HS1]
    · isplitl [HS0]
      · iexists _; iexact HS0
      iexists _; iexact HS1
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (accAt m c t.val t.isLt) (iblk m c 0 t) (iblk m c 2 t)
    | ⟨7, _⟩ => normAt m c t
    | ⟨8, _⟩ => k0_pay9 (heldAt m c t) (iblk m c 3 t)
    | ⟨9, _⟩ => k0_pay10 (heldAt m c t) (iblk m c 4 t)
    | ⟨10, _⟩ => k0_pay2 (accAt m c t.val t.isLt)
  Φ t := Inv m c t.val (Nat.le_of_lt_succ t.isLt)
  q w := Pipeline.shareOf cfg0.spec w
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay3 (accAt m c t.val t.isLt) (iblk m c 0 t) (iblk m c 2 t) := by dsimp only [dats]
theorem after7 (c : Dev nD) (t : Fin cfg0.N) : (dats m 0 c).after 7 t = normAt m c t := by dsimp only [dats]
theorem after8 (c : Dev nD) (t : Fin cfg0.N) : (dats m 0 c).after 8 t = k0_pay9 (heldAt m c t) (iblk m c 3 t) := by dsimp only [dats]
theorem after9 (c : Dev nD) (t : Fin cfg0.N) : (dats m 0 c).after 9 t = k0_pay10 (heldAt m c t) (iblk m c 4 t) := by dsimp only [dats]
theorem after10 (c : Dev nD) (t : Fin cfg0.N) : (dats m 0 c).after 10 t = k0_pay2 (accAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Past the first chunk of a row block the norm's buffer still holds what that chunk stored. -/
theorem before7 (c : Dev nD) : ∀ (j : ℕ) (t : Fin cfg0.N) (d), t.val % 4 = j + 1 → (dats m 0 c).before 7 t d = normAt m c t := by
  intro j
  induction j with
  | zero =>
    intro t d ht
    have hp : (pred t).val % 4 = 0 := by show (t.val - 1) % 4 = 0; omega
    rw [(dats m 0 c).before_of_pos 7 t (by omega) ((cfg0.win 7).fetch_out rfl t)]
    rw [show (cfg0.win 7).flush ⟨t.val - 1, _⟩ = false from noflush7 (pred t) (by omega), if_neg Bool.false_ne_true]
    show (dats m 0 c).left 7 (pred t) d = _
    unfold Dat.left
    rw [show cfg0.idle 7 (cfg0.grid.coords (pred t)) = false from live7_of_eq (pred t) hp]
    show (dats m 0 c).kept 7 (pred t) d = _
    unfold Dat.kept
    rw [Pipeline.fill_of_clip_none 7 _ (fun _ => rfl) d ((dats m 0 c).after 7 (pred t)), Window.fill_cut, after7]
    unfold normAt; rw [start_pred t (by omega)]
  | succ j ih =>
    intro t d ht
    have hlt := Nat.mod_lt t.val (show 0 < 4 by decide)
    have hp : (pred t).val % 4 = j + 1 := by show (t.val - 1) % 4 = j + 1; omega
    rw [(dats m 0 c).before_of_pos 7 t (by omega) ((cfg0.win 7).fetch_out rfl t)]
    rw [show (cfg0.win 7).flush ⟨t.val - 1, _⟩ = false from noflush7 (pred t) (by omega), if_neg Bool.false_ne_true]
    show (dats m 0 c).left 7 (pred t) d = _
    unfold Dat.left
    rw [show cfg0.idle 7 (cfg0.grid.coords (pred t)) = true from idle7_of_ne (pred t) (by omega)]
    show (dats m 0 c).before 7 (pred t) d = _
    rw [ih (pred t) d hp]
    unfold normAt; rw [start_pred t (by omega)]

theorem before7_of_ne (c : Dev nD) (t : Fin cfg0.N) (d) (h : ¬t.val % 4 = 0) : (dats m 0 c).before 7 t d = normAt m c t :=
  before7 m c (t.val % 4 - 1) t d (by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (st0_5 t) fullShare (iblk m c 5 t) := by
  unfold Dat.leavesExact; rw [show cfg0.idle 5 (cfg0.grid.coords t) = false from rfl, after5]
theorem leaves8 (c : Dev nD) (t : Fin cfg0.N) : (dats m 0 c).leavesExact 8 t = owns (c : Thread nD τ) (st0_8 t) fullShare (k0_pay9 (heldAt m c t) (iblk m c 3 t)) := by
  unfold Dat.leavesExact; rw [show cfg0.idle 8 (cfg0.grid.coords t) = false from rfl, after8]
theorem leaves9 (c : Dev nD) (t : Fin cfg0.N) : (dats m 0 c).leavesExact 9 t = owns (c : Thread nD τ) (st0_9 t) fullShare (k0_pay10 (heldAt m c t) (iblk m c 4 t)) := by
  unfold Dat.leavesExact; rw [show cfg0.idle 9 (cfg0.grid.coords t) = false from rfl, after9]
theorem leaves6 (c : Dev nD) (t : Fin cfg0.N) (h : t.val % 4 = 3) : (dats m 0 c).leavesExact 6 t = owns (c : Thread nD τ) (st0_6 t) fullShare (k0_pay3 (accAt m c t.val t.isLt) (iblk m c 0 t) (iblk m c 2 t)) := by
  unfold Dat.leavesExact; rw [show cfg0.idle 6 (cfg0.grid.coords t) = false from live6_of_eq t h, after6]
theorem leaves10 (c : Dev nD) (t : Fin cfg0.N) (h : t.val % 4 = 3) : (dats m 0 c).leavesExact 10 t = owns (c : Thread nD τ) (st0_10 t) fullShare (k0_pay2 (accAt m c t.val t.isLt)) := by
  unfold Dat.leavesExact; rw [show cfg0.idle 10 (cfg0.grid.coords t) = false from live10_of_eq t h, after10]
theorem leaves7_first (c : Dev nD) (t : Fin cfg0.N) (h : t.val % 4 = 0) : (dats m 0 c).leavesExact 7 t = owns (c : Thread nD τ) (st0_7 t) fullShare (normAt m c t) := by
  unfold Dat.leavesExact; rw [show cfg0.idle 7 (cfg0.grid.coords t) = false from live7_of_eq t h, after7]
theorem leaves7_last (c : Dev nD) (t : Fin cfg0.N) (h : t.val % 4 = 3) : (dats m 0 c).leavesExact 7 t = owns (c : Thread nD τ) (st0_7 t) fullShare (normAt m c t) := by
  unfold Dat.leavesExact; rw [show cfg0.idle 7 (cfg0.grid.coords t) = true from idle7_of_ne t (by omega), show (cfg0.win 7).flush t = true from (flush0_7 t).mpr h, after7]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) t.isLt from rfl, Inv_succ]
  rw [leaves0, leaves1, leaves2, leaves3, leaves4, leaves5, leaves8, leaves9, Inv_castSucc m c t]
  have hN := point_lt t
  by_cases h0 : t.val % 4 = 0
  · have h1 : ¬t.val % 4 = 3 := by omega
    rw [leaves7_first m c t h0, (dats m 0 c).leavesExact_idle 6 t (idle6_of_ne t h1) (noflush6 t h1),
      (dats m 0 c).leavesExact_idle 10 t (idle10_of_ne t h1) (noflush10 t h1)]
    refine (show iprop(Inv m c t.val (Nat.le_of_lt t.isLt) ∗ _) ⊢ iprop(Pipeline.ΦA spec0 c ∗ _) from sep_mono_left (Inv_forget m c t.val _)).trans ?_
    rw [PhiA_eq, accAt_first m c t h0]
    unfold addAt normAt heldAt
    rw [start_of_eq t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid0.coords t) _ _ _ _ _ _ _ _ _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (iblk m c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    iexists _; iexact H10
  · rw [Inv_pos m c t (by omega), heldAt_pred m c t h0, accAt_next m c t h0]
    simp only [before7_of_ne m c t _ h0]
    unfold addAt
    by_cases h1 : t.val % 4 = 3
    · rw [leaves7_last m c t h1, leaves6 m c t h1, leaves10 m c t h1, accAt_next m c t h0]
      unfold addAt
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c (grid0.coords t) _ _ _ _ _ _ _ _ _ _ _ _ _ _ _ _ _ _ _ _ _ _ _ _ _ _ (fun h => h0 ((first_iff t).mp h)) ((last_iff t).mpr h1) (iblk m c 0 t) (iblk m c 1 t) (iblk m c 2 t) (iblk m c 3 t) (iblk m c 4 t) (iblk m c 5 t) (normAt m c t) (heldAt m c t) (accAt m c (t.val - 1) (pred t).isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [(dats m 0 c).leavesExact_idle 7 t (idle7_of_ne t h0) (noflush7 t h1), (dats m 0 c).leavesExact_idle 6 t (idle6_of_ne t h1) (noflush6 t h1),
        (dats m 0 c).leavesExact_idle 10 t (idle10_of_ne t h1) (noflush10 t h1)]
      simp only [before7_of_ne m c t _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c (grid0.coords t) _ _ _ _ _ _ _ _ _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) _ (normAt m c t) _ (heldAt m c t) (accAt m c (t.val - 1) (pred t).isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists d7; iexact H7
      isplitl [H8]; · iexact H8
      isplitl [H9]; · iexact H9
      iexists _; iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_forget m c _ _

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The argument arrays end as they began, and no semaphore is left counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Fwd

end
-- ==== Proof.Fwd.Kernel.lean ====
/-
  What the kernel computes, entry by entry: its five result arrays as functions of the arguments.

  A point adds one chunk of 704 hidden units to the accumulator, so after `f + 1` chunks it holds the sum over the first
  `704 (f + 1)` of them, and after the fourth the sum over all 2816.
-/
module

public import proofs.«01_k».proof.Proof.Fwd.Run
public import proofs.«01_k».proof.Proof.Sigmoid
public import Idealize.ShloMosaic.Lib.Pointwise

@[expose] public section

set_option maxRecDepth 16384

noncomputable section

namespace Cert.Fwd

open Idealize.ShloMosaic Idealize.ShloMosaic.TcCoe Idealize.SL.Sem
open Idealize.ShloMosaic.Pipeline (Dat)

/-! ## The functions -/

/-- A row divided by its root mean square, times a gain. -/
def normed (v g : Fin 1024 → EReal) (d : Fin 1024) : EReal :=
  v d * Ideal.rsqrt (Ideal.div (∑ e : Fin 1024, v e * v e) (Ideal.ofBits .f32 0x44800000#32) + Ideal.ofBits .f32 0x358637BD#32) * g d

/-- `g * logistic g * u`. -/
def gated (x y : EReal) : EReal := x * Ideal.logistic x * y

abbrev Rows (e : EltTy) : Type := Vec Ideal ⟨2, ![4096, 1024]⟩ e
abbrev Gain : Type := Vec Ideal ⟨2, ![1, 1024]⟩ .f32
abbrev UpW : Type := Vec Ideal ⟨3, ![8, 704, 1024]⟩ .bf16
abbrev DownW : Type := Vec Ideal ⟨3, ![8, 352, 1024]⟩ .bf16
abbrev Hidden : Type := Vec Ideal ⟨3, ![4, 4096, 704]⟩ .bf16

/-- The normed row `r` of `x`. -/
def rowN (x : Rows .f32) (g : Gain) (r : Fin 4096) : Fin 1024 → EReal :=
  normed (fun d => x (ix2 r d)) (fun d => g (ix2 0 d))

/-- Its product with row `(f, k)` of the stacked weights. -/
def unit (x : Rows .f32) (g : Gain) (w : UpW) (r : Fin 4096) (f : Fin 8) (k : Fin 704) : EReal :=
  ∑ d : Fin 1024, rowN x g r d * w (ix3 f k d)

/-- Hidden unit `j`'s term of the output at `(r, d)`; zero past the last unit. -/
def term (x : Rows .f32) (g : Gain) (w : UpW) (wd : DownW) (r : Fin 4096) (d : Fin 1024) (j : ℕ) : EReal :=
  if h : j < 2816 then
    gated (unit x g w r ⟨j / 704, by omega⟩ ⟨j % 704, by omega⟩) (unit x g w r ⟨j / 704 + 4, by omega⟩ ⟨j % 704, by omega⟩)
      * wd (ix3 ⟨j / 352, by omega⟩ ⟨j % 352, by omega⟩ d)
  else 0

def down (x : Rows .f32) (g : Gain) (w : UpW) (wd : DownW) (r : Fin 4096) (d : Fin 1024) : EReal :=
  ∑ j ∈ Finset.range 2816, term x g w wd r d j

/-- The five results. -/
def outX (x : Rows .f32) (g p : Gain) (w : UpW) (wd : DownW) : Rows .f32 := fun i =>
  (x (ix2 (i 0) (i 1)) : EReal) + Ideal.ofBits .f32 0x3F000000#32 * normed (down x g w wd (i 0)) (fun d => p (ix2 0 d)) (i 1)
def outH (x : Rows .f32) (g : Gain) : Rows .bf16 := fun i => rowN x g (i 0) (i 1)
def outG (x : Rows .f32) (g : Gain) (w : UpW) : Hidden := fun i =>
  unit x g w (i 1) ⟨(i 0).val, lt_of_lt_of_le (i 0).isLt (by decide)⟩ (i 2)
def outU (x : Rows .f32) (g : Gain) (w : UpW) : Hidden := fun i =>
  unit x g w (i 1) ⟨(i 0).val + 4, Nat.add_lt_add_right (i 0).isLt 4⟩ (i 2)
def outD (x : Rows .f32) (g : Gain) (w : UpW) (wd : DownW) : Rows .bf16 := fun i => down x g w wd (i 0) (i 1)

theorem sum_add_chunk (X : ℕ → EReal) (n w : ℕ) :
    ∑ r ∈ Finset.range n, X r + ∑ r : Fin w, X (n + r.val) = ∑ r ∈ Finset.range (n + w), X r := by
  rw [Finset.sum_range_add, ← Finset.sum_range (fun r => X (n + r))]

/-- A row's product with a row of weights. -/
def dotp (a b : Fin 1024 → EReal) : EReal := ∑ d : Fin 1024, a d * b d

/-- A chunk's sum over its 704 units. -/
def chunk (g u w : Fin 704 → EReal) : EReal := ∑ k : Fin 704, gated (g k) (u k) * w k

theorem mul_congr {x x' y y' : EReal} (hx : x = x') (hy : y = y') : x * y = x' * y' := hx ▸ hy ▸ rfl

/-! ## The payloads at an entry -/

open Cert.FfnFIdeal Cert.FfnFIdeal.Gen

theorem pay6_apply (r d : Fin 1024) : k0_pay6 (F := Ideal) (ix2 r d) = (0 : EReal) := by
  unfold k0_pay6; pointwise

theorem pay4_apply (x : Vec Ideal S1024x1024 .f32) (g : Vec Ideal S1x1024 .f32) (r d : Fin 1024) :
    k0_pay4 x g (ix2 r d) = normed (fun d => x (ix2 r d)) (fun d => g (ix2 0 d)) d := by
  unfold k0_pay4 normed; pointwise

theorem pay5_apply (x : Vec Ideal S1024x1024 .f32) (g : Vec Ideal S1x1024 .f32) (r d : Fin 1024) :
    k0_pay5 x g (ix2 r d) = normed (fun d => x (ix2 r d)) (fun d => g (ix2 0 d)) d := by
  unfold k0_pay5 k0_pay4 normed; pointwise

theorem pay9_apply (h : Vec Ideal S1024x1024 .bf16) (w : Vec Ideal S1x704x1024 .bf16) (r : Fin 1024) (k : Fin 704) :
    k0_pay9 h w (ix3 0 r k) = dotp (fun d => h (ix2 r d)) (fun d => w (ix3 0 k d)) := by
  unfold k0_pay9 k0_pay7 dotp; pointwise

theorem pay10_apply (h : Vec Ideal S1024x1024 .bf16) (w : Vec Ideal S1x704x1024 .bf16) (r : Fin 1024) (k : Fin 704) :
    k0_pay10 h w (ix3 0 r k) = dotp (fun d => h (ix2 r d)) (fun d => w (ix3 0 k d)) := by
  unfold k0_pay10 k0_pay8 dotp; pointwise

theorem pay1_apply (acc : Vec Ideal S1024x1024 .f32) (h : Vec Ideal S1024x1024 .bf16) (wg wu : Vec Ideal S1x704x1024 .bf16)
    (wd : Vec Ideal S2x352x1024 .bf16) (r d : Fin 1024) :
    k0_pay1 acc (k0_pay11 h wg wu) wd (ix2 r d) = (acc (ix2 r d) : EReal)
      + chunk (fun k => dotp (fun d => h (ix2 r d)) (fun d => wg (ix3 0 k d))) (fun k => dotp (fun d => h (ix2 r d)) (fun d => wu (ix3 0 k d)))
          (fun k => wd (ix3 ⟨k.val / 352, by omega⟩ ⟨k.val % 352, by omega⟩ d)) := by
  unfold k0_pay1 k0_pay11 k0_pay7 k0_pay8 chunk gated dotp
  pointwise
  rw [Sigmoid.ofBits_half_bf16]
  simp only [Sigmoid.half_tanh]

theorem pay2_apply (acc : Vec Ideal S1024x1024 .f32) (r d : Fin 1024) : k0_pay2 acc (ix2 r d) = acc (ix2 r d) := by
  unfold k0_pay2; pointwise

theorem pay3_apply (acc x : Vec Ideal S1024x1024 .f32) (g : Vec Ideal S1x1024 .f32) (r d : Fin 1024) :
    k0_pay3 acc x g (ix2 r d) = (x (ix2 r d) : EReal)
      + Ideal.ofBits .f32 0x3F000000#32 * normed (fun d => acc (ix2 r d)) (fun d => g (ix2 0 d)) d := by
  unfold k0_pay3 normed; pointwise

/-! ## The blocks -/

variable (m : (ℓ : Loc nD τ sig) → Buf (Elt Ideal) ℓ) (ρ : Dev nD → PrngReg)

theorem index0 : ∀ t : Fin grid0.N, win0_0.index t 0 = t.val / 4 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val % 4 ∧ win0_3.index t 1 = 0 ∧ win0_3.index t 2 = 0 := by decide +kernel
theorem index4 : ∀ t : Fin grid0.N, win0_4.index t 0 = t.val % 4 + 4 ∧ win0_4.index t 1 = 0 ∧ win0_4.index t 2 = 0 := by decide +kernel
theorem index5 : ∀ t : Fin grid0.N, win0_5.index t 0 = t.val % 4 ∧ win0_5.index t 1 = 0 ∧ win0_5.index t 2 = 0 := by decide +kernel
theorem index6 : ∀ t : Fin grid0.N, win0_6.index t 0 = t.val / 4 ∧ win0_6.index t 1 = 0 := by decide +kernel
theorem index7 : ∀ t : Fin grid0.N, win0_7.index t 0 = t.val / 4 ∧ win0_7.index t 1 = 0 := by decide +kernel
theorem index8 : ∀ t : Fin grid0.N, win0_8.index t 0 = t.val % 4 ∧ win0_8.index t 1 = t.val / 4 ∧ win0_8.index t 2 = 0 := by decide +kernel
theorem index9 : ∀ t : Fin grid0.N, win0_9.index t 0 = t.val % 4 ∧ win0_9.index t 1 = t.val / 4 ∧ win0_9.index t 2 = 0 := by decide +kernel
theorem index10 : ∀ t : Fin grid0.N, win0_10.index t 0 = t.val / 4 ∧ win0_10.index t 1 = 0 := by decide +kernel

/-- The row of the arrays that row `r` of point `t`'s block is. -/
def rowAt (t : Fin cfg0.N) (r : Fin 1024) : Fin 4096 := ⟨t.val / 4 * 1024 + r.val, by have := point_lt t; omega⟩

theorem rowAt_start (t : Fin cfg0.N) (r : Fin 1024) : rowAt (start t) r = rowAt t r :=
  Fin.ext (by show (t.val - t.val % 4) / 4 * 1024 + r.val = t.val / 4 * 1024 + r.val; omega)

theorem blk0 (c : Dev nD) (t : Fin cfg0.N) (r d : Fin 1024) :
    iblk m c 0 t (ix2 r d) = m ((c : Thread nD τ).loc main_arg0) (ix2 (rowAt t r) d) := by
  have h := index0 t
  show V m c main_arg0 _ = _
  rw [V_main_arg0]
  congr 1
  funext a
  match a with
  | ⟨0, _⟩ => exact Fin.ext (by show win0_0.index t 0 * 1024 + 1 * r.val = t.val / 4 * 1024 + r.val; rw [h.1]; omega)
  | ⟨1, _⟩ => exact Fin.ext (by show win0_0.index t 1 * 1024 + 1 * d.val = d.val; rw [h.2]; omega)

theorem blk1 (c : Dev nD) (t : Fin cfg0.N) (d : Fin 1024) :
    iblk m c 1 t (ix2 0 d) = m ((c : Thread nD τ).loc main_arg1) (ix2 0 d) := by
  have h := index1 t
  show V m c main_arg1 _ = _
  rw [V_main_arg1]
  congr 1
  funext a
  match a with
  | ⟨0, _⟩ => exact Fin.ext (by show win0_1.index t 0 * 1 + 1 * 0 = 0; rw [h.1])
  | ⟨1, _⟩ => exact Fin.ext (by show win0_1.index t 1 * 1024 + 1 * d.val = d.val; rw [h.2]; omega)

theorem blk2 (c : Dev nD) (t : Fin cfg0.N) (d : Fin 1024) :
    iblk m c 2 t (ix2 0 d) = m ((c : Thread nD τ).loc main_arg2) (ix2 0 d) := by
  have h := index2 t
  show V m c main_arg2 _ = _
  rw [V_main_arg2]
  congr 1
  funext a
  match a with
  | ⟨0, _⟩ => exact Fin.ext (by show win0_2.index t 0 * 1 + 1 * 0 = 0; rw [h.1])
  | ⟨1, _⟩ => exact Fin.ext (by show win0_2.index t 1 * 1024 + 1 * d.val = d.val; rw [h.2]; omega)

theorem blk3 (c : Dev nD) (t : Fin cfg0.N) (k : Fin 704) (d : Fin 1024) :
    iblk m c 3 t (ix3 0 k d) = m ((c : Thread nD τ).loc main_arg3) (ix3 ⟨t.val % 4, by omega⟩ k d) := by
  have h := index3 t
  show V m c main_arg3 _ = _
  rw [V_main_arg3]
  congr 1
  funext a
  match a with
  | ⟨0, _⟩ => exact Fin.ext (by show win0_3.index t 0 * 1 + 1 * 0 = t.val % 4; rw [h.1]; omega)
  | ⟨1, _⟩ => exact Fin.ext (by show win0_3.index t 1 * 704 + 1 * k.val = k.val; rw [h.2.1]; omega)
  | ⟨2, _⟩ => exact Fin.ext (by show win0_3.index t 2 * 1024 + 1 * d.val = d.val; rw [h.2.2]; omega)

theorem blk4 (c : Dev nD) (t : Fin cfg0.N) (k : Fin 704) (d : Fin 1024) :
    iblk m c 4 t (ix3 0 k d) = m ((c : Thread nD τ).loc main_arg3) (ix3 ⟨t.val % 4 + 4, by omega⟩ k d) := by
  have h := index4 t
  show V m c main_arg3 _ = _
  rw [V_main_arg3]
  congr 1
  funext a
  match a with
  | ⟨0, _⟩ => exact Fin.ext (by show win0_4.index t 0 * 1 + 1 * 0 = t.val % 4 + 4; rw [h.1]; omega)
  | ⟨1, _⟩ => exact Fin.ext (by show win0_4.index t 1 * 704 + 1 * k.val = k.val; rw [h.2.1]; omega)
  | ⟨2, _⟩ => exact Fin.ext (by show win0_4.index t 2 * 1024 + 1 * d.val = d.val; rw [h.2.2]; omega)

theorem blk5 (c : Dev nD) (t : Fin cfg0.N) (b : Fin 2) (k : Fin 352) (d : Fin 1024) :
    iblk m c 5 t (ix3 b k d) = m ((c : Thread nD τ).loc main_arg4) (ix3 ⟨t.val % 4 * 2 + b.val, by omega⟩ k d) := by
  have h := index5 t
  show V m c main_arg4 _ = _
  rw [V_main_arg4]
  congr 1
  funext a
  match a with
  | ⟨0, _⟩ => exact Fin.ext (by show win0_5.index t 0 * 2 + 1 * b.val = t.val % 4 * 2 + b.val; rw [h.1]; omega)
  | ⟨1, _⟩ => exact Fin.ext (by show win0_5.index t 1 * 352 + 1 * k.val = k.val; rw [h.2.1]; omega)
  | ⟨2, _⟩ => exact Fin.ext (by show win0_5.index t 2 * 1024 + 1 * d.val = d.val; rw [h.2.2]; omega)

/-! ## The accumulator -/

section
variable (c : Dev nD)

abbrev aX : Rows .f32 := m ((c : Thread nD τ).loc main_arg0)
abbrev aG : Gain := m ((c : Thread nD τ).loc main_arg1)
abbrev aP : Gain := m ((c : Thread nD τ).loc main_arg2)
abbrev aW : UpW := m ((c : Thread nD τ).loc main_arg3)
abbrev aD : DownW := m ((c : Thread nD τ).loc main_arg4)

theorem held_apply (t : Fin cfg0.N) (r d : Fin 1024) : heldAt m c t (ix2 r d) = rowN (aX m c) (aG m c) (rowAt t r) d := by
  refine (pay5_apply _ _ r d).trans ?_
  unfold rowN
  refine congrFun (congrArg₂ normed ?_ ?_) d
  · funext e; exact (blk0 m c (start t) r e).trans (by rw [rowAt_start])
  · funext e; exact blk1 m c (start t) e

theorem norm_apply (t : Fin cfg0.N) (r d : Fin 1024) : normAt m c t (ix2 r d) = rowN (aX m c) (aG m c) (rowAt t r) d := by
  refine (pay4_apply _ _ r d).trans ?_
  unfold rowN
  refine congrFun (congrArg₂ normed ?_ ?_) d
  · funext e; exact (blk0 m c (start t) r e).trans (by rw [rowAt_start])
  · funext e; exact blk1 m c (start t) e

theorem gate_apply (t : Fin cfg0.N) (r : Fin 1024) (k : Fin 704) :
    dotp (fun d => heldAt m c t (ix2 r d)) (fun d => iblk m c 3 t (ix3 0 k d))
      = unit (aX m c) (aG m c) (aW m c) (rowAt t r) ⟨t.val % 4, by omega⟩ k :=
  Finset.sum_congr rfl fun d _ => mul_congr (held_apply m c t r d) (blk3 m c t k d)

theorem up_apply (t : Fin cfg0.N) (r : Fin 1024) (k : Fin 704) :
    dotp (fun d => heldAt m c t (ix2 r d)) (fun d => iblk m c 4 t (ix3 0 k d))
      = unit (aX m c) (aG m c) (aW m c) (rowAt t r) ⟨t.val % 4 + 4, by omega⟩ k :=
  Finset.sum_congr rfl fun d _ => mul_congr (held_apply m c t r d) (blk4 m c t k d)

theorem chunk_apply (t : Fin cfg0.N) (r d : Fin 1024) :
    chunk (fun k => dotp (fun d => heldAt m c t (ix2 r d)) (fun d => iblk m c 3 t (ix3 0 k d)))
        (fun k => dotp (fun d => heldAt m c t (ix2 r d)) (fun d => iblk m c 4 t (ix3 0 k d)))
        (fun k => iblk m c 5 t (ix3 ⟨k.val / 352, by omega⟩ ⟨k.val % 352, by omega⟩ d))
      = ∑ k : Fin 704, term (aX m c) (aG m c) (aW m c) (aD m c) (rowAt t r) d (t.val % 4 * 704 + k.val) :=
  Finset.sum_congr rfl fun k _ => by
    have hk := k.isLt
    have e1 : (t.val % 4 * 704 + k.val) / 704 = t.val % 4 := by omega
    have e2 : (t.val % 4 * 704 + k.val) % 704 = k.val := by omega
    have e3 : (t.val % 4 * 704 + k.val) / 352 = t.val % 4 * 2 + k.val / 352 := by omega
    have e4 : (t.val % 4 * 704 + k.val) % 352 = k.val % 352 := by omega
    rw [term, dif_pos (by omega)]
    refine mul_congr (congrArg₂ gated ((gate_apply m c t r k).trans ?_) ((up_apply m c t r k).trans ?_)) ((blk5 m c t _ _ d).trans ?_)
    · exact congrArg₂ (unit _ _ _ _) (Fin.ext e1.symm) (Fin.ext e2.symm)
    · exact congrArg₂ (unit _ _ _ _) (Fin.ext (by dsimp only; rw [e1])) (Fin.ext e2.symm)
    · exact congrArg₂ (fun a b => m ((c : Thread nD τ).loc main_arg4) (ix3 a b d)) (Fin.ext e3.symm) (Fin.ext e4.symm)

theorem acc_apply (r d : Fin 1024) : ∀ (i : ℕ) (hi : i < 4) (t : Fin cfg0.N), t.val % 4 = i →
    accAt m c t.val t.isLt (ix2 r d)
      = ∑ j ∈ Finset.range ((i + 1) * 704), term (aX m c) (aG m c) (aW m c) (aD m c) (rowAt t r) d j
  | 0, _, t, ht => by
    rw [accAt_first m c t ht]
    refine (pay1_apply _ _ _ _ _ r d).trans ((congrArg₂ (· + ·) (pay6_apply r d) (chunk_apply m c t r d)).trans ?_)
    rw [zero_add, ht, Finset.sum_range]
    exact Finset.sum_congr rfl fun k _ => by rw [Nat.zero_mul, Nat.zero_add]
  | i + 1, hi, t, ht => by
    rw [accAt_next m c t (by omega)]
    have ih := acc_apply r d i (by omega) (pred t) (by show (t.val - 1) % 4 = i; omega)
    have e : rowAt (pred t) r = rowAt t r :=
      Fin.ext (by show (t.val - 1) / 4 * 1024 + r.val = t.val / 4 * 1024 + r.val; omega)
    refine (pay1_apply _ _ _ _ _ r d).trans ((congrArg₂ (· + ·) ih (chunk_apply m c t r d)).trans ?_)
    rw [e, ht, show (i + 1 + 1) * 704 = (i + 1) * 704 + 704 by omega, ← sum_add_chunk]

theorem acc_last (t : Fin cfg0.N) (ht : t.val % 4 = 3) (r d : Fin 1024) :
    accAt m c t.val t.isLt (ix2 r d) = down (aX m c) (aG m c) (aW m c) (aD m c) (rowAt t r) d :=
  acc_apply m c r d 3 (by omega) t ht

/-! ## The result arrays -/

theorem flushed6 (t : Fin cfg0.N) (hf : (cfg0.win 6).flush t = true) :
    (dats m 0 c).flushed 6 t = ((cfg0.win 6).blk t).view.read (Elt Ideal) (outX (aX m c) (aG m c) (aP m c) (aW m c) (aD m c)) := by
  have hm : t.val % 4 = 3 := (flush0_6 t).mp hf
  have h := index6 t
  show (cfg0.win 6).cut (grid0.coords t) ((dats m 0 c).after 6 t) = _
  rw [after6]
  funext y
  have hy : ((cfg0.win 6).blk t).view.emb y = ix2 (rowAt t (y 0)) (y 1) := by
    funext a
    match a with
    | ⟨0, _⟩ => exact Fin.ext (by show win0_6.index t 0 * 1024 + 1 * (y 0).val = t.val / 4 * 1024 + (y 0).val; rw [h.1]; omega)
    | ⟨1, _⟩ => exact Fin.ext (by show win0_6.index t 1 * 1024 + 1 * (y 1).val = (y 1).val; rw [h.2]; omega)
  have hx : (cfg0.win 6).xinj (grid0.coords t) y = ix2 (y 0) (y 1) := eq_ix2 _
  refine (congrArg _ hx).trans (Eq.trans ?_ (congrArg (outX (aX m c) (aG m c) (aP m c) (aW m c) (aD m c)) hy).symm)
  exact (pay3_apply _ _ _ (y 0) (y 1)).trans (congrArg₂ (· + ·) (blk0 m c t (y 0) (y 1)) (congrArg _ (congrFun (congrArg₂ normed
      (funext fun d => acc_last m c t hm (y 0) d) (funext fun d => blk2 m c t d)) (y 1))))

theorem final6 : (dats m 0 c).arrAt 6 cfg0.N = outX (aX m c) (aG m c) (aP m c) (aW m c) (aD m c) :=
  (dats m 0 c).arrAt_eq_of_cover 6 _ (fun t hf => flushed6 m c t hf) fun i => by
    have h0 : (i 0).val < 4096 := (i 0).isLt
    have h1 : (i 1).val < 1024 := (i 1).isLt
    let t : Fin cfg0.N := ⟨(i 0).val / 1024 * 4 + 3, lt_of_lt_of_eq (by omega) N_0.symm⟩
    have ht : t.val = (i 0).val / 1024 * 4 + 3 := rfl
    have e := index6 t
    refine ⟨t, (flush0_6 t).mpr (by omega), ?_⟩
    show i ∈ ((View.whole main_v0_0).slice (win0_6.rect t)).set
    rw [View.set_slice_whole, Rect.mem_set_unit]
    intro a
    match a with
    | ⟨0, _⟩ => show win0_6.index t 0 * 1024 ≤ (i 0).val ∧ (i 0).val < win0_6.index t 0 * 1024 + 1024; rw [e.1]; omega
    | ⟨1, _⟩ => show win0_6.index t 1 * 1024 ≤ (i 1).val ∧ (i 1).val < win0_6.index t 1 * 1024 + 1024; rw [e.2]; omega

theorem flushed7 (t : Fin cfg0.N) (hf : (cfg0.win 7).flush t = true) :
    (dats m 0 c).flushed 7 t = ((cfg0.win 7).blk t).view.read (Elt Ideal) (outH (aX m c) (aG m c)) := by
  have hm : t.val % 4 = 3 := (flush0_7 t).mp hf
  have h := index7 t
  show (cfg0.win 7).cut (grid0.coords t) ((dats m 0 c).after 7 t) = _
  rw [after7]
  funext y
  have hy : ((cfg0.win 7).blk t).view.emb y = ix2 (rowAt t (y 0)) (y 1) := by
    funext a
    match a with
    | ⟨0, _⟩ => exact Fin.ext (by show win0_7.index t 0 * 1024 + 1 * (y 0).val = t.val / 4 * 1024 + (y 0).val; rw [h.1]; omega)
    | ⟨1, _⟩ => exact Fin.ext (by show win0_7.index t 1 * 1024 + 1 * (y 1).val = (y 1).val; rw [h.2]; omega)
  have hx : (cfg0.win 7).xinj (grid0.coords t) y = ix2 (y 0) (y 1) := eq_ix2 _
  refine (congrArg _ hx).trans (Eq.trans ?_ (congrArg (outH (aX m c) (aG m c)) hy).symm)
  exact norm_apply m c t (y 0) (y 1)

theorem final7 : (dats m 0 c).arrAt 7 cfg0.N = outH (aX m c) (aG m c) :=
  (dats m 0 c).arrAt_eq_of_cover 7 _ (fun t hf => flushed7 m c t hf) fun i => by
    have h0 : (i 0).val < 4096 := (i 0).isLt
    have h1 : (i 1).val < 1024 := (i 1).isLt
    let t : Fin cfg0.N := ⟨(i 0).val / 1024 * 4 + 3, lt_of_lt_of_eq (by omega) N_0.symm⟩
    have ht : t.val = (i 0).val / 1024 * 4 + 3 := rfl
    have e := index7 t
    refine ⟨t, (flush0_7 t).mpr (by omega), ?_⟩
    show i ∈ ((View.whole main_v0_1).slice (win0_7.rect t)).set
    rw [View.set_slice_whole, Rect.mem_set_unit]
    intro a
    match a with
    | ⟨0, _⟩ => show win0_7.index t 0 * 1024 ≤ (i 0).val ∧ (i 0).val < win0_7.index t 0 * 1024 + 1024; rw [e.1]; omega
    | ⟨1, _⟩ => show win0_7.index t 1 * 1024 ≤ (i 1).val ∧ (i 1).val < win0_7.index t 1 * 1024 + 1024; rw [e.2]; omega

theorem flushed10 (t : Fin cfg0.N) (hf : (cfg0.win 10).flush t = true) :
    (dats m 0 c).flushed 10 t = ((cfg0.win 10).blk t).view.read (Elt Ideal) (outD (aX m c) (aG m c) (aW m c) (aD m c)) := by
  have hm : t.val % 4 = 3 := (flush0_10 t).mp hf
  have h := index10 t
  show (cfg0.win 10).cut (grid0.coords t) ((dats m 0 c).after 10 t) = _
  rw [after10]
  funext y
  have hy : ((cfg0.win 10).blk t).view.emb y = ix2 (rowAt t (y 0)) (y 1) := by
    funext a
    match a with
    | ⟨0, _⟩ => exact Fin.ext (by show win0_10.index t 0 * 1024 + 1 * (y 0).val = t.val / 4 * 1024 + (y 0).val; rw [h.1]; omega)
    | ⟨1, _⟩ => exact Fin.ext (by show win0_10.index t 1 * 1024 + 1 * (y 1).val = (y 1).val; rw [h.2]; omega)
  have hx : (cfg0.win 10).xinj (grid0.coords t) y = ix2 (y 0) (y 1) := eq_ix2 _
  refine (congrArg _ hx).trans (Eq.trans ?_ (congrArg (outD (aX m c) (aG m c) (aW m c) (aD m c)) hy).symm)
  exact (pay2_apply _ (y 0) (y 1)).trans (acc_last m c t hm (y 0) (y 1))

theorem final10 : (dats m 0 c).arrAt 10 cfg0.N = outD (aX m c) (aG m c) (aW m c) (aD m c) :=
  (dats m 0 c).arrAt_eq_of_cover 10 _ (fun t hf => flushed10 m c t hf) fun i => by
    have h0 : (i 0).val < 4096 := (i 0).isLt
    have h1 : (i 1).val < 1024 := (i 1).isLt
    let t : Fin cfg0.N := ⟨(i 0).val / 1024 * 4 + 3, lt_of_lt_of_eq (by omega) N_0.symm⟩
    have ht : t.val = (i 0).val / 1024 * 4 + 3 := rfl
    have e := index10 t
    refine ⟨t, (flush0_10 t).mpr (by omega), ?_⟩
    show i ∈ ((View.whole main_v0_4).slice (win0_10.rect t)).set
    rw [View.set_slice_whole, Rect.mem_set_unit]
    intro a
    match a with
    | ⟨0, _⟩ => show win0_10.index t 0 * 1024 ≤ (i 0).val ∧ (i 0).val < win0_10.index t 0 * 1024 + 1024; rw [e.1]; omega
    | ⟨1, _⟩ => show win0_10.index t 1 * 1024 ≤ (i 1).val ∧ (i 1).val < win0_10.index t 1 * 1024 + 1024; rw [e.2]; omega

theorem flushed8 (t : Fin cfg0.N) (hf : (cfg0.win 8).flush t = true) :
    (dats m 0 c).flushed 8 t = ((cfg0.win 8).blk t).view.read (Elt Ideal) (outG (aX m c) (aG m c) (aW m c)) := by
  have h := index8 t
  show (cfg0.win 8).cut (grid0.coords t) ((dats m 0 c).after 8 t) = _
  rw [after8]
  funext y
  have hy : ((cfg0.win 8).blk t).view.emb y = ix3 ⟨t.val % 4, by omega⟩ (rowAt t (y 1)) (y 2) := by
    funext a
    match a with
    | ⟨0, _⟩ => exact Fin.ext (by have : (y 0).val < 1 := (y 0).isLt; show win0_8.index t 0 * 1 + 1 * (y 0).val = t.val % 4; rw [h.1]; omega)
    | ⟨1, _⟩ => exact Fin.ext (by show win0_8.index t 1 * 1024 + 1 * (y 1).val = t.val / 4 * 1024 + (y 1).val; rw [h.2.1]; omega)
    | ⟨2, _⟩ => exact Fin.ext (by show win0_8.index t 2 * 704 + 1 * (y 2).val = (y 2).val; rw [h.2.2]; omega)
  have hx : (cfg0.win 8).xinj (grid0.coords t) y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  refine (congrArg _ hx).trans (Eq.trans ?_ (congrArg (outG (aX m c) (aG m c) (aW m c)) hy).symm)
  exact (pay9_apply _ _ (y 1) (y 2)).trans (gate_apply m c t (y 1) (y 2))

theorem final8 : (dats m 0 c).arrAt 8 cfg0.N = outG (aX m c) (aG m c) (aW m c) :=
  (dats m 0 c).arrAt_eq_of_cover 8 _ (fun t hf => flushed8 m c t hf) fun i => by
    have h0 : (i 0).val < 4 := (i 0).isLt
    have h1 : (i 1).val < 4096 := (i 1).isLt
    have h2 : (i 2).val < 704 := (i 2).isLt
    let t : Fin cfg0.N := ⟨(i 1).val / 1024 * 4 + (i 0).val, lt_of_lt_of_eq (by omega) N_0.symm⟩
    have ht : t.val = (i 1).val / 1024 * 4 + (i 0).val := rfl
    have e := index8 t
    refine ⟨t, flush0_8 t, ?_⟩
    show i ∈ ((View.whole main_v0_2).slice (win0_8.rect t)).set
    rw [View.set_slice_whole, Rect.mem_set_unit]
    intro a
    match a with
    | ⟨0, _⟩ => show win0_8.index t 0 * 1 ≤ (i 0).val ∧ (i 0).val < win0_8.index t 0 * 1 + 1; rw [e.1]; omega
    | ⟨1, _⟩ => show win0_8.index t 1 * 1024 ≤ (i 1).val ∧ (i 1).val < win0_8.index t 1 * 1024 + 1024; rw [e.2.1]; omega
    | ⟨2, _⟩ => show win0_8.index t 2 * 704 ≤ (i 2).val ∧ (i 2).val < win0_8.index t 2 * 704 + 704; rw [e.2.2]; omega

theorem flushed9 (t : Fin cfg0.N) (hf : (cfg0.win 9).flush t = true) :
    (dats m 0 c).flushed 9 t = ((cfg0.win 9).blk t).view.read (Elt Ideal) (outU (aX m c) (aG m c) (aW m c)) := by
  have h := index9 t
  show (cfg0.win 9).cut (grid0.coords t) ((dats m 0 c).after 9 t) = _
  rw [after9]
  funext y
  have hy : ((cfg0.win 9).blk t).view.emb y = ix3 ⟨t.val % 4, by omega⟩ (rowAt t (y 1)) (y 2) := by
    funext a
    match a with
    | ⟨0, _⟩ => exact Fin.ext (by have : (y 0).val < 1 := (y 0).isLt; show win0_9.index t 0 * 1 + 1 * (y 0).val = t.val % 4; rw [h.1]; omega)
    | ⟨1, _⟩ => exact Fin.ext (by show win0_9.index t 1 * 1024 + 1 * (y 1).val = t.val / 4 * 1024 + (y 1).val; rw [h.2.1]; omega)
    | ⟨2, _⟩ => exact Fin.ext (by show win0_9.index t 2 * 704 + 1 * (y 2).val = (y 2).val; rw [h.2.2]; omega)
  have hx : (cfg0.win 9).xinj (grid0.coords t) y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  refine (congrArg _ hx).trans (Eq.trans ?_ (congrArg (outU (aX m c) (aG m c) (aW m c)) hy).symm)
  exact (pay10_apply _ _ (y 1) (y 2)).trans (up_apply m c t (y 1) (y 2))

theorem final9 : (dats m 0 c).arrAt 9 cfg0.N = outU (aX m c) (aG m c) (aW m c) :=
  (dats m 0 c).arrAt_eq_of_cover 9 _ (fun t hf => flushed9 m c t hf) fun i => by
    have h0 : (i 0).val < 4 := (i 0).isLt
    have h1 : (i 1).val < 4096 := (i 1).isLt
    have h2 : (i 2).val < 704 := (i 2).isLt
    let t : Fin cfg0.N := ⟨(i 1).val / 1024 * 4 + (i 0).val, lt_of_lt_of_eq (by omega) N_0.symm⟩
    have ht : t.val = (i 1).val / 1024 * 4 + (i 0).val := rfl
    have e := index9 t
    refine ⟨t, flush0_9 t, ?_⟩
    show i ∈ ((View.whole main_v0_3).slice (win0_9.rect t)).set
    rw [View.set_slice_whole, Rect.mem_set_unit]
    intro a
    match a with
    | ⟨0, _⟩ => show win0_9.index t 0 * 1 ≤ (i 0).val ∧ (i 0).val < win0_9.index t 0 * 1 + 1; rw [e.1]; omega
    | ⟨1, _⟩ => show win0_9.index t 1 * 1024 ≤ (i 1).val ∧ (i 1).val < win0_9.index t 1 * 1024 + 1024; rw [e.2.1]; omega
    | ⟨2, _⟩ => show win0_9.index t 2 * 704 ≤ (i 2).val ∧ (i 2).val < win0_9.index t 2 * 704 + 704; rw [e.2.2]; omega

end

/-- The run, with the five result arrays named. -/
theorem run : θ_run defs (onTc (τ := τ) (main (F := Ideal))) ⟨m, fun _ => 0, ρ⟩ fun r => ∀ c : Dev nD,
      r.2.mem ((c.tc : Thread nD τ).loc main_v0_0) = outX (aX m c) (aG m c) (aP m c) (aW m c) (aD m c)
      ∧ r.2.mem ((c.tc : Thread nD τ).loc main_v0_1) = outH (aX m c) (aG m c)
      ∧ r.2.mem ((c.tc : Thread nD τ).loc main_v0_2) = outG (aX m c) (aG m c) (aW m c)
      ∧ r.2.mem ((c.tc : Thread nD τ).loc main_v0_3) = outU (aX m c) (aG m c) (aW m c)
      ∧ r.2.mem ((c.tc : Thread nD τ).loc main_v0_4) = outD (aX m c) (aG m c) (aW m c) (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.2 c).1 6).trans (final6 m c), ((h.2 c).1 7).trans (final7 m c), ((h.2 c).1 8).trans (final8 m c), ((h.2 c).1 9).trans (final9 m c), ((h.2 c).1 10).trans (final10 m c), h.1.1 c⟩)
    (θ_run_and (frame m ρ) (run_main m ρ))

end Cert.Fwd

end
-- ==== Proof.Fwd.Ref.lean ====
/-
  The layer the reference computes, entry by entry, and that the kernel's five results are the same.
-/
module

public import proofs.«01_k».proof.Proof.Fwd.Kernel
public import proofs.«01_k».proof.Proof.Gen.FfnFRefIdeal.Run
public import proofs.«01_k».proof.Defs

@[expose] public section

set_option maxRecDepth 16384

noncomputable section

namespace Cert.Fwd.Ref

open Idealize.ShloMosaic Idealize.ShloMosaic.TcCoe Idealize.SL.Sem
open Cert.FfnFRefIdeal Cert.FfnFRefIdeal.Gen Cert.FfnFRefIdeal.Value

/-- The norm of the layer's input, in float32. -/
def normF (x : FVec Ideal S4096x1024 .f32) (g : FVec Ideal S1x1024 .f32) : FVec Ideal S4096x1024 .f32 := fun i => rowN x g (i 0) (i 1)

theorem norm_eq (x : FVec Ideal S4096x1024 .f32) (g : FVec Ideal S1x1024 .f32) :
    (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g))
      = normF x g := by
  funext i
  obtain ⟨r, d, rfl⟩ : ∃ (r : Fin 4096) (d : Fin 1024), i = ix2 r d := ⟨i 0, i 1, eq_ix2 i⟩
  unfold normF rowN normed
  pointwise

/-- Row `j` of the hidden layer's gate, `j` counting through the chunks. -/
theorem gate_at (x : FVec Ideal S4096x1024 .f32) (g : FVec Ideal S1x1024 .f32) (w : FVec Ideal S8x704x1024 .bf16) (r : Fin 4096) (j : Fin 2816) :
    extractStridedSlice S4096x2816 ![0, 0] (Host.dotGeneral dot_S4096x1024_S1024x5632_S4096x5632_1_0_0_1_n_n none (normF x g) (transpose S1024x5632 [1, 0] (shapeCast S5632x1024 (extf .f32 w bitsLt_bf16_f32) shapeCasts_S8x704x1024_S5632x1024) transposes_S5632x1024_S1024x5632_1_0)) slices_S4096x5632_S4096x2816_0_0 (ix2 r j)
      = unit x g w r ⟨j.val / 704, by omega⟩ ⟨j.val % 704, by omega⟩ := by
  unfold unit normF
  pointwise

theorem up_at (x : FVec Ideal S4096x1024 .f32) (g : FVec Ideal S1x1024 .f32) (w : FVec Ideal S8x704x1024 .bf16) (r : Fin 4096) (j : Fin 2816) :
    extractStridedSlice S4096x2816 ![0, 2816] (Host.dotGeneral dot_S4096x1024_S1024x5632_S4096x5632_1_0_0_1_n_n none (normF x g) (transpose S1024x5632 [1, 0] (shapeCast S5632x1024 (extf .f32 w bitsLt_bf16_f32) shapeCasts_S8x704x1024_S5632x1024) transposes_S5632x1024_S1024x5632_1_0)) slices_S4096x5632_S4096x2816_0_2816 (ix2 r j)
      = unit x g w r ⟨j.val / 704 + 4, by omega⟩ ⟨j.val % 704, by omega⟩ := by
  unfold unit normF
  pointwise
  exact Finset.sum_congr rfl fun d _ => congrArg (rowN x g r d * ·) (congrArg₂ (fun a b => w (ix3 a b d)) (Fin.ext (by dsimp only; omega)) (Fin.ext (by dsimp only; omega)))

theorem gates (x : FVec Ideal S4096x1024 .f32) (g : FVec Ideal S1x1024 .f32) (w : FVec Ideal S8x704x1024 .bf16) :
    truncf .bf16 (transpose S4x4096x704 [1, 0, 2] (shapeCast S4096x4x704 (extractStridedSlice S4096x2816 ![0, 0] (Host.dotGeneral dot_S4096x1024_S1024x5632_S4096x5632_1_0_0_1_n_n none (normF x g) (transpose S1024x5632 [1, 0] (shapeCast S5632x1024 (extf .f32 w bitsLt_bf16_f32) shapeCasts_S8x704x1024_S5632x1024) transposes_S5632x1024_S1024x5632_1_0)) slices_S4096x5632_S4096x2816_0_0) shapeCasts_S4096x2816_S4096x4x704) transposes_S4096x4x704_S4x4096x704_1_0_2) bitsLt_bf16_f32
      = outG x g w := by
  funext i
  obtain ⟨f, r, k, rfl⟩ : ∃ (f : Fin 4) (r : Fin 4096) (k : Fin 704), i = ix3 f r k := ⟨i 0, i 1, i 2, eq_ix3 i⟩
  unfold outG unit normF
  pointwise
  exact Finset.sum_congr rfl fun d _ => congrArg (rowN x g r d * ·) (congrArg (fun a => w (ix3 a k d)) (Fin.ext (by dsimp only; omega)))

theorem ups (x : FVec Ideal S4096x1024 .f32) (g : FVec Ideal S1x1024 .f32) (w : FVec Ideal S8x704x1024 .bf16) :
    truncf .bf16 (transpose S4x4096x704 [1, 0, 2] (shapeCast S4096x4x704 (extractStridedSlice S4096x2816 ![0, 2816] (Host.dotGeneral dot_S4096x1024_S1024x5632_S4096x5632_1_0_0_1_n_n none (normF x g) (transpose S1024x5632 [1, 0] (shapeCast S5632x1024 (extf .f32 w bitsLt_bf16_f32) shapeCasts_S8x704x1024_S5632x1024) transposes_S5632x1024_S1024x5632_1_0)) slices_S4096x5632_S4096x2816_0_2816) shapeCasts_S4096x2816_S4096x4x704) transposes_S4096x4x704_S4x4096x704_1_0_2) bitsLt_bf16_f32
      = outU x g w := by
  funext i
  obtain ⟨f, r, k, rfl⟩ : ∃ (f : Fin 4) (r : Fin 4096) (k : Fin 704), i = ix3 f r k := ⟨i 0, i 1, i 2, eq_ix3 i⟩
  unfold outU unit normF
  pointwise
  exact Finset.sum_congr rfl fun d _ => congrArg (rowN x g r d * ·) (congrArg (fun a => w (ix3 a k d)) (Fin.ext (by dsimp only; omega)))

/-- The second product, of any gate and up activations. -/
theorem down_at (a b : FVec Ideal S4096x2816 .f32) (wd : FVec Ideal S8x352x1024 .bf16) (r : Fin 4096) (d : Fin 1024) :
    (Host.dotGeneral dot_S4096x2816_S2816x1024_S4096x1024_1_0_0_1_n_n none (mulf (mulf a (Host.divf (broadcastInDim S4096x2816 ![] bcast_S_S4096x2816 (constant S_ .f32 0x3F800000#32)) (addf (broadcastInDim S4096x2816 ![] bcast_S_S4096x2816 (constant S_ .f32 0x3F800000#32)) (Host.exp (Host.negf a))))) b) (shapeCast S2816x1024 (extf .f32 wd bitsLt_bf16_f32) shapeCasts_S8x352x1024_S2816x1024)) (ix2 r d)
      = ∑ j : Fin 2816, gated (a (ix2 r j)) (b (ix2 r j)) * (wd (ix3 ⟨j.val / 352, by omega⟩ ⟨j.val % 352, by omega⟩ d) : EReal) := by
  unfold gated
  pointwise
  rfl

/-- The residual's sum, of any second product. -/
theorem out_at (x y : FVec Ideal S4096x1024 .f32) (p : FVec Ideal S1x1024 .f32) (r : Fin 4096) (d : Fin 1024) :
    addf x (mulf (broadcastInDim S4096x1024 ![] bcast_S_S4096x1024 (constant S_ .f32 0x3F000000#32)) (mulf (mulf y (broadcastInDim S4096x1024 ![0, 1] bcast_S4096x1_S4096x1024_0_1 (Host.rsqrt (addf (Host.divf (broadcastInDim S4096x1 ![0] bcast_S4096_S4096x1_0 (Host.reduceAdd (mulf y y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 p))) (ix2 r d)
      = (x (ix2 r d) : EReal) + Ideal.ofBits .f32 0x3F000000#32 * normed (fun e => y (ix2 r e)) (fun e => p (ix2 0 e)) d := by
  unfold normed
  pointwise

/-- The second product in float32. -/
def downF (x : FVec Ideal S4096x1024 .f32) (g : FVec Ideal S1x1024 .f32) (w : FVec Ideal S8x704x1024 .bf16) (wd : FVec Ideal S8x352x1024 .bf16) : FVec Ideal S4096x1024 .f32 :=
  fun i => down x g w wd (i 0) (i 1)

theorem down_eq (x : FVec Ideal S4096x1024 .f32) (g : FVec Ideal S1x1024 .f32) (w : FVec Ideal S8x704x1024 .bf16) (wd : FVec Ideal S8x352x1024 .bf16) :
    (Host.dotGeneral dot_S4096x2816_S2816x1024_S4096x1024_1_0_0_1_n_n none (mulf (mulf (extractStridedSlice S4096x2816 ![0, 0] (Host.dotGeneral dot_S4096x1024_S1024x5632_S4096x5632_1_0_0_1_n_n none (normF x g) (transpose S1024x5632 [1, 0] (shapeCast S5632x1024 (extf .f32 w bitsLt_bf16_f32) shapeCasts_S8x704x1024_S5632x1024) transposes_S5632x1024_S1024x5632_1_0)) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (Host.dotGeneral dot_S4096x1024_S1024x5632_S4096x5632_1_0_0_1_n_n none (normF x g) (transpose S1024x5632 [1, 0] (shapeCast S5632x1024 (extf .f32 w bitsLt_bf16_f32) shapeCasts_S8x704x1024_S5632x1024) transposes_S5632x1024_S1024x5632_1_0)) slices_S4096x5632_S4096x2816_0_0)))))) (extractStridedSlice S4096x2816 ![0, 2816] (Host.dotGeneral dot_S4096x1024_S1024x5632_S4096x5632_1_0_0_1_n_n none (normF x g) (transpose S1024x5632 [1, 0] (shapeCast S5632x1024 (extf .f32 w bitsLt_bf16_f32) shapeCasts_S8x704x1024_S5632x1024) transposes_S5632x1024_S1024x5632_1_0)) slices_S4096x5632_S4096x2816_0_2816)) (shapeCast S2816x1024 (extf .f32 wd bitsLt_bf16_f32) shapeCasts_S8x352x1024_S2816x1024))
      = downF x g w wd := by
  funext i
  obtain ⟨r, d, rfl⟩ : ∃ (r : Fin 4096) (d : Fin 1024), i = ix2 r d := ⟨i 0, i 1, eq_ix2 i⟩
  refine (down_at _ _ wd r d).trans (Eq.trans ?_ (Finset.sum_range _).symm)
  refine Finset.sum_congr rfl fun j _ => ?_
  refine Eq.trans ?_ (dif_pos j.isLt).symm
  exact mul_congr (congrArg₂ gated (gate_at x g w r j) (up_at x g w r j)) rfl

theorem res0 (x : FVec Ideal S4096x1024 .f32) (g p : FVec Ideal S1x1024 .f32) (w : FVec Ideal S8x704x1024 .bf16) (wd : FVec Ideal S8x352x1024 .bf16) :
    addf x (mulf (broadcastInDim S4096x1024 ![] bcast_S_S4096x1024 (constant S_ .f32 0x3F000000#32)) (mulf (mulf (Host.dotGeneral dot_S4096x2816_S2816x1024_S4096x1024_1_0_0_1_n_n none (mulf (mulf (extractStridedSlice S4096x2816 ![0, 0] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_0)))))) (extractStridedSlice S4096x2816 ![0, 2816] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_2816)) (shapeCast S2816x1024 (extf .f32 wd bitsLt_bf16_f32) shapeCasts_S8x352x1024_S2816x1024)) (broadcastInDim S4096x1024 ![0, 1] bcast_S4096x1_S4096x1024_0_1 (Host.rsqrt (addf (Host.divf (broadcastInDim S4096x1 ![0] bcast_S4096_S4096x1_0 (Host.reduceAdd (mulf (Host.dotGeneral dot_S4096x2816_S2816x1024_S4096x1024_1_0_0_1_n_n none (mulf (mulf (extractStridedSlice S4096x2816 ![0, 0] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_0)))))) (extractStridedSlice S4096x2816 ![0, 2816] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_2816)) (shapeCast S2816x1024 (extf .f32 wd bitsLt_bf16_f32) shapeCasts_S8x352x1024_S2816x1024)) (Host.dotGeneral dot_S4096x2816_S2816x1024_S4096x1024_1_0_0_1_n_n none (mulf (mulf (extractStridedSlice S4096x2816 ![0, 0] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_0)))))) (extractStridedSlice S4096x2816 ![0, 2816] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_2816)) (shapeCast S2816x1024 (extf .f32 wd bitsLt_bf16_f32) shapeCasts_S8x352x1024_S2816x1024))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 p)))
      = outX x g p w wd := by
  rw [norm_eq x g, down_eq]
  funext i
  obtain ⟨r, d, rfl⟩ : ∃ (r : Fin 4096) (d : Fin 1024), i = ix2 r d := ⟨i 0, i 1, eq_ix2 i⟩
  exact out_at x (downF x g w wd) p r d

theorem res1 (x : FVec Ideal S4096x1024 .f32) (g : FVec Ideal S1x1024 .f32) :
    truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) bitsLt_bf16_f32
      = outH x g := by
  rw [norm_eq x g]; rfl

theorem res2 (x : FVec Ideal S4096x1024 .f32) (g : FVec Ideal S1x1024 .f32) (w : FVec Ideal S8x704x1024 .bf16) :
    truncf .bf16 (transpose S4x4096x704 [1, 0, 2] (shapeCast S4096x4x704 (extractStridedSlice S4096x2816 ![0, 0] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_0) shapeCasts_S4096x2816_S4096x4x704) transposes_S4096x4x704_S4x4096x704_1_0_2) bitsLt_bf16_f32
      = outG x g w := by
  rw [norm_eq x g]; exact gates x g w

theorem res3 (x : FVec Ideal S4096x1024 .f32) (g : FVec Ideal S1x1024 .f32) (w : FVec Ideal S8x704x1024 .bf16) :
    truncf .bf16 (transpose S4x4096x704 [1, 0, 2] (shapeCast S4096x4x704 (extractStridedSlice S4096x2816 ![0, 2816] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_2816) shapeCasts_S4096x2816_S4096x4x704) transposes_S4096x4x704_S4x4096x704_1_0_2) bitsLt_bf16_f32
      = outU x g w := by
  rw [norm_eq x g]; exact ups x g w

theorem res4 (x : FVec Ideal S4096x1024 .f32) (g : FVec Ideal S1x1024 .f32) (w : FVec Ideal S8x704x1024 .bf16) (wd : FVec Ideal S8x352x1024 .bf16) :
    truncf .bf16 (Host.dotGeneral dot_S4096x2816_S2816x1024_S4096x1024_1_0_0_1_n_n none (mulf (mulf (extractStridedSlice S4096x2816 ![0, 0] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_0)))))) (extractStridedSlice S4096x2816 ![0, 2816] (Host.dotGeneral dot_S4096x1024_S1024x5632_S4096x5632_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (transpose S1024x5632 [1, 0] (shapeCast S5632x1024 (extf .f32 w bitsLt_bf16_f32) shapeCasts_S8x704x1024_S5632x1024) transposes_S5632x1024_S1024x5632_1_0)) slices_S4096x5632_S4096x2816_0_2816)) (shapeCast S2816x1024 (extf .f32 wd bitsLt_bf16_f32) shapeCasts_S8x352x1024_S2816x1024)) bitsLt_bf16_f32
      = outD x g w wd := by
  rw [norm_eq x g, down_eq]; rfl

/-- From any launch, the kernel's result arrays and the reference's are the same functions of the arguments. -/
theorem algebraic : Cert.algebraic_FfnFIdeal_FfnFRefIdeal := fun m g m' g' _ hagree =>
  ⟨fun c => outX (m ((c.tc : Thread Cert.FfnFIdeal.nD Cert.FfnFIdeal.τ).loc Cert.FfnFIdeal.main_arg0)) (m ((c.tc : Thread Cert.FfnFIdeal.nD Cert.FfnFIdeal.τ).loc Cert.FfnFIdeal.main_arg1)) (m ((c.tc : Thread Cert.FfnFIdeal.nD Cert.FfnFIdeal.τ).loc Cert.FfnFIdeal.main_arg2)) (m ((c.tc : Thread Cert.FfnFIdeal.nD Cert.FfnFIdeal.τ).loc Cert.FfnFIdeal.main_arg3)) (m ((c.tc : Thread Cert.FfnFIdeal.nD Cert.FfnFIdeal.τ).loc Cert.FfnFIdeal.main_arg4)),
    fun c => outH (m ((c.tc : Thread Cert.FfnFIdeal.nD Cert.FfnFIdeal.τ).loc Cert.FfnFIdeal.main_arg0)) (m ((c.tc : Thread Cert.FfnFIdeal.nD Cert.FfnFIdeal.τ).loc Cert.FfnFIdeal.main_arg1)),
    fun c => outG (m ((c.tc : Thread Cert.FfnFIdeal.nD Cert.FfnFIdeal.τ).loc Cert.FfnFIdeal.main_arg0)) (m ((c.tc : Thread Cert.FfnFIdeal.nD Cert.FfnFIdeal.τ).loc Cert.FfnFIdeal.main_arg1)) (m ((c.tc : Thread Cert.FfnFIdeal.nD Cert.FfnFIdeal.τ).loc Cert.FfnFIdeal.main_arg3)),
    fun c => outU (m ((c.tc : Thread Cert.FfnFIdeal.nD Cert.FfnFIdeal.τ).loc Cert.FfnFIdeal.main_arg0)) (m ((c.tc : Thread Cert.FfnFIdeal.nD Cert.FfnFIdeal.τ).loc Cert.FfnFIdeal.main_arg1)) (m ((c.tc : Thread Cert.FfnFIdeal.nD Cert.FfnFIdeal.τ).loc Cert.FfnFIdeal.main_arg3)),
    fun c => outD (m ((c.tc : Thread Cert.FfnFIdeal.nD Cert.FfnFIdeal.τ).loc Cert.FfnFIdeal.main_arg0)) (m ((c.tc : Thread Cert.FfnFIdeal.nD Cert.FfnFIdeal.τ).loc Cert.FfnFIdeal.main_arg1)) (m ((c.tc : Thread Cert.FfnFIdeal.nD Cert.FfnFIdeal.τ).loc Cert.FfnFIdeal.main_arg3)) (m ((c.tc : Thread Cert.FfnFIdeal.nD Cert.FfnFIdeal.τ).loc Cert.FfnFIdeal.main_arg4)),
    Cert.Fwd.run m g,
    (θ_run _ _ _).mono (fun _ h c => by
      obtain ⟨e0, e1, e2, e3, e4⟩ := hagree c
      refine ⟨(h c).1.trans ((res0 _ _ _ _ _).trans ?_), (h c).2.1.trans ((res1 _ _).trans ?_), (h c).2.2.1.trans ((res2 _ _ _).trans ?_),
        (h c).2.2.2.1.trans ((res3 _ _ _).trans ?_), (h c).2.2.2.2.1.trans ((res4 _ _ _ _).trans ?_), (h c).2.2.2.2.2⟩
      · rw [e0, e1, e2, e3, e4]
      · rw [e0, e1]
      · rw [e0, e1, e3]
      · rw [e0, e1, e3]
      · rw [e0, e1, e3, e4]) (Cert.FfnFRefIdeal.Value.run m' g')⟩

end Cert.Fwd.Ref

end
-- ==== Proof.Fwd.Bitwise.lean ====
/-
  The kernel as written and the kernel read at the ideal values are one text, so the first's frame is the run of the
  second at the bit patterns.
-/
module

public import proofs.«01_k».proof.Proof.Fwd.Run
public import proofs.«01_k».proof.Proof.Gen.FfnF
public import proofs.«01_k».proof.Defs

@[expose] public section

set_option maxRecDepth 16384

noncomputable section

namespace Cert.Fwd

open Idealize.ShloMosaic Idealize.SL.Sem

/-- The two body tables agree, label by label. -/
theorem bodies_eq : Cert.FfnF.defs₀ (F := Bits) = Cert.FfnFIdeal.defs₀ (F := Bits) := by
  unfold Cert.FfnF.defs₀ Cert.FfnFIdeal.defs₀
  refine congrArg _ ?_
  funext l a
  match l, a with
  | 0, (t, s) => rfl

theorem defs_eq : Cert.FfnF.defs (F := Bits) = Cert.FfnFIdeal.defs (F := Bits) := by
  unfold Cert.FfnF.defs Cert.FfnFIdeal.defs
  exact congrArg (Pipeline.defs _) bodies_eq

theorem frame_kernel : Cert.quiescent_FfnF := fun m ρ _ => by
  have h := frame (F := Bits) m ρ
  rw [defs_eq]
  exact h

end Cert.Fwd

end
-- ==== Proof.Bwd.Body.lean ====
/-
  One point of the grid of the feed-forward block's gradient: the body's triple in each of its four cases, over any float values, with what
  every buffer holds afterwards written out.
-/
module

public import proofs.«01_k».proof.Proof.Gen.FfnBIdeal.Skeleton
public import proofs.«01_k».proof.Proof.Gen.FfnBIdeal.Frame
public import Idealize.ShloMosaic.Lib.Pipeline.Value
public import Idealize.ShloMosaic.Lib.Pipeline.KitQuiescent

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnBIdeal Cert.FfnBIdeal.Gen

variable {F : FTy → Type} [FloatOps F]

local notation "𝕄" => MT nD τ sig Unit (Elt F) ℕ (UR sig nD τ) ℕ

theorem hz2 : (![0, 0] : Fin 2 → Nat) = fun _ => 0 := by decide
theorem hz3 : (![0, 0, 0] : Fin 3 → Nat) = fun _ => 0 := by decide

/-- A buffer whose last store filled it whole reads as that store's value. -/
theorem read_stored {S : Shape} {e : EltTy} (v : View sig .tc .vmem S e) {off : Fin S.rank → Nat} (h : off = fun _ => 0)
    (inb : ∀ a, off a + S.size a ≤ S.size a) (f : v.ty.Contents (Elt F)) (w : S.Idx → Elt F e)
    (L : List (View.Piece (Elt F) S e)) :
    v.read (Elt F) (v.writes (Elt F) f (⟨Rect.unit (s := S) off S.size inb, w⟩ :: L)) = w := by
  rw [View.read_writes_eq_canon _ _ _ (fun y => ⟨_, List.mem_cons_self, View.mem_set_unit_zero h inb y⟩),
    View.canon_cons_unit_zero h]

set_option maxHeartbeats 3200000 in
/-- The first point: both gains' sums start from zero, and the row's first chunk is taken. -/
theorem run_start (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x512x704 .bf16) (harg7 : arg7.IsWhole) (arg8 : Memref sig .tc .vmem S1x512x704 .bf16) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S2x352x1024 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S512x1024 .bf16) (harg18 : arg18.IsWhole) (arg19 : Memref sig .tc .vmem S512x1024 .f32) (harg19 : arg19.IsWhole)
    (hc0 : k0_cond1 i = 1#1) (hc1 : k0_cond2 i = 1#1) (hc2 : ¬k0_cond3 i = 1#1)
    (x0 : Vec F S512x1024 .f32) (x1 : Vec F S512x1024 .bf16) (x2 : Vec F S512x1024 .f32) (x3 x4 : Vec F S1x1024 .f32) (x5 x6 : Vec F S1x512x704 .bf16) (x7 x8 : Vec F S1x704x1024 .bf16) (x9 : Vec F S2x352x1024 .bf16)
    (xi10 : Vec F S512x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare xi10
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare xi10
            ∗ owns (c : Thread nD τ) arg13 fullShare (k0_pay16 (k0_pay7 x1 x4 x0))
            ∗ owns (c : Thread nD τ) arg14 fullShare (k0_pay1 (k0_pay23 (k0_pay15 (k0_pay9 x1 x4 x0)) x9 x6 x5))
            ∗ owns (c : Thread nD τ) arg15 fullShare (k0_pay2 (k0_pay22 (k0_pay15 (k0_pay9 x1 x4 x0)) x9 x5))
            ∗ owns (c : Thread nD τ) arg16 fullShare k0_pay13
            ∗ owns (c : Thread nD τ) arg17 fullShare (k0_pay8 x1 x0 k0_pay14)
            ∗ owns (c : Thread nD τ) arg18 fullShare (k0_pay15 (k0_pay9 x1 x4 x0))
            ∗ owns (c : Thread nD τ) arg19 fullShare (k0_pay3 (k0_pay22 (k0_pay15 (k0_pay9 x1 x4 x0)) x9 x5) (k0_pay23 (k0_pay15 (k0_pay9 x1 x4 x0)) x9 x6 x5) k0_pay17 x7 x8)) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_ffn_bwd_act_eq_skeleton]; unfold cc0_ffn_bwd_act_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr
    swap; · iexact H11
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H12]
  · iexists _; isplitr
    swap; · iexact H12
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H13]
  · iexists _; isplitr
    swap; · iexact H13
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H14]
  · iexists _; isplitr
    swap; · iexact H14
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H15]
  · iexists _; isplitr
    swap; · iexact H15
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H16]
  · iexists _; isplitr
    swap; · iexact H16
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  · iexists _; isplitr
    swap; · iexact H17
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]

set_option maxHeartbeats 3200000 in
/-- A later row's first chunk: the gradient through the post-norm is stored, and its gain's sum goes on. -/
theorem run_first (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x512x704 .bf16) (harg7 : arg7.IsWhole) (arg8 : Memref sig .tc .vmem S1x512x704 .bf16) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S2x352x1024 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S512x1024 .bf16) (harg18 : arg18.IsWhole) (arg19 : Memref sig .tc .vmem S512x1024 .f32) (harg19 : arg19.IsWhole)
    (hc0 : ¬k0_cond1 i = 1#1) (hc1 : k0_cond2 i = 1#1) (hc2 : ¬k0_cond3 i = 1#1)
    (x0 : Vec F S512x1024 .f32) (x1 : Vec F S512x1024 .bf16) (x2 : Vec F S512x1024 .f32) (x3 x4 : Vec F S1x1024 .f32) (x5 x6 : Vec F S1x512x704 .bf16) (x7 x8 : Vec F S1x704x1024 .bf16) (x9 : Vec F S2x352x1024 .bf16)
    (xi10 : Vec F S512x1024 .f32) (p q : Vec F S1x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare xi10
        ∗ (∃ d, owns (c : Thread nD τ) arg13 fullShare d)
        ∗ (∃ d, owns (c : Thread nD τ) arg14 fullShare d)
        ∗ (∃ d, owns (c : Thread nD τ) arg15 fullShare d)
        ∗ owns (c : Thread nD τ) arg16 fullShare p
        ∗ owns (c : Thread nD τ) arg17 fullShare q
        ∗ (∃ d, owns (c : Thread nD τ) arg18 fullShare d)
        ∗ (∃ d, owns (c : Thread nD τ) arg19 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare xi10
            ∗ owns (c : Thread nD τ) arg13 fullShare (k0_pay16 (k0_pay7 x1 x4 x0))
            ∗ owns (c : Thread nD τ) arg14 fullShare (k0_pay1 (k0_pay23 (k0_pay15 (k0_pay9 x1 x4 x0)) x9 x6 x5))
            ∗ owns (c : Thread nD τ) arg15 fullShare (k0_pay2 (k0_pay22 (k0_pay15 (k0_pay9 x1 x4 x0)) x9 x5))
            ∗ owns (c : Thread nD τ) arg16 fullShare p
            ∗ owns (c : Thread nD τ) arg17 fullShare (k0_pay8 x1 x0 q)
            ∗ owns (c : Thread nD τ) arg18 fullShare (k0_pay15 (k0_pay9 x1 x4 x0))
            ∗ owns (c : Thread nD τ) arg19 fullShare (k0_pay3 (k0_pay22 (k0_pay15 (k0_pay9 x1 x4 x0)) x9 x5) (k0_pay23 (k0_pay15 (k0_pay9 x1 x4 x0)) x9 x6 x5) k0_pay17 x7 x8)) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_ffn_bwd_act_eq_skeleton]; unfold cc0_ffn_bwd_act_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%d16, %f16, -, H16⟩, ⟨%d17, %f17, -, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14; obtain rfl := harg17.eq_unread hf15
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr
    swap; · iexact H11
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H12]
  · iexists _; isplitr
    swap; · iexact H12
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H13]
  · iexists _; isplitr
    swap; · iexact H13
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H14]
  · iexists _; isplitr; · ipureintro; exact harg16.read_unread _
    iexact H14
  isplitl [H15]
  · iexists _; isplitr
    swap; · iexact H15
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H16]
  · iexists _; isplitr
    swap; · iexact H16
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  · iexists _; isplitr
    swap; · iexact H17
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]

set_option maxHeartbeats 3200000 in
/-- A middle chunk: its product is added to the accumulator. -/
theorem run_mid (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x512x704 .bf16) (harg7 : arg7.IsWhole) (arg8 : Memref sig .tc .vmem S1x512x704 .bf16) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S2x352x1024 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S512x1024 .bf16) (harg18 : arg18.IsWhole) (arg19 : Memref sig .tc .vmem S512x1024 .f32) (harg19 : arg19.IsWhole)
    (hc0 : ¬k0_cond1 i = 1#1) (hc1 : ¬k0_cond2 i = 1#1) (hc2 : ¬k0_cond3 i = 1#1)
    (x0 : Vec F S512x1024 .f32) (x1 : Vec F S512x1024 .bf16) (x2 : Vec F S512x1024 .f32) (x3 x4 : Vec F S1x1024 .f32) (x5 x6 : Vec F S1x512x704 .bf16) (x7 x8 : Vec F S1x704x1024 .bf16) (x9 : Vec F S2x352x1024 .bf16)
    (xi10 : Vec F S512x1024 .f32) (xi11 ds : Vec F S512x1024 .bf16) (acc : Vec F S512x1024 .f32) (p q : Vec F S1x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare xi10
        ∗ owns (c : Thread nD τ) arg13 fullShare xi11
        ∗ (∃ d, owns (c : Thread nD τ) arg14 fullShare d)
        ∗ (∃ d, owns (c : Thread nD τ) arg15 fullShare d)
        ∗ owns (c : Thread nD τ) arg16 fullShare p
        ∗ owns (c : Thread nD τ) arg17 fullShare q
        ∗ owns (c : Thread nD τ) arg18 fullShare ds
        ∗ owns (c : Thread nD τ) arg19 fullShare acc
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare xi10
            ∗ owns (c : Thread nD τ) arg13 fullShare xi11
            ∗ owns (c : Thread nD τ) arg14 fullShare (k0_pay1 (k0_pay23 ds x9 x6 x5))
            ∗ owns (c : Thread nD τ) arg15 fullShare (k0_pay2 (k0_pay22 ds x9 x5))
            ∗ owns (c : Thread nD τ) arg16 fullShare p
            ∗ owns (c : Thread nD τ) arg17 fullShare q
            ∗ owns (c : Thread nD τ) arg18 fullShare ds
            ∗ owns (c : Thread nD τ) arg19 fullShare (k0_pay3 (k0_pay22 ds x9 x5) (k0_pay23 ds x9 x6 x5) acc x7 x8)) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_ffn_bwd_act_eq_skeleton]; unfold cc0_ffn_bwd_act_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hf14; obtain rfl := harg17.eq_unread hf15; obtain rfl := harg18.eq_unread hf16; obtain rfl := harg19.eq_unread hf17
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr
    swap; · iexact H12
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H13]
  · iexists _; isplitr
    swap; · iexact H13
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  · iexists _; isplitr
    swap; · iexact H17
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]

set_option maxHeartbeats 3200000 in
/-- A row's last chunk: the accumulator is complete, and the row's gradient is stored. -/
theorem run_last (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x512x704 .bf16) (harg7 : arg7.IsWhole) (arg8 : Memref sig .tc .vmem S1x512x704 .bf16) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S2x352x1024 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S512x1024 .bf16) (harg18 : arg18.IsWhole) (arg19 : Memref sig .tc .vmem S512x1024 .f32) (harg19 : arg19.IsWhole)
    (hc0 : ¬k0_cond1 i = 1#1) (hc1 : ¬k0_cond2 i = 1#1) (hc2 : k0_cond3 i = 1#1)
    (x0 : Vec F S512x1024 .f32) (x1 : Vec F S512x1024 .bf16) (x2 : Vec F S512x1024 .f32) (x3 x4 : Vec F S1x1024 .f32) (x5 x6 : Vec F S1x512x704 .bf16) (x7 x8 : Vec F S1x704x1024 .bf16) (x9 : Vec F S2x352x1024 .bf16)
    (xi11 ds : Vec F S512x1024 .bf16) (acc : Vec F S512x1024 .f32) (p q : Vec F S1x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ (∃ d, owns (c : Thread nD τ) arg12 fullShare d)
        ∗ owns (c : Thread nD τ) arg13 fullShare xi11
        ∗ (∃ d, owns (c : Thread nD τ) arg14 fullShare d)
        ∗ (∃ d, owns (c : Thread nD τ) arg15 fullShare d)
        ∗ owns (c : Thread nD τ) arg16 fullShare p
        ∗ owns (c : Thread nD τ) arg17 fullShare q
        ∗ owns (c : Thread nD τ) arg18 fullShare ds
        ∗ owns (c : Thread nD τ) arg19 fullShare acc
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare (k0_pay12 x2 x3 (k0_pay3 (k0_pay22 ds x9 x5) (k0_pay23 ds x9 x6 x5) acc x7 x8) x0)
            ∗ owns (c : Thread nD τ) arg13 fullShare xi11
            ∗ owns (c : Thread nD τ) arg14 fullShare (k0_pay1 (k0_pay23 ds x9 x6 x5))
            ∗ owns (c : Thread nD τ) arg15 fullShare (k0_pay2 (k0_pay22 ds x9 x5))
            ∗ owns (c : Thread nD τ) arg16 fullShare (k0_pay11 x2 (k0_pay3 (k0_pay22 ds x9 x5) (k0_pay23 ds x9 x6 x5) acc x7 x8) p)
            ∗ owns (c : Thread nD τ) arg17 fullShare q
            ∗ owns (c : Thread nD τ) arg18 fullShare ds
            ∗ owns (c : Thread nD τ) arg19 fullShare (k0_pay3 (k0_pay22 ds x9 x5) (k0_pay23 ds x9 x6 x5) acc x7 x8)) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_ffn_bwd_act_eq_skeleton]; unfold cc0_ffn_bwd_act_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%f17, %hf17, H17⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg16.eq_unread hf14; obtain rfl := harg17.eq_unread hf15; obtain rfl := harg18.eq_unread hf16; obtain rfl := harg19.eq_unread hf17
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr
    swap; · iexact H10
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg13.read_unread, harg16.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H11]
  · iexists _; isplitr; · ipureintro; exact harg13.read_unread _
    iexact H11
  isplitl [H12]
  · iexists _; isplitr
    swap; · iexact H12
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg13.read_unread, harg16.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H13]
  · iexists _; isplitr
    swap; · iexact H13
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg13.read_unread, harg16.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H14]
  · iexists _; isplitr
    swap; · iexact H14
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg13.read_unread, harg16.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]
  isplitl [H15]
  · iexists _; isplitr; · ipureintro; exact harg17.read_unread _
    iexact H15
  isplitl [H16]
  · iexists _; isplitr; · ipureintro; exact harg18.read_unread _
    iexact H16
  · iexists _; isplitr
    swap; · iexact H17
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg13.read_unread, harg16.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2]

end Cert.Bwd

end
-- ==== Proof.Bwd.Run.lean ====
/-
  The gradient's grid, run: what the scratch and the output blocks hold after each point, the body obligation at
  every point, and the launch. Everything is over any float values, so that both frames come from the one run.
-/
module

public import proofs.«01_k».proof.Proof.Bwd.Body
public import Idealize.ShloMosaic.Lib.Claim

@[expose] public section

set_option maxRecDepth 16384

noncomputable section

namespace Cert.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnBIdeal Cert.FfnBIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem point_lt (t : Fin cfg0.N) : t.val < 32 := lt_of_lt_of_eq t.isLt (show cfg0.N = 32 from N_0)

theorem start_iff (t : Fin cfg0.N) : k0_cond1 (grid0.coords t) = 1#1 ↔ t.val = 0 := by
  have ht := point_lt t
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond1, e0, e1]
  word_cmp

theorem first_iff (t : Fin cfg0.N) : k0_cond2 (grid0.coords t) = 1#1 ↔ t.val % 4 = 0 := by
  have ht := point_lt t
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond2, e0, e1]
  word_cmp

theorem last_iff (t : Fin cfg0.N) : k0_cond3 (grid0.coords t) = 1#1 ↔ t.val % 4 = 3 := by
  have ht := point_lt t
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond3, e0, e1]
  word_cmp

theorem bne_of {a : BitVec 1} (h : ¬a = 1#1) : (a == 1#1) = false := beq_eq_false_iff_ne.mpr h

theorem idle10_of_ne (t : Fin cfg0.N) (h : ¬t.val % 4 = 3) : cfg0.idle 10 (grid0.coords t) = true := by
  show (!(k0_cond3 (grid0.coords t) == 1#1)) = true
  rw [bne_of (fun e => h ((last_iff t).mp e))]; rfl
theorem live10_of_eq (t : Fin cfg0.N) (h : t.val % 4 = 3) : cfg0.idle 10 (grid0.coords t) = false := by
  show (!(k0_cond3 (grid0.coords t) == 1#1)) = false
  rw [(last_iff t).mpr h]; rfl
theorem idle11_of_ne (t : Fin cfg0.N) (h : ¬t.val % 4 = 0) : cfg0.idle 11 (grid0.coords t) = true := by
  show (!(k0_cond2 (grid0.coords t) == 1#1)) = true
  rw [bne_of (fun e => h ((first_iff t).mp e))]; rfl
theorem live11_of_eq (t : Fin cfg0.N) (h : t.val % 4 = 0) : cfg0.idle 11 (grid0.coords t) = false := by
  show (!(k0_cond2 (grid0.coords t) == 1#1)) = false
  rw [(first_iff t).mpr h]; rfl
theorem idle14_of_ne (t : Fin cfg0.N) (h0 : ¬t.val = 0) (h : ¬t.val % 4 = 3) : cfg0.idle 14 (grid0.coords t) = true := by
  show (!(k0_cond1 (grid0.coords t) == 1#1) && !(k0_cond3 (grid0.coords t) == 1#1)) = true
  rw [bne_of (fun e => h ((last_iff t).mp e)), bne_of (fun e => h0 ((start_iff t).mp e))]; rfl
theorem live14_of_zero (t : Fin cfg0.N) (h : t.val = 0) : cfg0.idle 14 (grid0.coords t) = false := by
  show (!(k0_cond1 (grid0.coords t) == 1#1) && !(k0_cond3 (grid0.coords t) == 1#1)) = false
  rw [(start_iff t).mpr h]; rfl
theorem live14_of_eq (t : Fin cfg0.N) (h : t.val % 4 = 3) : cfg0.idle 14 (grid0.coords t) = false := by
  show (!(k0_cond1 (grid0.coords t) == 1#1) && !(k0_cond3 (grid0.coords t) == 1#1)) = false
  rw [(last_iff t).mpr h, Bool.and_eq_false_iff]; exact Or.inr rfl
theorem idle15_of_ne (t : Fin cfg0.N) (h : ¬t.val % 4 = 0) : cfg0.idle 15 (grid0.coords t) = true := by
  show (!(k0_cond1 (grid0.coords t) == 1#1) && !(k0_cond2 (grid0.coords t) == 1#1)) = true
  rw [bne_of (fun e => h ((first_iff t).mp e)), bne_of (fun e => h (by rw [(start_iff t).mp e]))]; rfl
theorem live15_of_eq (t : Fin cfg0.N) (h : t.val % 4 = 0) : cfg0.idle 15 (grid0.coords t) = false := by
  show (!(k0_cond1 (grid0.coords t) == 1#1) && !(k0_cond2 (grid0.coords t) == 1#1)) = false
  rw [(first_iff t).mpr h, Bool.and_eq_false_iff]; exact Or.inr rfl
theorem noflush10 (t : Fin cfg0.N) (h : ¬t.val % 4 = 3) : (cfg0.win 10).flush t = false :=
  Bool.eq_false_iff.mpr fun e => h ((flush0_10 t).mp e)
theorem noflush11 (t : Fin cfg0.N) (h : ¬t.val % 4 = 3) : (cfg0.win 11).flush t = false :=
  Bool.eq_false_iff.mpr fun e => h ((flush0_11 t).mp e)
theorem noflush14 (t : Fin cfg0.N) (h : ¬t.val % 32 = 31) : (cfg0.win 14).flush t = false :=
  Bool.eq_false_iff.mpr fun e => h ((flush0_14 t).mp e)
theorem noflush15 (t : Fin cfg0.N) (h : ¬t.val % 32 = 31) : (cfg0.win 15).flush t = false :=
  Bool.eq_false_iff.mpr fun e => h ((flush0_15 t).mp e)

/-- The first point of the row block `t` lies in, and the point before `t`. -/
def start (t : Fin cfg0.N) : Fin cfg0.N := ⟨t.val - t.val % 4, Nat.lt_of_le_of_lt (Nat.sub_le _ _) t.isLt⟩
def pred (t : Fin cfg0.N) : Fin cfg0.N := ⟨t.val - 1, Nat.lt_of_le_of_lt (Nat.sub_le _ _) t.isLt⟩

theorem start_of_eq (t : Fin cfg0.N) (h : t.val % 4 = 0) : start t = t :=
  Fin.ext (by show t.val - t.val % 4 = t.val; omega)
theorem start_pred (t : Fin cfg0.N) (h : ¬t.val % 4 = 0) : start (pred t) = start t :=
  Fin.ext (by show t.val - 1 - (t.val - 1) % 4 = t.val - t.val % 4; omega)

/-! ## What the buffers hold after a point -/

/-- The gradient through the post-norm, as the output block holds it and as the scratch does. -/
def normAt (c : Dev nD) (t : Fin cfg0.N) : Vec F S512x1024 .bf16 := k0_pay16 (k0_pay7 (iblk m c 1 (start t)) (iblk m c 4 (start t)) (iblk m c 0 (start t)))
def heldAt (c : Dev nD) (t : Fin cfg0.N) : Vec F S512x1024 .bf16 := k0_pay15 (k0_pay9 (iblk m c 1 (start t)) (iblk m c 4 (start t)) (iblk m c 0 (start t)))

/-- The gradients of the two projections' results, one chunk of them. -/
def upAt (c : Dev nD) (t : Fin cfg0.N) : FVec F S512x704 .bf16 := k0_pay22 (heldAt m c t) (iblk m c 9 t) (iblk m c 5 t)
def gateAt (c : Dev nD) (t : Fin cfg0.N) : FVec F S512x704 .bf16 := k0_pay23 (heldAt m c t) (iblk m c 9 t) (iblk m c 6 t) (iblk m c 5 t)

/-- The accumulator with this point's product added. -/
def addAt (c : Dev nD) (t : Fin cfg0.N) (acc : Vec F S512x1024 .f32) : Vec F S512x1024 .f32 :=
  k0_pay3 (upAt m c t) (gateAt m c t) acc (iblk m c 7 t) (iblk m c 8 t)

def accAt (c : Dev nD) : (n : ℕ) → n < cfg0.N → Vec F S512x1024 .f32
  | 0, hn => addAt m c ⟨0, hn⟩ k0_pay17
  | n + 1, hn =>
    if (n + 1) % 4 = 0 then addAt m c ⟨n + 1, hn⟩ k0_pay17
    else addAt m c ⟨n + 1, hn⟩ (accAt c n (Nat.lt_of_succ_lt hn))

theorem accAt_first (c : Dev nD) (t : Fin cfg0.N) (h : t.val % 4 = 0) : accAt m c t.val t.isLt = addAt m c t k0_pay17 := by
  obtain ⟨n, hn⟩ := t
  cases n with
  | zero => rfl
  | succ n => unfold accAt; rw [if_pos h]

theorem accAt_next (c : Dev nD) (t : Fin cfg0.N) (h : ¬t.val % 4 = 0) :
    accAt m c t.val t.isLt = addAt m c t (accAt m c (t.val - 1) (pred t).isLt) := by
  obtain ⟨n, hn⟩ := t
  cases n with
  | zero => exact absurd rfl h
  | succ n => rw [accAt, if_neg h]; rfl

theorem heldAt_pred (c : Dev nD) (t : Fin cfg0.N) (h : ¬t.val % 4 = 0) : heldAt m c (pred t) = heldAt m c t := by
  unfold heldAt; rw [start_pred t h]

/-- The post-norm's gain: one row block's terms are added at its first point. -/
def postAt (c : Dev nD) : (n : ℕ) → n < cfg0.N → Vec F S1x1024 .f32
  | 0, hn => k0_pay8 (iblk m c 1 ⟨0, hn⟩) (iblk m c 0 ⟨0, hn⟩) k0_pay14
  | n + 1, hn =>
    if (n + 1) % 4 = 0 then k0_pay8 (iblk m c 1 ⟨n + 1, hn⟩) (iblk m c 0 ⟨n + 1, hn⟩) (postAt c n (Nat.lt_of_succ_lt hn))
    else postAt c n (Nat.lt_of_succ_lt hn)

/-- The pre-norm's gain: one row block's terms are added at its last point. -/
def preAt (c : Dev nD) : (n : ℕ) → n < cfg0.N → Vec F S1x1024 .f32
  | 0, _ => k0_pay13
  | n + 1, hn =>
    if (n + 1) % 4 = 3 then k0_pay11 (iblk m c 2 ⟨n + 1, hn⟩) (accAt m c (n + 1) hn) (preAt c n (Nat.lt_of_succ_lt hn))
    else preAt c n (Nat.lt_of_succ_lt hn)

theorem postAt_zero (c : Dev nD) (t : Fin cfg0.N) (h : t.val = 0) :
    postAt m c t.val t.isLt = k0_pay8 (iblk m c 1 t) (iblk m c 0 t) k0_pay14 := by
  obtain ⟨n, hn⟩ := t
  cases n with
  | zero => rfl
  | succ n => exact absurd h (Nat.succ_ne_zero n)
theorem postAt_first (c : Dev nD) (t : Fin cfg0.N) (hz : ¬t.val = 0) (h : t.val % 4 = 0) :
    postAt m c t.val t.isLt = k0_pay8 (iblk m c 1 t) (iblk m c 0 t) (postAt m c (t.val - 1) (pred t).isLt) := by
  obtain ⟨n, hn⟩ := t
  cases n with
  | zero => exact absurd rfl hz
  | succ n => rw [postAt, if_pos h]; rfl
theorem postAt_keep (c : Dev nD) (t : Fin cfg0.N) (h : ¬t.val % 4 = 0) :
    postAt m c t.val t.isLt = postAt m c (t.val - 1) (pred t).isLt := by
  obtain ⟨n, hn⟩ := t
  cases n with
  | zero => exact absurd rfl h
  | succ n => rw [postAt, if_neg h]; rfl
theorem preAt_zero (c : Dev nD) (t : Fin cfg0.N) (h : t.val = 0) : preAt m c t.val t.isLt = k0_pay13 := by
  obtain ⟨n, hn⟩ := t
  cases n with
  | zero => rfl
  | succ n => exact absurd h (Nat.succ_ne_zero n)
theorem preAt_last (c : Dev nD) (t : Fin cfg0.N) (h : t.val % 4 = 3) :
    preAt m c t.val t.isLt = k0_pay11 (iblk m c 2 t) (accAt m c t.val t.isLt) (preAt m c (t.val - 1) (pred t).isLt) := by
  obtain ⟨n, hn⟩ := t
  cases n with
  | zero => exact absurd h (by show ¬(0 % 4 = 3); decide)
  | succ n => rw [preAt, if_pos h]; rfl
theorem preAt_keep (c : Dev nD) (t : Fin cfg0.N) (hz : ¬t.val = 0) (h : ¬t.val % 4 = 3) :
    preAt m c t.val t.isLt = preAt m c (t.val - 1) (pred t).isLt := by
  obtain ⟨n, hn⟩ := t
  cases n with
  | zero => exact absurd rfl hz
  | succ n => rw [preAt, if_neg h]; rfl

/-! ## The invariant and the proof data -/

abbrev scr0 : Memref sig .tc .vmem S512x1024 .bf16 := Memref.whole cc0_scratch0
abbrev scr1 : Memref sig .tc .vmem S512x1024 .f32 := Memref.whole cc0_scratch1

theorem PhiA_eq (c : Dev nD) : (Pipeline.ΦA spec0 c : sProp 𝕄)
    = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- Before the first point the scratch holds anything; afterwards the gradient and the accumulator of the point before. -/
def Inv (c : Dev nD) : (n : ℕ) → n ≤ cfg0.N → sProp 𝕄
  | 0, _ => Pipeline.ΦA spec0 c
  | n + 1, hn => iprop(iprop(owns (c : Thread nD τ) scr0 fullShare (heldAt m c ⟨n, hn⟩) ∗ owns (c : Thread nD τ) scr1 fullShare (accAt m c n hn)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) scr0 fullShare (heldAt m c ⟨n, hn⟩) ∗ owns (c : Thread nD τ) scr1 fullShare (accAt m c n hn)) ∗ (∃ r, prngReg c r)) := rfl

theorem Inv_pos (c : Dev nD) (t : Fin cfg0.N) (hz : t.val ≠ 0) :
    Inv m c t.val (Nat.le_of_lt t.isLt) = iprop(iprop(owns (c : Thread nD τ) scr0 fullShare (heldAt m c (pred t)) ∗ owns (c : Thread nD τ) scr1 fullShare (accAt m c (t.val - 1) (pred t).isLt)) ∗ (∃ r, prngReg c r)) := by
  obtain ⟨n, hn⟩ := t
  cases n with
  | zero => exact absurd rfl hz
  | succ n => rfl

/-- From any point on, the scratch can be handed over at anything. -/
theorem Inv_forget (c : Dev nD) (n : ℕ) (h : n ≤ cfg0.N) : Inv m c n h ⊢ Pipeline.ΦA spec0 c := by
  cases n with
  | zero => exact Idealize.SL.BI.Entails.refl _
  | succ n =>
    rw [Inv_succ, PhiA_eq]
    iintro ⟨⟨HS0, HS1⟩, Hg⟩
    isplitl [HS0 HS1]
    · isplitl [HS0]
      · iexists _; iexact HS0
      iexists _; iexact HS1
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay12 (iblk m c 2 t) (iblk m c 3 t) (accAt m c t.val t.isLt) (iblk m c 0 t)
    | ⟨11, _⟩ => normAt m c t
    | ⟨12, _⟩ => k0_pay1 (gateAt m c t)
    | ⟨13, _⟩ => k0_pay2 (upAt m c t)
    | ⟨14, _⟩ => preAt m c t.val t.isLt
    | ⟨15, _⟩ => postAt m c t.val t.isLt
    | ⟨_ + 16, h⟩ => absurd h (Nat.not_lt.2 (Nat.le_add_left _ _))
  Φ t := Inv m c t.val (Nat.le_of_lt_succ t.isLt)
  q w := Pipeline.shareOf cfg0.spec w
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = k0_pay12 (iblk m c 2 t) (iblk m c 3 t) (accAt m c t.val t.isLt) (iblk m c 0 t) := by dsimp only [dats]
theorem after11 (c : Dev nD) (t : Fin cfg0.N) : (dats m 0 c).after 11 t = normAt m c t := by dsimp only [dats]
theorem after12 (c : Dev nD) (t : Fin cfg0.N) : (dats m 0 c).after 12 t = k0_pay1 (gateAt m c t) := by dsimp only [dats]
theorem after13 (c : Dev nD) (t : Fin cfg0.N) : (dats m 0 c).after 13 t = k0_pay2 (upAt m c t) := by dsimp only [dats]
theorem after14 (c : Dev nD) (t : Fin cfg0.N) : (dats m 0 c).after 14 t = preAt m c t.val t.isLt := by dsimp only [dats]
theorem after15 (c : Dev nD) (t : Fin cfg0.N) : (dats m 0 c).after 15 t = postAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- Past the first chunk of a row block the gradient's buffer still holds what that chunk stored. -/
theorem before11 (c : Dev nD) : ∀ (j : ℕ) (t : Fin cfg0.N) (d), t.val % 4 = j + 1 → (dats m 0 c).before 11 t d = normAt m c t := by
  intro j
  induction j with
  | zero =>
    intro t d ht
    have hp : (pred t).val % 4 = 0 := by show (t.val - 1) % 4 = 0; omega
    rw [(dats m 0 c).before_of_pos 11 t (by omega) ((cfg0.win 11).fetch_out rfl t)]
    rw [show (cfg0.win 11).flush ⟨t.val - 1, _⟩ = false from noflush11 (pred t) (by omega), if_neg Bool.false_ne_true]
    show (dats m 0 c).left 11 (pred t) d = _
    unfold Dat.left
    rw [show cfg0.idle 11 (cfg0.grid.coords (pred t)) = false from live11_of_eq (pred t) hp]
    show (dats m 0 c).kept 11 (pred t) d = _
    unfold Dat.kept
    rw [Pipeline.fill_of_clip_none 11 _ (fun _ => rfl) d ((dats m 0 c).after 11 (pred t)), Window.fill_cut, after11]
    unfold normAt; rw [start_pred t (by omega)]
  | succ j ih =>
    intro t d ht
    have hlt := Nat.mod_lt t.val (show 0 < 4 by decide)
    have hp : (pred t).val % 4 = j + 1 := by show (t.val - 1) % 4 = j + 1; omega
    rw [(dats m 0 c).before_of_pos 11 t (by omega) ((cfg0.win 11).fetch_out rfl t)]
    rw [show (cfg0.win 11).flush ⟨t.val - 1, _⟩ = false from noflush11 (pred t) (by omega), if_neg Bool.false_ne_true]
    show (dats m 0 c).left 11 (pred t) d = _
    unfold Dat.left
    rw [show cfg0.idle 11 (cfg0.grid.coords (pred t)) = true from idle11_of_ne (pred t) (by omega)]
    show (dats m 0 c).before 11 (pred t) d = _
    rw [ih (pred t) d hp]
    unfold normAt; rw [start_pred t (by omega)]

theorem before11_of_ne (c : Dev nD) (t : Fin cfg0.N) (d) (h : ¬t.val % 4 = 0) : (dats m 0 c).before 11 t d = normAt m c t :=
  before11 m c (t.val % 4 - 1) t d (by omega)

/-- Before any point but the first, the gain's buffer holds what the point before left. -/
theorem before14 (c : Dev nD) : ∀ (n : ℕ) (t : Fin cfg0.N) (d), t.val = n + 1 → (dats m 0 c).before 14 t d = preAt m c (t.val - 1) (pred t).isLt := by
  intro n
  induction n with
  | zero =>
    intro t d ht
    have hlt := point_lt t
    have hp : (pred t).val = 0 := by show t.val - 1 = 0; omega
    rw [(dats m 0 c).before_of_pos 14 t (by omega) ((cfg0.win 14).fetch_out rfl t)]
    rw [show (cfg0.win 14).flush ⟨t.val - 1, _⟩ = false from noflush14 (pred t) (by omega), if_neg Bool.false_ne_true]
    show (dats m 0 c).left 14 (pred t) d = _
    unfold Dat.left
    rw [show cfg0.idle 14 (cfg0.grid.coords (pred t)) = false from live14_of_zero (pred t) hp]
    show (dats m 0 c).kept 14 (pred t) d = _
    unfold Dat.kept
    rw [Pipeline.fill_of_clip_none 14 _ (fun _ => rfl) d ((dats m 0 c).after 14 (pred t)), Window.fill_cut, after14]
    rfl
  | succ n ih =>
    intro t d ht
    have hlt := point_lt t
    have hp : (pred t).val = n + 1 := by show t.val - 1 = n + 1; omega
    rw [(dats m 0 c).before_of_pos 14 t (by omega) ((cfg0.win 14).fetch_out rfl t)]
    rw [show (cfg0.win 14).flush ⟨t.val - 1, _⟩ = false from noflush14 (pred t) (by omega), if_neg Bool.false_ne_true]
    show (dats m 0 c).left 14 (pred t) d = _
    unfold Dat.left
    by_cases h : (pred t).val % 4 = 3
    · rw [show cfg0.idle 14 (cfg0.grid.coords (pred t)) = false from live14_of_eq (pred t) h]
      show (dats m 0 c).kept 14 (pred t) d = _
      unfold Dat.kept
      rw [Pipeline.fill_of_clip_none 14 _ (fun _ => rfl) d ((dats m 0 c).after 14 (pred t)), Window.fill_cut, after14]
      rfl
    · rw [show cfg0.idle 14 (cfg0.grid.coords (pred t)) = true from idle14_of_ne (pred t) (by omega) h]
      show (dats m 0 c).before 14 (pred t) d = _
      rw [ih (pred t) d hp]
      exact (preAt_keep m c (pred t) (by omega) h).symm

theorem before14_of_ne (c : Dev nD) (t : Fin cfg0.N) (d) (h : ¬t.val = 0) : (dats m 0 c).before 14 t d = preAt m c (t.val - 1) (pred t).isLt :=
  before14 m c (t.val - 1) t d (by omega)

/-- Before any point but the first, the gain's buffer holds what the point before left. -/
theorem before15 (c : Dev nD) : ∀ (n : ℕ) (t : Fin cfg0.N) (d), t.val = n + 1 → (dats m 0 c).before 15 t d = postAt m c (t.val - 1) (pred t).isLt := by
  intro n
  induction n with
  | zero =>
    intro t d ht
    have hlt := point_lt t
    have hp : (pred t).val = 0 := by show t.val - 1 = 0; omega
    rw [(dats m 0 c).before_of_pos 15 t (by omega) ((cfg0.win 15).fetch_out rfl t)]
    rw [show (cfg0.win 15).flush ⟨t.val - 1, _⟩ = false from noflush15 (pred t) (by omega), if_neg Bool.false_ne_true]
    show (dats m 0 c).left 15 (pred t) d = _
    unfold Dat.left
    rw [show cfg0.idle 15 (cfg0.grid.coords (pred t)) = false from live15_of_eq (pred t) (by omega)]
    show (dats m 0 c).kept 15 (pred t) d = _
    unfold Dat.kept
    rw [Pipeline.fill_of_clip_none 15 _ (fun _ => rfl) d ((dats m 0 c).after 15 (pred t)), Window.fill_cut, after15]
    rfl
  | succ n ih =>
    intro t d ht
    have hlt := point_lt t
    have hp : (pred t).val = n + 1 := by show t.val - 1 = n + 1; omega
    rw [(dats m 0 c).before_of_pos 15 t (by omega) ((cfg0.win 15).fetch_out rfl t)]
    rw [show (cfg0.win 15).flush ⟨t.val - 1, _⟩ = false from noflush15 (pred t) (by omega), if_neg Bool.false_ne_true]
    show (dats m 0 c).left 15 (pred t) d = _
    unfold Dat.left
    by_cases h : (pred t).val % 4 = 0
    · rw [show cfg0.idle 15 (cfg0.grid.coords (pred t)) = false from live15_of_eq (pred t) h]
      show (dats m 0 c).kept 15 (pred t) d = _
      unfold Dat.kept
      rw [Pipeline.fill_of_clip_none 15 _ (fun _ => rfl) d ((dats m 0 c).after 15 (pred t)), Window.fill_cut, after15]
      rfl
    · rw [show cfg0.idle 15 (cfg0.grid.coords (pred t)) = true from idle15_of_ne (pred t) h]
      show (dats m 0 c).before 15 (pred t) d = _
      rw [ih (pred t) d hp]
      exact (postAt_keep m c (pred t) h).symm

theorem before15_of_ne (c : Dev nD) (t : Fin cfg0.N) (d) (h : ¬t.val = 0) : (dats m 0 c).before 15 t d = postAt m c (t.val - 1) (pred t).isLt :=
  before15 m c (t.val - 1) t d (by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem leaves0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (st0_5 t) fullShare (iblk m c 5 t) := by
  unfold Dat.leavesExact; rw [show cfg0.idle 5 (cfg0.grid.coords t) = false from rfl, after5]
theorem leaves6 (c : Dev nD) (t : Fin cfg0.N) : (dats m 0 c).leavesExact 6 t = owns (c : Thread nD τ) (st0_6 t) fullShare (iblk m c 6 t) := by
  unfold Dat.leavesExact; rw [show cfg0.idle 6 (cfg0.grid.coords t) = false from rfl, after6]
theorem leaves7 (c : Dev nD) (t : Fin cfg0.N) : (dats m 0 c).leavesExact 7 t = owns (c : Thread nD τ) (st0_7 t) fullShare (iblk m c 7 t) := by
  unfold Dat.leavesExact; rw [show cfg0.idle 7 (cfg0.grid.coords t) = false from rfl, after7]
theorem leaves8 (c : Dev nD) (t : Fin cfg0.N) : (dats m 0 c).leavesExact 8 t = owns (c : Thread nD τ) (st0_8 t) fullShare (iblk m c 8 t) := by
  unfold Dat.leavesExact; rw [show cfg0.idle 8 (cfg0.grid.coords t) = false from rfl, after8]
theorem leaves9 (c : Dev nD) (t : Fin cfg0.N) : (dats m 0 c).leavesExact 9 t = owns (c : Thread nD τ) (st0_9 t) fullShare (iblk m c 9 t) := by
  unfold Dat.leavesExact; rw [show cfg0.idle 9 (cfg0.grid.coords t) = false from rfl, after9]
theorem leaves12 (c : Dev nD) (t : Fin cfg0.N) : (dats m 0 c).leavesExact 12 t = owns (c : Thread nD τ) (st0_12 t) fullShare (k0_pay1 (gateAt m c t)) := by
  unfold Dat.leavesExact; rw [show cfg0.idle 12 (cfg0.grid.coords t) = false from rfl, after12]
theorem leaves13 (c : Dev nD) (t : Fin cfg0.N) : (dats m 0 c).leavesExact 13 t = owns (c : Thread nD τ) (st0_13 t) fullShare (k0_pay2 (upAt m c t)) := by
  unfold Dat.leavesExact; rw [show cfg0.idle 13 (cfg0.grid.coords t) = false from rfl, after13]
theorem leaves10 (c : Dev nD) (t : Fin cfg0.N) (h : t.val % 4 = 3) : (dats m 0 c).leavesExact 10 t = owns (c : Thread nD τ) (st0_10 t) fullShare (k0_pay12 (iblk m c 2 t) (iblk m c 3 t) (accAt m c t.val t.isLt) (iblk m c 0 t)) := by
  unfold Dat.leavesExact; rw [show cfg0.idle 10 (cfg0.grid.coords t) = false from live10_of_eq t h, after10]
theorem leaves11_first (c : Dev nD) (t : Fin cfg0.N) (h : t.val % 4 = 0) : (dats m 0 c).leavesExact 11 t = owns (c : Thread nD τ) (st0_11 t) fullShare (normAt m c t) := by
  unfold Dat.leavesExact; rw [show cfg0.idle 11 (cfg0.grid.coords t) = false from live11_of_eq t h, after11]
theorem leaves14_zero (c : Dev nD) (t : Fin cfg0.N) (h : t.val = 0) : (dats m 0 c).leavesExact 14 t = owns (c : Thread nD τ) (st0_14 t) fullShare (preAt m c t.val t.isLt) := by
  unfold Dat.leavesExact; rw [show cfg0.idle 14 (cfg0.grid.coords t) = false from live14_of_zero t h, after14]
theorem leaves14_last (c : Dev nD) (t : Fin cfg0.N) (h : t.val % 4 = 3) : (dats m 0 c).leavesExact 14 t = owns (c : Thread nD τ) (st0_14 t) fullShare (preAt m c t.val t.isLt) := by
  unfold Dat.leavesExact; rw [show cfg0.idle 14 (cfg0.grid.coords t) = false from live14_of_eq t h, after14]
theorem leaves15_first (c : Dev nD) (t : Fin cfg0.N) (h : t.val % 4 = 0) : (dats m 0 c).leavesExact 15 t = owns (c : Thread nD τ) (st0_15 t) fullShare (postAt m c t.val t.isLt) := by
  unfold Dat.leavesExact; rw [show cfg0.idle 15 (cfg0.grid.coords t) = false from live15_of_eq t h, after15]
theorem leaves11_last (c : Dev nD) (t : Fin cfg0.N) (h : t.val % 4 = 3) : (dats m 0 c).leavesExact 11 t = owns (c : Thread nD τ) (st0_11 t) fullShare (normAt m c t) := by
  unfold Dat.leavesExact; rw [show cfg0.idle 11 (cfg0.grid.coords t) = true from idle11_of_ne t (by omega), show (cfg0.win 11).flush t = true from (flush0_11 t).mpr h, after11]

/-- Where the gains' buffers are not stored into they are handed back as they were. -/
theorem leaves14_keep (c : Dev nD) (t : Fin cfg0.N) (h0 : ¬t.val = 0) (h : ¬t.val % 4 = 3) (d) :
    owns (c : Thread nD τ) (st0_14 t) fullShare ((dats m 0 c).before 14 t d) ⊢ (dats m 0 c).leavesExact 14 t := by
  rw [(dats m 0 c).leavesExact_idle 14 t (idle14_of_ne t h0 h) (noflush14 t (by omega))]
  iintro H; iexists d; iexact H
theorem leaves15_keep (c : Dev nD) (t : Fin cfg0.N) (h : ¬t.val % 4 = 0) (d) :
    owns (c : Thread nD τ) (st0_15 t) fullShare ((dats m 0 c).before 15 t d) ⊢ (dats m 0 c).leavesExact 15 t := by
  by_cases hf : t.val % 32 = 31
  · unfold Dat.leavesExact
    rw [show cfg0.idle 15 (cfg0.grid.coords t) = true from idle15_of_ne t h, show (cfg0.win 15).flush t = true from (flush0_15 t).mpr hf,
      after15, before15_of_ne m c t d (by omega), ← postAt_keep m c t h]
  · rw [(dats m 0 c).leavesExact_idle 15 t (idle15_of_ne t h) (noflush15 t hf)]
    iintro H; iexists d; iexact H

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = Inv m c (t.val + 1) t.isLt from rfl, Inv_succ]
  rw [leaves0, leaves1, leaves2, leaves3, leaves4, leaves5, leaves6, leaves7, leaves8, leaves9, leaves12, leaves13, Inv_castSucc m c t]
  have hN := point_lt t
  by_cases h0 : t.val % 4 = 0
  · have h1 : ¬t.val % 4 = 3 := by omega
    rw [leaves11_first m c t h0, (dats m 0 c).leavesExact_idle 10 t (idle10_of_ne t h1) (noflush10 t h1), leaves15_first m c t h0]
    refine (show iprop(Inv m c t.val (Nat.le_of_lt t.isLt) ∗ _) ⊢ iprop(Pipeline.ΦA spec0 c ∗ _) from sep_mono_left (Inv_forget m c t.val _)).trans ?_
    rw [PhiA_eq, accAt_first m c t h0]
    unfold addAt upAt gateAt normAt heldAt
    rw [start_of_eq t h0]
    by_cases hz : t.val = 0
    · rw [leaves14_zero m c t hz, preAt_zero m c t hz, postAt_zero m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (run_start c (grid0.coords t) _ _ _ _ _ _ _ _ _ _ _ _ _ _ _ _ _ _ _ _ _ _ _ _ _ _ _ _ _ _ _ _ _ _ _ _ ((start_iff t).mpr hz) ((first_iff t).mpr h0) (fun h => h1 ((last_iff t).mp h)) (iblk m c 0 t) (iblk m c 1 t) (iblk m c 2 t) (iblk m c 3 t) (iblk m c 4 t) (iblk m c 5 t) (iblk m c 6 t) (iblk m c 7 t) (iblk m c 8 t) (iblk m c 9 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [HS0]; · iexact HS0
      isplitl [HS1]; · iexact HS1
      iintro ⟨H0, H1, H2, H3, H4, H5, H6, H7, H8, H9, H10, H11, H12, H13, H14, H15, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [H13]; · iexact H13
      isplitl [H14]; · iexact H14
      iexact H15
    · rw [postAt_first m c t hz h0]
      simp only [before14_of_ne m c t _ hz, before15_of_ne m c t _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (run_first c (grid0.coords t) _ _ _ _ _ _ _ _ _ _ _ _ _ _ _ _ _ _ _ _ _ _ _ _ _ _ _ _ _ _ _ _ _ _ _ _ (fun h => hz ((start_iff t).mp h)) ((first_iff t).mpr h0) (fun h => h1 ((last_iff t).mp h)) (iblk m c 0 t) (iblk m c 1 t) (iblk m c 2 t) (iblk m c 3 t) (iblk m c 4 t) (iblk m c 5 t) (iblk m c 6 t) (iblk m c 7 t) (iblk m c 8 t) (iblk m c 9 t) _ (preAt m c (t.val - 1) (pred t).isLt) (postAt m c (t.val - 1) (pred t).isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [H13]; · iexact H13
      isplitl [H14]; · iapply (leaves14_keep m c t hz h1 d14); rw [before14_of_ne m c t d14 hz]; iexact H14
      iexact H15
  · have hz : ¬t.val = 0 := by omega
    rw [Inv_pos m c t (by omega), heldAt_pred m c t h0]
    simp only [before11_of_ne m c t _ h0, before14_of_ne m c t _ hz, before15_of_ne m c t _ hz]
    by_cases h1 : t.val % 4 = 3
    · rw [leaves11_last m c t h1, leaves10 m c t h1, leaves14_last m c t h1, preAt_last m c t h1, accAt_next m c t h0]
      unfold addAt upAt gateAt
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (run_last c (grid0.coords t) _ _ _ _ _ _ _ _ _ _ _ _ _ _ _ _ _ _ _ _ _ _ _ _ _ _ _ _ _ _ _ _ _ _ _ _ (fun h => hz ((start_iff t).mp h)) (fun h => h0 ((first_iff t).mp h)) ((last_iff t).mpr h1) (iblk m c 0 t) (iblk m c 1 t) (iblk m c 2 t) (iblk m c 3 t) (iblk m c 4 t) (iblk m c 5 t) (iblk m c 6 t) (iblk m c 7 t) (iblk m c 8 t) (iblk m c 9 t) (normAt m c t) (heldAt m c t) (accAt m c (t.val - 1) (pred t).isLt) (preAt m c (t.val - 1) (pred t).isLt) (postAt m c (t.val - 1) (pred t).isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexists _; iexact H12
      isplitl [H13]; · iexists _; iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iapply (leaves15_keep m c t h0 d15); rw [before15_of_ne m c t d15 hz]; iexact H15
    · rw [(dats m 0 c).leavesExact_idle 11 t (idle11_of_ne t h0) (noflush11 t h1), (dats m 0 c).leavesExact_idle 10 t (idle10_of_ne t h1) (noflush10 t h1),
        accAt_next m c t h0]
      simp only [before11_of_ne m c t _ h0]
      unfold addAt upAt gateAt
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (run_mid c (grid0.coords t) _ _ _ _ _ _ _ _ _ _ _ _ _ _ _ _ _ _ _ _ _ _ _ _ _ _ _ _ _ _ _ _ _ _ _ _ (fun h => hz ((start_iff t).mp h)) (fun h => h0 ((first_iff t).mp h)) (fun h => h1 ((last_iff t).mp h)) (iblk m c 0 t) (iblk m c 1 t) (iblk m c 2 t) (iblk m c 3 t) (iblk m c 4 t) (iblk m c 5 t) (iblk m c 6 t) (iblk m c 7 t) (iblk m c 8 t) (iblk m c 9 t) _ (normAt m c t) (heldAt m c t) (accAt m c (t.val - 1) (pred t).isLt) (preAt m c (t.val - 1) (pred t).isLt) (postAt m c (t.val - 1) (pred t).isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists d11; iexact H11
      isplitl [H12]; · iexact H12
      isplitl [H13]; · iexact H13
      isplitl [H14]; · iapply (leaves14_keep m c t hz h1 d14); rw [before14_of_ne m c t d14 hz]; iexact H14
      iapply (leaves15_keep m c t h0 d15); rw [before15_of_ne m c t d15 hz]; iexact H15

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_forget m c _ _

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The argument arrays end as they began, and no semaphore is left counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.Bwd

end
-- ==== Proof.Bwd.Kernel.lean ====
/-
  What the kernel computes, entry by entry: its six result arrays as functions of the arguments.

  A point adds one chunk of 704 hidden units to the accumulator, so after the fourth it holds the sum over all 2816. A
  row block adds its 512 rows to the two gains' sums, so after the eighth they hold the sum over all 4096.
-/
module

public import proofs.«01_k».proof.Proof.Bwd.Run
public import proofs.«01_k».proof.Proof.Fwd.Kernel

@[expose] public section

set_option maxRecDepth 16384

noncomputable section

namespace Cert.Bwd

open Idealize.ShloMosaic Idealize.ShloMosaic.TcCoe Idealize.SL.Sem
open Idealize.ShloMosaic.Pipeline (Dat)
open Cert.Fwd (Rows Gain UpW DownW Hidden sum_add_chunk mul_congr dotp)

/-! ## The functions -/

/-- One over a row's root mean square. -/
def invRms (v : Fin 1024 → EReal) : EReal :=
  Ideal.rsqrt (Ideal.div (∑ e : Fin 1024, v e * v e) (Ideal.ofBits .f32 0x44800000#32) + Ideal.ofBits .f32 0x358637BD#32)

/-- The gradient through a norm: of the row `v`, at the gain `g`, of the result's gradient `dy`. -/
def back (v g dy : Fin 1024 → EReal) (d : Fin 1024) : EReal :=
  invRms v * (dy d * g d - v d * (invRms v * invRms v) * Ideal.div (∑ e : Fin 1024, dy e * g e * v e) (Ideal.ofBits .f32 0x44800000#32))

/-- `x * logistic x`, and its derivative. -/
def swish (x : EReal) : EReal := x * Ideal.logistic x
def dswish (x : EReal) : EReal := Ideal.logistic x + x * Ideal.logistic x * (Ideal.ofBits .bf16 0x3F80#16 - Ideal.logistic x)

/-- Half the incoming gradient's row `r`. -/
def rowH (o : Rows .f32) (r : Fin 4096) : Fin 1024 → EReal := fun d => Ideal.ofBits .f32 0x3F000000#32 * o (ix2 r d)

/-- The gradient through the post-norm. -/
def rowD (o : Rows .f32) (y : Rows .bf16) (q : Gain) (r : Fin 4096) : Fin 1024 → EReal :=
  back (fun d => y (ix2 r d)) (fun d => q (ix2 0 d)) (rowH o r)

/-- The gradient of hidden unit `k` of chunk `f`, and of its up and gate projections. -/
def dAct (o : Rows .f32) (y : Rows .bf16) (q : Gain) (wd : DownW) (r : Fin 4096) (f : Fin 4) (k : Fin 704) : EReal :=
  dotp (rowD o y q r) (fun d => wd (ix3 ⟨f.val * 2 + k.val / 352, by omega⟩ ⟨k.val % 352, by omega⟩ d))
def dUp (o : Rows .f32) (y : Rows .bf16) (q : Gain) (g : Hidden) (wd : DownW) (r : Fin 4096) (f : Fin 4) (k : Fin 704) : EReal :=
  dAct o y q wd r f k * swish (g (ix3 f r k))
def dGate (o : Rows .f32) (y : Rows .bf16) (q : Gain) (g u : Hidden) (wd : DownW) (r : Fin 4096) (f : Fin 4) (k : Fin 704) : EReal :=
  dAct o y q wd r f k * u (ix3 f r k) * dswish (g (ix3 f r k))

/-- Hidden unit `j`'s term of the norm's gradient at `(r, d)`; zero past the last unit. -/
def term (o : Rows .f32) (y : Rows .bf16) (q : Gain) (g u : Hidden) (w : UpW) (wd : DownW) (r : Fin 4096) (d : Fin 1024) (j : ℕ) : EReal :=
  if h : j < 2816 then
    dGate o y q g u wd r ⟨j / 704, by omega⟩ ⟨j % 704, by omega⟩ * w (ix3 ⟨j / 704, by omega⟩ ⟨j % 704, by omega⟩ d)
      + dUp o y q g wd r ⟨j / 704, by omega⟩ ⟨j % 704, by omega⟩ * w (ix3 ⟨j / 704 + 4, by omega⟩ ⟨j % 704, by omega⟩ d)
  else 0

def dNorm (o : Rows .f32) (y : Rows .bf16) (q : Gain) (g u : Hidden) (w : UpW) (wd : DownW) (r : Fin 4096) (d : Fin 1024) : EReal :=
  ∑ j ∈ Finset.range 2816, term o y q g u w wd r d j

/-- Row `r`'s term of a gain's gradient at `d`; zero past the last row. -/
def gainTerm (v dy : Fin 4096 → Fin 1024 → EReal) (d : Fin 1024) (r : ℕ) : EReal :=
  if h : r < 4096 then dy ⟨r, h⟩ d * v ⟨r, h⟩ d * invRms (v ⟨r, h⟩) else 0

/-- The six results. -/
def outX (o : Rows .f32) (y : Rows .bf16) (x : Rows .f32) (p q : Gain) (g u : Hidden) (w : UpW) (wd : DownW) : Rows .f32 := fun i =>
  (o (ix2 (i 0) (i 1)) : EReal) + back (fun d => x (ix2 (i 0) d)) (fun d => p (ix2 0 d)) (dNorm o y q g u w wd (i 0)) (i 1)
def outD (o : Rows .f32) (y : Rows .bf16) (q : Gain) : Rows .bf16 := fun i => rowD o y q (i 0) (i 1)
def outG (o : Rows .f32) (y : Rows .bf16) (q : Gain) (g u : Hidden) (wd : DownW) : Hidden := fun i => dGate o y q g u wd (i 1) (i 0) (i 2)
def outU (o : Rows .f32) (y : Rows .bf16) (q : Gain) (g : Hidden) (wd : DownW) : Hidden := fun i => dUp o y q g wd (i 1) (i 0) (i 2)
def outP (o : Rows .f32) (y : Rows .bf16) (x : Rows .f32) (q : Gain) (g u : Hidden) (w : UpW) (wd : DownW) : Gain := fun i =>
  ∑ r ∈ Finset.range 4096, gainTerm (fun r d => x (ix2 r d)) (dNorm o y q g u w wd) (i 1) r
def outQ (o : Rows .f32) (y : Rows .bf16) : Gain := fun i =>
  ∑ r ∈ Finset.range 4096, gainTerm (fun r d => y (ix2 r d)) (rowH o) (i 1) r

/-- A chunk's sums over its 704 units, the gate's and the up projection's. -/
def chunk (a b wg wu : Fin 704 → EReal) : EReal := ∑ k : Fin 704, a k * wg k + ∑ k : Fin 704, b k * wu k

/-- A row block's sum over its 512 rows. -/
def rows (v dy : Fin 512 → Fin 1024 → EReal) (d : Fin 1024) : EReal := ∑ r : Fin 512, dy r d * v r d * invRms (v r)

/-! ## The payloads at an entry -/

open Cert.FfnBIdeal Cert.FfnBIdeal.Gen

theorem pay17_apply (r : Fin 512) (d : Fin 1024) : k0_pay17 (F := Ideal) (ix2 r d) = (0 : EReal) := by
  unfold k0_pay17; pointwise
theorem pay13_apply (d : Fin 1024) : k0_pay13 (F := Ideal) (ix2 0 d) = (0 : EReal) := by
  unfold k0_pay13; pointwise
theorem pay14_apply (d : Fin 1024) : k0_pay14 (F := Ideal) (ix2 0 d) = (0 : EReal) := by
  unfold k0_pay14; pointwise

theorem pay7_apply (y : Vec Ideal S512x1024 .bf16) (q : Vec Ideal S1x1024 .f32) (o : Vec Ideal S512x1024 .f32) (r : Fin 512) (d : Fin 1024) :
    k0_pay7 y q o (ix2 r d) = back (fun d => y (ix2 r d)) (fun d => q (ix2 0 d)) (fun d => Ideal.ofBits .f32 0x3F000000#32 * o (ix2 r d)) d := by
  unfold k0_pay7 k0_pay6 k0_pay5 k0_pay4 back invRms; pointwise

theorem pay16_apply (a : FVec Ideal S512x1024 .f32) (r : Fin 512) (d : Fin 1024) : k0_pay16 a (ix2 r d) = a (ix2 r d) := by
  unfold k0_pay16; pointwise

theorem pay15_apply (y : Vec Ideal S512x1024 .bf16) (q : Vec Ideal S1x1024 .f32) (o : Vec Ideal S512x1024 .f32) (r : Fin 512) (d : Fin 1024) :
    k0_pay15 (k0_pay9 y q o) (ix2 r d) = k0_pay7 y q o (ix2 r d) := by
  unfold k0_pay15 k0_pay9; pointwise

theorem pay8_apply (y : Vec Ideal S512x1024 .bf16) (o : Vec Ideal S512x1024 .f32) (q : Vec Ideal S1x1024 .f32) (d : Fin 1024) :
    k0_pay8 y o q (ix2 0 d) = (q (ix2 0 d) : EReal)
      + rows (fun r d => y (ix2 r d)) (fun r d => Ideal.ofBits .f32 0x3F000000#32 * o (ix2 r d)) d := by
  unfold k0_pay8 k0_pay6 k0_pay5 k0_pay4 rows invRms; pointwise

theorem pay11_apply (x h : Vec Ideal S512x1024 .f32) (p : Vec Ideal S1x1024 .f32) (d : Fin 1024) :
    k0_pay11 x h p (ix2 0 d) = (p (ix2 0 d) : EReal) + rows (fun r d => x (ix2 r d)) (fun r d => h (ix2 r d)) d := by
  unfold k0_pay11 k0_pay10 rows invRms; pointwise

theorem pay12_apply (x : Vec Ideal S512x1024 .f32) (p : Vec Ideal S1x1024 .f32) (h o : Vec Ideal S512x1024 .f32) (r : Fin 512) (d : Fin 1024) :
    k0_pay12 x p h o (ix2 r d) = (o (ix2 r d) : EReal)
      + back (fun d => x (ix2 r d)) (fun d => p (ix2 0 d)) (fun d => h (ix2 r d)) d := by
  unfold k0_pay12 k0_pay10 back invRms; pointwise

theorem pay1_apply (a : FVec Ideal S512x704 .bf16) (r : Fin 512) (k : Fin 704) : k0_pay1 a (ix3 0 r k) = a (ix2 r k) := by
  unfold k0_pay1; pointwise
theorem pay2_apply (a : FVec Ideal S512x704 .bf16) (r : Fin 512) (k : Fin 704) : k0_pay2 a (ix3 0 r k) = a (ix2 r k) := by
  unfold k0_pay2; pointwise

theorem pay22_apply (h : Vec Ideal S512x1024 .bf16) (wd : Vec Ideal S2x352x1024 .bf16) (g : Vec Ideal S1x512x704 .bf16) (r : Fin 512) (k : Fin 704) :
    k0_pay22 h wd g (ix2 r k) = dotp (fun d => h (ix2 r d)) (fun d => wd (ix3 ⟨k.val / 352, by omega⟩ ⟨k.val % 352, by omega⟩ d))
      * swish (g (ix3 0 r k)) := by
  unfold k0_pay22 k0_pay21 k0_pay20 k0_pay19 k0_pay18 dotp swish
  pointwise
  rw [Sigmoid.ofBits_half_bf16]
  simp only [Sigmoid.half_tanh]

theorem pay23_apply (h : Vec Ideal S512x1024 .bf16) (wd : Vec Ideal S2x352x1024 .bf16) (u g : Vec Ideal S1x512x704 .bf16) (r : Fin 512) (k : Fin 704) :
    k0_pay23 h wd u g (ix2 r k) = dotp (fun d => h (ix2 r d)) (fun d => wd (ix3 ⟨k.val / 352, by omega⟩ ⟨k.val % 352, by omega⟩ d))
      * u (ix3 0 r k) * dswish (g (ix3 0 r k)) := by
  unfold k0_pay23 k0_pay21 k0_pay20 k0_pay19 k0_pay18 dotp dswish
  pointwise
  rw [Sigmoid.ofBits_half_bf16]
  simp only [Sigmoid.half_tanh]

theorem pay3_apply (b a : FVec Ideal S512x704 .bf16) (acc : Vec Ideal S512x1024 .f32) (wg wu : Vec Ideal S1x704x1024 .bf16) (r : Fin 512) (d : Fin 1024) :
    k0_pay3 b a acc wg wu (ix2 r d) = (acc (ix2 r d) : EReal)
      + chunk (fun k => a (ix2 r k)) (fun k => b (ix2 r k)) (fun k => wg (ix3 0 k d)) (fun k => wu (ix3 0 k d)) := by
  unfold k0_pay3 chunk; pointwise

/-! ## The blocks -/

variable (m : (ℓ : Loc nD τ sig) → Buf (Elt Ideal) ℓ) (ρ : Dev nD → PrngReg)

theorem index0 : ∀ t : Fin grid0.N, win0_0.index t 0 = t.val / 4 ∧ win0_0.index t 1 = 0 := by decide +kernel
theorem index1 : ∀ t : Fin grid0.N, win0_1.index t 0 = t.val / 4 ∧ win0_1.index t 1 = 0 := by decide +kernel
theorem index2 : ∀ t : Fin grid0.N, win0_2.index t 0 = t.val / 4 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val % 4 ∧ win0_5.index t 1 = t.val / 4 ∧ win0_5.index t 2 = 0 := by decide +kernel
theorem index6 : ∀ t : Fin grid0.N, win0_6.index t 0 = t.val % 4 ∧ win0_6.index t 1 = t.val / 4 ∧ win0_6.index t 2 = 0 := by decide +kernel
theorem index7 : ∀ t : Fin grid0.N, win0_7.index t 0 = t.val % 4 ∧ win0_7.index t 1 = 0 ∧ win0_7.index t 2 = 0 := by decide +kernel
theorem index8 : ∀ t : Fin grid0.N, win0_8.index t 0 = t.val % 4 + 4 ∧ win0_8.index t 1 = 0 ∧ win0_8.index t 2 = 0 := by decide +kernel
theorem index9 : ∀ t : Fin grid0.N, win0_9.index t 0 = t.val % 4 ∧ win0_9.index t 1 = 0 ∧ win0_9.index t 2 = 0 := by decide +kernel
theorem index10 : ∀ t : Fin grid0.N, win0_10.index t 0 = t.val / 4 ∧ win0_10.index t 1 = 0 := by decide +kernel
theorem index11 : ∀ t : Fin grid0.N, win0_11.index t 0 = t.val / 4 ∧ win0_11.index t 1 = 0 := by decide +kernel
theorem index12 : ∀ t : Fin grid0.N, win0_12.index t 0 = t.val % 4 ∧ win0_12.index t 1 = t.val / 4 ∧ win0_12.index t 2 = 0 := by decide +kernel
theorem index13 : ∀ t : Fin grid0.N, win0_13.index t 0 = t.val % 4 ∧ win0_13.index t 1 = t.val / 4 ∧ win0_13.index t 2 = 0 := by decide +kernel
theorem index14 : ∀ t : Fin grid0.N, win0_14.index t 0 = 0 ∧ win0_14.index t 1 = 0 := by decide +kernel
theorem index15 : ∀ t : Fin grid0.N, win0_15.index t 0 = 0 ∧ win0_15.index t 1 = 0 := by decide +kernel

/-- The row of the arrays that row `r` of point `t`'s block is. -/
def rowAt (t : Fin cfg0.N) (r : Fin 512) : Fin 4096 := ⟨t.val / 4 * 512 + r.val, by have := point_lt t; omega⟩

theorem rowAt_start (t : Fin cfg0.N) (r : Fin 512) : rowAt (start t) r = rowAt t r :=
  Fin.ext (by show (t.val - t.val % 4) / 4 * 512 + r.val = t.val / 4 * 512 + r.val; omega)

theorem blk0 (c : Dev nD) (t : Fin cfg0.N) (r : Fin 512) (d : Fin 1024) :
    iblk m c 0 t (ix2 r d) = m ((c : Thread nD τ).loc main_arg0) (ix2 (rowAt t r) d) := by
  have h := index0 t
  show V m c main_arg0 _ = _
  rw [V_main_arg0]
  congr 1
  funext a
  match a with
  | ⟨0, _⟩ => exact Fin.ext (by show win0_0.index t 0 * 512 + 1 * r.val = t.val / 4 * 512 + r.val; rw [h.1]; omega)
  | ⟨1, _⟩ => exact Fin.ext (by show win0_0.index t 1 * 1024 + 1 * d.val = d.val; rw [h.2]; omega)

theorem blk1 (c : Dev nD) (t : Fin cfg0.N) (r : Fin 512) (d : Fin 1024) :
    iblk m c 1 t (ix2 r d) = m ((c : Thread nD τ).loc main_arg1) (ix2 (rowAt t r) d) := by
  have h := index1 t
  show V m c main_arg1 _ = _
  rw [V_main_arg1]
  congr 1
  funext a
  match a with
  | ⟨0, _⟩ => exact Fin.ext (by show win0_1.index t 0 * 512 + 1 * r.val = t.val / 4 * 512 + r.val; rw [h.1]; omega)
  | ⟨1, _⟩ => exact Fin.ext (by show win0_1.index t 1 * 1024 + 1 * d.val = d.val; rw [h.2]; omega)

theorem blk2 (c : Dev nD) (t : Fin cfg0.N) (r : Fin 512) (d : Fin 1024) :
    iblk m c 2 t (ix2 r d) = m ((c : Thread nD τ).loc main_arg2) (ix2 (rowAt t r) d) := by
  have h := index2 t
  show V m c main_arg2 _ = _
  rw [V_main_arg2]
  congr 1
  funext a
  match a with
  | ⟨0, _⟩ => exact Fin.ext (by show win0_2.index t 0 * 512 + 1 * r.val = t.val / 4 * 512 + r.val; rw [h.1]; omega)
  | ⟨1, _⟩ => exact Fin.ext (by show win0_2.index t 1 * 1024 + 1 * d.val = d.val; rw [h.2]; omega)

theorem blk3 (c : Dev nD) (t : Fin cfg0.N) (d : Fin 1024) :
    iblk m c 3 t (ix2 0 d) = m ((c : Thread nD τ).loc main_arg3) (ix2 0 d) := by
  have h := index3 t
  show V m c main_arg3 _ = _
  rw [V_main_arg3]
  congr 1
  funext a
  match a with
  | ⟨0, _⟩ => exact Fin.ext (by show win0_3.index t 0 * 1 + 1 * 0 = 0; rw [h.1])
  | ⟨1, _⟩ => exact Fin.ext (by show win0_3.index t 1 * 1024 + 1 * d.val = d.val; rw [h.2]; omega)

theorem blk4 (c : Dev nD) (t : Fin cfg0.N) (d : Fin 1024) :
    iblk m c 4 t (ix2 0 d) = m ((c : Thread nD τ).loc main_arg4) (ix2 0 d) := by
  have h := index4 t
  show V m c main_arg4 _ = _
  rw [V_main_arg4]
  congr 1
  funext a
  match a with
  | ⟨0, _⟩ => exact Fin.ext (by show win0_4.index t 0 * 1 + 1 * 0 = 0; rw [h.1])
  | ⟨1, _⟩ => exact Fin.ext (by show win0_4.index t 1 * 1024 + 1 * d.val = d.val; rw [h.2]; omega)

theorem blk5 (c : Dev nD) (t : Fin cfg0.N) (r : Fin 512) (k : Fin 704) :
    iblk m c 5 t (ix3 0 r k) = m ((c : Thread nD τ).loc main_arg5) (ix3 ⟨t.val % 4, by omega⟩ (rowAt t r) k) := by
  have h := index5 t
  show V m c main_arg5 _ = _
  rw [V_main_arg5]
  congr 1
  funext a
  match a with
  | ⟨0, _⟩ => exact Fin.ext (by show win0_5.index t 0 * 1 + 1 * 0 = t.val % 4; rw [h.1]; omega)
  | ⟨1, _⟩ => exact Fin.ext (by show win0_5.index t 1 * 512 + 1 * r.val = t.val / 4 * 512 + r.val; rw [h.2.1]; omega)
  | ⟨2, _⟩ => exact Fin.ext (by show win0_5.index t 2 * 704 + 1 * k.val = k.val; rw [h.2.2]; omega)

theorem blk6 (c : Dev nD) (t : Fin cfg0.N) (r : Fin 512) (k : Fin 704) :
    iblk m c 6 t (ix3 0 r k) = m ((c : Thread nD τ).loc main_arg6) (ix3 ⟨t.val % 4, by omega⟩ (rowAt t r) k) := by
  have h := index6 t
  show V m c main_arg6 _ = _
  rw [V_main_arg6]
  congr 1
  funext a
  match a with
  | ⟨0, _⟩ => exact Fin.ext (by show win0_6.index t 0 * 1 + 1 * 0 = t.val % 4; rw [h.1]; omega)
  | ⟨1, _⟩ => exact Fin.ext (by show win0_6.index t 1 * 512 + 1 * r.val = t.val / 4 * 512 + r.val; rw [h.2.1]; omega)
  | ⟨2, _⟩ => exact Fin.ext (by show win0_6.index t 2 * 704 + 1 * k.val = k.val; rw [h.2.2]; omega)

theorem blk7 (c : Dev nD) (t : Fin cfg0.N) (k : Fin 704) (d : Fin 1024) :
    iblk m c 7 t (ix3 0 k d) = m ((c : Thread nD τ).loc main_arg7) (ix3 ⟨t.val % 4, by omega⟩ k d) := by
  have h := index7 t
  show V m c main_arg7 _ = _
  rw [V_main_arg7]
  congr 1
  funext a
  match a with
  | ⟨0, _⟩ => exact Fin.ext (by show win0_7.index t 0 * 1 + 1 * 0 = t.val % 4; rw [h.1]; omega)
  | ⟨1, _⟩ => exact Fin.ext (by show win0_7.index t 1 * 704 + 1 * k.val = k.val; rw [h.2.1]; omega)
  | ⟨2, _⟩ => exact Fin.ext (by show win0_7.index t 2 * 1024 + 1 * d.val = d.val; rw [h.2.2]; omega)

theorem blk8 (c : Dev nD) (t : Fin cfg0.N) (k : Fin 704) (d : Fin 1024) :
    iblk m c 8 t (ix3 0 k d) = m ((c : Thread nD τ).loc main_arg7) (ix3 ⟨t.val % 4 + 4, by omega⟩ k d) := by
  have h := index8 t
  show V m c main_arg7 _ = _
  rw [V_main_arg7]
  congr 1
  funext a
  match a with
  | ⟨0, _⟩ => exact Fin.ext (by show win0_8.index t 0 * 1 + 1 * 0 = t.val % 4 + 4; rw [h.1]; omega)
  | ⟨1, _⟩ => exact Fin.ext (by show win0_8.index t 1 * 704 + 1 * k.val = k.val; rw [h.2.1]; omega)
  | ⟨2, _⟩ => exact Fin.ext (by show win0_8.index t 2 * 1024 + 1 * d.val = d.val; rw [h.2.2]; omega)

theorem blk9 (c : Dev nD) (t : Fin cfg0.N) (b : Fin 2) (k : Fin 352) (d : Fin 1024) :
    iblk m c 9 t (ix3 b k d) = m ((c : Thread nD τ).loc main_arg8) (ix3 ⟨t.val % 4 * 2 + b.val, by omega⟩ k d) := by
  have h := index9 t
  show V m c main_arg8 _ = _
  rw [V_main_arg8]
  congr 1
  funext a
  match a with
  | ⟨0, _⟩ => exact Fin.ext (by show win0_9.index t 0 * 2 + 1 * b.val = t.val % 4 * 2 + b.val; rw [h.1]; omega)
  | ⟨1, _⟩ => exact Fin.ext (by show win0_9.index t 1 * 352 + 1 * k.val = k.val; rw [h.2.1]; omega)
  | ⟨2, _⟩ => exact Fin.ext (by show win0_9.index t 2 * 1024 + 1 * d.val = d.val; rw [h.2.2]; omega)

/-! ## The accumulator -/

section
variable (c : Dev nD)

abbrev aO : Rows .f32 := m ((c : Thread nD τ).loc main_arg0)
abbrev aY : Rows .bf16 := m ((c : Thread nD τ).loc main_arg1)
abbrev aX : Rows .f32 := m ((c : Thread nD τ).loc main_arg2)
abbrev aP : Gain := m ((c : Thread nD τ).loc main_arg3)
abbrev aQ : Gain := m ((c : Thread nD τ).loc main_arg4)
abbrev aG : Hidden := m ((c : Thread nD τ).loc main_arg5)
abbrev aU : Hidden := m ((c : Thread nD τ).loc main_arg6)
abbrev aW : UpW := m ((c : Thread nD τ).loc main_arg7)
abbrev aD : DownW := m ((c : Thread nD τ).loc main_arg8)

theorem norm7_apply (t : Fin cfg0.N) (r : Fin 512) (d : Fin 1024) :
    k0_pay7 (iblk m c 1 (start t)) (iblk m c 4 (start t)) (iblk m c 0 (start t)) (ix2 r d) = rowD (aO m c) (aY m c) (aQ m c) (rowAt t r) d := by
  refine (pay7_apply _ _ _ r d).trans ?_
  unfold rowD rowH
  refine congrFun (congr (congrArg₂ back ?_ ?_) ?_) d
  · funext e; exact (blk1 m c (start t) r e).trans (by rw [rowAt_start])
  · funext e; exact blk4 m c (start t) e
  · funext e; exact congrArg (Ideal.ofBits .f32 0x3F000000#32 * ·) ((blk0 m c (start t) r e).trans (by rw [rowAt_start]))

theorem held_apply (t : Fin cfg0.N) (r : Fin 512) (d : Fin 1024) : heldAt m c t (ix2 r d) = rowD (aO m c) (aY m c) (aQ m c) (rowAt t r) d :=
  (pay15_apply _ _ _ r d).trans (norm7_apply m c t r d)

theorem norm_apply (t : Fin cfg0.N) (r : Fin 512) (d : Fin 1024) : normAt m c t (ix2 r d) = rowD (aO m c) (aY m c) (aQ m c) (rowAt t r) d :=
  (pay16_apply _ r d).trans (norm7_apply m c t r d)

theorem act_apply (t : Fin cfg0.N) (r : Fin 512) (k : Fin 704) :
    dotp (fun d => heldAt m c t (ix2 r d)) (fun d => iblk m c 9 t (ix3 ⟨k.val / 352, by omega⟩ ⟨k.val % 352, by omega⟩ d))
      = dAct (aO m c) (aY m c) (aQ m c) (aD m c) (rowAt t r) ⟨t.val % 4, by omega⟩ k :=
  Finset.sum_congr rfl fun d _ => mul_congr (held_apply m c t r d) (blk9 m c t _ _ d)

theorem up_apply (t : Fin cfg0.N) (r : Fin 512) (k : Fin 704) :
    upAt m c t (ix2 r k) = dUp (aO m c) (aY m c) (aQ m c) (aG m c) (aD m c) (rowAt t r) ⟨t.val % 4, by omega⟩ k :=
  (pay22_apply _ _ _ r k).trans (mul_congr (act_apply m c t r k) (congrArg swish (blk5 m c t r k)))

theorem gate_apply (t : Fin cfg0.N) (r : Fin 512) (k : Fin 704) :
    gateAt m c t (ix2 r k) = dGate (aO m c) (aY m c) (aQ m c) (aG m c) (aU m c) (aD m c) (rowAt t r) ⟨t.val % 4, by omega⟩ k :=
  (pay23_apply _ _ _ _ r k).trans (mul_congr (mul_congr (act_apply m c t r k) (blk6 m c t r k)) (congrArg dswish (blk5 m c t r k)))

theorem chunk_apply (t : Fin cfg0.N) (r : Fin 512) (d : Fin 1024) :
    chunk (fun k => gateAt m c t (ix2 r k)) (fun k => upAt m c t (ix2 r k)) (fun k => iblk m c 7 t (ix3 0 k d)) (fun k => iblk m c 8 t (ix3 0 k d))
      = ∑ k : Fin 704, term (aO m c) (aY m c) (aQ m c) (aG m c) (aU m c) (aW m c) (aD m c) (rowAt t r) d (t.val % 4 * 704 + k.val) := by
  unfold chunk
  rw [← Finset.sum_add_distrib]
  refine Finset.sum_congr rfl fun k _ => ?_
  have hk := k.isLt
  have e1 : (t.val % 4 * 704 + k.val) / 704 = t.val % 4 := by omega
  have e2 : (t.val % 4 * 704 + k.val) % 704 = k.val := by omega
  refine Eq.trans ?_ (dif_pos (show t.val % 4 * 704 + k.val < 2816 by omega)).symm
  refine congrArg₂ (· + ·) (mul_congr ((gate_apply m c t r k).trans ?_) ((blk7 m c t k d).trans ?_)) (mul_congr ((up_apply m c t r k).trans ?_) ((blk8 m c t k d).trans ?_))
  · exact congrArg₂ (dGate _ _ _ _ _ _ _) (Fin.ext e1.symm) (Fin.ext e2.symm)
  · exact congrArg₂ (fun a b => m ((c : Thread nD τ).loc main_arg7) (ix3 a b d)) (Fin.ext e1.symm) (Fin.ext e2.symm)
  · exact congrArg₂ (dUp _ _ _ _ _ _) (Fin.ext e1.symm) (Fin.ext e2.symm)
  · exact congrArg₂ (fun a b => m ((c : Thread nD τ).loc main_arg7) (ix3 a b d)) (Fin.ext (by dsimp only; rw [e1])) (Fin.ext e2.symm)

theorem acc_apply (r : Fin 512) (d : Fin 1024) : ∀ (i : ℕ) (hi : i < 4) (t : Fin cfg0.N), t.val % 4 = i →
    accAt m c t.val t.isLt (ix2 r d)
      = ∑ j ∈ Finset.range ((i + 1) * 704), term (aO m c) (aY m c) (aQ m c) (aG m c) (aU m c) (aW m c) (aD m c) (rowAt t r) d j
  | 0, _, t, ht => by
    rw [accAt_first m c t ht]
    refine (pay3_apply _ _ _ _ _ r d).trans ((congrArg₂ (· + ·) (pay17_apply r d) (chunk_apply m c t r d)).trans ?_)
    rw [zero_add, ht, Finset.sum_range]
    exact Finset.sum_congr rfl fun k _ => by rw [Nat.zero_mul, Nat.zero_add]
  | i + 1, hi, t, ht => by
    rw [accAt_next m c t (by omega)]
    have ih := acc_apply r d i (by omega) (pred t) (by show (t.val - 1) % 4 = i; omega)
    have e : rowAt (pred t) r = rowAt t r :=
      Fin.ext (by show (t.val - 1) / 4 * 512 + r.val = t.val / 4 * 512 + r.val; omega)
    refine (pay3_apply _ _ _ _ _ r d).trans ((congrArg₂ (· + ·) ih (chunk_apply m c t r d)).trans ?_)
    rw [e, ht, show (i + 1 + 1) * 704 = (i + 1) * 704 + 704 by omega, ← sum_add_chunk]

theorem acc_last (t : Fin cfg0.N) (ht : t.val % 4 = 3) (r : Fin 512) (d : Fin 1024) :
    accAt m c t.val t.isLt (ix2 r d) = dNorm (aO m c) (aY m c) (aQ m c) (aG m c) (aU m c) (aW m c) (aD m c) (rowAt t r) d :=
  acc_apply m c r d 3 (by omega) t ht

/-! ## The gains' sums -/

/-- Point `t`'s row block of a gain's terms. -/
theorem rows_apply (v dy : Fin 4096 → Fin 1024 → EReal) (v' dy' : Fin 512 → Fin 1024 → EReal) (t : Fin cfg0.N)
    (hv : ∀ r d, v' r d = v (rowAt t r) d) (hd : ∀ r d, dy' r d = dy (rowAt t r) d) (d : Fin 1024) :
    rows v' dy' d = ∑ r : Fin 512, gainTerm v dy d (t.val / 4 * 512 + r.val) := by
  have ht := point_lt t
  refine Finset.sum_congr rfl fun r _ => ?_
  have hr := r.isLt
  refine Eq.trans ?_ (dif_pos (show t.val / 4 * 512 + r.val < 4096 by omega)).symm
  exact mul_congr (mul_congr (hd r d) (hv r d)) (congrArg invRms (funext fun e => hv r e))

theorem post_rows (t : Fin cfg0.N) (d : Fin 1024) :
    rows (fun r d => iblk m c 1 t (ix2 r d)) (fun r d => Ideal.ofBits .f32 0x3F000000#32 * iblk m c 0 t (ix2 r d)) d
      = ∑ r : Fin 512, gainTerm (fun r d => aY m c (ix2 r d)) (rowH (aO m c)) d (t.val / 4 * 512 + r.val) :=
  rows_apply _ _ _ _ t (fun r d => blk1 m c t r d) (fun r d => congrArg (Ideal.ofBits .f32 0x3F000000#32 * ·) (blk0 m c t r d)) d

theorem pre_rows (t : Fin cfg0.N) (ht : t.val % 4 = 3) (d : Fin 1024) :
    rows (fun r d => iblk m c 2 t (ix2 r d)) (fun r d => accAt m c t.val t.isLt (ix2 r d)) d
      = ∑ r : Fin 512, gainTerm (fun r d => aX m c (ix2 r d)) (dNorm (aO m c) (aY m c) (aQ m c) (aG m c) (aU m c) (aW m c) (aD m c)) d (t.val / 4 * 512 + r.val) :=
  rows_apply _ _ _ _ t (fun r d => blk2 m c t r d) (fun r d => acc_last m c t ht r d) d

theorem post_apply (d : Fin 1024) : ∀ (n : ℕ) (t : Fin cfg0.N), t.val = n →
    postAt m c t.val t.isLt (ix2 0 d)
      = ∑ r ∈ Finset.range ((n / 4 + 1) * 512), gainTerm (fun r d => aY m c (ix2 r d)) (rowH (aO m c)) d r
  | 0, t, ht => by
    rw [postAt_zero m c t ht]
    refine (pay8_apply _ _ _ d).trans ((congrArg₂ (· + ·) (pay14_apply d) (post_rows m c t d)).trans ?_)
    rw [zero_add, ht, Finset.sum_range]
    exact Finset.sum_congr rfl fun k _ => congrArg (gainTerm _ _ d) (by show 0 / 4 * 512 + k.val = k.val; omega)
  | n + 1, t, ht => by
    have ih := post_apply d n (pred t) (by show t.val - 1 = n; omega)
    by_cases h : t.val % 4 = 0
    · rw [postAt_first m c t (by omega) h]
      refine (pay8_apply _ _ _ d).trans ((congrArg₂ (· + ·) ih (post_rows m c t d)).trans ?_)
      rw [show t.val / 4 = n / 4 + 1 by omega, show (n + 1) / 4 = n / 4 + 1 by omega,
        show (n / 4 + 1 + 1) * 512 = (n / 4 + 1) * 512 + 512 by omega, ← sum_add_chunk]
    · rw [postAt_keep m c t h, show (n + 1) / 4 = n / 4 by omega]
      exact ih

theorem pre_apply (d : Fin 1024) : ∀ (n : ℕ) (t : Fin cfg0.N), t.val = n →
    preAt m c t.val t.isLt (ix2 0 d)
      = ∑ r ∈ Finset.range ((n + 1) / 4 * 512), gainTerm (fun r d => aX m c (ix2 r d)) (dNorm (aO m c) (aY m c) (aQ m c) (aG m c) (aU m c) (aW m c) (aD m c)) d r
  | 0, t, ht => by
    rw [preAt_zero m c t ht]
    exact pay13_apply d
  | n + 1, t, ht => by
    have ih := pre_apply d n (pred t) (by show t.val - 1 = n; omega)
    by_cases h : t.val % 4 = 3
    · rw [preAt_last m c t h]
      refine (pay11_apply _ _ _ d).trans ((congrArg₂ (· + ·) ih (pre_rows m c t h d)).trans ?_)
      rw [show t.val / 4 = (n + 1) / 4 by omega, show (n + 1 + 1) / 4 = (n + 1) / 4 + 1 by omega,
        show ((n + 1) / 4 + 1) * 512 = (n + 1) / 4 * 512 + 512 by omega, ← sum_add_chunk]
    · rw [preAt_keep m c t (by omega) h, show (n + 1 + 1) / 4 = (n + 1) / 4 by omega]
      exact ih

/-! ## The result arrays -/

theorem flushed10 (t : Fin cfg0.N) (hf : (cfg0.win 10).flush t = true) :
    (dats m 0 c).flushed 10 t = ((cfg0.win 10).blk t).view.read (Elt Ideal) (outX (aO m c) (aY m c) (aX m c) (aP m c) (aQ m c) (aG m c) (aU m c) (aW m c) (aD m c)) := by
  have hm : t.val % 4 = 3 := (flush0_10 t).mp hf
  have h := index10 t
  show (cfg0.win 10).cut (grid0.coords t) ((dats m 0 c).after 10 t) = _
  rw [after10]
  funext y
  have hy : ((cfg0.win 10).blk t).view.emb y = ix2 (rowAt t (y 0)) (y 1) := by
    funext a
    match a with
    | ⟨0, _⟩ => exact Fin.ext (by show win0_10.index t 0 * 512 + 1 * (y 0).val = t.val / 4 * 512 + (y 0).val; rw [h.1]; omega)
    | ⟨1, _⟩ => exact Fin.ext (by show win0_10.index t 1 * 1024 + 1 * (y 1).val = (y 1).val; rw [h.2]; omega)
  have hx : (cfg0.win 10).xinj (grid0.coords t) y = ix2 (y 0) (y 1) := eq_ix2 _
  refine (congrArg _ hx).trans (Eq.trans ?_ (congrArg (outX (aO m c) (aY m c) (aX m c) (aP m c) (aQ m c) (aG m c) (aU m c) (aW m c) (aD m c)) hy).symm)
  exact (pay12_apply _ _ _ _ (y 0) (y 1)).trans (congrArg₂ (· + ·) (blk0 m c t (y 0) (y 1)) (congrFun (congr (congrArg₂ back
      (funext fun d => blk2 m c t (y 0) d) (funext fun d => blk3 m c t d)) (funext fun d => acc_last m c t hm (y 0) d)) (y 1)))

theorem final10 : (dats m 0 c).arrAt 10 cfg0.N = outX (aO m c) (aY m c) (aX m c) (aP m c) (aQ m c) (aG m c) (aU m c) (aW m c) (aD m c) :=
  (dats m 0 c).arrAt_eq_of_cover 10 _ (fun t hf => flushed10 m c t hf) fun i => by
    have h0 : (i 0).val < 4096 := (i 0).isLt
    have h1 : (i 1).val < 1024 := (i 1).isLt
    let t : Fin cfg0.N := ⟨(i 0).val / 512 * 4 + 3, lt_of_lt_of_eq (by omega) N_0.symm⟩
    have ht : t.val = (i 0).val / 512 * 4 + 3 := rfl
    have e := index10 t
    refine ⟨t, (flush0_10 t).mpr (by omega), ?_⟩
    show i ∈ ((View.whole main_v0_0).slice (win0_10.rect t)).set
    rw [View.set_slice_whole, Rect.mem_set_unit]
    intro a
    match a with
    | ⟨0, _⟩ => show win0_10.index t 0 * 512 ≤ (i 0).val ∧ (i 0).val < win0_10.index t 0 * 512 + 512; rw [e.1]; omega
    | ⟨1, _⟩ => show win0_10.index t 1 * 1024 ≤ (i 1).val ∧ (i 1).val < win0_10.index t 1 * 1024 + 1024; rw [e.2]; omega

theorem flushed11 (t : Fin cfg0.N) (hf : (cfg0.win 11).flush t = true) :
    (dats m 0 c).flushed 11 t = ((cfg0.win 11).blk t).view.read (Elt Ideal) (outD (aO m c) (aY m c) (aQ m c)) := by
  have hm : t.val % 4 = 3 := (flush0_11 t).mp hf
  have h := index11 t
  show (cfg0.win 11).cut (grid0.coords t) ((dats m 0 c).after 11 t) = _
  rw [after11]
  funext y
  have hy : ((cfg0.win 11).blk t).view.emb y = ix2 (rowAt t (y 0)) (y 1) := by
    funext a
    match a with
    | ⟨0, _⟩ => exact Fin.ext (by show win0_11.index t 0 * 512 + 1 * (y 0).val = t.val / 4 * 512 + (y 0).val; rw [h.1]; omega)
    | ⟨1, _⟩ => exact Fin.ext (by show win0_11.index t 1 * 1024 + 1 * (y 1).val = (y 1).val; rw [h.2]; omega)
  have hx : (cfg0.win 11).xinj (grid0.coords t) y = ix2 (y 0) (y 1) := eq_ix2 _
  refine (congrArg _ hx).trans (Eq.trans ?_ (congrArg (outD (aO m c) (aY m c) (aQ m c)) hy).symm)
  exact norm_apply m c t (y 0) (y 1)

theorem final11 : (dats m 0 c).arrAt 11 cfg0.N = outD (aO m c) (aY m c) (aQ m c) :=
  (dats m 0 c).arrAt_eq_of_cover 11 _ (fun t hf => flushed11 m c t hf) fun i => by
    have h0 : (i 0).val < 4096 := (i 0).isLt
    have h1 : (i 1).val < 1024 := (i 1).isLt
    let t : Fin cfg0.N := ⟨(i 0).val / 512 * 4 + 3, lt_of_lt_of_eq (by omega) N_0.symm⟩
    have ht : t.val = (i 0).val / 512 * 4 + 3 := rfl
    have e := index11 t
    refine ⟨t, (flush0_11 t).mpr (by omega), ?_⟩
    show i ∈ ((View.whole main_v0_1).slice (win0_11.rect t)).set
    rw [View.set_slice_whole, Rect.mem_set_unit]
    intro a
    match a with
    | ⟨0, _⟩ => show win0_11.index t 0 * 512 ≤ (i 0).val ∧ (i 0).val < win0_11.index t 0 * 512 + 512; rw [e.1]; omega
    | ⟨1, _⟩ => show win0_11.index t 1 * 1024 ≤ (i 1).val ∧ (i 1).val < win0_11.index t 1 * 1024 + 1024; rw [e.2]; omega

theorem flushed12 (t : Fin cfg0.N) (hf : (cfg0.win 12).flush t = true) :
    (dats m 0 c).flushed 12 t = ((cfg0.win 12).blk t).view.read (Elt Ideal) (outG (aO m c) (aY m c) (aQ m c) (aG m c) (aU m c) (aD m c)) := by
  have h := index12 t
  show (cfg0.win 12).cut (grid0.coords t) ((dats m 0 c).after 12 t) = _
  rw [after12]
  funext y
  have hy : ((cfg0.win 12).blk t).view.emb y = ix3 ⟨t.val % 4, by omega⟩ (rowAt t (y 1)) (y 2) := by
    funext a
    match a with
    | ⟨0, _⟩ => exact Fin.ext (by have : (y 0).val < 1 := (y 0).isLt; show win0_12.index t 0 * 1 + 1 * (y 0).val = t.val % 4; rw [h.1]; omega)
    | ⟨1, _⟩ => exact Fin.ext (by show win0_12.index t 1 * 512 + 1 * (y 1).val = t.val / 4 * 512 + (y 1).val; rw [h.2.1]; omega)
    | ⟨2, _⟩ => exact Fin.ext (by show win0_12.index t 2 * 704 + 1 * (y 2).val = (y 2).val; rw [h.2.2]; omega)
  have hx : (cfg0.win 12).xinj (grid0.coords t) y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  refine (congrArg _ hx).trans (Eq.trans ?_ (congrArg (outG (aO m c) (aY m c) (aQ m c) (aG m c) (aU m c) (aD m c)) hy).symm)
  exact (pay1_apply _ (y 1) (y 2)).trans (gate_apply m c t (y 1) (y 2))

theorem final12 : (dats m 0 c).arrAt 12 cfg0.N = outG (aO m c) (aY m c) (aQ m c) (aG m c) (aU m c) (aD m c) :=
  (dats m 0 c).arrAt_eq_of_cover 12 _ (fun t hf => flushed12 m c t hf) fun i => by
    have h0 : (i 0).val < 4 := (i 0).isLt
    have h1 : (i 1).val < 4096 := (i 1).isLt
    have h2 : (i 2).val < 704 := (i 2).isLt
    let t : Fin cfg0.N := ⟨(i 1).val / 512 * 4 + (i 0).val, lt_of_lt_of_eq (by omega) N_0.symm⟩
    have ht : t.val = (i 1).val / 512 * 4 + (i 0).val := rfl
    have e := index12 t
    refine ⟨t, flush0_12 t, ?_⟩
    show i ∈ ((View.whole main_v0_2).slice (win0_12.rect t)).set
    rw [View.set_slice_whole, Rect.mem_set_unit]
    intro a
    match a with
    | ⟨0, _⟩ => show win0_12.index t 0 * 1 ≤ (i 0).val ∧ (i 0).val < win0_12.index t 0 * 1 + 1; rw [e.1]; omega
    | ⟨1, _⟩ => show win0_12.index t 1 * 512 ≤ (i 1).val ∧ (i 1).val < win0_12.index t 1 * 512 + 512; rw [e.2.1]; omega
    | ⟨2, _⟩ => show win0_12.index t 2 * 704 ≤ (i 2).val ∧ (i 2).val < win0_12.index t 2 * 704 + 704; rw [e.2.2]; omega

theorem flushed13 (t : Fin cfg0.N) (hf : (cfg0.win 13).flush t = true) :
    (dats m 0 c).flushed 13 t = ((cfg0.win 13).blk t).view.read (Elt Ideal) (outU (aO m c) (aY m c) (aQ m c) (aG m c) (aD m c)) := by
  have h := index13 t
  show (cfg0.win 13).cut (grid0.coords t) ((dats m 0 c).after 13 t) = _
  rw [after13]
  funext y
  have hy : ((cfg0.win 13).blk t).view.emb y = ix3 ⟨t.val % 4, by omega⟩ (rowAt t (y 1)) (y 2) := by
    funext a
    match a with
    | ⟨0, _⟩ => exact Fin.ext (by have : (y 0).val < 1 := (y 0).isLt; show win0_13.index t 0 * 1 + 1 * (y 0).val = t.val % 4; rw [h.1]; omega)
    | ⟨1, _⟩ => exact Fin.ext (by show win0_13.index t 1 * 512 + 1 * (y 1).val = t.val / 4 * 512 + (y 1).val; rw [h.2.1]; omega)
    | ⟨2, _⟩ => exact Fin.ext (by show win0_13.index t 2 * 704 + 1 * (y 2).val = (y 2).val; rw [h.2.2]; omega)
  have hx : (cfg0.win 13).xinj (grid0.coords t) y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  refine (congrArg _ hx).trans (Eq.trans ?_ (congrArg (outU (aO m c) (aY m c) (aQ m c) (aG m c) (aD m c)) hy).symm)
  exact (pay2_apply _ (y 1) (y 2)).trans (up_apply m c t (y 1) (y 2))

theorem final13 : (dats m 0 c).arrAt 13 cfg0.N = outU (aO m c) (aY m c) (aQ m c) (aG m c) (aD m c) :=
  (dats m 0 c).arrAt_eq_of_cover 13 _ (fun t hf => flushed13 m c t hf) fun i => by
    have h0 : (i 0).val < 4 := (i 0).isLt
    have h1 : (i 1).val < 4096 := (i 1).isLt
    have h2 : (i 2).val < 704 := (i 2).isLt
    let t : Fin cfg0.N := ⟨(i 1).val / 512 * 4 + (i 0).val, lt_of_lt_of_eq (by omega) N_0.symm⟩
    have ht : t.val = (i 1).val / 512 * 4 + (i 0).val := rfl
    have e := index13 t
    refine ⟨t, flush0_13 t, ?_⟩
    show i ∈ ((View.whole main_v0_3).slice (win0_13.rect t)).set
    rw [View.set_slice_whole, Rect.mem_set_unit]
    intro a
    match a with
    | ⟨0, _⟩ => show win0_13.index t 0 * 1 ≤ (i 0).val ∧ (i 0).val < win0_13.index t 0 * 1 + 1; rw [e.1]; omega
    | ⟨1, _⟩ => show win0_13.index t 1 * 512 ≤ (i 1).val ∧ (i 1).val < win0_13.index t 1 * 512 + 512; rw [e.2.1]; omega
    | ⟨2, _⟩ => show win0_13.index t 2 * 704 ≤ (i 2).val ∧ (i 2).val < win0_13.index t 2 * 704 + 704; rw [e.2.2]; omega

theorem flushed14 (t : Fin cfg0.N) (hf : (cfg0.win 14).flush t = true) :
    (dats m 0 c).flushed 14 t = ((cfg0.win 14).blk t).view.read (Elt Ideal) (outP (aO m c) (aY m c) (aX m c) (aQ m c) (aG m c) (aU m c) (aW m c) (aD m c)) := by
  have hm : t.val = 31 := by have := (flush0_14 t).mp hf; have := point_lt t; omega
  have h := index14 t
  show (cfg0.win 14).cut (grid0.coords t) ((dats m 0 c).after 14 t) = _
  rw [after14]
  funext y
  have hy : ((cfg0.win 14).blk t).view.emb y = ix2 0 (y 1) := by
    funext a
    match a with
    | ⟨0, _⟩ => exact Fin.ext (by have : (y 0).val < 1 := (y 0).isLt; show win0_14.index t 0 * 1 + 1 * (y 0).val = 0; rw [h.1]; omega)
    | ⟨1, _⟩ => exact Fin.ext (by show win0_14.index t 1 * 1024 + 1 * (y 1).val = (y 1).val; rw [h.2]; omega)
  have hx : (cfg0.win 14).xinj (grid0.coords t) y = ix2 0 (y 1) := by
    funext a
    match a with
    | ⟨0, _⟩ => exact Fin.ext (by have : (y 0).val < 1 := (y 0).isLt; show (y 0).val = 0; omega)
    | ⟨1, _⟩ => rfl
  refine (congrArg _ hx).trans (Eq.trans ?_ (congrArg (outP (aO m c) (aY m c) (aX m c) (aQ m c) (aG m c) (aU m c) (aW m c) (aD m c)) hy).symm)
  exact (pre_apply m c (y 1) 31 t hm).trans rfl

theorem final14 : (dats m 0 c).arrAt 14 cfg0.N = outP (aO m c) (aY m c) (aX m c) (aQ m c) (aG m c) (aU m c) (aW m c) (aD m c) :=
  (dats m 0 c).arrAt_eq_of_cover 14 _ (fun t hf => flushed14 m c t hf) fun i => by
    have h0 : (i 0).val < 1 := (i 0).isLt
    have h1 : (i 1).val < 1024 := (i 1).isLt
    let t : Fin cfg0.N := ⟨31, lt_of_lt_of_eq (by omega) N_0.symm⟩
    have ht : t.val = 31 := rfl
    have e := index14 t
    refine ⟨t, (flush0_14 t).mpr (by omega), ?_⟩
    show i ∈ ((View.whole main_v0_4).slice (win0_14.rect t)).set
    rw [View.set_slice_whole, Rect.mem_set_unit]
    intro a
    match a with
    | ⟨0, _⟩ => show win0_14.index t 0 * 1 ≤ (i 0).val ∧ (i 0).val < win0_14.index t 0 * 1 + 1; rw [e.1]; omega
    | ⟨1, _⟩ => show win0_14.index t 1 * 1024 ≤ (i 1).val ∧ (i 1).val < win0_14.index t 1 * 1024 + 1024; rw [e.2]; omega

theorem flushed15 (t : Fin cfg0.N) (hf : (cfg0.win 15).flush t = true) :
    (dats m 0 c).flushed 15 t = ((cfg0.win 15).blk t).view.read (Elt Ideal) (outQ (aO m c) (aY m c)) := by
  have hm : t.val = 31 := by have := (flush0_15 t).mp hf; have := point_lt t; omega
  have h := index15 t
  show (cfg0.win 15).cut (grid0.coords t) ((dats m 0 c).after 15 t) = _
  rw [after15]
  funext y
  have hy : ((cfg0.win 15).blk t).view.emb y = ix2 0 (y 1) := by
    funext a
    match a with
    | ⟨0, _⟩ => exact Fin.ext (by have : (y 0).val < 1 := (y 0).isLt; show win0_15.index t 0 * 1 + 1 * (y 0).val = 0; rw [h.1]; omega)
    | ⟨1, _⟩ => exact Fin.ext (by show win0_15.index t 1 * 1024 + 1 * (y 1).val = (y 1).val; rw [h.2]; omega)
  have hx : (cfg0.win 15).xinj (grid0.coords t) y = ix2 0 (y 1) := by
    funext a
    match a with
    | ⟨0, _⟩ => exact Fin.ext (by have : (y 0).val < 1 := (y 0).isLt; show (y 0).val = 0; omega)
    | ⟨1, _⟩ => rfl
  refine (congrArg _ hx).trans (Eq.trans ?_ (congrArg (outQ (aO m c) (aY m c)) hy).symm)
  exact (post_apply m c (y 1) 31 t hm).trans rfl

theorem final15 : (dats m 0 c).arrAt 15 cfg0.N = outQ (aO m c) (aY m c) :=
  (dats m 0 c).arrAt_eq_of_cover 15 _ (fun t hf => flushed15 m c t hf) fun i => by
    have h0 : (i 0).val < 1 := (i 0).isLt
    have h1 : (i 1).val < 1024 := (i 1).isLt
    let t : Fin cfg0.N := ⟨31, lt_of_lt_of_eq (by omega) N_0.symm⟩
    have ht : t.val = 31 := rfl
    have e := index15 t
    refine ⟨t, (flush0_15 t).mpr (by omega), ?_⟩
    show i ∈ ((View.whole main_v0_5).slice (win0_15.rect t)).set
    rw [View.set_slice_whole, Rect.mem_set_unit]
    intro a
    match a with
    | ⟨0, _⟩ => show win0_15.index t 0 * 1 ≤ (i 0).val ∧ (i 0).val < win0_15.index t 0 * 1 + 1; rw [e.1]; omega
    | ⟨1, _⟩ => show win0_15.index t 1 * 1024 ≤ (i 1).val ∧ (i 1).val < win0_15.index t 1 * 1024 + 1024; rw [e.2]; omega

end

/-- The run, with the six result arrays named. -/
theorem run : θ_run defs (onTc (τ := τ) (main (F := Ideal))) ⟨m, fun _ => 0, ρ⟩ fun r => ∀ c : Dev nD,
      r.2.mem ((c.tc : Thread nD τ).loc main_v0_0) = outX (aO m c) (aY m c) (aX m c) (aP m c) (aQ m c) (aG m c) (aU m c) (aW m c) (aD m c)
      ∧ r.2.mem ((c.tc : Thread nD τ).loc main_v0_1) = outD (aO m c) (aY m c) (aQ m c)
      ∧ r.2.mem ((c.tc : Thread nD τ).loc main_v0_2) = outG (aO m c) (aY m c) (aQ m c) (aG m c) (aU m c) (aD m c)
      ∧ r.2.mem ((c.tc : Thread nD τ).loc main_v0_3) = outU (aO m c) (aY m c) (aQ m c) (aG m c) (aD m c)
      ∧ r.2.mem ((c.tc : Thread nD τ).loc main_v0_4) = outP (aO m c) (aY m c) (aX m c) (aQ m c) (aG m c) (aU m c) (aW m c) (aD m c)
      ∧ r.2.mem ((c.tc : Thread nD τ).loc main_v0_5) = outQ (aO m c) (aY m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h.2 c).1 10).trans (final10 m c), ((h.2 c).1 11).trans (final11 m c), ((h.2 c).1 12).trans (final12 m c), ((h.2 c).1 13).trans (final13 m c), ((h.2 c).1 14).trans (final14 m c), ((h.2 c).1 15).trans (final15 m c), h.1.1 c⟩)
    (θ_run_and (frame m ρ) (run_main m ρ))

end Cert.Bwd

end
-- ==== Proof.Bwd.Real.lean ====
/-
  The arithmetic between the kernel's arrangement and the reference's. The gradient through a norm is the same either way
  at every extended real; the gradient through `x * logistic x` where the gradient that comes in is a real number, and it
  is one where the arrays it is made of hold real numbers.
-/
module

public import proofs.«01_k».proof.Proof.Bwd.Kernel

@[expose] public section

noncomputable section

namespace Cert.Bwd

open Idealize.ShloMosaic
open Cert.Fwd (Rows Gain UpW DownW Hidden mul_congr dotp)

/-! ## Real entries -/

def IsReal (a : EReal) : Prop := ∃ r : ℝ, a = (r : EReal)

theorem IsReal.add {a b : EReal} : IsReal a → IsReal b → IsReal (a + b)
  | ⟨r, hr⟩, ⟨s, hs⟩ => ⟨r + s, by rw [hr, hs, EReal.coe_add]⟩
theorem IsReal.sub {a b : EReal} : IsReal a → IsReal b → IsReal (a - b)
  | ⟨r, hr⟩, ⟨s, hs⟩ => ⟨r - s, by rw [hr, hs, EReal.coe_sub]⟩
theorem IsReal.mul {a b : EReal} : IsReal a → IsReal b → IsReal (a * b)
  | ⟨r, hr⟩, ⟨s, hs⟩ => ⟨r * s, by rw [hr, hs, EReal.coe_mul]⟩
theorem IsReal.sum {n : ℕ} {f : Fin n → EReal} (h : ∀ i, IsReal (f i)) : IsReal (∑ i, f i) :=
  Finset.sum_induction f IsReal (fun _ _ => IsReal.add) ⟨0, rfl⟩ fun i _ => h i

theorem isReal_of_ne {a : EReal} (h1 : a ≠ ⊤) (h2 : a ≠ ⊥) : IsReal a := ⟨a.toReal, (EReal.coe_toReal h1 h2).symm⟩

/-- Below the top in absolute value is to be real. -/
theorem isReal_of_abs {a : EReal} (h : max a (-a) < ⊤) : IsReal a := by
  refine isReal_of_ne (fun e => ?_) (fun e => ?_)
  · rw [e] at h; exact absurd h (by simp)
  · rw [e] at h; exact absurd h (by simp)

/-! ## The constants -/

theorem ofBits_dim : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_top : Ideal.ofBits .f32 0x7F800000#32 = ⊤ := by
  simp [Ideal.ofBits, Ideal.ieee]
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

theorem div_dim (a : EReal) : Ideal.div a (Ideal.ofBits .f32 0x44800000#32) = a * ((1 / 1024 : ℝ) : EReal) := by
  rw [ofBits_dim, Ideal.div_coe (by norm_num)]

/-! ## A row's mean square -/

def meanSq (v : Fin 1024 → EReal) : EReal :=
  Ideal.div (∑ e : Fin 1024, v e * v e) (Ideal.ofBits .f32 0x44800000#32) + Ideal.ofBits .f32 0x358637BD#32

theorem sq_nonneg (a : EReal) : 0 ≤ a * a := by
  induction a with
  | bot => simp
  | top => simp
  | coe a => rw [← EReal.coe_mul]; exact_mod_cast mul_self_nonneg a

/-- It is a positive real number, and then the row's entries are real; or the top. -/
theorem meanSq_cases (v : Fin 1024 → EReal) :
    (∃ m : ℝ, 0 < m ∧ meanSq v = (m : EReal) ∧ ∀ e, IsReal (v e)) ∨ meanSq v = ⊤ := by
  obtain ⟨ε, hε, eε⟩ := ofBits_eps
  have h0 : 0 ≤ ∑ e : Fin 1024, v e * v e := Finset.sum_nonneg fun e _ => sq_nonneg (v e)
  unfold meanSq
  rw [div_dim, eε]
  by_cases ht : ∑ e : Fin 1024, v e * v e = ⊤
  · right
    rw [ht, EReal.top_mul_coe_of_pos (by norm_num)]
    exact EReal.top_add_coe ε
  · left
    have hb : ∑ e : Fin 1024, v e * v e ≠ ⊥ := fun e => by rw [e] at h0; exact absurd h0 (by simp)
    obtain ⟨s, hs⟩ := isReal_of_ne ht hb
    rw [hs] at h0
    have hs0 : 0 ≤ s := by exact_mod_cast h0
    refine ⟨s * (1 / 1024) + ε, by positivity, by rw [hs, EReal.coe_add, EReal.coe_mul], fun e => ?_⟩
    have hle : v e * v e ≤ ∑ e : Fin 1024, v e * v e :=
      Finset.single_le_sum (f := fun e => v e * v e) (fun e _ => sq_nonneg (v e)) (Finset.mem_univ e)
    refine isReal_of_ne (fun h => ht ?_) (fun h => ht ?_)
    · rw [h] at hle; exact top_le_iff.1 (by simpa using hle)
    · rw [h] at hle; exact top_le_iff.1 (by simpa using hle)

theorem invRms_eq (v : Fin 1024 → EReal) : invRms v = Ideal.rsqrt (meanSq v) := rfl

/-- One over the root: a positive real whose square is one over the mean square, or zero under the top. -/
theorem invRms_cases (v : Fin 1024 → EReal) :
    (∃ m ρ : ℝ, 0 < ρ ∧ m ≠ 0 ∧ ρ * ρ = 1 / m ∧ meanSq v = (m : EReal) ∧ invRms v = (ρ : EReal) ∧ ∀ e, IsReal (v e))
      ∨ (meanSq v = ⊤ ∧ invRms v = 0) := by
  rcases meanSq_cases v with ⟨m, hm, e, hv⟩ | e
  · left
    refine ⟨m, (Real.sqrt m)⁻¹, inv_pos.2 (Real.sqrt_pos.2 hm), hm.ne', ?_, e, ?_, hv⟩
    · rw [← mul_inv, Real.mul_self_sqrt hm.le, one_div]
    · rw [invRms_eq, e, Ideal.rsqrt_coe, if_neg (not_lt.2 hm.le), if_neg hm.ne']
  · exact Or.inr ⟨e, by rw [invRms_eq, e]; rfl⟩

/-! ## The gradient through a norm -/

/-- The factor the reference multiplies a row by, twice. -/
def pull (v g dy : Fin 1024 → EReal) : EReal :=
  Ideal.div ((∑ e : Fin 1024, v e * (dy e * g e)) * (Ideal.ofBits .f32 0xBF000000#32 * Ideal.div (invRms v) (meanSq v)))
    (Ideal.ofBits .f32 0x44800000#32)

/-- The reference's arrangement of `back`. -/
def backRef (v g dy : Fin 1024 → EReal) (d : Fin 1024) : EReal :=
  dy d * g d * invRms v + v d * pull v g dy + pull v g dy * v d

/-- Twice an extended real, through its factor. -/
theorem coe_mul_add (c : ℝ) (a : EReal) : (c : EReal) * a + (c : EReal) * a = ((c + c : ℝ) : EReal) * a := by
  induction a with
  | coe a => rw [← EReal.coe_mul, ← EReal.coe_mul, ← EReal.coe_add]; congr 1; ring
  | top =>
    rcases lt_trichotomy c 0 with h | h | h
    · rw [EReal.coe_mul_top_of_neg h, EReal.coe_mul_top_of_neg (by linarith)]; rfl
    · simp [h]
    · rw [EReal.coe_mul_top_of_pos h, EReal.coe_mul_top_of_pos (by linarith)]; rfl
  | bot =>
    rcases lt_trichotomy c 0 with h | h | h
    · rw [EReal.coe_mul_bot_of_neg h, EReal.coe_mul_bot_of_neg (by linarith)]; rfl
    · simp [h]
    · rw [EReal.coe_mul_bot_of_pos h, EReal.coe_mul_bot_of_pos (by linarith)]; rfl

theorem backRef_eq (v g dy : Fin 1024 → EReal) (d : Fin 1024) : backRef v g dy d = back v g dy d := by
  have hs : ∑ e : Fin 1024, v e * (dy e * g e) = ∑ e : Fin 1024, dy e * g e * v e :=
    Finset.sum_congr rfl fun e _ => mul_comm _ _
  unfold backRef back pull
  rw [hs, div_dim, div_dim, ofBits_neg_half]
  rcases invRms_cases v with ⟨m, ρ, hρ, hm, hρm, em, eρ, -⟩ | ⟨em, eρ⟩
  · rw [em, eρ, Ideal.div_coe hm, ← EReal.coe_mul ρ (1 / m), ← EReal.coe_mul ρ ρ, ← EReal.coe_mul (-(1 / 2)) (ρ * (1 / m))]
    generalize dy d * g d = a
    generalize ∑ e : Fin 1024, dy e * g e * v e = s
    generalize v d = x
    have h1 : x * (s * ((-(1 / 2) * (ρ * (1 / m)) : ℝ) : EReal) * ((1 / 1024 : ℝ) : EReal))
        = ((-(1 / 2) * (ρ * (1 / m)) * (1 / 1024) : ℝ) : EReal) * (x * s) := by
      rw [EReal.coe_mul (-(1 / 2) * (ρ * (1 / m)))]; ac_rfl
    have h2 : s * ((-(1 / 2) * (ρ * (1 / m)) : ℝ) : EReal) * ((1 / 1024 : ℝ) : EReal) * x
        = ((-(1 / 2) * (ρ * (1 / m)) * (1 / 1024) : ℝ) : EReal) * (x * s) := by
      rw [EReal.coe_mul (-(1 / 2) * (ρ * (1 / m)))]; ac_rfl
    have h3 : (ρ : EReal) * (x * ((ρ * ρ : ℝ) : EReal) * (s * ((1 / 1024 : ℝ) : EReal)))
        = ((ρ * (1 / m) * (1 / 1024) : ℝ) : EReal) * (x * s) := by
      rw [hρm, EReal.coe_mul (ρ * (1 / m)), EReal.coe_mul ρ]; ac_rfl
    rw [h1, h2, add_assoc, coe_mul_add, sub_eq_add_neg,
      EReal.left_distrib_of_nonneg_of_ne_top (by exact_mod_cast hρ.le) (EReal.coe_ne_top ρ), mul_neg, h3, mul_comm a]
    congr 1
    rw [← neg_mul, ← EReal.coe_neg]
    congr 2
    ring
  · rw [em, eρ]
    simp [Ideal.div]

/-- A real gain and a real gradient give a real gradient, whatever the row. -/
theorem back_isReal (v g dy : Fin 1024 → EReal) (hg : ∀ e, IsReal (g e)) (hy : ∀ e, IsReal (dy e)) (d : Fin 1024) :
    IsReal (back v g dy d) := by
  unfold back
  rw [div_dim]
  rcases invRms_cases v with ⟨m, ρ, -, -, -, -, eρ, hv⟩ | ⟨-, eρ⟩
  · have hr : IsReal (invRms v) := ⟨ρ, eρ⟩
    exact hr.mul (((hy d).mul (hg d)).sub (((hv d).mul (hr.mul hr)).mul
      ((IsReal.sum fun e => ((hy e).mul (hg e)).mul (hv e)).mul ⟨_, rfl⟩)))
  · rw [eρ, zero_mul]; exact ⟨0, rfl⟩

/-! ## The gradient through `x * logistic x` -/

theorem logistic_isReal (x : EReal) : IsReal (Ideal.logistic x) := by
  induction x with
  | bot => exact ⟨0, by simp⟩
  | top => exact ⟨1, by simp⟩
  | coe x => exact ⟨_, Ideal.logistic_coe x⟩

/-- The two arrangements agree at every `x`, the infinities included, where the incoming gradient is real. -/
theorem gate_eq {z : EReal} (hz : IsReal z) (x : EReal) :
    z * Ideal.logistic x + x * z * (Ideal.logistic x * (1 - Ideal.logistic x)) = z * dswish x := by
  obtain ⟨z, rfl⟩ := hz
  unfold dswish
  rw [Ideal.ofBits_one_bf16]
  have h1 : (1 : EReal) - 1 = 0 := by
    rw [show (1 : EReal) = ((1 : ℝ) : EReal) from rfl, ← EReal.coe_sub, sub_self]; rfl
  induction x with
  | bot => simp
  | top => simp [h1]
  | coe x =>
    rw [Ideal.logistic_coe, show (1 : EReal) = ((1 : ℝ) : EReal) from rfl]
    simp only [← EReal.coe_mul, ← EReal.coe_add, ← EReal.coe_sub]
    congr 1
    ring

/-! ## The arrays -/

theorem rowH_isReal {o : Rows .f32} (ho : ∀ i, IsReal (o i)) (r : Fin 4096) (d : Fin 1024) : IsReal (rowH o r d) := by
  unfold rowH
  exact IsReal.mul ⟨_, Sigmoid.ofBits_half⟩ (ho _)

theorem dAct_isReal {o : Rows .f32} (y : Rows .bf16) {q : Gain} {wd : DownW} (ho : ∀ i, IsReal (o i)) (hq : ∀ i, IsReal (q i))
    (hw : ∀ i, IsReal (wd i)) (r : Fin 4096) (f : Fin 4) (k : Fin 704) : IsReal (dAct o y q wd r f k) := by
  unfold dAct dotp
  exact IsReal.sum fun d => IsReal.mul (back_isReal _ _ _ (fun _ => hq _) (fun _ => rowH_isReal ho r _) d) (hw _)

end Cert.Bwd

end
-- ==== Proof.Bwd.Ref.lean ====
/-
  The gradient the reference computes, entry by entry, and that the kernel's six results are the same.
-/
module

public import proofs.«01_k».proof.Proof.Bwd.Real
public import proofs.«01_k».proof.Proof.Gen.FfnBRefIdeal.Run
public import proofs.«01_k».proof.Defs
public import Idealize.ShloMosaic.Lib.ReduceAll

@[expose] public section

set_option maxRecDepth 16384

noncomputable section

namespace Cert.Bwd.Ref

open Idealize.ShloMosaic Idealize.ShloMosaic.TcCoe Idealize.SL.Sem
open Cert.Fwd (mul_congr dotp)
open Cert.FfnBRefIdeal Cert.FfnBRefIdeal.Gen Cert.FfnBRefIdeal.Value

abbrev RowsF := FVec Ideal S4096x1024 .f32
abbrev RowsB := FVec Ideal S4096x1024 .bf16
abbrev GainF := FVec Ideal S1x1024 .f32
abbrev HidB := FVec Ideal S4x4096x704 .bf16
abbrev HidF := FVec Ideal S4096x2816 .f32
abbrev UpB := FVec Ideal S8x704x1024 .bf16
abbrev DownB := FVec Ideal S8x352x1024 .bf16

/-! ## The reference's steps -/

/-- A norm's statistics: the mean square plus epsilon, and one over its root. -/
def stat (v : RowsF) : FVec Ideal S4096x1 .f32 :=
  addf (Host.divf (broadcastInDim S4096x1 ![0] bcast_S4096_S4096x1_0 (Host.reduceAdd (mulf v v) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The gradient a norm gets, times its gain. -/
def scaled (dz : RowsF) (q : GainF) : RowsF := mulf dz (broadcastInDim S4096x1024 ![0, 1] bcast_S1x1024_S4096x1024_0_1 q)

/-- What the statistics send back to a row, for each of the row's two factors in the square. -/
def shared (v a : RowsF) : RowsF :=
  broadcastInDim S4096x1024 ![0] bcast_S4096_S4096x1024_0 (Host.reduceAdd (Host.divf (mulf (shapeCast S4096x1 (Host.reduceAdd (mulf v a) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (stat v)) (stat v)))) (broadcastInDim S4096x1 ![] bcast_S_S4096x1 (constant S_ .f32 0x44800000#32))) (constant S_ .f32 0x00000000#32) reducesTo_S4096x1_S4096_d1 h_S_)

def normBack (v dz : RowsF) (q : GainF) : RowsF :=
  addf (addf (mulf (scaled dz q) (broadcastInDim S4096x1024 ![0, 1] bcast_S4096x1_S4096x1024_0_1 (Host.rsqrt (stat v)))) (mulf v (shared v (scaled dz q)))) (mulf (shared v (scaled dz q)) v)

/-- The gain's gradient. -/
def gainBack (v dz : RowsF) : GainF :=
  shapeCast S1x1024 (Host.reduceAdd (mulf (mulf v (broadcastInDim S4096x1024 ![0, 1] bcast_S4096x1_S4096x1024_0_1 (Host.rsqrt (stat v)))) dz) (constant S_ .f32 0x00000000#32) reducesTo_S4096x1024_S1024_d0 h_S_) shapeCasts_S1024_S1x1024

def halfF (o : RowsF) : RowsF := mulf (broadcastInDim S4096x1024 ![] bcast_S_S4096x1024 (constant S_ .f32 0x3F000000#32)) o

/-- A hidden activation, its chunks side by side. -/
def whole (a : HidB) : HidF :=
  shapeCast S4096x2816 (transpose S4096x4x704 [1, 0, 2] (extf .f32 a bitsLt_bf16_f32) transposes_S4x4096x704_S4096x4x704_1_0_2) shapeCasts_S4096x4x704_S4096x2816

def chunks (a : HidF) : HidB :=
  truncf .bf16 (transpose S4x4096x704 [1, 0, 2] (shapeCast S4096x4x704 a shapeCasts_S4096x2816_S4096x4x704) transposes_S4096x4x704_S4x4096x704_1_0_2) bitsLt_bf16_f32

/-- The gradient through the second projection. -/
def actBack (dy : RowsF) (wd : DownB) : HidF :=
  Host.dotGeneral dot_S4096x1024_S2816x1024_S4096x2816_1_1_0_0_n_n none dy (shapeCast S2816x1024 (extf .f32 wd bitsLt_bf16_f32) shapeCasts_S8x352x1024_S2816x1024)

def sg (g : HidF) : HidF :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf g)))

def upBack (a g : HidF) : HidF := mulf (mulf g (sg g)) a

def gateBack (z g : HidF) : HidF :=
  addf (mulf z (sg g)) (mulf (mulf g z) (mulf (sg g) (subf (broadcastInDim S4096x2816 ![] bcast_S_S4096x2816 (constant S_ .f32 0x3F800000#32)) (sg g))))

/-- The gradient through the first projection. -/
def projBack (a b : HidF) (w : UpB) : RowsF :=
  Host.dotGeneral dot_S4096x5632_S1024x5632_S4096x1024_1_1_0_0_n_n none (concatenate S4096x5632 1 [⟨S4096x2816, a⟩, ⟨S4096x2816, b⟩] concatenates_S4096x2816_S4096x2816_S4096x5632_d1) (transpose S1024x5632 [1, 0] (shapeCast S5632x1024 (extf .f32 w bitsLt_bf16_f32) shapeCasts_S8x704x1024_S5632x1024) transposes_S5632x1024_S1024x5632_1_0)

/-- The gradients the later steps share. -/
def dyF (o : RowsF) (y : RowsB) (q : GainF) : RowsF := normBack (extf .f32 y bitsLt_bf16_f32) (halfF o) q
def duF (o : RowsF) (y : RowsB) (q : GainF) (g : HidB) (wd : DownB) : HidF := upBack (actBack (dyF o y q) wd) (whole g)
def dgF (o : RowsF) (y : RowsB) (q : GainF) (g u : HidB) (wd : DownB) : HidF := gateBack (mulf (actBack (dyF o y q) wd) (whole u)) (whole g)
def dhF (o : RowsF) (y : RowsB) (q : GainF) (g u : HidB) (w : UpB) (wd : DownB) : RowsF := projBack (dgF o y q g u wd) (duF o y q g wd) w

/-! ## The steps at an entry -/

theorem normBack_at (v dz : RowsF) (q : GainF) (r : Fin 4096) (d : Fin 1024) :
    normBack v dz q (ix2 r d) = backRef (fun e => v (ix2 r e)) (fun e => q (ix2 0 e)) (fun e => dz (ix2 r e)) d := by
  unfold normBack shared scaled stat backRef pull meanSq invRms
  pointwise
  simp only [Finset.univ_unique, Finset.sum_singleton]

theorem gainBack_at (v dz : RowsF) (d : Fin 1024) :
    gainBack v dz (ix2 0 d) = ∑ r : Fin 4096, (v (ix2 r d) : EReal) * invRms (fun e => v (ix2 r e)) * dz (ix2 r d) := by
  unfold gainBack stat invRms
  pointwise

theorem half_at (o : RowsF) (r : Fin 4096) (d : Fin 1024) : halfF o (ix2 r d) = rowH o r d := by
  unfold halfF rowH
  pointwise

theorem whole_at (a : HidB) (r : Fin 4096) (j : Fin 2816) :
    whole a (ix2 r j) = a (ix3 ⟨j.val / 704, by omega⟩ r ⟨j.val % 704, by omega⟩) := by
  unfold whole
  pointwise

theorem chunks_at (a : HidF) (f : Fin 4) (r : Fin 4096) (k : Fin 704) :
    chunks a (ix3 f r k) = a (ix2 r ⟨f.val * 704 + k.val, by omega⟩) := by
  unfold chunks
  pointwise

theorem actBack_at (dy : RowsF) (wd : DownB) (r : Fin 4096) (j : Fin 2816) :
    actBack dy wd (ix2 r j) = dotp (fun d => dy (ix2 r d)) (fun d => wd (ix3 ⟨j.val / 352, by omega⟩ ⟨j.val % 352, by omega⟩ d)) := by
  unfold actBack dotp
  pointwise

theorem upBack_at (a g : HidF) (r : Fin 4096) (j : Fin 2816) :
    upBack a g (ix2 r j) = (a (ix2 r j) : EReal) * swish (g (ix2 r j)) := by
  rw [mul_comm]
  unfold upBack sg swish
  pointwise
  rfl

theorem gateBack_at (z g : HidF) (r : Fin 4096) (j : Fin 2816) :
    gateBack z g (ix2 r j) = (z (ix2 r j) : EReal) * Ideal.logistic (g (ix2 r j))
      + g (ix2 r j) * z (ix2 r j) * (Ideal.logistic (g (ix2 r j)) * (1 - Ideal.logistic (g (ix2 r j)))) := by
  unfold gateBack sg
  pointwise
  rfl

theorem projBack_at (a b : HidF) (w : UpB) (r : Fin 4096) (d : Fin 1024) :
    projBack a b w (ix2 r d) = ∑ j : Fin 5632, (if h : j.val < 2816 then a (ix2 r ⟨j.val, h⟩) else b (ix2 r ⟨j.val - 2816, by omega⟩) : EReal)
      * w (ix3 ⟨j.val / 704, by omega⟩ ⟨j.val % 704, by omega⟩ d) := by
  unfold projBack
  pointwise

/-! ## The results -/

theorem dyF_at (o : RowsF) (y : RowsB) (q : GainF) (r : Fin 4096) (d : Fin 1024) : dyF o y q (ix2 r d) = rowD o y q r d := by
  refine (normBack_at _ _ _ r d).trans ((backRef_eq _ _ _ d).trans ?_)
  unfold rowD
  exact congrArg (fun t => back (fun e => y (ix2 r e)) (fun e => q (ix2 0 e)) t d) (funext fun e => half_at o r e)

theorem act_at (o : RowsF) (y : RowsB) (q : GainF) (wd : DownB) (r : Fin 4096) (j : Fin 2816) :
    actBack (dyF o y q) wd (ix2 r j) = dAct o y q wd r ⟨j.val / 704, by omega⟩ ⟨j.val % 704, by omega⟩ := by
  refine (actBack_at _ _ r j).trans ?_
  unfold dAct dotp
  refine Finset.sum_congr rfl fun d _ => mul_congr (dyF_at o y q r d) ?_
  exact congrArg₂ (fun a b => wd (ix3 a b d)) (Fin.ext (by dsimp only; omega)) (Fin.ext (by dsimp only; omega))

theorem duF_at (o : RowsF) (y : RowsB) (q : GainF) (g : HidB) (wd : DownB) (r : Fin 4096) (j : Fin 2816) :
    duF o y q g wd (ix2 r j) = dUp o y q g wd r ⟨j.val / 704, by omega⟩ ⟨j.val % 704, by omega⟩ := by
  refine (upBack_at _ _ r j).trans ?_
  unfold dUp
  exact mul_congr (act_at o y q wd r j) (congrArg swish (whole_at g r j))

section
variable {o : RowsF} {q : GainF} {u : HidB} {wd : DownB} (ho : ∀ i, IsReal (o i)) (hq : ∀ i, IsReal (q i)) (hu : ∀ i, IsReal (u i)) (hw : ∀ i, IsReal (wd i))
include ho hq hu hw

theorem dgF_at (y : RowsB) (g : HidB) (r : Fin 4096) (j : Fin 2816) :
    dgF o y q g u wd (ix2 r j) = dGate o y q g u wd r ⟨j.val / 704, by omega⟩ ⟨j.val % 704, by omega⟩ := by
  have hz : mulf (actBack (dyF o y q) wd) (whole u) (ix2 r j)
      = (dAct o y q wd r ⟨j.val / 704, by omega⟩ ⟨j.val % 704, by omega⟩ : EReal) * u (ix3 ⟨j.val / 704, by omega⟩ r ⟨j.val % 704, by omega⟩) :=
    mul_congr (act_at o y q wd r j) (whole_at u r j)
  refine (gateBack_at _ _ r j).trans ?_
  rw [hz, whole_at g r j]
  exact gate_eq ((dAct_isReal y ho hq hw r _ _).mul (hu _)) _

theorem dhF_at (y : RowsB) (g : HidB) (w : UpB) (r : Fin 4096) (d : Fin 1024) : dhF o y q g u w wd (ix2 r d) = dNorm o y q g u w wd r d := by
  refine (projBack_at _ _ w r d).trans ?_
  unfold dNorm
  refine (Fin.sum_univ_add (a := 2816) (b := 2816) _).trans (Eq.trans ?_ (Finset.sum_range _).symm)
  rw [← Finset.sum_add_distrib]
  refine Finset.sum_congr rfl fun j _ => Eq.trans ?_ (dif_pos j.isLt).symm
  refine congrArg₂ (fun a b : EReal => a + b) (mul_congr ?_ ?_) (mul_congr ?_ ?_)
  · exact (dif_pos (show (Fin.castAdd 2816 j).val < 2816 from j.isLt)).trans (dgF_at ho hq hu hw y g r j)
  · rfl
  · refine (dif_neg (show ¬ (Fin.natAdd 2816 j).val < 2816 from Nat.not_lt.2 (Nat.le_add_right _ _))).trans (Eq.trans ?_ (duF_at o y q g wd r j))
    exact congrArg (fun a => duF o y q g wd (ix2 r a)) (Fin.ext (Nat.add_sub_cancel_left _ _))
  · exact congrArg₂ (fun a b => w (ix3 a b d)) (Fin.ext (by show (2816 + j.val) / 704 = j.val / 704 + 4; omega)) (Fin.ext (by show (2816 + j.val) % 704 = j.val % 704; omega))

theorem res0 (y : RowsB) (x : RowsF) (p : GainF) (g : HidB) (w : UpB) : addf o (normBack x (dhF o y q g u w wd) p) = outX o y x p q g u w wd := by
  funext i
  obtain ⟨r, d, rfl⟩ : ∃ (r : Fin 4096) (d : Fin 1024), i = ix2 r d := ⟨i 0, i 1, eq_ix2 i⟩
  refine congrArg (fun a : EReal => (o (ix2 r d) : EReal) + a) ((normBack_at _ _ _ r d).trans ((backRef_eq _ _ _ d).trans ?_))
  exact congrArg (fun t => back (fun e => x (ix2 r e)) (fun e => p (ix2 0 e)) t d) (funext fun e => dhF_at ho hq hu hw y g w r e)

theorem res2 (y : RowsB) (g : HidB) : chunks (dgF o y q g u wd) = outG o y q g u wd := by
  funext i
  obtain ⟨f, r, k, rfl⟩ : ∃ (f : Fin 4) (r : Fin 4096) (k : Fin 704), i = ix3 f r k := ⟨i 0, i 1, i 2, eq_ix3 i⟩
  refine (chunks_at _ f r k).trans ((dgF_at ho hq hu hw y g r _).trans ?_)
  exact congrArg₂ (dGate o y q g u wd r) (Fin.ext (by show (f.val * 704 + k.val) / 704 = f.val; omega)) (Fin.ext (by show (f.val * 704 + k.val) % 704 = k.val; omega))

theorem res4 (y : RowsB) (x : RowsF) (g : HidB) (w : UpB) : gainBack x (dhF o y q g u w wd) = outP o y x q g u w wd := by
  funext i
  obtain ⟨d, rfl⟩ : ∃ d : Fin 1024, i = ix2 0 d := ⟨i 1, (eq_ix2 i).trans (congrArg (fun a => ix2 a (i 1)) (Subsingleton.elim _ _))⟩
  refine (gainBack_at _ _ d).trans (Eq.trans ?_ (Finset.sum_range _).symm)
  refine Finset.sum_congr rfl fun r _ => Eq.trans ?_ (dif_pos r.isLt).symm
  rw [dhF_at ho hq hu hw y g w r d]
  exact (mul_comm _ _).trans (mul_assoc _ _ _).symm
end

theorem res1 (o : RowsF) (y : RowsB) (q : GainF) : truncf .bf16 (dyF o y q) bitsLt_bf16_f32 = outD o y q := by
  funext i
  obtain ⟨r, d, rfl⟩ : ∃ (r : Fin 4096) (d : Fin 1024), i = ix2 r d := ⟨i 0, i 1, eq_ix2 i⟩
  exact dyF_at o y q r d

theorem res3 (o : RowsF) (y : RowsB) (q : GainF) (g : HidB) (wd : DownB) : chunks (duF o y q g wd) = outU o y q g wd := by
  funext i
  obtain ⟨f, r, k, rfl⟩ : ∃ (f : Fin 4) (r : Fin 4096) (k : Fin 704), i = ix3 f r k := ⟨i 0, i 1, i 2, eq_ix3 i⟩
  refine (chunks_at _ f r k).trans ((duF_at o y q g wd r _).trans ?_)
  exact congrArg₂ (dUp o y q g wd r) (Fin.ext (by show (f.val * 704 + k.val) / 704 = f.val; omega)) (Fin.ext (by show (f.val * 704 + k.val) % 704 = k.val; omega))

theorem res5 (o : RowsF) (y : RowsB) : gainBack (extf .f32 y bitsLt_bf16_f32) (halfF o) = outQ o y := by
  funext i
  obtain ⟨d, rfl⟩ : ∃ d : Fin 1024, i = ix2 0 d := ⟨i 1, (eq_ix2 i).trans (congrArg (fun a => ix2 a (i 1)) (Subsingleton.elim _ _))⟩
  refine (gainBack_at _ _ d).trans (Eq.trans ?_ (Finset.sum_range _).symm)
  refine Finset.sum_congr rfl fun r _ => Eq.trans ?_ (dif_pos r.isLt).symm
  rw [half_at o r d]
  exact (mul_comm _ _).trans (mul_assoc _ _ _).symm

/-! ## The precondition read back -/

/-- An array whose entries are all below the top in absolute value is real. -/
theorem isReal_of_all {s : Shape} {axes : List (Fin s.rank)} {b : S_.BroadcastsInDim s (![] : Fin 0 → Fin s.rank)} (a : FVec Ideal s .f32) (h : s.ReducesTo axes S_) (hu : 0 < S_.numel)
    (e : Host.reduce IntOp.andi (cmpf .olt (Host.absf a) (broadcastInDim s ![] b (constant S_ .f32 0x7F800000#32))) (constantI S_ 1 1#1) h hu (Shape.Idx.first hu) = 1#1) (i : s.Idx) : IsReal (a i) := by
  have h1 := Host.reduce_andi_all _ _ h hu _ e i
  have h2 : Ideal.cmp .olt (max (a i : EReal) (-(a i : EReal))) (Ideal.ofBits .f32 0x7F800000#32) = 1#1 := h1
  rw [ofBits_top] at h2
  exact isReal_of_abs ((Ideal.cmp_olt_eq_one _ _).1 h2)

theorem pre_real (o : RowsF) (y : RowsB) (x : RowsF) (p q : GainF) (g u : HidB) (w : UpB) (wd : DownB) (hf : Cert.Pre_finite.Facts)
    (h : Cert.Pre_finite.fn (F := Ideal) o y x p q g u w wd = fun _ => 1#1) :
    (∀ i, IsReal (o i)) ∧ (∀ i, IsReal (q i)) ∧ (∀ i, IsReal (u i)) ∧ (∀ i, IsReal (wd i)) := by
  have h0 := congrFun h (Shape.Idx.first h_S_)
  dsimp only [Cert.Pre_finite.fn, Cert.Pre_finite.fn_part1] at h0
  obtain ⟨h1, hd⟩ := IntOp.andi_eq_one.1 h0
  obtain ⟨h2, hu⟩ := IntOp.andi_eq_one.1 h1
  obtain ⟨ho, hq⟩ := IntOp.andi_eq_one.1 h2
  exact ⟨isReal_of_all _ _ _ ho, isReal_of_all _ _ _ hq, isReal_of_all _ _ _ hu, isReal_of_all _ _ _ hd⟩

/-! ## The claim -/

section
variable (m : (ℓ : Loc nD τ sig) → Buf (Elt Ideal) ℓ) (c : Dev nD)

theorem raw0 : res_main_v97 m c = addf (m ((c.tc : Thread nD τ).loc main_arg0)) (normBack (m ((c.tc : Thread nD τ).loc main_arg2)) (dhF (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg3))) := rfl
theorem raw1 : res_main_v98 m c = truncf .bf16 (dyF (m ((c.tc : Thread nD τ).loc main_arg0)) (m ((c.tc : Thread nD τ).loc main_arg1)) (m ((c.tc : Thread nD τ).loc main_arg4))) bitsLt_bf16_f32 := rfl
theorem raw2 : res_main_v101 m c = chunks (dgF (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg8))) := rfl
theorem raw3 : res_main_v104 m c = chunks (duF (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg8))) := rfl
theorem raw4 : res_main_v80 m c = gainBack (m ((c.tc : Thread nD τ).loc main_arg2)) (dhF (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := rfl
end

/-- From any launch whose arrays meet the precondition, the kernel's result arrays and the reference's are the same functions of the arguments. -/
theorem algebraic [hf : Cert.Pre_finite.Facts] : Cert.algebraic_FfnBIdeal_FfnBRefIdeal_pre_finite := fun m g m' g' hpre hagree =>
  ⟨fun c => outX (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6)) (m ((c.tc : Thread Cert.FfnBIdeal.nD Cert.FfnBIdeal.τ).loc Cert.FfnBIdeal.main_arg7)) (m ((c.tc : Thread Cert.FfnBIdeal.nD Cert.FfnBIdeal.τ).loc Cert.FfnBIdeal.main_arg8)),
    fun c => outD (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg4)),
    fun c => outG (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6)) (m ((c.tc : Thread Cert.FfnBIdeal.nD Cert.FfnBIdeal.τ).loc Cert.FfnBIdeal.main_arg8)),
    fun c => outU (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg8)),
    fun c => outP (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6)) (m ((c.tc : Thread Cert.FfnBIdeal.nD Cert.FfnBIdeal.τ).loc Cert.FfnBIdeal.main_arg7)) (m ((c.tc : Thread Cert.FfnBIdeal.nD Cert.FfnBIdeal.τ).loc Cert.FfnBIdeal.main_arg8)),
    fun c => outQ (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)),
    Cert.Bwd.run m g,
    (θ_run _ _ _).mono (fun _ h c => by
      obtain ⟨e0, e1, e2, e3, e4, e5, e6, e7, e8⟩ := hagree c
      obtain ⟨ho, hq, hu, hw⟩ := pre_real _ _ _ _ _ _ _ _ _ hf (hpre c)
      refine ⟨(h c).1.trans ((raw0 m' c).trans ?_), (h c).2.1.trans ((raw1 m' c).trans ?_), (h c).2.2.1.trans ((raw2 m' c).trans ?_), (h c).2.2.2.1.trans ((raw3 m' c).trans ?_),
        (h c).2.2.2.2.1.trans ((raw4 m' c).trans ?_), (h c).2.2.2.2.2.1.trans ((res5 _ _).trans ?_), (h c).2.2.2.2.2.2⟩
      · rw [e0, e1, e2, e3, e4, e5, e6, e7, e8]; exact res0 ho hq hu hw _ _ _ _ _
      · rw [e0, e1, e4]; exact res1 _ _ _
      · rw [e0, e1, e4, e5, e6, e8]; exact res2 ho hq hu hw _ _
      · rw [e0, e1, e4, e5, e8]; exact res3 _ _ _ _ _
      · rw [e0, e1, e2, e4, e5, e6, e7, e8]; exact res4 ho hq hu hw _ _ _ _
      · rw [e0, e1]) (Cert.FfnBRefIdeal.Value.run m' g')⟩

end Cert.Bwd.Ref

end
-- ==== Proof.Bwd.Bitwise.lean ====
/-
  The kernel as written and the kernel read at the ideal values are one text, so the first's frame is the run of the
  second at the bit patterns.
-/
module

public import proofs.«01_k».proof.Proof.Bwd.Run
public import proofs.«01_k».proof.Proof.Gen.FfnB
public import proofs.«01_k».proof.Defs

@[expose] public section

set_option maxRecDepth 16384

noncomputable section

namespace Cert.Bwd

open Idealize.ShloMosaic Idealize.SL.Sem

set_option maxHeartbeats 8000000 in
/-- The two body tables agree, label by label. -/
theorem bodies_eq : Cert.FfnB.defs₀ (F := Bits) = Cert.FfnBIdeal.defs₀ (F := Bits) := by
  unfold Cert.FfnB.defs₀ Cert.FfnBIdeal.defs₀
  refine congrArg _ ?_
  funext l a
  match l, a with
  | 0, (t, s) => rfl

theorem defs_eq : Cert.FfnB.defs (F := Bits) = Cert.FfnBIdeal.defs (F := Bits) := by
  unfold Cert.FfnB.defs Cert.FfnBIdeal.defs
  exact congrArg (Pipeline.defs _) bodies_eq

theorem frame_kernel : Cert.quiescent_FfnB := fun m ρ _ => by
  have h := frame (F := Bits) m ρ
  rw [defs_eq]
  exact h

end Cert.Bwd

end
-- ==== Proof.Loss.Body.lean ====
/-
  One point of the grid of the last feed-forward block's gradient with the loss: the body's triple in each of its four cases, over any float values, with what
  every buffer holds afterwards written out.
-/
module

public import proofs.«01_k».proof.Proof.Gen.FfnLIdeal.Skeleton
public import proofs.«01_k».proof.Proof.Gen.FfnLIdeal.Frame
public import Idealize.ShloMosaic.Lib.Pipeline.Value
public import Idealize.ShloMosaic.Lib.Pipeline.KitQuiescent

@[expose] public section

set_option maxRecDepth 16384

noncomputable section

namespace Cert.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnLIdeal Cert.FfnLIdeal.Gen

variable {F : FTy → Type} [FloatOps F]

local notation "𝕄" => MT nD τ sig Unit (Elt F) ℕ (UR sig nD τ) ℕ

theorem hz2 : (![0, 0] : Fin 2 → Nat) = fun _ => 0 := by decide
theorem hz3 : (![0, 0, 0] : Fin 3 → Nat) = fun _ => 0 := by decide

/-- A buffer whose last store filled it whole reads as that store's value. -/
theorem read_stored {S : Shape} {e : EltTy} (v : View sig .tc .vmem S e) {off : Fin S.rank → Nat} (h : off = fun _ => 0)
    (inb : ∀ a, off a + S.size a ≤ S.size a) (f : v.ty.Contents (Elt F)) (w : S.Idx → Elt F e)
    (L : List (View.Piece (Elt F) S e)) :
    v.read (Elt F) (v.writes (Elt F) f (⟨Rect.unit (s := S) off S.size inb, w⟩ :: L)) = w := by
  rw [View.read_writes_eq_canon _ _ _ (fun y => ⟨_, List.mem_cons_self, View.mem_set_unit_zero h inb y⟩),
    View.canon_cons_unit_zero h]

set_option maxHeartbeats 3200000 in
/-- The first point: both gains' sums and the loss start from zero, and the row's first chunk is taken. -/
theorem run_start (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S2x352x1024 .bf16) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x128 .f32) (harg19 : arg19.IsWhole) (arg20 : Memref sig .tc .vmem S512x1024 .bf16) (harg20 : arg20.IsWhole) (arg21 : Memref sig .tc .vmem S512x1024 .f32) (harg21 : arg21.IsWhole)
    (hc0 : k0_cond1 i = 1#1) (hc1 : k0_cond2 i = 1#1) (hc2 : ¬k0_cond3 i = 1#1)
    (x0 x1 : Vec F S512x1024 .f32) (x2 : Vec F S512x1024 .bf16) (x3 : Vec F S512x1024 .f32) (x4 x5 : Vec F S1x1024 .f32) (x6 x7 : Vec F S1x512x704 .bf16) (x8 x9 : Vec F S1x704x1024 .bf16) (x10 : Vec F S2x352x1024 .bf16)
    (xi11 : Vec F S512x1024 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare xi11
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare xi11
            ∗ owns (c : Thread nD τ) arg14 fullShare (k0_pay21 (k0_pay6 x2) (k0_pay7 x2) x5 (k0_pay8 x1 x0) k0_pay9)
            ∗ owns (c : Thread nD τ) arg15 fullShare (k0_pay1 (k0_pay28 (k0_pay20 (k0_pay6 x2) (k0_pay7 x2) x5 (k0_pay8 x1 x0) k0_pay9) x10 x7 x6))
            ∗ owns (c : Thread nD τ) arg16 fullShare (k0_pay2 (k0_pay27 (k0_pay20 (k0_pay6 x2) (k0_pay7 x2) x5 (k0_pay8 x1 x0) k0_pay9) x10 x6))
            ∗ owns (c : Thread nD τ) arg17 fullShare k0_pay14
            ∗ owns (c : Thread nD τ) arg18 fullShare (k0_pay19 (k0_pay6 x2) (k0_pay7 x2) (k0_pay8 x1 x0) k0_pay9 k0_pay15)
            ∗ owns (c : Thread nD τ) arg19 fullShare (k0_pay5 x1 x0 k0_pay16)
            ∗ owns (c : Thread nD τ) arg20 fullShare (k0_pay20 (k0_pay6 x2) (k0_pay7 x2) x5 (k0_pay8 x1 x0) k0_pay9)
            ∗ owns (c : Thread nD τ) arg21 fullShare (k0_pay3 (k0_pay27 (k0_pay20 (k0_pay6 x2) (k0_pay7 x2) x5 (k0_pay8 x1 x0) k0_pay9) x10 x6) (k0_pay28 (k0_pay20 (k0_pay6 x2) (k0_pay7 x2) x5 (k0_pay8 x1 x0) k0_pay9) x10 x7 x6) k0_pay22 x8 x9)) -∗ K ⟨⟩))
      ⊢ wp frame (wpE (defs₀ (F := F)) Variants.none c none) E (cc0_ffn_bwd_act_loss i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_bwd_act_loss_eq_skeleton]; unfold cc0_ffn_bwd_act_loss_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr
    swap; · iexact H12
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H13]
  · iexists _; isplitr
    swap; · iexact H13
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H14]
  · iexists _; isplitr
    swap; · iexact H14
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H15]
  · iexists _; isplitr
    swap; · iexact H15
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H16]
  · iexists _; isplitr
    swap; · iexact H16
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H17]
  · iexists _; isplitr
    swap; · iexact H17
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H18]
  · iexists _; isplitr
    swap; · iexact H18
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  · iexists _; isplitr
    swap; · iexact H19
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]

set_option maxHeartbeats 3200000 in
/-- A later row's first chunk: the gradient through the post-norm is stored, and its gain's sum and the loss go on. -/
theorem run_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S2x352x1024 .bf16) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x128 .f32) (harg19 : arg19.IsWhole) (arg20 : Memref sig .tc .vmem S512x1024 .bf16) (harg20 : arg20.IsWhole) (arg21 : Memref sig .tc .vmem S512x1024 .f32) (harg21 : arg21.IsWhole)
    (hc0 : ¬k0_cond1 i = 1#1) (hc1 : k0_cond2 i = 1#1) (hc2 : ¬k0_cond3 i = 1#1)
    (x0 x1 : Vec F S512x1024 .f32) (x2 : Vec F S512x1024 .bf16) (x3 : Vec F S512x1024 .f32) (x4 x5 : Vec F S1x1024 .f32) (x6 x7 : Vec F S1x512x704 .bf16) (x8 x9 : Vec F S1x704x1024 .bf16) (x10 : Vec F S2x352x1024 .bf16)
    (xi11 : Vec F S512x1024 .f32) (p q : Vec F S1x1024 .f32) (l : Vec F S1x128 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare xi11
        ∗ (∃ d, owns (c : Thread nD τ) arg14 fullShare d)
        ∗ (∃ d, owns (c : Thread nD τ) arg15 fullShare d)
        ∗ (∃ d, owns (c : Thread nD τ) arg16 fullShare d)
        ∗ owns (c : Thread nD τ) arg17 fullShare p
        ∗ owns (c : Thread nD τ) arg18 fullShare q
        ∗ owns (c : Thread nD τ) arg19 fullShare l
        ∗ (∃ d, owns (c : Thread nD τ) arg20 fullShare d)
        ∗ (∃ d, owns (c : Thread nD τ) arg21 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare xi11
            ∗ owns (c : Thread nD τ) arg14 fullShare (k0_pay21 (k0_pay6 x2) (k0_pay7 x2) x5 (k0_pay8 x1 x0) k0_pay9)
            ∗ owns (c : Thread nD τ) arg15 fullShare (k0_pay1 (k0_pay28 (k0_pay20 (k0_pay6 x2) (k0_pay7 x2) x5 (k0_pay8 x1 x0) k0_pay9) x10 x7 x6))
            ∗ owns (c : Thread nD τ) arg16 fullShare (k0_pay2 (k0_pay27 (k0_pay20 (k0_pay6 x2) (k0_pay7 x2) x5 (k0_pay8 x1 x0) k0_pay9) x10 x6))
            ∗ owns (c : Thread nD τ) arg17 fullShare p
            ∗ owns (c : Thread nD τ) arg18 fullShare (k0_pay19 (k0_pay6 x2) (k0_pay7 x2) (k0_pay8 x1 x0) k0_pay9 q)
            ∗ owns (c : Thread nD τ) arg19 fullShare (k0_pay5 x1 x0 l)
            ∗ owns (c : Thread nD τ) arg20 fullShare (k0_pay20 (k0_pay6 x2) (k0_pay7 x2) x5 (k0_pay8 x1 x0) k0_pay9)
            ∗ owns (c : Thread nD τ) arg21 fullShare (k0_pay3 (k0_pay27 (k0_pay20 (k0_pay6 x2) (k0_pay7 x2) x5 (k0_pay8 x1 x0) k0_pay9) x10 x6) (k0_pay28 (k0_pay20 (k0_pay6 x2) (k0_pay7 x2) x5 (k0_pay8 x1 x0) k0_pay9) x10 x7 x6) k0_pay22 x8 x9)) -∗ K ⟨⟩))
      ⊢ wp frame (wpE (defs₀ (F := F)) Variants.none c none) E (cc0_ffn_bwd_act_loss i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_bwd_act_loss_eq_skeleton]; unfold cc0_ffn_bwd_act_loss_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%d18, %f18, -, H18⟩, ⟨%d19, %f19, -, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg17.eq_unread hf15; obtain rfl := harg18.eq_unread hf16; obtain rfl := harg19.eq_unread hf17
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr
    swap; · iexact H12
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H13]
  · iexists _; isplitr
    swap; · iexact H13
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H14]
  · iexists _; isplitr
    swap; · iexact H14
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H15]
  · iexists _; isplitr; · ipureintro; exact harg17.read_unread _
    iexact H15
  isplitl [H16]
  · iexists _; isplitr
    swap; · iexact H16
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H17]
  · iexists _; isplitr
    swap; · iexact H17
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H18]
  · iexists _; isplitr
    swap; · iexact H18
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  · iexists _; isplitr
    swap; · iexact H19
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, harg18.read_unread, harg19.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]

set_option maxHeartbeats 3200000 in
/-- A middle chunk: its product is added to the accumulator. -/
theorem run_mid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S2x352x1024 .bf16) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x128 .f32) (harg19 : arg19.IsWhole) (arg20 : Memref sig .tc .vmem S512x1024 .bf16) (harg20 : arg20.IsWhole) (arg21 : Memref sig .tc .vmem S512x1024 .f32) (harg21 : arg21.IsWhole)
    (hc0 : ¬k0_cond1 i = 1#1) (hc1 : ¬k0_cond2 i = 1#1) (hc2 : ¬k0_cond3 i = 1#1)
    (x0 x1 : Vec F S512x1024 .f32) (x2 : Vec F S512x1024 .bf16) (x3 : Vec F S512x1024 .f32) (x4 x5 : Vec F S1x1024 .f32) (x6 x7 : Vec F S1x512x704 .bf16) (x8 x9 : Vec F S1x704x1024 .bf16) (x10 : Vec F S2x352x1024 .bf16)
    (xi11 : Vec F S512x1024 .f32) (xi12 ds : Vec F S512x1024 .bf16) (acc : Vec F S512x1024 .f32) (p q : Vec F S1x1024 .f32) (l : Vec F S1x128 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare xi11
        ∗ owns (c : Thread nD τ) arg14 fullShare xi12
        ∗ (∃ d, owns (c : Thread nD τ) arg15 fullShare d)
        ∗ (∃ d, owns (c : Thread nD τ) arg16 fullShare d)
        ∗ owns (c : Thread nD τ) arg17 fullShare p
        ∗ owns (c : Thread nD τ) arg18 fullShare q
        ∗ owns (c : Thread nD τ) arg19 fullShare l
        ∗ owns (c : Thread nD τ) arg20 fullShare ds
        ∗ owns (c : Thread nD τ) arg21 fullShare acc
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare xi11
            ∗ owns (c : Thread nD τ) arg14 fullShare xi12
            ∗ owns (c : Thread nD τ) arg15 fullShare (k0_pay1 (k0_pay28 ds x10 x7 x6))
            ∗ owns (c : Thread nD τ) arg16 fullShare (k0_pay2 (k0_pay27 ds x10 x6))
            ∗ owns (c : Thread nD τ) arg17 fullShare p
            ∗ owns (c : Thread nD τ) arg18 fullShare q
            ∗ owns (c : Thread nD τ) arg19 fullShare l
            ∗ owns (c : Thread nD τ) arg20 fullShare ds
            ∗ owns (c : Thread nD τ) arg21 fullShare (k0_pay3 (k0_pay27 ds x10 x6) (k0_pay28 ds x10 x7 x6) acc x8 x9)) -∗ K ⟨⟩))
      ⊢ wp frame (wpE (defs₀ (F := F)) Variants.none c none) E (cc0_ffn_bwd_act_loss i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_bwd_act_loss_eq_skeleton]; unfold cc0_ffn_bwd_act_loss_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hf15; obtain rfl := harg18.eq_unread hf16; obtain rfl := harg19.eq_unread hf17; obtain rfl := harg20.eq_unread hf18; obtain rfl := harg21.eq_unread hf19
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr
    swap; · iexact H13
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, harg20.read_unread, harg21.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H14]
  · iexists _; isplitr
    swap; · iexact H14
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, harg20.read_unread, harg21.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H15]
  · iexists _; isplitr; · ipureintro; exact harg17.read_unread _
    iexact H15
  isplitl [H16]
  · iexists _; isplitr; · ipureintro; exact harg18.read_unread _
    iexact H16
  isplitl [H17]
  · iexists _; isplitr; · ipureintro; exact harg19.read_unread _
    iexact H17
  isplitl [H18]
  · iexists _; isplitr; · ipureintro; exact harg20.read_unread _
    iexact H18
  · iexists _; isplitr
    swap; · iexact H19
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, harg20.read_unread, harg21.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]

set_option maxHeartbeats 3200000 in
/-- A row's last chunk: the accumulator is complete, and the row's gradient is stored. -/
theorem run_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x512x704 .bf16) (harg8 : arg8.IsWhole) (arg9 : Memref sig .tc .vmem S1x512x704 .bf16) (harg9 : arg9.IsWhole) (arg10 : Memref sig .tc .vmem S1x704x1024 .bf16) (harg10 : arg10.IsWhole) (arg11 : Memref sig .tc .vmem S1x704x1024 .bf16) (harg11 : arg11.IsWhole) (arg12 : Memref sig .tc .vmem S2x352x1024 .bf16) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x128 .f32) (harg19 : arg19.IsWhole) (arg20 : Memref sig .tc .vmem S512x1024 .bf16) (harg20 : arg20.IsWhole) (arg21 : Memref sig .tc .vmem S512x1024 .f32) (harg21 : arg21.IsWhole)
    (hc0 : ¬k0_cond1 i = 1#1) (hc1 : ¬k0_cond2 i = 1#1) (hc2 : k0_cond3 i = 1#1)
    (x0 x1 : Vec F S512x1024 .f32) (x2 : Vec F S512x1024 .bf16) (x3 : Vec F S512x1024 .f32) (x4 x5 : Vec F S1x1024 .f32) (x6 x7 : Vec F S1x512x704 .bf16) (x8 x9 : Vec F S1x704x1024 .bf16) (x10 : Vec F S2x352x1024 .bf16)
    (xi12 ds : Vec F S512x1024 .bf16) (acc : Vec F S512x1024 .f32) (p q : Vec F S1x1024 .f32) (l : Vec F S1x128 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ (∃ d, owns (c : Thread nD τ) arg13 fullShare d)
        ∗ owns (c : Thread nD τ) arg14 fullShare xi12
        ∗ (∃ d, owns (c : Thread nD τ) arg15 fullShare d)
        ∗ (∃ d, owns (c : Thread nD τ) arg16 fullShare d)
        ∗ owns (c : Thread nD τ) arg17 fullShare p
        ∗ owns (c : Thread nD τ) arg18 fullShare q
        ∗ owns (c : Thread nD τ) arg19 fullShare l
        ∗ owns (c : Thread nD τ) arg20 fullShare ds
        ∗ owns (c : Thread nD τ) arg21 fullShare acc
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare (k0_pay4 (k0_pay11 x3 x4 (k0_pay3 (k0_pay27 ds x10 x6) (k0_pay28 ds x10 x7 x6) acc x8 x9)) (k0_pay13 x1 x0) (Scalar.ofBits .f32 0x3A800000#32))
            ∗ owns (c : Thread nD τ) arg14 fullShare xi12
            ∗ owns (c : Thread nD τ) arg15 fullShare (k0_pay1 (k0_pay28 ds x10 x7 x6))
            ∗ owns (c : Thread nD τ) arg16 fullShare (k0_pay2 (k0_pay27 ds x10 x6))
            ∗ owns (c : Thread nD τ) arg17 fullShare (k0_pay12 x3 (k0_pay3 (k0_pay27 ds x10 x6) (k0_pay28 ds x10 x7 x6) acc x8 x9) p)
            ∗ owns (c : Thread nD τ) arg18 fullShare q
            ∗ owns (c : Thread nD τ) arg19 fullShare l
            ∗ owns (c : Thread nD τ) arg20 fullShare ds
            ∗ owns (c : Thread nD τ) arg21 fullShare (k0_pay3 (k0_pay27 ds x10 x6) (k0_pay28 ds x10 x7 x6) acc x8 x9)) -∗ K ⟨⟩))
      ⊢ wp frame (wpE (defs₀ (F := F)) Variants.none c none) E (cc0_ffn_bwd_act_loss i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_bwd_act_loss_eq_skeleton]; unfold cc0_ffn_bwd_act_loss_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12; obtain rfl := harg17.eq_unread hf15; obtain rfl := harg18.eq_unread hf16; obtain rfl := harg19.eq_unread hf17; obtain rfl := harg20.eq_unread hf18; obtain rfl := harg21.eq_unread hf19
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr
    swap; · iexact H11
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg17.read_unread, harg18.read_unread, harg19.read_unread, harg20.read_unread, harg21.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H12]
  · iexists _; isplitr; · ipureintro; exact harg14.read_unread _
    iexact H12
  isplitl [H13]
  · iexists _; isplitr
    swap; · iexact H13
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg17.read_unread, harg18.read_unread, harg19.read_unread, harg20.read_unread, harg21.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H14]
  · iexists _; isplitr
    swap; · iexact H14
    ipureintro
    sl_unfold_words
    refine (read_stored _ hz3 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg17.read_unread, harg18.read_unread, harg19.read_unread, harg20.read_unread, harg21.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H15]
  · iexists _; isplitr
    swap; · iexact H15
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg17.read_unread, harg18.read_unread, harg19.read_unread, harg20.read_unread, harg21.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]
  isplitl [H16]
  · iexists _; isplitr; · ipureintro; exact harg18.read_unread _
    iexact H16
  isplitl [H17]
  · iexists _; isplitr; · ipureintro; exact harg19.read_unread _
    iexact H17
  isplitl [H18]
  · iexists _; isplitr; · ipureintro; exact harg20.read_unread _
    iexact H18
  · iexists _; isplitr
    swap; · iexact H19
    ipureintro
    sl_unfold_words
    refine (read_stored _ hz2 _ _ _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg17.read_unread, harg18.read_unread, harg19.read_unread, harg20.read_unread, harg21.read_unread, View.ld_unit_zero (S := S512x1024) hz2, View.ld_unit_zero (S := S1x1024) hz2, View.ld_unit_zero (S := S1x512x704) hz3, View.ld_unit_zero (S := S1x704x1024) hz3, View.ld_unit_zero (S := S2x352x1024) hz3, View.readCov_unit_zero (S := S512x1024) _ hz2, View.readCov_unit_zero (S := S1x1024) _ hz2, View.ld_unit_zero (S := S1x128) hz2, View.readCov_unit_zero (S := S1x128) _ hz2]

end Cert.Loss

end
-- ==== Proof.Loss.Run.lean ====
/-
  The gradient's grid, run: what the scratch and the output blocks hold after each point, the body obligation at
  every point, and the launch. Everything is over any float values, so that both frames come from the one run.
-/
module

public import proofs.«01_k».proof.Proof.Loss.Body
public import Idealize.ShloMosaic.Lib.Claim

@[expose] public section

set_option maxRecDepth 16384

noncomputable section

namespace Cert.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnLIdeal Cert.FfnLIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem point_lt (t : Fin cfg0.N) : t.val < 32 := lt_of_lt_of_eq t.isLt (show cfg0.N = 32 from N_0)

theorem start_iff (t : Fin cfg0.N) : k0_cond1 (grid0.coords t) = 1#1 ↔ t.val = 0 := by
  have ht := point_lt t
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond1, e0, e1]
  word_cmp

theorem first_iff (t : Fin cfg0.N) : k0_cond2 (grid0.coords t) = 1#1 ↔ t.val % 4 = 0 := by
  have ht := point_lt t
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond2, e0, e1]
  word_cmp

theorem last_iff (t : Fin cfg0.N) : k0_cond3 (grid0.coords t) = 1#1 ↔ t.val % 4 = 3 := by
  have ht := point_lt t
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond3, e0, e1]
  word_cmp

theorem bne_of {a : BitVec 1} (h : ¬a = 1#1) : (a == 1#1) = false := beq_eq_false_iff_ne.mpr h

theorem idle11_of_ne (t : Fin cfg0.N) (h : ¬t.val % 4 = 3) : cfg0.idle 11 (grid0.coords t) = true := by
  show (!(k0_cond3 (grid0.coords t) == 1#1)) = true
  rw [bne_of (fun e => h ((last_iff t).mp e))]; rfl
theorem live11_of_eq (t : Fin cfg0.N) (h : t.val % 4 = 3) : cfg0.idle 11 (grid0.coords t) = false := by
  show (!(k0_cond3 (grid0.coords t) == 1#1)) = false
  rw [(last_iff t).mpr h]; rfl
theorem idle12_of_ne (t : Fin cfg0.N) (h : ¬t.val % 4 = 0) : cfg0.idle 12 (grid0.coords t) = true := by
  show (!(k0_cond2 (grid0.coords t) == 1#1)) = true
  rw [bne_of (fun e => h ((first_iff t).mp e))]; rfl
theorem live12_of_eq (t : Fin cfg0.N) (h : t.val % 4 = 0) : cfg0.idle 12 (grid0.coords t) = false := by
  show (!(k0_cond2 (grid0.coords t) == 1#1)) = false
  rw [(first_iff t).mpr h]; rfl
theorem idle15_of_ne (t : Fin cfg0.N) (h0 : ¬t.val = 0) (h : ¬t.val % 4 = 3) : cfg0.idle 15 (grid0.coords t) = true := by
  show (!(k0_cond1 (grid0.coords t) == 1#1) && !(k0_cond3 (grid0.coords t) == 1#1)) = true
  rw [bne_of (fun e => h ((last_iff t).mp e)), bne_of (fun e => h0 ((start_iff t).mp e))]; rfl
theorem live15_of_zero (t : Fin cfg0.N) (h : t.val = 0) : cfg0.idle 15 (grid0.coords t) = false := by
  show (!(k0_cond1 (grid0.coords t) == 1#1) && !(k0_cond3 (grid0.coords t) == 1#1)) = false
  rw [(start_iff t).mpr h]; rfl
theorem live15_of_eq (t : Fin cfg0.N) (h : t.val % 4 = 3) : cfg0.idle 15 (grid0.coords t) = false := by
  show (!(k0_cond1 (grid0.coords t) == 1#1) && !(k0_cond3 (grid0.coords t) == 1#1)) = false
  rw [(last_iff t).mpr h, Bool.and_eq_false_iff]; exact Or.inr rfl
theorem idle16_of_ne (t : Fin cfg0.N) (h : ¬t.val % 4 = 0) : cfg0.idle 16 (grid0.coords t) = true := by
  show (!(k0_cond1 (grid0.coords t) == 1#1) && !(k0_cond2 (grid0.coords t) == 1#1)) = true
  rw [bne_of (fun e => h ((first_iff t).mp e)), bne_of (fun e => h (by rw [(start_iff t).mp e]))]; rfl
theorem live16_of_eq (t : Fin cfg0.N) (h : t.val % 4 = 0) : cfg0.idle 16 (grid0.coords t) = false := by
  show (!(k0_cond1 (grid0.coords t) == 1#1) && !(k0_cond2 (grid0.coords t) == 1#1)) = false
  rw [(first_iff t).mpr h, Bool.and_eq_false_iff]; exact Or.inr rfl
theorem idle17_of_ne (t : Fin cfg0.N) (h : ¬t.val % 4 = 0) : cfg0.idle 17 (grid0.coords t) = true := by
  show (!(k0_cond1 (grid0.coords t) == 1#1) && !(k0_cond2 (grid0.coords t) == 1#1)) = true
  rw [bne_of (fun e => h ((first_iff t).mp e)), bne_of (fun e => h (by rw [(start_iff t).mp e]))]; rfl
theorem live17_of_eq (t : Fin cfg0.N) (h : t.val % 4 = 0) : cfg0.idle 17 (grid0.coords t) = false := by
  show (!(k0_cond1 (grid0.coords t) == 1#1) && !(k0_cond2 (grid0.coords t) == 1#1)) = false
  rw [(first_iff t).mpr h, Bool.and_eq_false_iff]; exact Or.inr rfl
theorem noflush11 (t : Fin cfg0.N) (h : ¬t.val % 4 = 3) : (cfg0.win 11).flush t = false :=
  Bool.eq_false_iff.mpr fun e => h ((flush0_11 t).mp e)
theorem noflush12 (t : Fin cfg0.N) (h : ¬t.val % 4 = 3) : (cfg0.win 12).flush t = false :=
  Bool.eq_false_iff.mpr fun e => h ((flush0_12 t).mp e)
theorem noflush15 (t : Fin cfg0.N) (h : ¬t.val % 32 = 31) : (cfg0.win 15).flush t = false :=
  Bool.eq_false_iff.mpr fun e => h ((flush0_15 t).mp e)
theorem noflush16 (t : Fin cfg0.N) (h : ¬t.val % 32 = 31) : (cfg0.win 16).flush t = false :=
  Bool.eq_false_iff.mpr fun e => h ((flush0_16 t).mp e)
theorem noflush17 (t : Fin cfg0.N) (h : ¬t.val % 32 = 31) : (cfg0.win 17).flush t = false :=
  Bool.eq_false_iff.mpr fun e => h ((flush0_17 t).mp e)

/-- The first point of the row block `t` lies in, and the point before `t`. -/
def start (t : Fin cfg0.N) : Fin cfg0.N := ⟨t.val - t.val % 4, Nat.lt_of_le_of_lt (Nat.sub_le _ _) t.isLt⟩
def pred (t : Fin cfg0.N) : Fin cfg0.N := ⟨t.val - 1, Nat.lt_of_le_of_lt (Nat.sub_le _ _) t.isLt⟩

theorem start_of_eq (t : Fin cfg0.N) (h : t.val % 4 = 0) : start t = t :=
  Fin.ext (by show t.val - t.val % 4 = t.val; omega)
theorem start_pred (t : Fin cfg0.N) (h : ¬t.val % 4 = 0) : start (pred t) = start t :=
  Fin.ext (by show t.val - 1 - (t.val - 1) % 4 = t.val - t.val % 4; omega)

/-! ## What the buffers hold after a point -/

/-- The gradient through the post-norm, as the output block holds it and as the scratch does. -/
def normAt (c : Dev nD) (t : Fin cfg0.N) : Vec F S512x1024 .bf16 := k0_pay21 (k0_pay6 (iblk m c 2 (start t))) (k0_pay7 (iblk m c 2 (start t))) (iblk m c 5 (start t)) (k0_pay8 (iblk m c 1 (start t)) (iblk m c 0 (start t))) k0_pay9
def heldAt (c : Dev nD) (t : Fin cfg0.N) : Vec F S512x1024 .bf16 := k0_pay20 (k0_pay6 (iblk m c 2 (start t))) (k0_pay7 (iblk m c 2 (start t))) (iblk m c 5 (start t)) (k0_pay8 (iblk m c 1 (start t)) (iblk m c 0 (start t))) k0_pay9

/-- The gradients of the two projections' results, one chunk of them. -/
def upAt (c : Dev nD) (t : Fin cfg0.N) : FVec F S512x704 .bf16 := k0_pay27 (heldAt m c t) (iblk m c 10 t) (iblk m c 6 t)
def gateAt (c : Dev nD) (t : Fin cfg0.N) : FVec F S512x704 .bf16 := k0_pay28 (heldAt m c t) (iblk m c 10 t) (iblk m c 7 t) (iblk m c 6 t)

/-- The accumulator with this point's product added. -/
def addAt (c : Dev nD) (t : Fin cfg0.N) (acc : Vec F S512x1024 .f32) : Vec F S512x1024 .f32 :=
  k0_pay3 (upAt m c t) (gateAt m c t) acc (iblk m c 8 t) (iblk m c 9 t)

def accAt (c : Dev nD) : (n : ℕ) → n < cfg0.N → Vec F S512x1024 .f32
  | 0, hn => addAt m c ⟨0, hn⟩ k0_pay22
  | n + 1, hn =>
    if (n + 1) % 4 = 0 then addAt m c ⟨n + 1, hn⟩ k0_pay22
    else addAt m c ⟨n + 1, hn⟩ (accAt c n (Nat.lt_of_succ_lt hn))

theorem accAt_first (c : Dev nD) (t : Fin cfg0.N) (h : t.val % 4 = 0) : accAt m c t.val t.isLt = addAt m c t k0_pay22 := by
  obtain ⟨n, hn⟩ := t
  cases n with
  | zero => rfl
  | succ n => unfold accAt; rw [if_pos h]

theorem accAt_next (c : Dev nD) (t : Fin cfg0.N) (h : ¬t.val % 4 = 0) :
    accAt m c t.val t.isLt = addAt m c t (accAt m c (t.val - 1) (pred t).isLt) := by
  obtain ⟨n, hn⟩ := t
  cases n with
  | zero => exact absurd rfl h
  | succ n => rw [accAt, if_neg h]; rfl

theorem heldAt_pred (c : Dev nD) (t : Fin cfg0.N) (h : ¬t.val % 4 = 0) : heldAt m c (pred t) = heldAt m c t := by
  unfold heldAt; rw [start_pred t h]

/-- The post-norm's gain: one row block's terms are added at its first point. -/
def postAt (c : Dev nD) : (n : ℕ) → n < cfg0.N → Vec F S1x1024 .f32
  | 0, hn => k0_pay19 (k0_pay6 (iblk m c 2 ⟨0, hn⟩)) (k0_pay7 (iblk m c 2 ⟨0, hn⟩)) (k0_pay8 (iblk m c 1 ⟨0, hn⟩) (iblk m c 0 ⟨0, hn⟩)) k0_pay9 k0_pay15
  | n + 1, hn =>
    if (n + 1) % 4 = 0 then k0_pay19 (k0_pay6 (iblk m c 2 ⟨n + 1, hn⟩)) (k0_pay7 (iblk m c 2 ⟨n + 1, hn⟩)) (k0_pay8 (iblk m c 1 ⟨n + 1, hn⟩) (iblk m c 0 ⟨n + 1, hn⟩)) k0_pay9 (postAt c n (Nat.lt_of_succ_lt hn))
    else postAt c n (Nat.lt_of_succ_lt hn)

/-- The loss: one row block's terms are added at its first point. -/
def lossAt (c : Dev nD) : (n : ℕ) → n < cfg0.N → Vec F S1x128 .f32
  | 0, hn => k0_pay5 (iblk m c 1 ⟨0, hn⟩) (iblk m c 0 ⟨0, hn⟩) k0_pay16
  | n + 1, hn =>
    if (n + 1) % 4 = 0 then k0_pay5 (iblk m c 1 ⟨n + 1, hn⟩) (iblk m c 0 ⟨n + 1, hn⟩) (lossAt c n (Nat.lt_of_succ_lt hn))
    else lossAt c n (Nat.lt_of_succ_lt hn)

/-- The pre-norm's gain: one row block's terms are added at its last point. -/
def preAt (c : Dev nD) : (n : ℕ) → n < cfg0.N → Vec F S1x1024 .f32
  | 0, _ => k0_pay14
  | n + 1, hn =>
    if (n + 1) % 4 = 3 then k0_pay12 (iblk m c 3 ⟨n + 1, hn⟩) (accAt m c (n + 1) hn) (preAt c n (Nat.lt_of_succ_lt hn))
    else preAt c n (Nat.lt_of_succ_lt hn)

theorem postAt_zero (c : Dev nD) (t : Fin cfg0.N) (h : t.val = 0) :
    postAt m c t.val t.isLt = k0_pay19 (k0_pay6 (iblk m c 2 t)) (k0_pay7 (iblk m c 2 t)) (k0_pay8 (iblk m c 1 t) (iblk m c 0 t)) k0_pay9 k0_pay15 := by
  obtain ⟨n, hn⟩ := t
  cases n with
  | zero => rfl
  | succ n => exact absurd h (Nat.succ_ne_zero n)
theorem postAt_first (c : Dev nD) (t : Fin cfg0.N) (hz : ¬t.val = 0) (h : t.val % 4 = 0) :
    postAt m c t.val t.isLt = k0_pay19 (k0_pay6 (iblk m c 2 t)) (k0_pay7 (iblk m c 2 t)) (k0_pay8 (iblk m c 1 t) (iblk m c 0 t)) k0_pay9 (postAt m c (t.val - 1) (pred t).isLt) := by
  obtain ⟨n, hn⟩ := t
  cases n with
  | zero => exact absurd rfl hz
  | succ n => rw [postAt, if_pos h]; rfl
theorem postAt_keep (c : Dev nD) (t : Fin cfg0.N) (h : ¬t.val % 4 = 0) :
    postAt m c t.val t.isLt = postAt m c (t.val - 1) (pred t).isLt := by
  obtain ⟨n, hn⟩ := t
  cases n with
  | zero => exact absurd rfl h
  | succ n => rw [postAt, if_neg h]; rfl
theorem lossAt_zero (c : Dev nD) (t : Fin cfg0.N) (h : t.val = 0) :
    lossAt m c t.val t.isLt = k0_pay5 (iblk m c 1 t) (iblk m c 0 t) k0_pay16 := by
  obtain ⟨n, hn⟩ := t
  cases n with
  | zero => rfl
  | succ n => exact absurd h (Nat.succ_ne_zero n)
theorem lossAt_first (c : Dev nD) (t : Fin cfg0.N) (hz : ¬t.val = 0) (h : t.val % 4 = 0) :
    lossAt m c t.val t.isLt = k0_pay5 (iblk m c 1 t) (iblk m c 0 t) (lossAt m c (t.val - 1) (pred t).isLt) := by
  obtain ⟨n, hn⟩ := t
  cases n with
  | zero => exact absurd rfl hz
  | succ n => rw [lossAt, if_pos h]; rfl
theorem lossAt_keep (c : Dev nD) (t : Fin cfg0.N) (h : ¬t.val % 4 = 0) :
    lossAt m c t.val t.isLt = lossAt m c (t.val - 1) (pred t).isLt := by
  obtain ⟨n, hn⟩ := t
  cases n with
  | zero => exact absurd rfl h
  | succ n => rw [lossAt, if_neg h]; rfl
theorem preAt_zero (c : Dev nD) (t : Fin cfg0.N) (h : t.val = 0) : preAt m c t.val t.isLt = k0_pay14 := by
  obtain ⟨n, hn⟩ := t
  cases n with
  | zero => rfl
  | succ n => exact absurd h (Nat.succ_ne_zero n)
theorem preAt_last (c : Dev nD) (t : Fin cfg0.N) (h : t.val % 4 = 3) :
    preAt m c t.val t.isLt = k0_pay12 (iblk m c 3 t) (accAt m c t.val t.isLt) (preAt m c (t.val - 1) (pred t).isLt) := by
  obtain ⟨n, hn⟩ := t
  cases n with
  | zero => exact absurd h (by show ¬(0 % 4 = 3); decide)
  | succ n => rw [preAt, if_pos h]; rfl
theorem preAt_keep (c : Dev nD) (t : Fin cfg0.N) (hz : ¬t.val = 0) (h : ¬t.val % 4 = 3) :
    preAt m c t.val t.isLt = preAt m c (t.val - 1) (pred t).isLt := by
  obtain ⟨n, hn⟩ := t
  cases n with
  | zero => exact absurd rfl hz
  | succ n => rw [preAt, if_neg h]; rfl

/-! ## The invariant and the proof data -/

abbrev scr0 : Memref sig .tc .vmem S512x1024 .bf16 := Memref.whole cc0_scratch0
abbrev scr1 : Memref sig .tc .vmem S512x1024 .f32 := Memref.whole cc0_scratch1

theorem PhiA_eq (c : Dev nD) : (Pipeline.ΦA spec0 c : sProp 𝕄)
    = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- Before the first point the scratch holds anything; afterwards the gradient and the accumulator of the point before. -/
def Inv (c : Dev nD) : (n : ℕ) → n ≤ cfg0.N → sProp 𝕄
  | 0, _ => Pipeline.ΦA spec0 c
  | n + 1, hn => iprop(iprop(owns (c : Thread nD τ) scr0 fullShare (heldAt m c ⟨n, hn⟩) ∗ owns (c : Thread nD τ) scr1 fullShare (accAt m c n hn)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) scr0 fullShare (heldAt m c ⟨n, hn⟩) ∗ owns (c : Thread nD τ) scr1 fullShare (accAt m c n hn)) ∗ (∃ r, prngReg c r)) := rfl

theorem Inv_pos (c : Dev nD) (t : Fin cfg0.N) (hz : t.val ≠ 0) :
    Inv m c t.val (Nat.le_of_lt t.isLt) = iprop(iprop(owns (c : Thread nD τ) scr0 fullShare (heldAt m c (pred t)) ∗ owns (c : Thread nD τ) scr1 fullShare (accAt m c (t.val - 1) (pred t).isLt)) ∗ (∃ r, prngReg c r)) := by
  obtain ⟨n, hn⟩ := t
  cases n with
  | zero => exact absurd rfl hz
  | succ n => rfl

/-- From any point on, the scratch can be handed over at anything. -/
theorem Inv_forget (c : Dev nD) (n : ℕ) (h : n ≤ cfg0.N) : Inv m c n h ⊢ Pipeline.ΦA spec0 c := by
  cases n with
  | zero => exact Idealize.SL.BI.Entails.refl _
  | succ n =>
    rw [Inv_succ, PhiA_eq]
    iintro ⟨⟨HS0, HS1⟩, Hg⟩
    isplitl [HS0 HS1]
    · isplitl [HS0]
      · iexists _; iexact HS0
      iexists _; iexact HS1
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => k0_pay4 (k0_pay11 (iblk m c 3 t) (iblk m c 4 t) (accAt m c t.val t.isLt)) (k0_pay13 (iblk m c 1 t) (iblk m c 0 t)) (Scalar.ofBits .f32 0x3A800000#32)
    | ⟨12, _⟩ => normAt m c t
    | ⟨13, _⟩ => k0_pay1 (gateAt m c t)
    | ⟨14, _⟩ => k0_pay2 (upAt m c t)
    | ⟨15, _⟩ => preAt m c t.val t.isLt
    | ⟨16, _⟩ => postAt m c t.val t.isLt
    | ⟨17, _⟩ => lossAt m c t.val t.isLt
    | ⟨_ + 18, h⟩ => absurd h (Nat.not_lt.2 (Nat.le_add_left _ _))
  Φ t := Inv m c t.val (Nat.le_of_lt_succ t.isLt)
  q w := Pipeline.shareOf cfg0.spec w
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = k0_pay4 (k0_pay11 (iblk m c 3 t) (iblk m c 4 t) (accAt m c t.val t.isLt)) (k0_pay13 (iblk m c 1 t) (iblk m c 0 t)) (Scalar.ofBits .f32 0x3A800000#32) := by dsimp only [dats]
theorem after12 (c : Dev nD) (t : Fin cfg0.N) : (dats m 0 c).after 12 t = normAt m c t := by dsimp only [dats]
theorem after13 (c : Dev nD) (t : Fin cfg0.N) : (dats m 0 c).after 13 t = k0_pay1 (gateAt m c t) := by dsimp only [dats]
theorem after14 (c : Dev nD) (t : Fin cfg0.N) : (dats m 0 c).after 14 t = k0_pay2 (upAt m c t) := by dsimp only [dats]
theorem after15 (c : Dev nD) (t : Fin cfg0.N) : (dats m 0 c).after 15 t = preAt m c t.val t.isLt := by dsimp only [dats]
theorem after16 (c : Dev nD) (t : Fin cfg0.N) : (dats m 0 c).after 16 t = postAt m c t.val t.isLt := by dsimp only [dats]
theorem after17 (c : Dev nD) (t : Fin cfg0.N) : (dats m 0 c).after 17 t = lossAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- Past the first chunk of a row block the gradient's buffer still holds what that chunk stored. -/
theorem before12 (c : Dev nD) : ∀ (j : ℕ) (t : Fin cfg0.N) (d), t.val % 4 = j + 1 → (dats m 0 c).before 12 t d = normAt m c t := by
  intro j
  induction j with
  | zero =>
    intro t d ht
    have hp : (pred t).val % 4 = 0 := by show (t.val - 1) % 4 = 0; omega
    rw [(dats m 0 c).before_of_pos 12 t (by omega) ((cfg0.win 12).fetch_out rfl t)]
    rw [show (cfg0.win 12).flush ⟨t.val - 1, _⟩ = false from noflush12 (pred t) (by omega), if_neg Bool.false_ne_true]
    show (dats m 0 c).left 12 (pred t) d = _
    unfold Dat.left
    rw [show cfg0.idle 12 (cfg0.grid.coords (pred t)) = false from live12_of_eq (pred t) hp]
    show (dats m 0 c).kept 12 (pred t) d = _
    unfold Dat.kept
    rw [Pipeline.fill_of_clip_none 12 _ (fun _ => rfl) d ((dats m 0 c).after 12 (pred t)), Window.fill_cut, after12]
    unfold normAt; rw [start_pred t (by omega)]
  | succ j ih =>
    intro t d ht
    have hlt := Nat.mod_lt t.val (show 0 < 4 by decide)
    have hp : (pred t).val % 4 = j + 1 := by show (t.val - 1) % 4 = j + 1; omega
    rw [(dats m 0 c).before_of_pos 12 t (by omega) ((cfg0.win 12).fetch_out rfl t)]
    rw [show (cfg0.win 12).flush ⟨t.val - 1, _⟩ = false from noflush12 (pred t) (by omega), if_neg Bool.false_ne_true]
    show (dats m 0 c).left 12 (pred t) d = _
    unfold Dat.left
    rw [show cfg0.idle 12 (cfg0.grid.coords (pred t)) = true from idle12_of_ne (pred t) (by omega)]
    show (dats m 0 c).before 12 (pred t) d = _
    rw [ih (pred t) d hp]
    unfold normAt; rw [start_pred t (by omega)]

theorem before12_of_ne (c : Dev nD) (t : Fin cfg0.N) (d) (h : ¬t.val % 4 = 0) : (dats m 0 c).before 12 t d = normAt m c t :=
  before12 m c (t.val % 4 - 1) t d (by omega)

/-- Before any point but the first, the gain's buffer holds what the point before left. -/
theorem before15 (c : Dev nD) : ∀ (n : ℕ) (t : Fin cfg0.N) (d), t.val = n + 1 → (dats m 0 c).before 15 t d = preAt m c (t.val - 1) (pred t).isLt := by
  intro n
  induction n with
  | zero =>
    intro t d ht
    have hlt := point_lt t
    have hp : (pred t).val = 0 := by show t.val - 1 = 0; omega
    rw [(dats m 0 c).before_of_pos 15 t (by omega) ((cfg0.win 15).fetch_out rfl t)]
    rw [show (cfg0.win 15).flush ⟨t.val - 1, _⟩ = false from noflush15 (pred t) (by omega), if_neg Bool.false_ne_true]
    show (dats m 0 c).left 15 (pred t) d = _
    unfold Dat.left
    rw [show cfg0.idle 15 (cfg0.grid.coords (pred t)) = false from live15_of_zero (pred t) hp]
    show (dats m 0 c).kept 15 (pred t) d = _
    unfold Dat.kept
    rw [Pipeline.fill_of_clip_none 15 _ (fun _ => rfl) d ((dats m 0 c).after 15 (pred t)), Window.fill_cut, after15]
    rfl
  | succ n ih =>
    intro t d ht
    have hlt := point_lt t
    have hp : (pred t).val = n + 1 := by show t.val - 1 = n + 1; omega
    rw [(dats m 0 c).before_of_pos 15 t (by omega) ((cfg0.win 15).fetch_out rfl t)]
    rw [show (cfg0.win 15).flush ⟨t.val - 1, _⟩ = false from noflush15 (pred t) (by omega), if_neg Bool.false_ne_true]
    show (dats m 0 c).left 15 (pred t) d = _
    unfold Dat.left
    by_cases h : (pred t).val % 4 = 3
    · rw [show cfg0.idle 15 (cfg0.grid.coords (pred t)) = false from live15_of_eq (pred t) h]
      show (dats m 0 c).kept 15 (pred t) d = _
      unfold Dat.kept
      rw [Pipeline.fill_of_clip_none 15 _ (fun _ => rfl) d ((dats m 0 c).after 15 (pred t)), Window.fill_cut, after15]
      rfl
    · rw [show cfg0.idle 15 (cfg0.grid.coords (pred t)) = true from idle15_of_ne (pred t) (by omega) h]
      show (dats m 0 c).before 15 (pred t) d = _
      rw [ih (pred t) d hp]
      exact (preAt_keep m c (pred t) (by omega) h).symm

theorem before15_of_ne (c : Dev nD) (t : Fin cfg0.N) (d) (h : ¬t.val = 0) : (dats m 0 c).before 15 t d = preAt m c (t.val - 1) (pred t).isLt :=
  before15 m c (t.val - 1) t d (by omega)

/-- Before any point but the first, the gain's buffer holds what the point before left. -/
theorem before16 (c : Dev nD) : ∀ (n : ℕ) (t : Fin cfg0.N) (d), t.val = n + 1 → (dats m 0 c).before 16 t d = postAt m c (t.val - 1) (pred t).isLt := by
  intro n
  induction n with
  | zero =>
    intro t d ht
    have hlt := point_lt t
    have hp : (pred t).val = 0 := by show t.val - 1 = 0; omega
    rw [(dats m 0 c).before_of_pos 16 t (by omega) ((cfg0.win 16).fetch_out rfl t)]
    rw [show (cfg0.win 16).flush ⟨t.val - 1, _⟩ = false from noflush16 (pred t) (by omega), if_neg Bool.false_ne_true]
    show (dats m 0 c).left 16 (pred t) d = _
    unfold Dat.left
    rw [show cfg0.idle 16 (cfg0.grid.coords (pred t)) = false from live16_of_eq (pred t) (by omega)]
    show (dats m 0 c).kept 16 (pred t) d = _
    unfold Dat.kept
    rw [Pipeline.fill_of_clip_none 16 _ (fun _ => rfl) d ((dats m 0 c).after 16 (pred t)), Window.fill_cut, after16]
    rfl
  | succ n ih =>
    intro t d ht
    have hlt := point_lt t
    have hp : (pred t).val = n + 1 := by show t.val - 1 = n + 1; omega
    rw [(dats m 0 c).before_of_pos 16 t (by omega) ((cfg0.win 16).fetch_out rfl t)]
    rw [show (cfg0.win 16).flush ⟨t.val - 1, _⟩ = false from noflush16 (pred t) (by omega), if_neg Bool.false_ne_true]
    show (dats m 0 c).left 16 (pred t) d = _
    unfold Dat.left
    by_cases h : (pred t).val % 4 = 0
    · rw [show cfg0.idle 16 (cfg0.grid.coords (pred t)) = false from live16_of_eq (pred t) h]
      show (dats m 0 c).kept 16 (pred t) d = _
      unfold Dat.kept
      rw [Pipeline.fill_of_clip_none 16 _ (fun _ => rfl) d ((dats m 0 c).after 16 (pred t)), Window.fill_cut, after16]
      rfl
    · rw [show cfg0.idle 16 (cfg0.grid.coords (pred t)) = true from idle16_of_ne (pred t) h]
      show (dats m 0 c).before 16 (pred t) d = _
      rw [ih (pred t) d hp]
      exact (postAt_keep m c (pred t) h).symm

theorem before16_of_ne (c : Dev nD) (t : Fin cfg0.N) (d) (h : ¬t.val = 0) : (dats m 0 c).before 16 t d = postAt m c (t.val - 1) (pred t).isLt :=
  before16 m c (t.val - 1) t d (by omega)

/-- Before any point but the first, the gain's buffer holds what the point before left. -/
theorem before17 (c : Dev nD) : ∀ (n : ℕ) (t : Fin cfg0.N) (d), t.val = n + 1 → (dats m 0 c).before 17 t d = lossAt m c (t.val - 1) (pred t).isLt := by
  intro n
  induction n with
  | zero =>
    intro t d ht
    have hlt := point_lt t
    have hp : (pred t).val = 0 := by show t.val - 1 = 0; omega
    rw [(dats m 0 c).before_of_pos 17 t (by omega) ((cfg0.win 17).fetch_out rfl t)]
    rw [show (cfg0.win 17).flush ⟨t.val - 1, _⟩ = false from noflush17 (pred t) (by omega), if_neg Bool.false_ne_true]
    show (dats m 0 c).left 17 (pred t) d = _
    unfold Dat.left
    rw [show cfg0.idle 17 (cfg0.grid.coords (pred t)) = false from live17_of_eq (pred t) (by omega)]
    show (dats m 0 c).kept 17 (pred t) d = _
    unfold Dat.kept
    rw [Pipeline.fill_of_clip_none 17 _ (fun _ => rfl) d ((dats m 0 c).after 17 (pred t)), Window.fill_cut, after17]
    rfl
  | succ n ih =>
    intro t d ht
    have hlt := point_lt t
    have hp : (pred t).val = n + 1 := by show t.val - 1 = n + 1; omega
    rw [(dats m 0 c).before_of_pos 17 t (by omega) ((cfg0.win 17).fetch_out rfl t)]
    rw [show (cfg0.win 17).flush ⟨t.val - 1, _⟩ = false from noflush17 (pred t) (by omega), if_neg Bool.false_ne_true]
    show (dats m 0 c).left 17 (pred t) d = _
    unfold Dat.left
    by_cases h : (pred t).val % 4 = 0
    · rw [show cfg0.idle 17 (cfg0.grid.coords (pred t)) = false from live17_of_eq (pred t) h]
      show (dats m 0 c).kept 17 (pred t) d = _
      unfold Dat.kept
      rw [Pipeline.fill_of_clip_none 17 _ (fun _ => rfl) d ((dats m 0 c).after 17 (pred t)), Window.fill_cut, after17]
      rfl
    · rw [show cfg0.idle 17 (cfg0.grid.coords (pred t)) = true from idle17_of_ne (pred t) h]
      show (dats m 0 c).before 17 (pred t) d = _
      rw [ih (pred t) d hp]
      exact (lossAt_keep m c (pred t) h).symm

theorem before17_of_ne (c : Dev nD) (t : Fin cfg0.N) (d) (h : ¬t.val = 0) : (dats m 0 c).before 17 t d = lossAt m c (t.val - 1) (pred t).isLt :=
  before17 m c (t.val - 1) t d (by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

theorem leaves0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (st0_5 t) fullShare (iblk m c 5 t) := by
  unfold Dat.leavesExact; rw [show cfg0.idle 5 (cfg0.grid.coords t) = false from rfl, after5]
theorem leaves6 (c : Dev nD) (t : Fin cfg0.N) : (dats m 0 c).leavesExact 6 t = owns (c : Thread nD τ) (st0_6 t) fullShare (iblk m c 6 t) := by
  unfold Dat.leavesExact; rw [show cfg0.idle 6 (cfg0.grid.coords t) = false from rfl, after6]
theorem leaves7 (c : Dev nD) (t : Fin cfg0.N) : (dats m 0 c).leavesExact 7 t = owns (c : Thread nD τ) (st0_7 t) fullShare (iblk m c 7 t) := by
  unfold Dat.leavesExact; rw [show cfg0.idle 7 (cfg0.grid.coords t) = false from rfl, after7]
theorem leaves8 (c : Dev nD) (t : Fin cfg0.N) : (dats m 0 c).leavesExact 8 t = owns (c : Thread nD τ) (st0_8 t) fullShare (iblk m c 8 t) := by
  unfold Dat.leavesExact; rw [show cfg0.idle 8 (cfg0.grid.coords t) = false from rfl, after8]
theorem leaves9 (c : Dev nD) (t : Fin cfg0.N) : (dats m 0 c).leavesExact 9 t = owns (c : Thread nD τ) (st0_9 t) fullShare (iblk m c 9 t) := by
  unfold Dat.leavesExact; rw [show cfg0.idle 9 (cfg0.grid.coords t) = false from rfl, after9]
theorem leaves10 (c : Dev nD) (t : Fin cfg0.N) : (dats m 0 c).leavesExact 10 t = owns (c : Thread nD τ) (st0_10 t) fullShare (iblk m c 10 t) := by
  unfold Dat.leavesExact; rw [show cfg0.idle 10 (cfg0.grid.coords t) = false from rfl, after10]
theorem leaves13 (c : Dev nD) (t : Fin cfg0.N) : (dats m 0 c).leavesExact 13 t = owns (c : Thread nD τ) (st0_13 t) fullShare (k0_pay1 (gateAt m c t)) := by
  unfold Dat.leavesExact; rw [show cfg0.idle 13 (cfg0.grid.coords t) = false from rfl, after13]
theorem leaves14 (c : Dev nD) (t : Fin cfg0.N) : (dats m 0 c).leavesExact 14 t = owns (c : Thread nD τ) (st0_14 t) fullShare (k0_pay2 (upAt m c t)) := by
  unfold Dat.leavesExact; rw [show cfg0.idle 14 (cfg0.grid.coords t) = false from rfl, after14]
theorem leaves11 (c : Dev nD) (t : Fin cfg0.N) (h : t.val % 4 = 3) : (dats m 0 c).leavesExact 11 t = owns (c : Thread nD τ) (st0_11 t) fullShare (k0_pay4 (k0_pay11 (iblk m c 3 t) (iblk m c 4 t) (accAt m c t.val t.isLt)) (k0_pay13 (iblk m c 1 t) (iblk m c 0 t)) (Scalar.ofBits .f32 0x3A800000#32)) := by
  unfold Dat.leavesExact; rw [show cfg0.idle 11 (cfg0.grid.coords t) = false from live11_of_eq t h, after11]
theorem leaves12_first (c : Dev nD) (t : Fin cfg0.N) (h : t.val % 4 = 0) : (dats m 0 c).leavesExact 12 t = owns (c : Thread nD τ) (st0_12 t) fullShare (normAt m c t) := by
  unfold Dat.leavesExact; rw [show cfg0.idle 12 (cfg0.grid.coords t) = false from live12_of_eq t h, after12]
theorem leaves15_zero (c : Dev nD) (t : Fin cfg0.N) (h : t.val = 0) : (dats m 0 c).leavesExact 15 t = owns (c : Thread nD τ) (st0_15 t) fullShare (preAt m c t.val t.isLt) := by
  unfold Dat.leavesExact; rw [show cfg0.idle 15 (cfg0.grid.coords t) = false from live15_of_zero t h, after15]
theorem leaves15_last (c : Dev nD) (t : Fin cfg0.N) (h : t.val % 4 = 3) : (dats m 0 c).leavesExact 15 t = owns (c : Thread nD τ) (st0_15 t) fullShare (preAt m c t.val t.isLt) := by
  unfold Dat.leavesExact; rw [show cfg0.idle 15 (cfg0.grid.coords t) = false from live15_of_eq t h, after15]
theorem leaves16_first (c : Dev nD) (t : Fin cfg0.N) (h : t.val % 4 = 0) : (dats m 0 c).leavesExact 16 t = owns (c : Thread nD τ) (st0_16 t) fullShare (postAt m c t.val t.isLt) := by
  unfold Dat.leavesExact; rw [show cfg0.idle 16 (cfg0.grid.coords t) = false from live16_of_eq t h, after16]
theorem leaves17_first (c : Dev nD) (t : Fin cfg0.N) (h : t.val % 4 = 0) : (dats m 0 c).leavesExact 17 t = owns (c : Thread nD τ) (st0_17 t) fullShare (lossAt m c t.val t.isLt) := by
  unfold Dat.leavesExact; rw [show cfg0.idle 17 (cfg0.grid.coords t) = false from live17_of_eq t h, after17]
theorem leaves12_last (c : Dev nD) (t : Fin cfg0.N) (h : t.val % 4 = 3) : (dats m 0 c).leavesExact 12 t = owns (c : Thread nD τ) (st0_12 t) fullShare (normAt m c t) := by
  unfold Dat.leavesExact; rw [show cfg0.idle 12 (cfg0.grid.coords t) = true from idle12_of_ne t (by omega), show (cfg0.win 12).flush t = true from (flush0_12 t).mpr h, after12]

/-- Where the gains' buffers are not stored into they are handed back as they were. -/
theorem leaves15_keep (c : Dev nD) (t : Fin cfg0.N) (h0 : ¬t.val = 0) (h : ¬t.val % 4 = 3) (d) :
    owns (c : Thread nD τ) (st0_15 t) fullShare ((dats m 0 c).before 15 t d) ⊢ (dats m 0 c).leavesExact 15 t := by
  rw [(dats m 0 c).leavesExact_idle 15 t (idle15_of_ne t h0 h) (noflush15 t (by omega))]
  iintro H; iexists d; iexact H
theorem leaves16_keep (c : Dev nD) (t : Fin cfg0.N) (h : ¬t.val % 4 = 0) (d) :
    owns (c : Thread nD τ) (st0_16 t) fullShare ((dats m 0 c).before 16 t d) ⊢ (dats m 0 c).leavesExact 16 t := by
  by_cases hf : t.val % 32 = 31
  · unfold Dat.leavesExact
    rw [show cfg0.idle 16 (cfg0.grid.coords t) = true from idle16_of_ne t h, show (cfg0.win 16).flush t = true from (flush0_16 t).mpr hf,
      after16, before16_of_ne m c t d (by omega), ← postAt_keep m c t h]
  · rw [(dats m 0 c).leavesExact_idle 16 t (idle16_of_ne t h) (noflush16 t hf)]
    iintro H; iexists d; iexact H
theorem leaves17_keep (c : Dev nD) (t : Fin cfg0.N) (h : ¬t.val % 4 = 0) (d) :
    owns (c : Thread nD τ) (st0_17 t) fullShare ((dats m 0 c).before 17 t d) ⊢ (dats m 0 c).leavesExact 17 t := by
  by_cases hf : t.val % 32 = 31
  · unfold Dat.leavesExact
    rw [show cfg0.idle 17 (cfg0.grid.coords t) = true from idle17_of_ne t h, show (cfg0.win 17).flush t = true from (flush0_17 t).mpr hf,
      after17, before17_of_ne m c t d (by omega), ← lossAt_keep m c t h]
  · rw [(dats m 0 c).leavesExact_idle 17 t (idle17_of_ne t h) (noflush17 t hf)]
    iintro H; iexists d; iexact H

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [show (dats m 0 c).Φ t.succ = Inv m c (t.val + 1) t.isLt from rfl, Inv_succ]
  rw [leaves0, leaves1, leaves2, leaves3, leaves4, leaves5, leaves6, leaves7, leaves8, leaves9, leaves10, leaves13, leaves14, Inv_castSucc m c t]
  have hN := point_lt t
  by_cases h0 : t.val % 4 = 0
  · have h1 : ¬t.val % 4 = 3 := by omega
    rw [leaves12_first m c t h0, (dats m 0 c).leavesExact_idle 11 t (idle11_of_ne t h1) (noflush11 t h1), leaves16_first m c t h0, leaves17_first m c t h0]
    refine (show iprop(Inv m c t.val (Nat.le_of_lt t.isLt) ∗ _) ⊢ iprop(Pipeline.ΦA spec0 c ∗ _) from sep_mono_left (Inv_forget m c t.val _)).trans ?_
    rw [PhiA_eq, accAt_first m c t h0]
    unfold addAt upAt gateAt normAt heldAt
    rw [start_of_eq t h0]
    by_cases hz : t.val = 0
    · rw [leaves15_zero m c t hz, preAt_zero m c t hz, postAt_zero m c t hz, lossAt_zero m c t hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (run_start c (grid0.coords t) _ _ _ _ _ _ _ _ _ _ _ _ _ _ _ _ _ _ _ _ _ _ _ _ _ _ _ _ _ _ _ _ _ _ _ _ _ _ _ _ ((start_iff t).mpr hz) ((first_iff t).mpr h0) (fun h => h1 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      iintro ⟨H0, H1, H2, H3, H4, H5, H6, H7, H8, H9, H10, H11, H12, H13, H14, H15, H16, H17, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [H13]; · iexact H13
      isplitl [H14]; · iexact H14
      isplitl [H15]; · iexact H15
      isplitl [H16]; · iexact H16
      iexact H17
    · rw [postAt_first m c t hz h0, lossAt_first m c t hz h0]
      simp only [before15_of_ne m c t _ hz, before16_of_ne m c t _ hz, before17_of_ne m c t _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (run_first c (grid0.coords t) _ _ _ _ _ _ _ _ _ _ _ _ _ _ _ _ _ _ _ _ _ _ _ _ _ _ _ _ _ _ _ _ _ _ _ _ _ _ _ _ (fun h => hz ((start_iff t).mp h)) ((first_iff t).mpr h0) (fun h => h1 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ (preAt m c (t.val - 1) (pred t).isLt) (postAt m c (t.val - 1) (pred t).isLt) (lossAt m c (t.val - 1) (pred t).isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexact H15
      isplitl [H16]; · iexact H16
      isplitl [H17]; · iexact H17
      isplitl [HS0]; · iexact HS0
      isplitl [HS1]; · iexact HS1
      iintro ⟨H0, H1, H2, H3, H4, H5, H6, H7, H8, H9, H10, H11, H12, H13, H14, H15, H16, H17, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [H13]; · iexact H13
      isplitl [H14]; · iexact H14
      isplitl [H15]; · iapply (leaves15_keep m c t hz h1 d15); rw [before15_of_ne m c t d15 hz]; iexact H15
      isplitl [H16]; · iexact H16
      iexact H17
  · have hz : ¬t.val = 0 := by omega
    rw [Inv_pos m c t (by omega), heldAt_pred m c t h0]
    simp only [before12_of_ne m c t _ h0, before15_of_ne m c t _ hz, before16_of_ne m c t _ hz, before17_of_ne m c t _ hz]
    by_cases h1 : t.val % 4 = 3
    · rw [leaves12_last m c t h1, leaves11 m c t h1, leaves15_last m c t h1, preAt_last m c t h1, accAt_next m c t h0]
      unfold addAt upAt gateAt
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (run_last c (grid0.coords t) _ _ _ _ _ _ _ _ _ _ _ _ _ _ _ _ _ _ _ _ _ _ _ _ _ _ _ _ _ _ _ _ _ _ _ _ _ _ _ _ (fun h => hz ((start_iff t).mp h)) (fun h => h0 ((first_iff t).mp h)) ((last_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (normAt m c t) (heldAt m c t) (accAt m c (t.val - 1) (pred t).isLt) (preAt m c (t.val - 1) (pred t).isLt) (postAt m c (t.val - 1) (pred t).isLt) (lossAt m c (t.val - 1) (pred t).isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [H13]; · iexists _; iexact H13
      isplitl [H14]; · iexists _; iexact H14
      isplitl [H15]; · iexact H15
      isplitl [H16]; · iexact H16
      isplitl [H17]; · iexact H17
      isplitl [HS0]; · iexact HS0
      isplitl [HS1]; · iexact HS1
      iintro ⟨H0, H1, H2, H3, H4, H5, H6, H7, H8, H9, H10, H11, H12, H13, H14, H15, H16, H17, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iapply (leaves16_keep m c t h0 d16); rw [before16_of_ne m c t d16 hz]; iexact H16
      iapply (leaves17_keep m c t h0 d17); rw [before17_of_ne m c t d17 hz]; iexact H17
    · rw [(dats m 0 c).leavesExact_idle 12 t (idle12_of_ne t h0) (noflush12 t h1), (dats m 0 c).leavesExact_idle 11 t (idle11_of_ne t h1) (noflush11 t h1),
        accAt_next m c t h0]
      simp only [before12_of_ne m c t _ h0]
      unfold addAt upAt gateAt
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (run_mid c (grid0.coords t) _ _ _ _ _ _ _ _ _ _ _ _ _ _ _ _ _ _ _ _ _ _ _ _ _ _ _ _ _ _ _ _ _ _ _ _ _ _ _ _ (fun h => hz ((start_iff t).mp h)) (fun h => h0 ((first_iff t).mp h)) (fun h => h1 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ (normAt m c t) (heldAt m c t) (accAt m c (t.val - 1) (pred t).isLt) (preAt m c (t.val - 1) (pred t).isLt) (postAt m c (t.val - 1) (pred t).isLt) (lossAt m c (t.val - 1) (pred t).isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexact H15
      isplitl [H16]; · iexact H16
      isplitl [H17]; · iexact H17
      isplitl [HS0]; · iexact HS0
      isplitl [HS1]; · iexact HS1
      iintro ⟨H0, H1, H2, H3, H4, H5, H6, H7, H8, H9, H10, H11, H12, H13, H14, H15, H16, H17, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists d12; iexact H12
      isplitl [H13]; · iexact H13
      isplitl [H14]; · iexact H14
      isplitl [H15]; · iapply (leaves15_keep m c t hz h1 d15); rw [before15_of_ne m c t d15 hz]; iexact H15
      isplitl [H16]; · iapply (leaves16_keep m c t h0 d16); rw [before16_of_ne m c t d16 hz]; iexact H16
      iapply (leaves17_keep m c t h0 d17); rw [before17_of_ne m c t d17 hz]; iexact H17

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_forget m c _ _

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The argument arrays end as they began, and no semaphore is left counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiescent m ρ))

end Cert.Loss

end
-- ==== Proof.Loss.Kernel.lean ====
/-
  What the kernel with the loss computes, entry by entry: its seven result arrays as functions of the arguments. Six are
  the gradients of the kernel without the loss at the incoming gradient this one makes itself; the seventh is the loss.
-/
module

public import proofs.«01_k».proof.Proof.Loss.Run
public import proofs.«01_k».proof.Proof.Bwd.Kernel

@[expose] public section

set_option maxRecDepth 16384

noncomputable section

namespace Cert.Loss

open Idealize.ShloMosaic Idealize.ShloMosaic.TcCoe Idealize.SL.Sem
open Idealize.ShloMosaic.Pipeline (Dat)
open Cert.Fwd (Rows Gain UpW DownW Hidden sum_add_chunk mul_congr dotp)
open Cert.Bwd (invRms back swish dswish rowH rowD dAct dUp dGate term dNorm gainTerm outX outD outG outU outP outQ chunk rows)

/-! ## The functions -/

/-- The loss's gradient: the error over the row length. -/
def incoming (z t : Rows .f32) : Rows .f32 := fun i => ((z (ix2 (i 0) (i 1)) : EReal) - t (ix2 (i 0) (i 1))) * Ideal.ofBits .f32 0x3A800000#32

/-- A row's mean square error. -/
def meanErr (z t : Fin 1024 → EReal) : EReal :=
  Ideal.div (∑ e : Fin 1024, (z e - t e) * (z e - t e)) (Ideal.ofBits .f32 0x44800000#32)

/-- Row `r`'s term of the loss; zero past the last row. -/
def errTerm (z t : Rows .f32) (r : ℕ) : EReal :=
  if h : r < 4096 then meanErr (fun e => z (ix2 ⟨r, h⟩ e)) (fun e => t (ix2 ⟨r, h⟩ e)) else 0

/-- Half a row block's sum of the terms. -/
def errBlock (z t : Rows .f32) (b : ℕ) : EReal := Ideal.ofBits .f32 0x3F000000#32 * ∑ r : Fin 512, errTerm z t (b * 512 + r.val)

/-- The loss, in each of its 128 places. -/
def outL (z t : Rows .f32) : Vec Ideal ⟨2, ![1, 128]⟩ .f32 := fun _ => ∑ b ∈ Finset.range 8, errBlock z t b

/-! ## The payloads at an entry -/

open Cert.FfnLIdeal Cert.FfnLIdeal.Gen

theorem pay22_apply (r : Fin 512) (d : Fin 1024) : k0_pay22 (F := Ideal) (ix2 r d) = (0 : EReal) := by
  unfold k0_pay22; pointwise
theorem pay14_apply (d : Fin 1024) : k0_pay14 (F := Ideal) (ix2 0 d) = (0 : EReal) := by
  unfold k0_pay14; pointwise
theorem pay15_apply (d : Fin 1024) : k0_pay15 (F := Ideal) (ix2 0 d) = (0 : EReal) := by
  unfold k0_pay15; pointwise
theorem pay16_apply (d : Fin 128) : k0_pay16 (F := Ideal) (ix2 0 d) = (0 : EReal) := by
  unfold k0_pay16; pointwise

theorem pay8_apply (z t : Vec Ideal S512x1024 .f32) (r : Fin 512) (d : Fin 1024) :
    k0_pay8 z t (ix2 r d) = ((z (ix2 r d) : EReal) - t (ix2 r d)) * Ideal.ofBits .f32 0x3A800000#32 := by
  unfold k0_pay8; pointwise

theorem pay18_apply (y : Vec Ideal S512x1024 .bf16) (q : Vec Ideal S1x1024 .f32) (o : FVec Ideal S512x1024 .f32) (r : Fin 512) (d : Fin 1024) :
    k0_pay18 (k0_pay6 y) (k0_pay7 y) q o k0_pay9 (ix2 r d)
      = back (fun d => y (ix2 r d)) (fun d => q (ix2 0 d)) (fun d => Ideal.ofBits .f32 0x3F000000#32 * o (ix2 r d)) d := by
  unfold k0_pay18 k0_pay17 k0_pay9 k0_pay7 k0_pay6 back invRms; pointwise

theorem pay21_apply (y : Vec Ideal S512x1024 .bf16) (q : Vec Ideal S1x1024 .f32) (o : FVec Ideal S512x1024 .f32) (r : Fin 512) (d : Fin 1024) :
    k0_pay21 (k0_pay6 y) (k0_pay7 y) q o k0_pay9 (ix2 r d) = k0_pay18 (k0_pay6 y) (k0_pay7 y) q o k0_pay9 (ix2 r d) := rfl

theorem pay20_apply (y : Vec Ideal S512x1024 .bf16) (q : Vec Ideal S1x1024 .f32) (o : FVec Ideal S512x1024 .f32) (r : Fin 512) (d : Fin 1024) :
    k0_pay20 (k0_pay6 y) (k0_pay7 y) q o k0_pay9 (ix2 r d) = k0_pay18 (k0_pay6 y) (k0_pay7 y) q o k0_pay9 (ix2 r d) := by
  unfold k0_pay20; pointwise

theorem pay19_apply (y : Vec Ideal S512x1024 .bf16) (o : FVec Ideal S512x1024 .f32) (q : Vec Ideal S1x1024 .f32) (d : Fin 1024) :
    k0_pay19 (k0_pay6 y) (k0_pay7 y) o k0_pay9 q (ix2 0 d) = (q (ix2 0 d) : EReal)
      + rows (fun r d => y (ix2 r d)) (fun r d => Ideal.ofBits .f32 0x3F000000#32 * o (ix2 r d)) d := by
  unfold k0_pay19 k0_pay17 k0_pay9 k0_pay7 k0_pay6 rows invRms; pointwise

theorem pay5_apply (z t : Vec Ideal S512x1024 .f32) (l : Vec Ideal S1x128 .f32) (d : Fin 128) :
    k0_pay5 z t l (ix2 0 d) = (l (ix2 0 d) : EReal)
      + Ideal.ofBits .f32 0x3F000000#32 * ∑ r : Fin 512, meanErr (fun e => z (ix2 r e)) (fun e => t (ix2 r e)) := by
  unfold k0_pay5 meanErr; pointwise

theorem pay12_apply (x h : Vec Ideal S512x1024 .f32) (p : Vec Ideal S1x1024 .f32) (d : Fin 1024) :
    k0_pay12 x h p (ix2 0 d) = (p (ix2 0 d) : EReal) + rows (fun r d => x (ix2 r d)) (fun r d => h (ix2 r d)) d := by
  unfold k0_pay12 k0_pay10 rows invRms; pointwise

theorem pay4_apply (x : Vec Ideal S512x1024 .f32) (p : Vec Ideal S1x1024 .f32) (h z t : Vec Ideal S512x1024 .f32) (r : Fin 512) (d : Fin 1024) :
    k0_pay4 (k0_pay11 x p h) (k0_pay13 z t) (Scalar.ofBits .f32 0x3A800000#32) (ix2 r d)
      = ((z (ix2 r d) : EReal) - t (ix2 r d)) * Ideal.ofBits .f32 0x3A800000#32
        + back (fun d => x (ix2 r d)) (fun d => p (ix2 0 d)) (fun d => h (ix2 r d)) d := by
  unfold k0_pay4 k0_pay11 k0_pay13 k0_pay10 back invRms; pointwise

theorem pay1_apply (a : FVec Ideal S512x704 .bf16) (r : Fin 512) (k : Fin 704) : k0_pay1 a (ix3 0 r k) = a (ix2 r k) := by
  unfold k0_pay1; pointwise
theorem pay2_apply (a : FVec Ideal S512x704 .bf16) (r : Fin 512) (k : Fin 704) : k0_pay2 a (ix3 0 r k) = a (ix2 r k) := by
  unfold k0_pay2; pointwise

theorem pay27_apply (h : Vec Ideal S512x1024 .bf16) (wd : Vec Ideal S2x352x1024 .bf16) (g : Vec Ideal S1x512x704 .bf16) (r : Fin 512) (k : Fin 704) :
    k0_pay27 h wd g (ix2 r k) = dotp (fun d => h (ix2 r d)) (fun d => wd (ix3 ⟨k.val / 352, by omega⟩ ⟨k.val % 352, by omega⟩ d))
      * swish (g (ix3 0 r k)) := by
  unfold k0_pay27 k0_pay26 k0_pay25 k0_pay24 k0_pay23 dotp swish
  pointwise
  rw [Sigmoid.ofBits_half_bf16]
  simp only [Sigmoid.half_tanh]

theorem pay28_apply (h : Vec Ideal S512x1024 .bf16) (wd : Vec Ideal S2x352x1024 .bf16) (u g : Vec Ideal S1x512x704 .bf16) (r : Fin 512) (k : Fin 704) :
    k0_pay28 h wd u g (ix2 r k) = dotp (fun d => h (ix2 r d)) (fun d => wd (ix3 ⟨k.val / 352, by omega⟩ ⟨k.val % 352, by omega⟩ d))
      * u (ix3 0 r k) * dswish (g (ix3 0 r k)) := by
  unfold k0_pay28 k0_pay26 k0_pay25 k0_pay24 k0_pay23 dotp dswish
  pointwise
  rw [Sigmoid.ofBits_half_bf16]
  simp only [Sigmoid.half_tanh]

theorem pay3_apply (b a : FVec Ideal S512x704 .bf16) (acc : Vec Ideal S512x1024 .f32) (wg wu : Vec Ideal S1x704x1024 .bf16) (r : Fin 512) (d : Fin 1024) :
    k0_pay3 b a acc wg wu (ix2 r d) = (acc (ix2 r d) : EReal)
      + chunk (fun k => a (ix2 r k)) (fun k => b (ix2 r k)) (fun k => wg (ix3 0 k d)) (fun k => wu (ix3 0 k d)) := by
  unfold k0_pay3 chunk; pointwise

/-! ## The blocks -/

variable (m : (ℓ : Loc nD τ sig) → Buf (Elt Ideal) ℓ) (ρ : Dev nD → PrngReg)

theorem index0 : ∀ t : Fin grid0.N, win0_0.index t 0 = t.val / 4 ∧ win0_0.index t 1 = 0 := by decide +kernel
theorem index1 : ∀ t : Fin grid0.N, win0_1.index t 0 = t.val / 4 ∧ win0_1.index t 1 = 0 := by decide +kernel
theorem index2 : ∀ t : Fin grid0.N, win0_2.index t 0 = t.val / 4 ∧ win0_2.index t 1 = 0 := by decide +kernel
theorem index3 : ∀ t : Fin grid0.N, win0_3.index t 0 = t.val / 4 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val % 4 ∧ win0_6.index t 1 = t.val / 4 ∧ win0_6.index t 2 = 0 := by decide +kernel
theorem index7 : ∀ t : Fin grid0.N, win0_7.index t 0 = t.val % 4 ∧ win0_7.index t 1 = t.val / 4 ∧ win0_7.index t 2 = 0 := by decide +kernel
theorem index8 : ∀ t : Fin grid0.N, win0_8.index t 0 = t.val % 4 ∧ win0_8.index t 1 = 0 ∧ win0_8.index t 2 = 0 := by decide +kernel
theorem index9 : ∀ t : Fin grid0.N, win0_9.index t 0 = t.val % 4 + 4 ∧ win0_9.index t 1 = 0 ∧ win0_9.index t 2 = 0 := by decide +kernel
theorem index10 : ∀ t : Fin grid0.N, win0_10.index t 0 = t.val % 4 ∧ win0_10.index t 1 = 0 ∧ win0_10.index t 2 = 0 := by decide +kernel
theorem index11 : ∀ t : Fin grid0.N, win0_11.index t 0 = t.val / 4 ∧ win0_11.index t 1 = 0 := by decide +kernel
theorem index12 : ∀ t : Fin grid0.N, win0_12.index t 0 = t.val / 4 ∧ win0_12.index t 1 = 0 := by decide +kernel
theorem index13 : ∀ t : Fin grid0.N, win0_13.index t 0 = t.val % 4 ∧ win0_13.index t 1 = t.val / 4 ∧ win0_13.index t 2 = 0 := by decide +kernel
theorem index14 : ∀ t : Fin grid0.N, win0_14.index t 0 = t.val % 4 ∧ win0_14.index t 1 = t.val / 4 ∧ win0_14.index t 2 = 0 := by decide +kernel
theorem index15 : ∀ t : Fin grid0.N, win0_15.index t 0 = 0 ∧ win0_15.index t 1 = 0 := by decide +kernel
theorem index16 : ∀ t : Fin grid0.N, win0_16.index t 0 = 0 ∧ win0_16.index t 1 = 0 := by decide +kernel
theorem index17 : ∀ t : Fin grid0.N, win0_17.index t 0 = 0 ∧ win0_17.index t 1 = 0 := by decide +kernel

/-- The row of the arrays that row `r` of point `t`'s block is. -/
def rowAt (t : Fin cfg0.N) (r : Fin 512) : Fin 4096 := ⟨t.val / 4 * 512 + r.val, by have := point_lt t; omega⟩

theorem rowAt_start (t : Fin cfg0.N) (r : Fin 512) : rowAt (start t) r = rowAt t r :=
  Fin.ext (by show (t.val - t.val % 4) / 4 * 512 + r.val = t.val / 4 * 512 + r.val; omega)

theorem blk0 (c : Dev nD) (t : Fin cfg0.N) (r : Fin 512) (d : Fin 1024) :
    iblk m c 0 t (ix2 r d) = m ((c : Thread nD τ).loc main_arg1) (ix2 (rowAt t r) d) := by
  have h := index0 t
  show V m c main_arg1 _ = _
  rw [V_main_arg1]
  congr 1
  funext a
  match a with
  | ⟨0, _⟩ => exact Fin.ext (by show win0_0.index t 0 * 512 + 1 * r.val = t.val / 4 * 512 + r.val; rw [h.1]; omega)
  | ⟨1, _⟩ => exact Fin.ext (by show win0_0.index t 1 * 1024 + 1 * d.val = d.val; rw [h.2]; omega)

theorem blk1 (c : Dev nD) (t : Fin cfg0.N) (r : Fin 512) (d : Fin 1024) :
    iblk m c 1 t (ix2 r d) = m ((c : Thread nD τ).loc main_arg0) (ix2 (rowAt t r) d) := by
  have h := index1 t
  show V m c main_arg0 _ = _
  rw [V_main_arg0]
  congr 1
  funext a
  match a with
  | ⟨0, _⟩ => exact Fin.ext (by show win0_1.index t 0 * 512 + 1 * r.val = t.val / 4 * 512 + r.val; rw [h.1]; omega)
  | ⟨1, _⟩ => exact Fin.ext (by show win0_1.index t 1 * 1024 + 1 * d.val = d.val; rw [h.2]; omega)

theorem blk2 (c : Dev nD) (t : Fin cfg0.N) (r : Fin 512) (d : Fin 1024) :
    iblk m c 2 t (ix2 r d) = m ((c : Thread nD τ).loc main_arg2) (ix2 (rowAt t r) d) := by
  have h := index2 t
  show V m c main_arg2 _ = _
  rw [V_main_arg2]
  congr 1
  funext a
  match a with
  | ⟨0, _⟩ => exact Fin.ext (by show win0_2.index t 0 * 512 + 1 * r.val = t.val / 4 * 512 + r.val; rw [h.1]; omega)
  | ⟨1, _⟩ => exact Fin.ext (by show win0_2.index t 1 * 1024 + 1 * d.val = d.val; rw [h.2]; omega)

theorem blk3 (c : Dev nD) (t : Fin cfg0.N) (r : Fin 512) (d : Fin 1024) :
    iblk m c 3 t (ix2 r d) = m ((c : Thread nD τ).loc main_arg3) (ix2 (rowAt t r) d) := by
  have h := index3 t
  show V m c main_arg3 _ = _
  rw [V_main_arg3]
  congr 1
  funext a
  match a with
  | ⟨0, _⟩ => exact Fin.ext (by show win0_3.index t 0 * 512 + 1 * r.val = t.val / 4 * 512 + r.val; rw [h.1]; omega)
  | ⟨1, _⟩ => exact Fin.ext (by show win0_3.index t 1 * 1024 + 1 * d.val = d.val; rw [h.2]; omega)

theorem blk4 (c : Dev nD) (t : Fin cfg0.N) (d : Fin 1024) :
    iblk m c 4 t (ix2 0 d) = m ((c : Thread nD τ).loc main_arg4) (ix2 0 d) := by
  have h := index4 t
  show V m c main_arg4 _ = _
  rw [V_main_arg4]
  congr 1
  funext a
  match a with
  | ⟨0, _⟩ => exact Fin.ext (by show win0_4.index t 0 * 1 + 1 * 0 = 0; rw [h.1])
  | ⟨1, _⟩ => exact Fin.ext (by show win0_4.index t 1 * 1024 + 1 * d.val = d.val; rw [h.2]; omega)

theorem blk5 (c : Dev nD) (t : Fin cfg0.N) (d : Fin 1024) :
    iblk m c 5 t (ix2 0 d) = m ((c : Thread nD τ).loc main_arg5) (ix2 0 d) := by
  have h := index5 t
  show V m c main_arg5 _ = _
  rw [V_main_arg5]
  congr 1
  funext a
  match a with
  | ⟨0, _⟩ => exact Fin.ext (by show win0_5.index t 0 * 1 + 1 * 0 = 0; rw [h.1])
  | ⟨1, _⟩ => exact Fin.ext (by show win0_5.index t 1 * 1024 + 1 * d.val = d.val; rw [h.2]; omega)

theorem blk6 (c : Dev nD) (t : Fin cfg0.N) (r : Fin 512) (k : Fin 704) :
    iblk m c 6 t (ix3 0 r k) = m ((c : Thread nD τ).loc main_arg6) (ix3 ⟨t.val % 4, by omega⟩ (rowAt t r) k) := by
  have h := index6 t
  show V m c main_arg6 _ = _
  rw [V_main_arg6]
  congr 1
  funext a
  match a with
  | ⟨0, _⟩ => exact Fin.ext (by show win0_6.index t 0 * 1 + 1 * 0 = t.val % 4; rw [h.1]; omega)
  | ⟨1, _⟩ => exact Fin.ext (by show win0_6.index t 1 * 512 + 1 * r.val = t.val / 4 * 512 + r.val; rw [h.2.1]; omega)
  | ⟨2, _⟩ => exact Fin.ext (by show win0_6.index t 2 * 704 + 1 * k.val = k.val; rw [h.2.2]; omega)

theorem blk7 (c : Dev nD) (t : Fin cfg0.N) (r : Fin 512) (k : Fin 704) :
    iblk m c 7 t (ix3 0 r k) = m ((c : Thread nD τ).loc main_arg7) (ix3 ⟨t.val % 4, by omega⟩ (rowAt t r) k) := by
  have h := index7 t
  show V m c main_arg7 _ = _
  rw [V_main_arg7]
  congr 1
  funext a
  match a with
  | ⟨0, _⟩ => exact Fin.ext (by show win0_7.index t 0 * 1 + 1 * 0 = t.val % 4; rw [h.1]; omega)
  | ⟨1, _⟩ => exact Fin.ext (by show win0_7.index t 1 * 512 + 1 * r.val = t.val / 4 * 512 + r.val; rw [h.2.1]; omega)
  | ⟨2, _⟩ => exact Fin.ext (by show win0_7.index t 2 * 704 + 1 * k.val = k.val; rw [h.2.2]; omega)

theorem blk8 (c : Dev nD) (t : Fin cfg0.N) (k : Fin 704) (d : Fin 1024) :
    iblk m c 8 t (ix3 0 k d) = m ((c : Thread nD τ).loc main_arg8) (ix3 ⟨t.val % 4, by omega⟩ k d) := by
  have h := index8 t
  show V m c main_arg8 _ = _
  rw [V_main_arg8]
  congr 1
  funext a
  match a with
  | ⟨0, _⟩ => exact Fin.ext (by show win0_8.index t 0 * 1 + 1 * 0 = t.val % 4; rw [h.1]; omega)
  | ⟨1, _⟩ => exact Fin.ext (by show win0_8.index t 1 * 704 + 1 * k.val = k.val; rw [h.2.1]; omega)
  | ⟨2, _⟩ => exact Fin.ext (by show win0_8.index t 2 * 1024 + 1 * d.val = d.val; rw [h.2.2]; omega)

theorem blk9 (c : Dev nD) (t : Fin cfg0.N) (k : Fin 704) (d : Fin 1024) :
    iblk m c 9 t (ix3 0 k d) = m ((c : Thread nD τ).loc main_arg8) (ix3 ⟨t.val % 4 + 4, by omega⟩ k d) := by
  have h := index9 t
  show V m c main_arg8 _ = _
  rw [V_main_arg8]
  congr 1
  funext a
  match a with
  | ⟨0, _⟩ => exact Fin.ext (by show win0_9.index t 0 * 1 + 1 * 0 = t.val % 4 + 4; rw [h.1]; omega)
  | ⟨1, _⟩ => exact Fin.ext (by show win0_9.index t 1 * 704 + 1 * k.val = k.val; rw [h.2.1]; omega)
  | ⟨2, _⟩ => exact Fin.ext (by show win0_9.index t 2 * 1024 + 1 * d.val = d.val; rw [h.2.2]; omega)

theorem blk10 (c : Dev nD) (t : Fin cfg0.N) (b : Fin 2) (k : Fin 352) (d : Fin 1024) :
    iblk m c 10 t (ix3 b k d) = m ((c : Thread nD τ).loc main_arg9) (ix3 ⟨t.val % 4 * 2 + b.val, by omega⟩ k d) := by
  have h := index10 t
  show V m c main_arg9 _ = _
  rw [V_main_arg9]
  congr 1
  funext a
  match a with
  | ⟨0, _⟩ => exact Fin.ext (by show win0_10.index t 0 * 2 + 1 * b.val = t.val % 4 * 2 + b.val; rw [h.1]; omega)
  | ⟨1, _⟩ => exact Fin.ext (by show win0_10.index t 1 * 352 + 1 * k.val = k.val; rw [h.2.1]; omega)
  | ⟨2, _⟩ => exact Fin.ext (by show win0_10.index t 2 * 1024 + 1 * d.val = d.val; rw [h.2.2]; omega)

/-! ## The accumulator -/

section
variable (c : Dev nD)

abbrev aZ : Rows .f32 := m ((c : Thread nD τ).loc main_arg0)
abbrev aT : Rows .f32 := m ((c : Thread nD τ).loc main_arg1)
abbrev aY : Rows .bf16 := m ((c : Thread nD τ).loc main_arg2)
abbrev aX : Rows .f32 := m ((c : Thread nD τ).loc main_arg3)
abbrev aP : Gain := m ((c : Thread nD τ).loc main_arg4)
abbrev aQ : Gain := m ((c : Thread nD τ).loc main_arg5)
abbrev aG : Hidden := m ((c : Thread nD τ).loc main_arg6)
abbrev aU : Hidden := m ((c : Thread nD τ).loc main_arg7)
abbrev aW : UpW := m ((c : Thread nD τ).loc main_arg8)
abbrev aD : DownW := m ((c : Thread nD τ).loc main_arg9)
abbrev aO : Rows .f32 := incoming (aZ m c) (aT m c)

/-- The block of the incoming gradient. -/
theorem in_apply (t : Fin cfg0.N) (r : Fin 512) (d : Fin 1024) : k0_pay8 (iblk m c 1 t) (iblk m c 0 t) (ix2 r d) = aO m c (ix2 (rowAt t r) d) :=
  (pay8_apply _ _ r d).trans (congrArg₂ (fun a b : EReal => (a - b) * Ideal.ofBits .f32 0x3A800000#32) (blk1 m c t r d) (blk0 m c t r d))

theorem norm18_apply (t : Fin cfg0.N) (r : Fin 512) (d : Fin 1024) :
    k0_pay18 (k0_pay6 (iblk m c 2 (start t))) (k0_pay7 (iblk m c 2 (start t))) (iblk m c 5 (start t)) (k0_pay8 (iblk m c 1 (start t)) (iblk m c 0 (start t))) k0_pay9 (ix2 r d) = rowD (aO m c) (aY m c) (aQ m c) (rowAt t r) d := by
  refine (pay18_apply _ _ _ r d).trans ?_
  unfold rowD rowH
  refine congrFun (congr (congrArg₂ back ?_ ?_) ?_) d
  · funext e; exact (blk2 m c (start t) r e).trans (by rw [rowAt_start])
  · funext e; exact blk5 m c (start t) e
  · funext e; exact congrArg (Ideal.ofBits .f32 0x3F000000#32 * ·) ((in_apply m c (start t) r e).trans (by rw [rowAt_start]))

theorem held_apply (t : Fin cfg0.N) (r : Fin 512) (d : Fin 1024) : heldAt m c t (ix2 r d) = rowD (aO m c) (aY m c) (aQ m c) (rowAt t r) d :=
  (pay20_apply _ _ _ r d).trans (norm18_apply m c t r d)

theorem norm_apply (t : Fin cfg0.N) (r : Fin 512) (d : Fin 1024) : normAt m c t (ix2 r d) = rowD (aO m c) (aY m c) (aQ m c) (rowAt t r) d :=
  (pay21_apply _ _ _ r d).trans (norm18_apply m c t r d)

theorem act_apply (t : Fin cfg0.N) (r : Fin 512) (k : Fin 704) :
    dotp (fun d => heldAt m c t (ix2 r d)) (fun d => iblk m c 10 t (ix3 ⟨k.val / 352, by omega⟩ ⟨k.val % 352, by omega⟩ d))
      = dAct (aO m c) (aY m c) (aQ m c) (aD m c) (rowAt t r) ⟨t.val % 4, by omega⟩ k :=
  Finset.sum_congr rfl fun d _ => mul_congr (held_apply m c t r d) (blk10 m c t _ _ d)

theorem up_apply (t : Fin cfg0.N) (r : Fin 512) (k : Fin 704) :
    upAt m c t (ix2 r k) = dUp (aO m c) (aY m c) (aQ m c) (aG m c) (aD m c) (rowAt t r) ⟨t.val % 4, by omega⟩ k :=
  (pay27_apply _ _ _ r k).trans (mul_congr (act_apply m c t r k) (congrArg swish (blk6 m c t r k)))

theorem gate_apply (t : Fin cfg0.N) (r : Fin 512) (k : Fin 704) :
    gateAt m c t (ix2 r k) = dGate (aO m c) (aY m c) (aQ m c) (aG m c) (aU m c) (aD m c) (rowAt t r) ⟨t.val % 4, by omega⟩ k :=
  (pay28_apply _ _ _ _ r k).trans (mul_congr (mul_congr (act_apply m c t r k) (blk7 m c t r k)) (congrArg dswish (blk6 m c t r k)))

theorem chunk_apply (t : Fin cfg0.N) (r : Fin 512) (d : Fin 1024) :
    chunk (fun k => gateAt m c t (ix2 r k)) (fun k => upAt m c t (ix2 r k)) (fun k => iblk m c 8 t (ix3 0 k d)) (fun k => iblk m c 9 t (ix3 0 k d))
      = ∑ k : Fin 704, term (aO m c) (aY m c) (aQ m c) (aG m c) (aU m c) (aW m c) (aD m c) (rowAt t r) d (t.val % 4 * 704 + k.val) := by
  unfold chunk
  rw [← Finset.sum_add_distrib]
  refine Finset.sum_congr rfl fun k _ => ?_
  have hk := k.isLt
  have e1 : (t.val % 4 * 704 + k.val) / 704 = t.val % 4 := by omega
  have e2 : (t.val % 4 * 704 + k.val) % 704 = k.val := by omega
  refine Eq.trans ?_ (dif_pos (show t.val % 4 * 704 + k.val < 2816 by omega)).symm
  refine congrArg₂ (· + ·) (mul_congr ((gate_apply m c t r k).trans ?_) ((blk8 m c t k d).trans ?_)) (mul_congr ((up_apply m c t r k).trans ?_) ((blk9 m c t k d).trans ?_))
  · exact congrArg₂ (dGate _ _ _ _ _ _ _) (Fin.ext e1.symm) (Fin.ext e2.symm)
  · exact congrArg₂ (fun a b => m ((c : Thread nD τ).loc main_arg8) (ix3 a b d)) (Fin.ext e1.symm) (Fin.ext e2.symm)
  · exact congrArg₂ (dUp _ _ _ _ _ _) (Fin.ext e1.symm) (Fin.ext e2.symm)
  · exact congrArg₂ (fun a b => m ((c : Thread nD τ).loc main_arg8) (ix3 a b d)) (Fin.ext (by dsimp only; rw [e1])) (Fin.ext e2.symm)

theorem acc_apply (r : Fin 512) (d : Fin 1024) : ∀ (i : ℕ) (hi : i < 4) (t : Fin cfg0.N), t.val % 4 = i →
    accAt m c t.val t.isLt (ix2 r d)
      = ∑ j ∈ Finset.range ((i + 1) * 704), term (aO m c) (aY m c) (aQ m c) (aG m c) (aU m c) (aW m c) (aD m c) (rowAt t r) d j
  | 0, _, t, ht => by
    rw [accAt_first m c t ht]
    refine (pay3_apply _ _ _ _ _ r d).trans ((congrArg₂ (· + ·) (pay22_apply r d) (chunk_apply m c t r d)).trans ?_)
    rw [zero_add, ht, Finset.sum_range]
    exact Finset.sum_congr rfl fun k _ => by rw [Nat.zero_mul, Nat.zero_add]
  | i + 1, hi, t, ht => by
    rw [accAt_next m c t (by omega)]
    have ih := acc_apply r d i (by omega) (pred t) (by show (t.val - 1) % 4 = i; omega)
    have e : rowAt (pred t) r = rowAt t r :=
      Fin.ext (by show (t.val - 1) / 4 * 512 + r.val = t.val / 4 * 512 + r.val; omega)
    refine (pay3_apply _ _ _ _ _ r d).trans ((congrArg₂ (· + ·) ih (chunk_apply m c t r d)).trans ?_)
    rw [e, ht, show (i + 1 + 1) * 704 = (i + 1) * 704 + 704 by omega, ← sum_add_chunk]

theorem acc_last (t : Fin cfg0.N) (ht : t.val % 4 = 3) (r : Fin 512) (d : Fin 1024) :
    accAt m c t.val t.isLt (ix2 r d) = dNorm (aO m c) (aY m c) (aQ m c) (aG m c) (aU m c) (aW m c) (aD m c) (rowAt t r) d :=
  acc_apply m c r d 3 (by omega) t ht

/-! ## The gains' sums -/

/-- Point `t`'s row block of a gain's terms. -/
theorem rows_apply (v dy : Fin 4096 → Fin 1024 → EReal) (v' dy' : Fin 512 → Fin 1024 → EReal) (t : Fin cfg0.N)
    (hv : ∀ r d, v' r d = v (rowAt t r) d) (hd : ∀ r d, dy' r d = dy (rowAt t r) d) (d : Fin 1024) :
    rows v' dy' d = ∑ r : Fin 512, gainTerm v dy d (t.val / 4 * 512 + r.val) := by
  have ht := point_lt t
  refine Finset.sum_congr rfl fun r _ => ?_
  have hr := r.isLt
  refine Eq.trans ?_ (dif_pos (show t.val / 4 * 512 + r.val < 4096 by omega)).symm
  exact mul_congr (mul_congr (hd r d) (hv r d)) (congrArg invRms (funext fun e => hv r e))

theorem post_rows (t : Fin cfg0.N) (d : Fin 1024) :
    rows (fun r d => iblk m c 2 t (ix2 r d)) (fun r d => Ideal.ofBits .f32 0x3F000000#32 * k0_pay8 (iblk m c 1 t) (iblk m c 0 t) (ix2 r d)) d
      = ∑ r : Fin 512, gainTerm (fun r d => aY m c (ix2 r d)) (rowH (aO m c)) d (t.val / 4 * 512 + r.val) :=
  rows_apply _ _ _ _ t (fun r d => blk2 m c t r d) (fun r d => congrArg (Ideal.ofBits .f32 0x3F000000#32 * ·) (in_apply m c t r d)) d

theorem pre_rows (t : Fin cfg0.N) (ht : t.val % 4 = 3) (d : Fin 1024) :
    rows (fun r d => iblk m c 3 t (ix2 r d)) (fun r d => accAt m c t.val t.isLt (ix2 r d)) d
      = ∑ r : Fin 512, gainTerm (fun r d => aX m c (ix2 r d)) (dNorm (aO m c) (aY m c) (aQ m c) (aG m c) (aU m c) (aW m c) (aD m c)) d (t.val / 4 * 512 + r.val) :=
  rows_apply _ _ _ _ t (fun r d => blk3 m c t r d) (fun r d => acc_last m c t ht r d) d

theorem post_apply (d : Fin 1024) : ∀ (n : ℕ) (t : Fin cfg0.N), t.val = n →
    postAt m c t.val t.isLt (ix2 0 d)
      = ∑ r ∈ Finset.range ((n / 4 + 1) * 512), gainTerm (fun r d => aY m c (ix2 r d)) (rowH (aO m c)) d r
  | 0, t, ht => by
    rw [postAt_zero m c t ht]
    refine (pay19_apply _ _ _ d).trans ((congrArg₂ (· + ·) (pay15_apply d) (post_rows m c t d)).trans ?_)
    rw [zero_add, ht, Finset.sum_range]
    exact Finset.sum_congr rfl fun k _ => congrArg (gainTerm _ _ d) (by show 0 / 4 * 512 + k.val = k.val; omega)
  | n + 1, t, ht => by
    have ih := post_apply d n (pred t) (by show t.val - 1 = n; omega)
    by_cases h : t.val % 4 = 0
    · rw [postAt_first m c t (by omega) h]
      refine (pay19_apply _ _ _ d).trans ((congrArg₂ (· + ·) ih (post_rows m c t d)).trans ?_)
      rw [show t.val / 4 = n / 4 + 1 by omega, show (n + 1) / 4 = n / 4 + 1 by omega,
        show (n / 4 + 1 + 1) * 512 = (n / 4 + 1) * 512 + 512 by omega, ← sum_add_chunk]
    · rw [postAt_keep m c t h, show (n + 1) / 4 = n / 4 by omega]
      exact ih

theorem pre_apply (d : Fin 1024) : ∀ (n : ℕ) (t : Fin cfg0.N), t.val = n →
    preAt m c t.val t.isLt (ix2 0 d)
      = ∑ r ∈ Finset.range ((n + 1) / 4 * 512), gainTerm (fun r d => aX m c (ix2 r d)) (dNorm (aO m c) (aY m c) (aQ m c) (aG m c) (aU m c) (aW m c) (aD m c)) d r
  | 0, t, ht => by
    rw [preAt_zero m c t ht]
    exact pay14_apply d
  | n + 1, t, ht => by
    have ih := pre_apply d n (pred t) (by show t.val - 1 = n; omega)
    by_cases h : t.val % 4 = 3
    · rw [preAt_last m c t h]
      refine (pay12_apply _ _ _ d).trans ((congrArg₂ (· + ·) ih (pre_rows m c t h d)).trans ?_)
      rw [show t.val / 4 = (n + 1) / 4 by omega, show (n + 1 + 1) / 4 = (n + 1) / 4 + 1 by omega,
        show ((n + 1) / 4 + 1) * 512 = (n + 1) / 4 * 512 + 512 by omega, ← sum_add_chunk]
    · rw [preAt_keep m c t (by omega) h, show (n + 1 + 1) / 4 = (n + 1) / 4 by omega]
      exact ih

/-! ## The loss -/

theorem loss_block (t : Fin cfg0.N) :
    Ideal.ofBits .f32 0x3F000000#32 * ∑ r : Fin 512, meanErr (fun e => iblk m c 1 t (ix2 r e)) (fun e => iblk m c 0 t (ix2 r e))
      = errBlock (aZ m c) (aT m c) (t.val / 4) := by
  have ht := point_lt t
  refine congrArg (Ideal.ofBits .f32 0x3F000000#32 * ·) (Finset.sum_congr rfl fun r _ => ?_)
  have hr := r.isLt
  refine Eq.trans ?_ (dif_pos (show t.val / 4 * 512 + r.val < 4096 by omega)).symm
  exact congrArg₂ meanErr (funext fun e => blk1 m c t r e) (funext fun e => blk0 m c t r e)

theorem loss_apply (d : Fin 128) : ∀ (n : ℕ) (t : Fin cfg0.N), t.val = n →
    lossAt m c t.val t.isLt (ix2 0 d) = ∑ b ∈ Finset.range (n / 4 + 1), errBlock (aZ m c) (aT m c) b
  | 0, t, ht => by
    rw [lossAt_zero m c t ht]
    refine (pay5_apply _ _ _ d).trans ((congrArg₂ (· + ·) (pay16_apply d) (loss_block m c t)).trans ?_)
    rw [zero_add, ht]
    exact (Finset.sum_range_one _).symm
  | n + 1, t, ht => by
    have ih := loss_apply d n (pred t) (by show t.val - 1 = n; omega)
    by_cases h : t.val % 4 = 0
    · rw [lossAt_first m c t (by omega) h]
      refine (pay5_apply _ _ _ d).trans ((congrArg₂ (· + ·) ih (loss_block m c t)).trans ?_)
      rw [show t.val / 4 = n / 4 + 1 by omega, show (n + 1) / 4 = n / 4 + 1 by omega]
      exact (Finset.sum_range_succ _ _).symm
    · rw [lossAt_keep m c t h, show (n + 1) / 4 = n / 4 by omega]
      exact ih

/-! ## The result arrays -/

theorem flushed11 (t : Fin cfg0.N) (hf : (cfg0.win 11).flush t = true) :
    (dats m 0 c).flushed 11 t = ((cfg0.win 11).blk t).view.read (Elt Ideal) (outX (aO m c) (aY m c) (aX m c) (aP m c) (aQ m c) (aG m c) (aU m c) (aW m c) (aD m c)) := by
  have hm : t.val % 4 = 3 := (flush0_11 t).mp hf
  have h := index11 t
  show (cfg0.win 11).cut (grid0.coords t) ((dats m 0 c).after 11 t) = _
  rw [after11]
  funext y
  have hy : ((cfg0.win 11).blk t).view.emb y = ix2 (rowAt t (y 0)) (y 1) := by
    funext a
    match a with
    | ⟨0, _⟩ => exact Fin.ext (by show win0_11.index t 0 * 512 + 1 * (y 0).val = t.val / 4 * 512 + (y 0).val; rw [h.1]; omega)
    | ⟨1, _⟩ => exact Fin.ext (by show win0_11.index t 1 * 1024 + 1 * (y 1).val = (y 1).val; rw [h.2]; omega)
  have hx : (cfg0.win 11).xinj (grid0.coords t) y = ix2 (y 0) (y 1) := eq_ix2 _
  refine (congrArg _ hx).trans (Eq.trans ?_ (congrArg (outX (aO m c) (aY m c) (aX m c) (aP m c) (aQ m c) (aG m c) (aU m c) (aW m c) (aD m c)) hy).symm)
  exact (pay4_apply _ _ _ _ _ (y 0) (y 1)).trans (congrArg₂ (· + ·) (congrArg₂ (fun a b : EReal => (a - b) * Ideal.ofBits .f32 0x3A800000#32) (blk1 m c t (y 0) (y 1)) (blk0 m c t (y 0) (y 1))) (congrFun (congr (congrArg₂ back
      (funext fun d => blk3 m c t (y 0) d) (funext fun d => blk4 m c t d)) (funext fun d => acc_last m c t hm (y 0) d)) (y 1)))

theorem final11 : (dats m 0 c).arrAt 11 cfg0.N = outX (aO m c) (aY m c) (aX m c) (aP m c) (aQ m c) (aG m c) (aU m c) (aW m c) (aD m c) :=
  (dats m 0 c).arrAt_eq_of_cover 11 _ (fun t hf => flushed11 m c t hf) fun i => by
    have h0 : (i 0).val < 4096 := (i 0).isLt
    have h1 : (i 1).val < 1024 := (i 1).isLt
    let t : Fin cfg0.N := ⟨(i 0).val / 512 * 4 + 3, lt_of_lt_of_eq (by omega) N_0.symm⟩
    have ht : t.val = (i 0).val / 512 * 4 + 3 := rfl
    have e := index11 t
    refine ⟨t, (flush0_11 t).mpr (by omega), ?_⟩
    show i ∈ ((View.whole main_v0_0).slice (win0_11.rect t)).set
    rw [View.set_slice_whole, Rect.mem_set_unit]
    intro a
    match a with
    | ⟨0, _⟩ => show win0_11.index t 0 * 512 ≤ (i 0).val ∧ (i 0).val < win0_11.index t 0 * 512 + 512; rw [e.1]; omega
    | ⟨1, _⟩ => show win0_11.index t 1 * 1024 ≤ (i 1).val ∧ (i 1).val < win0_11.index t 1 * 1024 + 1024; rw [e.2]; omega

theorem flushed12 (t : Fin cfg0.N) (hf : (cfg0.win 12).flush t = true) :
    (dats m 0 c).flushed 12 t = ((cfg0.win 12).blk t).view.read (Elt Ideal) (outD (aO m c) (aY m c) (aQ m c)) := by
  have hm : t.val % 4 = 3 := (flush0_12 t).mp hf
  have h := index12 t
  show (cfg0.win 12).cut (grid0.coords t) ((dats m 0 c).after 12 t) = _
  rw [after12]
  funext y
  have hy : ((cfg0.win 12).blk t).view.emb y = ix2 (rowAt t (y 0)) (y 1) := by
    funext a
    match a with
    | ⟨0, _⟩ => exact Fin.ext (by show win0_12.index t 0 * 512 + 1 * (y 0).val = t.val / 4 * 512 + (y 0).val; rw [h.1]; omega)
    | ⟨1, _⟩ => exact Fin.ext (by show win0_12.index t 1 * 1024 + 1 * (y 1).val = (y 1).val; rw [h.2]; omega)
  have hx : (cfg0.win 12).xinj (grid0.coords t) y = ix2 (y 0) (y 1) := eq_ix2 _
  refine (congrArg _ hx).trans (Eq.trans ?_ (congrArg (outD (aO m c) (aY m c) (aQ m c)) hy).symm)
  exact norm_apply m c t (y 0) (y 1)

theorem final12 : (dats m 0 c).arrAt 12 cfg0.N = outD (aO m c) (aY m c) (aQ m c) :=
  (dats m 0 c).arrAt_eq_of_cover 12 _ (fun t hf => flushed12 m c t hf) fun i => by
    have h0 : (i 0).val < 4096 := (i 0).isLt
    have h1 : (i 1).val < 1024 := (i 1).isLt
    let t : Fin cfg0.N := ⟨(i 0).val / 512 * 4 + 3, lt_of_lt_of_eq (by omega) N_0.symm⟩
    have ht : t.val = (i 0).val / 512 * 4 + 3 := rfl
    have e := index12 t
    refine ⟨t, (flush0_12 t).mpr (by omega), ?_⟩
    show i ∈ ((View.whole main_v0_1).slice (win0_12.rect t)).set
    rw [View.set_slice_whole, Rect.mem_set_unit]
    intro a
    match a with
    | ⟨0, _⟩ => show win0_12.index t 0 * 512 ≤ (i 0).val ∧ (i 0).val < win0_12.index t 0 * 512 + 512; rw [e.1]; omega
    | ⟨1, _⟩ => show win0_12.index t 1 * 1024 ≤ (i 1).val ∧ (i 1).val < win0_12.index t 1 * 1024 + 1024; rw [e.2]; omega

theorem flushed13 (t : Fin cfg0.N) (hf : (cfg0.win 13).flush t = true) :
    (dats m 0 c).flushed 13 t = ((cfg0.win 13).blk t).view.read (Elt Ideal) (outG (aO m c) (aY m c) (aQ m c) (aG m c) (aU m c) (aD m c)) := by
  have h := index13 t
  show (cfg0.win 13).cut (grid0.coords t) ((dats m 0 c).after 13 t) = _
  rw [after13]
  funext y
  have hy : ((cfg0.win 13).blk t).view.emb y = ix3 ⟨t.val % 4, by omega⟩ (rowAt t (y 1)) (y 2) := by
    funext a
    match a with
    | ⟨0, _⟩ => exact Fin.ext (by have : (y 0).val < 1 := (y 0).isLt; show win0_13.index t 0 * 1 + 1 * (y 0).val = t.val % 4; rw [h.1]; omega)
    | ⟨1, _⟩ => exact Fin.ext (by show win0_13.index t 1 * 512 + 1 * (y 1).val = t.val / 4 * 512 + (y 1).val; rw [h.2.1]; omega)
    | ⟨2, _⟩ => exact Fin.ext (by show win0_13.index t 2 * 704 + 1 * (y 2).val = (y 2).val; rw [h.2.2]; omega)
  have hx : (cfg0.win 13).xinj (grid0.coords t) y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  refine (congrArg _ hx).trans (Eq.trans ?_ (congrArg (outG (aO m c) (aY m c) (aQ m c) (aG m c) (aU m c) (aD m c)) hy).symm)
  exact (pay1_apply _ (y 1) (y 2)).trans (gate_apply m c t (y 1) (y 2))

theorem final13 : (dats m 0 c).arrAt 13 cfg0.N = outG (aO m c) (aY m c) (aQ m c) (aG m c) (aU m c) (aD m c) :=
  (dats m 0 c).arrAt_eq_of_cover 13 _ (fun t hf => flushed13 m c t hf) fun i => by
    have h0 : (i 0).val < 4 := (i 0).isLt
    have h1 : (i 1).val < 4096 := (i 1).isLt
    have h2 : (i 2).val < 704 := (i 2).isLt
    let t : Fin cfg0.N := ⟨(i 1).val / 512 * 4 + (i 0).val, lt_of_lt_of_eq (by omega) N_0.symm⟩
    have ht : t.val = (i 1).val / 512 * 4 + (i 0).val := rfl
    have e := index13 t
    refine ⟨t, flush0_13 t, ?_⟩
    show i ∈ ((View.whole main_v0_2).slice (win0_13.rect t)).set
    rw [View.set_slice_whole, Rect.mem_set_unit]
    intro a
    match a with
    | ⟨0, _⟩ => show win0_13.index t 0 * 1 ≤ (i 0).val ∧ (i 0).val < win0_13.index t 0 * 1 + 1; rw [e.1]; omega
    | ⟨1, _⟩ => show win0_13.index t 1 * 512 ≤ (i 1).val ∧ (i 1).val < win0_13.index t 1 * 512 + 512; rw [e.2.1]; omega
    | ⟨2, _⟩ => show win0_13.index t 2 * 704 ≤ (i 2).val ∧ (i 2).val < win0_13.index t 2 * 704 + 704; rw [e.2.2]; omega

theorem flushed14 (t : Fin cfg0.N) (hf : (cfg0.win 14).flush t = true) :
    (dats m 0 c).flushed 14 t = ((cfg0.win 14).blk t).view.read (Elt Ideal) (outU (aO m c) (aY m c) (aQ m c) (aG m c) (aD m c)) := by
  have h := index14 t
  show (cfg0.win 14).cut (grid0.coords t) ((dats m 0 c).after 14 t) = _
  rw [after14]
  funext y
  have hy : ((cfg0.win 14).blk t).view.emb y = ix3 ⟨t.val % 4, by omega⟩ (rowAt t (y 1)) (y 2) := by
    funext a
    match a with
    | ⟨0, _⟩ => exact Fin.ext (by have : (y 0).val < 1 := (y 0).isLt; show win0_14.index t 0 * 1 + 1 * (y 0).val = t.val % 4; rw [h.1]; omega)
    | ⟨1, _⟩ => exact Fin.ext (by show win0_14.index t 1 * 512 + 1 * (y 1).val = t.val / 4 * 512 + (y 1).val; rw [h.2.1]; omega)
    | ⟨2, _⟩ => exact Fin.ext (by show win0_14.index t 2 * 704 + 1 * (y 2).val = (y 2).val; rw [h.2.2]; omega)
  have hx : (cfg0.win 14).xinj (grid0.coords t) y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  refine (congrArg _ hx).trans (Eq.trans ?_ (congrArg (outU (aO m c) (aY m c) (aQ m c) (aG m c) (aD m c)) hy).symm)
  exact (pay2_apply _ (y 1) (y 2)).trans (up_apply m c t (y 1) (y 2))

theorem final14 : (dats m 0 c).arrAt 14 cfg0.N = outU (aO m c) (aY m c) (aQ m c) (aG m c) (aD m c) :=
  (dats m 0 c).arrAt_eq_of_cover 14 _ (fun t hf => flushed14 m c t hf) fun i => by
    have h0 : (i 0).val < 4 := (i 0).isLt
    have h1 : (i 1).val < 4096 := (i 1).isLt
    have h2 : (i 2).val < 704 := (i 2).isLt
    let t : Fin cfg0.N := ⟨(i 1).val / 512 * 4 + (i 0).val, lt_of_lt_of_eq (by omega) N_0.symm⟩
    have ht : t.val = (i 1).val / 512 * 4 + (i 0).val := rfl
    have e := index14 t
    refine ⟨t, flush0_14 t, ?_⟩
    show i ∈ ((View.whole main_v0_3).slice (win0_14.rect t)).set
    rw [View.set_slice_whole, Rect.mem_set_unit]
    intro a
    match a with
    | ⟨0, _⟩ => show win0_14.index t 0 * 1 ≤ (i 0).val ∧ (i 0).val < win0_14.index t 0 * 1 + 1; rw [e.1]; omega
    | ⟨1, _⟩ => show win0_14.index t 1 * 512 ≤ (i 1).val ∧ (i 1).val < win0_14.index t 1 * 512 + 512; rw [e.2.1]; omega
    | ⟨2, _⟩ => show win0_14.index t 2 * 704 ≤ (i 2).val ∧ (i 2).val < win0_14.index t 2 * 704 + 704; rw [e.2.2]; omega

theorem flushed15 (t : Fin cfg0.N) (hf : (cfg0.win 15).flush t = true) :
    (dats m 0 c).flushed 15 t = ((cfg0.win 15).blk t).view.read (Elt Ideal) (outP (aO m c) (aY m c) (aX m c) (aQ m c) (aG m c) (aU m c) (aW m c) (aD m c)) := by
  have hm : t.val = 31 := by have := (flush0_15 t).mp hf; have := point_lt t; omega
  have h := index15 t
  show (cfg0.win 15).cut (grid0.coords t) ((dats m 0 c).after 15 t) = _
  rw [after15]
  funext y
  have hy : ((cfg0.win 15).blk t).view.emb y = ix2 0 (y 1) := by
    funext a
    match a with
    | ⟨0, _⟩ => exact Fin.ext (by have : (y 0).val < 1 := (y 0).isLt; show win0_15.index t 0 * 1 + 1 * (y 0).val = 0; rw [h.1]; omega)
    | ⟨1, _⟩ => exact Fin.ext (by show win0_15.index t 1 * 1024 + 1 * (y 1).val = (y 1).val; rw [h.2]; omega)
  have hx : (cfg0.win 15).xinj (grid0.coords t) y = ix2 0 (y 1) := by
    funext a
    match a with
    | ⟨0, _⟩ => exact Fin.ext (by have : (y 0).val < 1 := (y 0).isLt; show (y 0).val = 0; omega)
    | ⟨1, _⟩ => rfl
  refine (congrArg _ hx).trans (Eq.trans ?_ (congrArg (outP (aO m c) (aY m c) (aX m c) (aQ m c) (aG m c) (aU m c) (aW m c) (aD m c)) hy).symm)
  exact (pre_apply m c (y 1) 31 t hm).trans rfl

theorem final15 : (dats m 0 c).arrAt 15 cfg0.N = outP (aO m c) (aY m c) (aX m c) (aQ m c) (aG m c) (aU m c) (aW m c) (aD m c) :=
  (dats m 0 c).arrAt_eq_of_cover 15 _ (fun t hf => flushed15 m c t hf) fun i => by
    have h0 : (i 0).val < 1 := (i 0).isLt
    have h1 : (i 1).val < 1024 := (i 1).isLt
    let t : Fin cfg0.N := ⟨31, lt_of_lt_of_eq (by omega) N_0.symm⟩
    have ht : t.val = 31 := rfl
    have e := index15 t
    refine ⟨t, (flush0_15 t).mpr (by omega), ?_⟩
    show i ∈ ((View.whole main_v0_4).slice (win0_15.rect t)).set
    rw [View.set_slice_whole, Rect.mem_set_unit]
    intro a
    match a with
    | ⟨0, _⟩ => show win0_15.index t 0 * 1 ≤ (i 0).val ∧ (i 0).val < win0_15.index t 0 * 1 + 1; rw [e.1]; omega
    | ⟨1, _⟩ => show win0_15.index t 1 * 1024 ≤ (i 1).val ∧ (i 1).val < win0_15.index t 1 * 1024 + 1024; rw [e.2]; omega

theorem flushed16 (t : Fin cfg0.N) (hf : (cfg0.win 16).flush t = true) :
    (dats m 0 c).flushed 16 t = ((cfg0.win 16).blk t).view.read (Elt Ideal) (outQ (aO m c) (aY m c)) := by
  have hm : t.val = 31 := by have := (flush0_16 t).mp hf; have := point_lt t; omega
  have h := index16 t
  show (cfg0.win 16).cut (grid0.coords t) ((dats m 0 c).after 16 t) = _
  rw [after16]
  funext y
  have hy : ((cfg0.win 16).blk t).view.emb y = ix2 0 (y 1) := by
    funext a
    match a with
    | ⟨0, _⟩ => exact Fin.ext (by have : (y 0).val < 1 := (y 0).isLt; show win0_16.index t 0 * 1 + 1 * (y 0).val = 0; rw [h.1]; omega)
    | ⟨1, _⟩ => exact Fin.ext (by show win0_16.index t 1 * 1024 + 1 * (y 1).val = (y 1).val; rw [h.2]; omega)
  have hx : (cfg0.win 16).xinj (grid0.coords t) y = ix2 0 (y 1) := by
    funext a
    match a with
    | ⟨0, _⟩ => exact Fin.ext (by have : (y 0).val < 1 := (y 0).isLt; show (y 0).val = 0; omega)
    | ⟨1, _⟩ => rfl
  refine (congrArg _ hx).trans (Eq.trans ?_ (congrArg (outQ (aO m c) (aY m c)) hy).symm)
  exact (post_apply m c (y 1) 31 t hm).trans rfl

theorem final16 : (dats m 0 c).arrAt 16 cfg0.N = outQ (aO m c) (aY m c) :=
  (dats m 0 c).arrAt_eq_of_cover 16 _ (fun t hf => flushed16 m c t hf) fun i => by
    have h0 : (i 0).val < 1 := (i 0).isLt
    have h1 : (i 1).val < 1024 := (i 1).isLt
    let t : Fin cfg0.N := ⟨31, lt_of_lt_of_eq (by omega) N_0.symm⟩
    have ht : t.val = 31 := rfl
    have e := index16 t
    refine ⟨t, (flush0_16 t).mpr (by omega), ?_⟩
    show i ∈ ((View.whole main_v0_5).slice (win0_16.rect t)).set
    rw [View.set_slice_whole, Rect.mem_set_unit]
    intro a
    match a with
    | ⟨0, _⟩ => show win0_16.index t 0 * 1 ≤ (i 0).val ∧ (i 0).val < win0_16.index t 0 * 1 + 1; rw [e.1]; omega
    | ⟨1, _⟩ => show win0_16.index t 1 * 1024 ≤ (i 1).val ∧ (i 1).val < win0_16.index t 1 * 1024 + 1024; rw [e.2]; omega

theorem flushed17 (t : Fin cfg0.N) (hf : (cfg0.win 17).flush t = true) :
    (dats m 0 c).flushed 17 t = ((cfg0.win 17).blk t).view.read (Elt Ideal) (outL (aZ m c) (aT m c)) := by
  have hm : t.val = 31 := by have := (flush0_17 t).mp hf; have := point_lt t; omega
  have h := index17 t
  show (cfg0.win 17).cut (grid0.coords t) ((dats m 0 c).after 17 t) = _
  rw [after17]
  funext y
  have hy : ((cfg0.win 17).blk t).view.emb y = ix2 0 (y 1) := by
    funext a
    match a with
    | ⟨0, _⟩ => exact Fin.ext (by have : (y 0).val < 1 := (y 0).isLt; show win0_17.index t 0 * 1 + 1 * (y 0).val = 0; rw [h.1]; omega)
    | ⟨1, _⟩ => exact Fin.ext (by show win0_17.index t 1 * 128 + 1 * (y 1).val = (y 1).val; rw [h.2]; omega)
  have hx : (cfg0.win 17).xinj (grid0.coords t) y = ix2 0 (y 1) := by
    funext a
    match a with
    | ⟨0, _⟩ => exact Fin.ext (by have : (y 0).val < 1 := (y 0).isLt; show (y 0).val = 0; omega)
    | ⟨1, _⟩ => rfl
  refine (congrArg _ hx).trans (Eq.trans ?_ (congrArg (outL (aZ m c) (aT m c)) hy).symm)
  exact (loss_apply m c (y 1) 31 t hm).trans rfl

theorem final17 : (dats m 0 c).arrAt 17 cfg0.N = outL (aZ m c) (aT m c) :=
  (dats m 0 c).arrAt_eq_of_cover 17 _ (fun t hf => flushed17 m c t hf) fun i => by
    have h0 : (i 0).val < 1 := (i 0).isLt
    have h1 : (i 1).val < 128 := (i 1).isLt
    let t : Fin cfg0.N := ⟨31, lt_of_lt_of_eq (by omega) N_0.symm⟩
    have ht : t.val = 31 := rfl
    have e := index17 t
    refine ⟨t, (flush0_17 t).mpr (by omega), ?_⟩
    show i ∈ ((View.whole main_v0_6).slice (win0_17.rect t)).set
    rw [View.set_slice_whole, Rect.mem_set_unit]
    intro a
    match a with
    | ⟨0, _⟩ => show win0_17.index t 0 * 1 ≤ (i 0).val ∧ (i 0).val < win0_17.index t 0 * 1 + 1; rw [e.1]; omega
    | ⟨1, _⟩ => show win0_17.index t 1 * 128 ≤ (i 1).val ∧ (i 1).val < win0_17.index t 1 * 128 + 128; rw [e.2]; omega

end

/-- The run, with the seven result arrays named. -/
theorem run : θ_run defs (onTc (τ := τ) (main (F := Ideal))) ⟨m, fun _ => 0, ρ⟩ fun r => ∀ c : Dev nD,
      r.2.mem ((c.tc : Thread nD τ).loc main_v0_0) = outX (aO m c) (aY m c) (aX m c) (aP m c) (aQ m c) (aG m c) (aU m c) (aW m c) (aD m c)
      ∧ r.2.mem ((c.tc : Thread nD τ).loc main_v0_1) = outD (aO m c) (aY m c) (aQ m c)
      ∧ r.2.mem ((c.tc : Thread nD τ).loc main_v0_2) = outG (aO m c) (aY m c) (aQ m c) (aG m c) (aU m c) (aD m c)
      ∧ r.2.mem ((c.tc : Thread nD τ).loc main_v0_3) = outU (aO m c) (aY m c) (aQ m c) (aG m c) (aD m c)
      ∧ r.2.mem ((c.tc : Thread nD τ).loc main_v0_4) = outP (aO m c) (aY m c) (aX m c) (aQ m c) (aG m c) (aU m c) (aW m c) (aD m c)
      ∧ r.2.mem ((c.tc : Thread nD τ).loc main_v0_5) = outQ (aO m c) (aY m c)
      ∧ r.2.mem ((c.tc : Thread nD τ).loc main_v0_6) = outL (aZ m c) (aT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h.2 c).1 11).trans (final11 m c), ((h.2 c).1 12).trans (final12 m c), ((h.2 c).1 13).trans (final13 m c), ((h.2 c).1 14).trans (final14 m c), ((h.2 c).1 15).trans (final15 m c), ((h.2 c).1 16).trans (final16 m c), ((h.2 c).1 17).trans (final17 m c), h.1.1 c⟩)
    (θ_run_and (frame m ρ) (run_main m ρ))

end Cert.Loss

end
-- ==== Proof.Loss.Ref.lean ====
/-
  The reference of the kernel with the loss: the incoming gradient it makes and the loss are the kernel's, and from that
  gradient on its steps are the ones of the kernel without the loss.
-/
module

public import proofs.«01_k».proof.Proof.Bwd.Ref
public import proofs.«01_k».proof.Proof.Loss.Kernel
public import proofs.«01_k».proof.Proof.Gen.FfnLRefIdeal.Run

@[expose] public section

set_option maxRecDepth 16384

noncomputable section

namespace Cert.Loss.Ref

open Idealize.ShloMosaic Idealize.ShloMosaic.TcCoe Idealize.SL.Sem
open Cert.Fwd (Rows sum_add_chunk)
open Cert.Bwd (IsReal outX outD outG outU outP outQ)
open Cert.Bwd.Ref (RowsF RowsB GainF HidB UpB DownB normBack gainBack halfF chunks dyF duF dgF dhF res0 res1 res2 res3 res4 res5 isReal_of_all)
open Cert.FfnLRefIdeal Cert.FfnLRefIdeal.Gen Cert.FfnLRefIdeal.Value

/-! ## The constants -/

theorem ofBits_inv_dim : Ideal.ofBits .f32 0x3A800000#32 = ((1 / 1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

/-! ## The loss and its gradient -/

/-- The loss's gradient, as the reference takes it: through the half, the mean and the square. -/
def incomingF (z t : RowsF) : RowsF :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf z t))

def lossF (z t : RowsF) : FVec Ideal S1x128 .f32 :=
  broadcastInDim S1x128 ![] bcast_S_S1x128 (mulf (constant S_ .f32 0x3F000000#32) (Host.reduceAdd (Host.divf (Host.reduceAdd (mulf (subf z t) (subf z t)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

theorem incomingF_at (z t : RowsF) (r : Fin 4096) (d : Fin 1024) : incomingF z t (ix2 r d)
    = Ideal.div (Ideal.ofBits .f32 0x3F000000#32 * Ideal.ofBits .f32 0x3F800000#32) (Ideal.ofBits .f32 0x44800000#32)
      * (Ideal.ofBits .f32 0x40000000#32 * ((z (ix2 r d) : EReal) - t (ix2 r d))) := by
  unfold incomingF
  pointwise

theorem lossF_at (z t : RowsF) (d : Fin 128) : lossF z t (ix2 0 d)
    = Ideal.ofBits .f32 0x3F000000#32 * ∑ r : Fin 4096, meanErr (fun e => z (ix2 r e)) (fun e => t (ix2 r e)) := by
  unfold lossF meanErr
  pointwise

/-- Two halves make one: the two gradients are the same at every extended real. -/
theorem incoming_eq (z t : RowsF) : incomingF z t = incoming z t := by
  funext i
  obtain ⟨r, d, rfl⟩ : ∃ (r : Fin 4096) (d : Fin 1024), i = ix2 r d := ⟨i 0, i 1, eq_ix2 i⟩
  refine (incomingF_at z t r d).trans ?_
  show _ = ((z (ix2 r d) : EReal) - t (ix2 r d)) * Ideal.ofBits .f32 0x3A800000#32
  rw [Cert.Bwd.div_dim, ofBits_half, ofBits_one, ofBits_two, ofBits_inv_dim, ← mul_assoc, mul_comm]
  simp only [← EReal.coe_mul]
  congr 2
  norm_num

/-- A half goes into a sum, whatever its terms. -/
theorem half_sum (X : ℕ → EReal) (n : ℕ) :
    Ideal.ofBits .f32 0x3F000000#32 * ∑ b ∈ Finset.range n, X b = ∑ b ∈ Finset.range n, Ideal.ofBits .f32 0x3F000000#32 * X b := by
  rw [ofBits_half]
  induction n with
  | zero => simp
  | succ n ih =>
    rw [Finset.sum_range_succ, Finset.sum_range_succ, ← ih]
    exact EReal.left_distrib_of_nonneg_of_ne_top (by exact_mod_cast (by norm_num : (0 : ℝ) ≤ 1 / 2)) (EReal.coe_ne_top _) _ _

theorem sum_blocks (X : ℕ → EReal) (n : ℕ) :
    ∑ b ∈ Finset.range n, ∑ r : Fin 512, X (b * 512 + r.val) = ∑ r ∈ Finset.range (n * 512), X r := by
  induction n with
  | zero => rw [Nat.zero_mul, Finset.sum_range_zero, Finset.sum_range_zero]
  | succ n ih => rw [Finset.sum_range_succ, ih, sum_add_chunk, Nat.succ_mul]

theorem loss_eq (z t : RowsF) : lossF z t = outL z t := by
  funext i
  obtain ⟨d, rfl⟩ : ∃ d : Fin 128, i = ix2 0 d := ⟨i 1, (eq_ix2 i).trans (congrArg (fun a => ix2 a (i 1)) (Subsingleton.elim _ _))⟩
  refine (lossF_at z t d).trans ?_
  show _ = ∑ b ∈ Finset.range 8, errBlock z t b
  unfold errBlock
  rw [← half_sum, sum_blocks (errTerm z t) 8]
  refine congrArg (Ideal.ofBits .f32 0x3F000000#32 * ·) (Eq.trans ?_ (Finset.sum_range _).symm)
  exact Finset.sum_congr rfl fun r _ => by unfold errTerm; rw [dif_pos r.isLt]

theorem incoming_isReal {z t : Rows .f32} (hz : ∀ i, IsReal (z i)) (ht : ∀ i, IsReal (t i)) (i) : IsReal (incoming z t i) := by
  unfold incoming
  rw [ofBits_inv_dim]
  exact ((hz _).sub (ht _)).mul ⟨_, rfl⟩

/-! ## The precondition read back -/

theorem pre_real (z t : RowsF) (y : RowsB) (x : RowsF) (p q : GainF) (g u : HidB) (w : UpB) (wd : DownB) (hf : Cert.Pre_finite_l.Facts)
    (h : Cert.Pre_finite_l.fn (F := Ideal) z t y x p q g u w wd = fun _ => 1#1) :
    (∀ i, IsReal (incoming z t i)) ∧ (∀ i, IsReal (q i)) ∧ (∀ i, IsReal (u i)) ∧ (∀ i, IsReal (wd i)) := by
  have h0 := congrFun h (Shape.Idx.first h_S_)
  dsimp only [Cert.Pre_finite_l.fn, Cert.Pre_finite_l.fn_part1] at h0
  obtain ⟨h1, hd⟩ := IntOp.andi_eq_one.1 h0
  obtain ⟨h2, hu⟩ := IntOp.andi_eq_one.1 h1
  obtain ⟨h3, hq⟩ := IntOp.andi_eq_one.1 h2
  obtain ⟨hz, ht⟩ := IntOp.andi_eq_one.1 h3
  exact ⟨incoming_isReal (isReal_of_all _ _ _ hz) (isReal_of_all _ _ _ ht), isReal_of_all _ _ _ hq, isReal_of_all _ _ _ hu, isReal_of_all _ _ _ hd⟩

/-! ## The claim -/

section
variable (m : (ℓ : Loc nD τ sig) → Buf (Elt Ideal) ℓ) (c : Dev nD)

theorem raw0 : res_main_v112 m c = addf (incomingF (m ((c.tc : Thread nD τ).loc main_arg0)) (m ((c.tc : Thread nD τ).loc main_arg1))) (normBack (m ((c.tc : Thread nD τ).loc main_arg3)) (dhF (incomingF (m ((c.tc : Thread nD τ).loc main_arg0)) (m ((c.tc : Thread nD τ).loc main_arg1))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg4))) := rfl
theorem raw1 : res_main_v113 m c = truncf .bf16 (dyF (incomingF (m ((c.tc : Thread nD τ).loc main_arg0)) (m ((c.tc : Thread nD τ).loc main_arg1))) (m ((c.tc : Thread nD τ).loc main_arg2)) (m ((c.tc : Thread nD τ).loc main_arg5))) bitsLt_bf16_f32 := rfl
theorem raw2 : res_main_v116 m c = chunks (dgF (incomingF (m ((c.tc : Thread nD τ).loc main_arg0)) (m ((c.tc : Thread nD τ).loc main_arg1))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg9))) := rfl
theorem raw3 : res_main_v119 m c = chunks (duF (incomingF (m ((c.tc : Thread nD τ).loc main_arg0)) (m ((c.tc : Thread nD τ).loc main_arg1))) (m ((c.tc : Thread nD τ).loc main_arg2)) (m ((c.tc : Thread nD τ).loc main_arg5)) (m ((c.tc : Thread nD τ).loc main_arg6)) (m ((c.tc : Thread nD τ).loc main_arg9))) := rfl
theorem raw4 : res_main_v95 m c = gainBack (m ((c.tc : Thread nD τ).loc main_arg3)) (dhF (incomingF (m ((c.tc : Thread nD τ).loc main_arg0)) (m ((c.tc : Thread nD τ).loc main_arg1))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := rfl
end

/-- From any launch whose arrays meet the precondition, the kernel's result arrays and the reference's are the same functions of the arguments. -/
theorem algebraic [hf : Cert.Pre_finite_l.Facts] : Cert.algebraic_FfnLIdeal_FfnLRefIdeal_pre_finite_l := fun m g m' g' hpre hagree =>
  ⟨fun c => outX (incoming (m ((c.tc : Thread Cert.FfnLIdeal.nD Cert.FfnLIdeal.τ).loc Cert.FfnLIdeal.main_arg0)) (m ((c.tc : Thread Cert.FfnLIdeal.nD Cert.FfnLIdeal.τ).loc Cert.FfnLIdeal.main_arg1))) (m ((c.tc : Thread Cert.FfnLIdeal.nD Cert.FfnLIdeal.τ).loc Cert.FfnLIdeal.main_arg2)) (m ((c.tc : Thread Cert.FfnLIdeal.nD Cert.FfnLIdeal.τ).loc Cert.FfnLIdeal.main_arg3)) (m ((c.tc : Thread Cert.FfnLIdeal.nD Cert.FfnLIdeal.τ).loc Cert.FfnLIdeal.main_arg4)) (m ((c.tc : Thread Cert.FfnLIdeal.nD Cert.FfnLIdeal.τ).loc Cert.FfnLIdeal.main_arg5)) (m ((c.tc : Thread Cert.FfnLIdeal.nD Cert.FfnLIdeal.τ).loc Cert.FfnLIdeal.main_arg6)) (m ((c.tc : Thread Cert.FfnLIdeal.nD Cert.FfnLIdeal.τ).loc Cert.FfnLIdeal.main_arg7)) (m ((c.tc : Thread Cert.FfnLIdeal.nD Cert.FfnLIdeal.τ).loc Cert.FfnLIdeal.main_arg8)) (m ((c.tc : Thread Cert.FfnLIdeal.nD Cert.FfnLIdeal.τ).loc Cert.FfnLIdeal.main_arg9)),
    fun c => outD (incoming (m ((c.tc : Thread Cert.FfnLIdeal.nD Cert.FfnLIdeal.τ).loc Cert.FfnLIdeal.main_arg0)) (m ((c.tc : Thread Cert.FfnLIdeal.nD Cert.FfnLIdeal.τ).loc Cert.FfnLIdeal.main_arg1))) (m ((c.tc : Thread Cert.FfnLIdeal.nD Cert.FfnLIdeal.τ).loc Cert.FfnLIdeal.main_arg2)) (m ((c.tc : Thread Cert.FfnLIdeal.nD Cert.FfnLIdeal.τ).loc Cert.FfnLIdeal.main_arg5)),
    fun c => outG (incoming (m ((c.tc : Thread Cert.FfnLIdeal.nD Cert.FfnLIdeal.τ).loc Cert.FfnLIdeal.main_arg0)) (m ((c.tc : Thread Cert.FfnLIdeal.nD Cert.FfnLIdeal.τ).loc Cert.FfnLIdeal.main_arg1))) (m ((c.tc : Thread Cert.FfnLIdeal.nD Cert.FfnLIdeal.τ).loc Cert.FfnLIdeal.main_arg2)) (m ((c.tc : Thread Cert.FfnLIdeal.nD Cert.FfnLIdeal.τ).loc Cert.FfnLIdeal.main_arg5)) (m ((c.tc : Thread Cert.FfnLIdeal.nD Cert.FfnLIdeal.τ).loc Cert.FfnLIdeal.main_arg6)) (m ((c.tc : Thread Cert.FfnLIdeal.nD Cert.FfnLIdeal.τ).loc Cert.FfnLIdeal.main_arg7)) (m ((c.tc : Thread Cert.FfnLIdeal.nD Cert.FfnLIdeal.τ).loc Cert.FfnLIdeal.main_arg9)),
    fun c => outU (incoming (m ((c.tc : Thread Cert.FfnLIdeal.nD Cert.FfnLIdeal.τ).loc Cert.FfnLIdeal.main_arg0)) (m ((c.tc : Thread Cert.FfnLIdeal.nD Cert.FfnLIdeal.τ).loc Cert.FfnLIdeal.main_arg1))) (m ((c.tc : Thread Cert.FfnLIdeal.nD Cert.FfnLIdeal.τ).loc Cert.FfnLIdeal.main_arg2)) (m ((c.tc : Thread Cert.FfnLIdeal.nD Cert.FfnLIdeal.τ).loc Cert.FfnLIdeal.main_arg5)) (m ((c.tc : Thread Cert.FfnLIdeal.nD Cert.FfnLIdeal.τ).loc Cert.FfnLIdeal.main_arg6)) (m ((c.tc : Thread Cert.FfnLIdeal.nD Cert.FfnLIdeal.τ).loc Cert.FfnLIdeal.main_arg9)),
    fun c => outP (incoming (m ((c.tc : Thread Cert.FfnLIdeal.nD Cert.FfnLIdeal.τ).loc Cert.FfnLIdeal.main_arg0)) (m ((c.tc : Thread Cert.FfnLIdeal.nD Cert.FfnLIdeal.τ).loc Cert.FfnLIdeal.main_arg1))) (m ((c.tc : Thread Cert.FfnLIdeal.nD Cert.FfnLIdeal.τ).loc Cert.FfnLIdeal.main_arg2)) (m ((c.tc : Thread Cert.FfnLIdeal.nD Cert.FfnLIdeal.τ).loc Cert.FfnLIdeal.main_arg3)) (m ((c.tc : Thread Cert.FfnLIdeal.nD Cert.FfnLIdeal.τ).loc Cert.FfnLIdeal.main_arg5)) (m ((c.tc : Thread Cert.FfnLIdeal.nD Cert.FfnLIdeal.τ).loc Cert.FfnLIdeal.main_arg6)) (m ((c.tc : Thread Cert.FfnLIdeal.nD Cert.FfnLIdeal.τ).loc Cert.FfnLIdeal.main_arg7)) (m ((c.tc : Thread Cert.FfnLIdeal.nD Cert.FfnLIdeal.τ).loc Cert.FfnLIdeal.main_arg8)) (m ((c.tc : Thread Cert.FfnLIdeal.nD Cert.FfnLIdeal.τ).loc Cert.FfnLIdeal.main_arg9)),
    fun c => outQ (incoming (m ((c.tc : Thread Cert.FfnLIdeal.nD Cert.FfnLIdeal.τ).loc Cert.FfnLIdeal.main_arg0)) (m ((c.tc : Thread Cert.FfnLIdeal.nD Cert.FfnLIdeal.τ).loc Cert.FfnLIdeal.main_arg1))) (m ((c.tc : Thread Cert.FfnLIdeal.nD Cert.FfnLIdeal.τ).loc Cert.FfnLIdeal.main_arg2)),
    fun c => outL (m ((c.tc : Thread Cert.FfnLIdeal.nD Cert.FfnLIdeal.τ).loc Cert.FfnLIdeal.main_arg0)) (m ((c.tc : Thread Cert.FfnLIdeal.nD Cert.FfnLIdeal.τ).loc Cert.FfnLIdeal.main_arg1)),
    Cert.Loss.run m g,
    (θ_run _ _ _).mono (fun _ h c => by
      obtain ⟨e0, e1, e2, e3, e4, e5, e6, e7, e8, e9⟩ := hagree c
      obtain ⟨ho, hq, hu, hw⟩ := pre_real _ _ _ _ _ _ _ _ _ _ hf (hpre c)
      refine ⟨(h c).1.trans ((raw0 m' c).trans ?_), (h c).2.1.trans ((raw1 m' c).trans ?_), (h c).2.2.1.trans ((raw2 m' c).trans ?_), (h c).2.2.2.1.trans ((raw3 m' c).trans ?_),
        (h c).2.2.2.2.1.trans ((raw4 m' c).trans ?_), (h c).2.2.2.2.2.1.trans ((show _ = gainBack (extf .f32 (m' ((c.tc : Thread nD τ).loc main_arg2)) bitsLt_bf16_f32) (halfF (incomingF (m' ((c.tc : Thread nD τ).loc main_arg0)) (m' ((c.tc : Thread nD τ).loc main_arg1)))) from rfl).trans ?_),
        (h c).2.2.2.2.2.2.1.trans ((show _ = lossF (m' ((c.tc : Thread nD τ).loc main_arg0)) (m' ((c.tc : Thread nD τ).loc main_arg1)) from rfl).trans ?_), (h c).2.2.2.2.2.2.2⟩
      · rw [e0, e1, e2, e3, e4, e5, e6, e7, e8, e9, incoming_eq]; exact res0 ho hq hu hw _ _ _ _ _
      · rw [e0, e1, e2, e5, incoming_eq]; exact res1 _ _ _
      · rw [e0, e1, e2, e5, e6, e7, e9, incoming_eq]; exact res2 ho hq hu hw _ _
      · rw [e0, e1, e2, e5, e6, e9, incoming_eq]; exact res3 _ _ _ _ _
      · rw [e0, e1, e2, e3, e5, e6, e7, e8, e9, incoming_eq]; exact res4 ho hq hu hw _ _ _ _
      · rw [e0, e1, e2, incoming_eq]; exact res5 _ _
      · rw [e0, e1]; exact loss_eq _ _) (Cert.FfnLRefIdeal.Value.run m' g')⟩

end Cert.Loss.Ref

end
-- ==== Proof.Loss.Bitwise.lean ====
/-
  The kernel as written and the kernel read at the ideal values are one text, so the first's frame is the run of the
  second at the bit patterns.
-/
module

public import proofs.«01_k».proof.Proof.Loss.Run
public import proofs.«01_k».proof.Proof.Gen.FfnL
public import proofs.«01_k».proof.Defs

@[expose] public section

set_option maxRecDepth 16384

noncomputable section

namespace Cert.Loss

open Idealize.ShloMosaic Idealize.SL.Sem

set_option maxHeartbeats 8000000 in
/-- The two body tables agree, label by label. -/
theorem bodies_eq : Cert.FfnL.defs₀ (F := Bits) = Cert.FfnLIdeal.defs₀ (F := Bits) := by
  unfold Cert.FfnL.defs₀ Cert.FfnLIdeal.defs₀
  refine congrArg _ ?_
  funext l a
  match l, a with
  | 0, (t, s) => rfl

theorem defs_eq : Cert.FfnL.defs (F := Bits) = Cert.FfnLIdeal.defs (F := Bits) := by
  unfold Cert.FfnL.defs Cert.FfnLIdeal.defs
  exact congrArg (Pipeline.defs _) bodies_eq

theorem frame_kernel : Cert.quiescent_FfnL := fun m ρ _ => by
  have h := frame (F := Bits) m ρ
  rw [defs_eq]
  exact h

end Cert.Loss

end
-- ==== Proof.Proj.Kernel.lean ====
/-
  The mixer's input projections the kernel computes: its seven result arrays, entry by entry.

  A point norms 1024 rows of the input and multiplies them by all 1792 rows of the stacked weights; the six float32 results
  are columns of that product.
-/
module

public import proofs.«01_k».proof.Proof.Fwd.Kernel
public import proofs.«01_k».proof.Proof.Gen.MixInIdeal.Value
public import Idealize.ShloMosaic.Lib.Pipeline.ValueKit

@[expose] public section

set_option maxRecDepth 16384

noncomputable section

namespace Cert.Proj

open Idealize.ShloMosaic Idealize.ShloMosaic.TcCoe Idealize.SL.Sem
open Cert.Fwd (Rows Gain normed rowN dotp outH)

/-! ## The functions -/

abbrev Weights : Type := Vec Ideal ⟨2, ![1792, 1024]⟩ .bf16

/-- The normed row `r` of `x` against row `k` of the stacked weights. -/
def proj (x : Rows .f32) (g : Gain) (w : Weights) (r : Fin 4096) (k : Fin 1792) : EReal :=
  dotp (rowN x g r) (fun d => w (ix2 k d))

/-- Columns `o` to `o + n` of these products. -/
def cols (n o : ℕ) (h : o + n ≤ 1792) (x : Rows .f32) (g : Gain) (w : Weights) : Vec Ideal ⟨2, ![4096, n]⟩ .f32 := fun i =>
  proj x g w (i 0) ⟨o + (i 1).val, lt_of_lt_of_le (Nat.add_lt_add_left (i 1).isLt o) h⟩

/-! ## The payloads at an entry -/

open Cert.MixInIdeal Cert.MixInIdeal.Gen

theorem pay1_apply (x : Vec Ideal S1024x1024 .f32) (g : Vec Ideal S1x1024 .f32) (r d : Fin 1024) :
    k0_pay1 x g (ix2 r d) = normed (fun d => x (ix2 r d)) (fun d => g (ix2 0 d)) d := by
  unfold k0_pay1 normed; pointwise

theorem pay2_apply (x : Vec Ideal S1024x1024 .f32) (g : Vec Ideal S1x1024 .f32) (w : Vec Ideal S1792x1024 .bf16) (r : Fin 1024)
    (k : Fin 1792) :
    k0_pay2 x g w (ix2 r k) = dotp (normed (fun d => x (ix2 r d)) (fun d => g (ix2 0 d))) (fun d => w (ix2 k d)) := by
  unfold k0_pay2 k0_pay1 dotp normed; pointwise

/-- A slice of the product along its columns. -/
theorem slice_apply (p : FVec Ideal S1024x1792 .f32) (n o : ℕ) (h : S1024x1792.Slices ![0, o] ⟨2, ![1024, n]⟩) (r : Fin 1024) (k : Fin n)
    (hk : o + k.val < 1792) :
    extractStridedSlice ⟨2, ![1024, n]⟩ ![0, o] p h (ix2 r k) = p (ix2 r ⟨o + k.val, hk⟩) := by
  refine extractStridedSlice_apply ![0, o] _ _ _ (ix2 r ⟨o + k.val, hk⟩) fun a => ?_
  match a with
  | ⟨0, _⟩ => exact (Nat.zero_add _).symm
  | ⟨1, _⟩ => rfl

/-! ## The blocks -/

variable (m : (ℓ : Loc nD τ sig) → Buf (Elt Ideal) ℓ) (ρ : Dev nD → PrngReg)

theorem point_lt (t : Fin cfg0.N) : t.val < 4 := lt_of_lt_of_eq t.isLt (show cfg0.N = 4 from N_0)
theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel

/-- The row of the arrays that is row `r` of point `t`'s blocks. -/
def rowOf (t : Fin cfg0.N) (r : Fin 1024) : Fin 4096 := ⟨t.val * 1024 + r.val, by have := point_lt t; omega⟩

theorem blk0 (c : Dev nD) (t : Fin cfg0.N) (r d : Fin 1024) :
    iblk m c 0 t (ix2 r d) = m ((c : Thread nD τ).loc main_arg0) (ix2 (rowOf t r) d) := by
  have h := index0 t
  show V m c main_arg0 _ = _
  rw [V_main_arg0]
  congr 1
  funext a
  match a with
  | ⟨0, _⟩ => exact Fin.ext (by show win0_0.index t 0 * 1024 + 1 * r.val = t.val * 1024 + r.val; rw [h.1]; omega)
  | ⟨1, _⟩ => exact Fin.ext (by show win0_0.index t 1 * 1024 + 1 * d.val = d.val; rw [h.2]; omega)

theorem blk1 (c : Dev nD) (t : Fin cfg0.N) (d : Fin 1024) :
    iblk m c 1 t (ix2 0 d) = m ((c : Thread nD τ).loc main_arg1) (ix2 0 d) := by
  have h := index1 t
  show V m c main_arg1 _ = _
  rw [V_main_arg1]
  congr 1
  funext a
  match a with
  | ⟨0, _⟩ => exact Fin.ext (by show win0_1.index t 0 * 1 + 1 * 0 = 0; rw [h.1])
  | ⟨1, _⟩ => exact Fin.ext (by show win0_1.index t 1 * 1024 + 1 * d.val = d.val; rw [h.2]; omega)

theorem blk2 (c : Dev nD) (t : Fin cfg0.N) (k : Fin 1792) (d : Fin 1024) :
    iblk m c 2 t (ix2 k d) = m ((c : Thread nD τ).loc main_arg2) (ix2 k d) := by
  have h := index2 t
  show V m c main_arg2 _ = _
  rw [V_main_arg2]
  congr 1
  funext a
  match a with
  | ⟨0, _⟩ => exact Fin.ext (by show win0_2.index t 0 * 1792 + 1 * k.val = k.val; rw [h.1]; omega)
  | ⟨1, _⟩ => exact Fin.ext (by show win0_2.index t 1 * 1024 + 1 * d.val = d.val; rw [h.2]; omega)

/-- The norm a point computes is the rows' norm. -/
theorem norm_blk (c : Dev nD) (t : Fin cfg0.N) (r : Fin 1024) :
    normed (fun d => iblk m c 0 t (ix2 r d)) (fun d => iblk m c 1 t (ix2 0 d))
      = rowN (m ((c : Thread nD τ).loc main_arg0)) (m ((c : Thread nD τ).loc main_arg1)) (rowOf t r) :=
  congrArg₂ normed (funext fun d => blk0 m c t r d) (funext fun d => blk1 m c t d)

/-- The product a point computes. -/
theorem prod_blk (c : Dev nD) (t : Fin cfg0.N) (r : Fin 1024) (k : Fin 1792) :
    k0_pay2 (iblk m c 0 t) (iblk m c 1 t) (iblk m c 2 t) (ix2 r k)
      = proj (m ((c : Thread nD τ).loc main_arg0)) (m ((c : Thread nD τ).loc main_arg1)) (m ((c : Thread nD τ).loc main_arg2)) (rowOf t r) k :=
  (pay2_apply _ _ _ r k).trans (congrArg₂ dotp (norm_blk m c t r) (funext fun d => blk2 m c t k d))

/-! ## The result arrays -/

theorem out_index : ∀ t : Fin grid0.N, (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) := by decide +kernel

/-- Where a block at index `(t, 0)` puts its entries. -/
theorem place0 {j t : ℕ} (h : j = t) (y : ℕ) : j * 1024 + 1 * y = t * 1024 + y := by omega
theorem place1 {j : ℕ} (h : j = 0) (n y : ℕ) : j * n + 1 * y = y := by rw [h]; omega

/-- A slice of a point's product, read where its block lies in the array. -/
theorem cols_blk (n o : ℕ) (h : o + n ≤ 1792) (hs : S1024x1792.Slices ![0, o] ⟨2, ![1024, n]⟩) (c : Dev nD) (t : Fin cfg0.N)
    (y : Shape.Idx ⟨2, ![1024, n]⟩) (i : Shape.Idx ⟨2, ![4096, n]⟩) (h0 : (i 0).val = t.val * 1024 + (y 0).val) (h1 : (i 1).val = (y 1).val) :
    extractStridedSlice ⟨2, ![1024, n]⟩ ![0, o] (k0_pay2 (iblk m c 0 t) (iblk m c 1 t) (iblk m c 2 t)) hs y
      = cols n o h (m ((c : Thread nD τ).loc main_arg0)) (m ((c : Thread nD τ).loc main_arg1)) (m ((c : Thread nD τ).loc main_arg2)) i := by
  obtain ⟨r, k, rfl⟩ : ∃ (r : Fin 1024) (k : Fin n), y = ix2 r k := ⟨y 0, y 1, eq_ix2 y⟩
  have hk : o + k.val < 1792 := lt_of_lt_of_le (Nat.add_lt_add_left k.isLt o) h
  refine (slice_apply _ n o hs r k hk).trans ((prod_blk m c t r ⟨o + k.val, hk⟩).trans ?_)
  exact congrArg₂ (proj _ _ _) (Fin.ext h0.symm) (Fin.ext (congrArg (o + ·) h1.symm))

theorem final3 (c : Dev nD) : (dats m 0 c).arrAt 3 cfg0.N
    = outH (m ((c : Thread nD τ).loc main_arg0)) (m ((c : Thread nD τ).loc main_arg1)) := by
  refine (dats m 0 c).arrAt_eq_of_covers 3 _ (by decide +kernel) fun t hf y => ?_
  blk_simp
  rw [after0_3]
  frame_out
  obtain ⟨r, d, rfl⟩ : ∃ r d : Fin 1024, y = ix2 r d := ⟨y 0, y 1, eq_ix2 y⟩
  refine (pay1_apply _ _ r d).trans ((congrFun (norm_blk m c t r) d).trans ?_)
  exact congrArg₂ (rowN _ _) (Fin.ext (place0 (out_index t).1.1 r.val).symm) (Fin.ext (place1 (out_index t).1.2 1024 d.val).symm)

theorem final4 (c : Dev nD) : (dats m 0 c).arrAt 4 cfg0.N
    = cols 256 0 (by decide) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  exact cols_blk m 256 0 _ slices_S1024x1792_o0_0_S1024x256 c t y _ (place0 (out_index t).2.1.1 _) (place1 (out_index t).2.1.2 256 _)

theorem final5 (c : Dev nD) : (dats m 0 c).arrAt 5 cfg0.N
    = cols 256 256 (by decide) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  exact cols_blk m 256 256 _ slices_S1024x1792_o0_256_S1024x256 c t y _ (place0 (out_index t).2.2.1.1 _) (place1 (out_index t).2.2.1.2 256 _)

theorem final6 (c : Dev nD) : (dats m 0 c).arrAt 6 cfg0.N
    = cols 512 512 (by decide) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  exact cols_blk m 512 512 _ slices_S1024x1792_o0_512_S1024x512 c t y _ (place0 (out_index t).2.2.2.1.1 _) (place1 (out_index t).2.2.2.1.2 512 _)

theorem final7 (c : Dev nD) : (dats m 0 c).arrAt 7 cfg0.N
    = cols 128 1024 (by decide) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  exact cols_blk m 128 1024 _ slices_S1024x1792_o0_1024_S1024x128 c t y _ (place0 (out_index t).2.2.2.2.1.1 _) (place1 (out_index t).2.2.2.2.1.2 128 _)

theorem final8 (c : Dev nD) : (dats m 0 c).arrAt 8 cfg0.N
    = cols 128 1152 (by decide) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  frame_out
  exact cols_blk m 128 1152 _ slices_S1024x1792_o0_1152_S1024x128 c t y _ (place0 (out_index t).2.2.2.2.2.1.1 _) (place1 (out_index t).2.2.2.2.2.1.2 128 _)

theorem final9 (c : Dev nD) : (dats m 0 c).arrAt 9 cfg0.N
    = cols 512 1280 (by decide) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  frame_out
  exact cols_blk m 512 1280 _ slices_S1024x1792_o0_1280_S1024x512 c t y _ (place0 (out_index t).2.2.2.2.2.2.1 _) (place1 (out_index t).2.2.2.2.2.2.2 512 _)

end Cert.Proj

end
-- ==== Proof.Proj.Ref.lean ====
/-
  The mixer's input projections the reference computes: its seven result arrays, entry by entry.
-/
module

public import proofs.«01_k».proof.Proof.Proj.Kernel
public import proofs.«01_k».proof.Proof.Gen.MixInRefIdeal.Run
public import Idealize.ShloMosaic.Lib.KernelVsHost
public import proofs.«01_k».proof.Defs

@[expose] public section

set_option maxRecDepth 16384

noncomputable section

namespace Cert.Proj.Ref

open Idealize.ShloMosaic Idealize.ShloMosaic.TcCoe Idealize.SL.Sem
open Cert.Fwd (Rows Gain normed rowN dotp outH)
open Cert.MixInRefIdeal Cert.MixInRefIdeal.Gen Cert.MixInRefIdeal.Value

/-- The norm of the layer's input, as the reference spells it. -/
def normH (x : FVec Ideal S4096x1024 .f32) (g : FVec Ideal S1x1024 .f32) : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)

theorem norm_at (x : FVec Ideal S4096x1024 .f32) (g : FVec Ideal S1x1024 .f32) (r : Fin 4096) (d : Fin 1024) :
    normH x g (ix2 r d) = rowN x g r d := by
  unfold normH rowN normed
  pointwise

/-- Any rows against the stacked weights. -/
def prodH (a : FVec Ideal S4096x1024 .f32) (w : FVec Ideal S1792x1024 .bf16) : FVec Ideal S4096x1792 .f32 :=
  Host.dotGeneral dot_S4096x1024_S1024x1792_S4096x1792_1_0_0_1_n_n none a (transpose S1024x1792 [1, 0] (extf .f32 w bitsLt_bf16_f32) transposes_S1792x1024_S1024x1792_1_0)

theorem prod_at (a : FVec Ideal S4096x1024 .f32) (w : FVec Ideal S1792x1024 .bf16) (r : Fin 4096) (k : Fin 1792) :
    prodH a w (ix2 r k) = dotp (fun d => a (ix2 r d)) (fun d => w (ix2 k d)) := by
  unfold prodH dotp
  pointwise

/-- A slice of the product along its columns. -/
theorem cols_eq (n o : ℕ) (h : o + n ≤ 1792) (hs : S4096x1792.Slices ![0, o] ⟨2, ![4096, n]⟩) (x : FVec Ideal S4096x1024 .f32)
    (g : FVec Ideal S1x1024 .f32) (w : FVec Ideal S1792x1024 .bf16) :
    extractStridedSlice ⟨2, ![4096, n]⟩ ![0, o] (prodH (normH x g) w) hs = cols n o h x g w := by
  funext i
  obtain ⟨r, k, rfl⟩ : ∃ (r : Fin 4096) (k : Fin n), i = ix2 r k := ⟨i 0, i 1, eq_ix2 i⟩
  have hk : o + k.val < 1792 := lt_of_lt_of_le (Nat.add_lt_add_left k.isLt o) h
  refine (extractStridedSlice_apply ![0, o] _ hs _ (ix2 r ⟨o + k.val, hk⟩) fun a => ?_).trans ?_
  · match a with
    | ⟨0, _⟩ => exact (Nat.zero_add _).symm
    | ⟨1, _⟩ => rfl
  · exact (prod_at _ w r ⟨o + k.val, hk⟩).trans (congrArg (dotp · fun d => w (ix2 ⟨o + k.val, hk⟩ d)) (funext fun d => norm_at x g r d))

theorem norm_eq (x : FVec Ideal S4096x1024 .f32) (g : FVec Ideal S1x1024 .f32) : truncf .bf16 (normH x g) bitsLt_bf16_f32 = outH x g := by
  funext i
  obtain ⟨r, d, rfl⟩ : ∃ (r : Fin 4096) (d : Fin 1024), i = ix2 r d := ⟨i 0, i 1, eq_ix2 i⟩
  exact norm_at x g r d

/-- From any launch, the kernel's result arrays and the reference's are the same functions of the arguments. -/
theorem algebraic : Cert.algebraic_MixInIdeal_MixInRefIdeal := fun m g m' g' _ hagree =>
  ⟨fun c => outH (m ((c.tc : Thread Cert.MixInIdeal.nD Cert.MixInIdeal.τ).loc Cert.MixInIdeal.main_arg0)) (m ((c.tc : Thread Cert.MixInIdeal.nD Cert.MixInIdeal.τ).loc Cert.MixInIdeal.main_arg1)),
    fun c => cols 256 0 (by decide) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)),
    fun c => cols 256 256 (by decide) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)),
    fun c => cols 512 512 (by decide) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)),
    fun c => cols 128 1024 (by decide) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)),
    fun c => cols 128 1152 (by decide) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)),
    fun c => cols 512 1280 (by decide) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)),
    (θ_run _ _ _).mono (fun _ h c => ⟨(h c).1.trans (Cert.Proj.final3 m c), (h c).2.1.trans (Cert.Proj.final4 m c), (h c).2.2.1.trans (Cert.Proj.final5 m c), (h c).2.2.2.1.trans (Cert.Proj.final6 m c), (h c).2.2.2.2.1.trans (Cert.Proj.final7 m c), (h c).2.2.2.2.2.1.trans (Cert.Proj.final8 m c), (h c).2.2.2.2.2.2.1.trans (Cert.Proj.final9 m c),
      (h c).2.2.2.2.2.2.2⟩) (Cert.MixInIdeal.Value.run_blocks m g),
    (θ_run _ _ _).mono (fun _ h c => by
      obtain ⟨e0, e1, e2⟩ := hagree c
      refine ⟨(h c).1.trans ((norm_eq _ _).trans ?_), (h c).2.1.trans ((cols_eq 256 0 (by decide) _ _ _ _).trans ?_), (h c).2.2.1.trans ((cols_eq 256 256 (by decide) _ _ _ _).trans ?_), (h c).2.2.2.1.trans ((cols_eq 512 512 (by decide) _ _ _ _).trans ?_), (h c).2.2.2.2.1.trans ((cols_eq 128 1024 (by decide) _ _ _ _).trans ?_), (h c).2.2.2.2.2.1.trans ((cols_eq 128 1152 (by decide) _ _ _ _).trans ?_), (h c).2.2.2.2.2.2.1.trans ((cols_eq 512 1280 (by decide) _ _ _ _).trans ?_),
        (h c).2.2.2.2.2.2.2⟩
      · rw [e0, e1]
      all_goals rw [e0, e1, e2]) (run m' g')⟩

end Cert.Proj.Ref

end
-- ==== Proof.Merge.Kernel.lean ====
/-
  The mixer's output projection the kernel computes: its two result arrays, entry by entry.

  A point norms 1024 rows of the three streams, joins them side by side, multiplies by the output weights, and adds the norm of
  the product to the residual.
-/
module

public import proofs.«01_k».proof.Proof.Fwd.Kernel
public import proofs.«01_k».proof.Proof.Gen.MixOutIdeal.Value
public import Idealize.ShloMosaic.Lib.Pipeline.ValueKit

@[expose] public section

set_option maxRecDepth 16384

noncomputable section

namespace Cert.Merge

open Idealize.ShloMosaic Idealize.ShloMosaic.TcCoe Idealize.SL.Sem
open Cert.Fwd (Rows Gain normed dotp)

/-! ## The functions -/

/-- A row of width `n` divided by its root mean square; `len` is the width as a float. -/
def scaled {n : ℕ} (len : EReal) (v : Fin n → EReal) (d : Fin n) : EReal :=
  v d * Ideal.rsqrt (Ideal.div (∑ e : Fin n, v e * v e) len + Ideal.ofBits .f32 0x358637BD#32)

/-- Three rows side by side. -/
def joined (a : Fin 256 → EReal) (b : Fin 512 → EReal) (c : Fin 256 → EReal) (k : Fin 1024) : EReal :=
  if h : k.val < 256 then a ⟨k.val, h⟩
  else if h' : k.val - 256 < 512 then b ⟨k.val - 256, h'⟩
  else c ⟨k.val - 256 - 512, by omega⟩

abbrev Narrow : Type := Vec Ideal ⟨2, ![4096, 256]⟩ .f32
abbrev Wide : Type := Vec Ideal ⟨2, ![4096, 512]⟩ .f32
abbrev OutW : Type := Vec Ideal ⟨2, ![1024, 1024]⟩ .bf16

/-- Each stream's norm times its part of the gain. -/
def normA (y : Narrow) (q : Gain) (r : Fin 4096) (e : Fin 256) : EReal :=
  scaled (Ideal.ofBits .f32 0x43800000#32) (fun e => y (ix2 r e)) e * q (ix2 0 ⟨e.val, by omega⟩)
def normB (y : Wide) (q : Gain) (r : Fin 4096) (e : Fin 512) : EReal :=
  scaled (Ideal.ofBits .f32 0x44000000#32) (fun e => y (ix2 r e)) e * q (ix2 0 ⟨256 + e.val, by omega⟩)
def normC (y : Narrow) (q : Gain) (r : Fin 4096) (e : Fin 256) : EReal :=
  scaled (Ideal.ofBits .f32 0x43800000#32) (fun e => y (ix2 r e)) e * q (ix2 0 ⟨768 + e.val, by omega⟩)

/-- The joined norms against column `d` of the output weights. -/
def mixed (ya : Narrow) (yb : Wide) (yc : Narrow) (q : Gain) (w : OutW) (r : Fin 4096) (d : Fin 1024) : EReal :=
  dotp (joined (normA ya q r) (normB yb q r) (normC yc q r)) (fun k => w (ix2 k d))

/-- The two results. -/
def outO (ya : Narrow) (yb : Wide) (yc : Narrow) (q : Gain) (w : OutW) : Rows .f32 := fun i => mixed ya yb yc q w (i 0) (i 1)
def outX (x : Rows .f32) (ya : Narrow) (yb : Wide) (yc : Narrow) (q : Gain) (w : OutW) (p : Gain) : Rows .f32 := fun i =>
  (x (ix2 (i 0) (i 1)) : EReal) + normed (mixed ya yb yc q w (i 0)) (fun d => p (ix2 0 d)) (i 1)

/-! ## The payloads at an entry -/

open Cert.MixOutIdeal Cert.MixOutIdeal.Gen

theorem pay1_apply (a : FVec Ideal S1024x256 .f32) (b : FVec Ideal S1024x512 .f32) (c : FVec Ideal S1024x256 .f32) (q : Vec Ideal S1x256 .f32)
    (w : Vec Ideal S1024x1024 .bf16) (r d : Fin 1024) :
    k0_pay1 a b c q w (ix2 r d)
      = dotp (joined (fun e => a (ix2 r e)) (fun e => b (ix2 r e)) (fun e => c (ix2 r e) * q (ix2 0 e))) (fun k => w (ix2 k d)) := by
  unfold k0_pay1 dotp joined
  pointwise

theorem pay2_apply (a : FVec Ideal S1024x256 .f32) (b : FVec Ideal S1024x512 .f32) (c : FVec Ideal S1024x256 .f32) (q : Vec Ideal S1x256 .f32)
    (w : Vec Ideal S1024x1024 .bf16) (x : Vec Ideal S1024x1024 .f32) (p : Vec Ideal S1x1024 .f32) (r d : Fin 1024) :
    k0_pay2 a b c q w x p (ix2 r d)
      = (x (ix2 r d) : EReal) + normed (fun d => k0_pay1 a b c q w (ix2 r d)) (fun d => p (ix2 0 d)) d := by
  unfold k0_pay2 normed
  generalize k0_pay1 a b c q w = z
  pointwise

theorem pay3_apply (y : Vec Ideal S1024x256 .f32) (q : Vec Ideal S1x256 .f32) (r : Fin 1024) (e : Fin 256) :
    k0_pay3 y q (ix2 r e) = scaled (Ideal.ofBits .f32 0x43800000#32) (fun e => y (ix2 r e)) e * q (ix2 0 e) := by
  unfold k0_pay3 scaled; pointwise

theorem pay4_apply (y : Vec Ideal S1024x512 .f32) (q : Vec Ideal S1x512 .f32) (r : Fin 1024) (e : Fin 512) :
    k0_pay4 y q (ix2 r e) = scaled (Ideal.ofBits .f32 0x44000000#32) (fun e => y (ix2 r e)) e * q (ix2 0 e) := by
  unfold k0_pay4 scaled; pointwise

theorem pay5_apply (y : Vec Ideal S1024x256 .f32) (r : Fin 1024) (e : Fin 256) :
    k0_pay5 y (ix2 r e) = scaled (Ideal.ofBits .f32 0x43800000#32) (fun e => y (ix2 r e)) e := by
  unfold k0_pay5 scaled; pointwise

/-! ## The blocks -/

variable (m : (ℓ : Loc nD τ sig) → Buf (Elt Ideal) ℓ) (ρ : Dev nD → PrngReg)

theorem point_lt (t : Fin cfg0.N) : t.val < 4 := lt_of_lt_of_eq t.isLt (show cfg0.N = 4 from N_0)
theorem in_index : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) := by decide +kernel
theorem out_index : ∀ t : Fin grid0.N, (win0_7.index t 0 = t.val ∧ win0_7.index t 1 = 0) ∧ (win0_8.index t 0 = t.val ∧ win0_8.index t 1 = 0) := by
  decide +kernel

/-- The row of the arrays that is row `r` of point `t`'s blocks. -/
def rowOf (t : Fin cfg0.N) (r : Fin 1024) : Fin 4096 := ⟨t.val * 1024 + r.val, by have := point_lt t; omega⟩

/-- Where a block at index `(t, 0)` puts its entries. -/
theorem place0 {j t : ℕ} (h : j = t) (y : ℕ) : j * 1024 + 1 * y = t * 1024 + y := by omega
theorem place1 {j : ℕ} (h : j = 0) (n y : ℕ) : j * n + 1 * y = y := by rw [h]; omega

/-- Two entries of an array with equal coordinates. -/
theorem entry_eq {a b : ℕ} {e : EltTy} (X : Vec Ideal ⟨2, ![a, b]⟩ e) (i : Shape.Idx ⟨2, ![a, b]⟩) (r : Fin a) (k : Fin b)
    (h0 : (i 0).val = r.val) (h1 : (i 1).val = k.val) : X i = X (ix2 r k) :=
  congrArg X (funext fun x => match x with
    | ⟨0, _⟩ => Fin.ext h0
    | ⟨1, _⟩ => Fin.ext h1)

theorem blk0 (c : Dev nD) (t : Fin cfg0.N) (r d : Fin 1024) :
    iblk m c 0 t (ix2 r d) = m ((c : Thread nD τ).loc main_arg0) (ix2 (rowOf t r) d) :=
  (congrFun (V_main_arg0 m c) _).trans (entry_eq _ _ (rowOf t r) d (place0 (in_index t).1.1 _) (place1 (in_index t).1.2 1024 _))

theorem blk1 (c : Dev nD) (t : Fin cfg0.N) (r : Fin 1024) (e : Fin 256) :
    iblk m c 1 t (ix2 r e) = m ((c : Thread nD τ).loc main_arg1) (ix2 (rowOf t r) e) :=
  (congrFun (V_main_arg1 m c) _).trans (entry_eq _ _ (rowOf t r) e (place0 (in_index t).2.1.1 _) (place1 (in_index t).2.1.2 256 _))

theorem blk2 (c : Dev nD) (t : Fin cfg0.N) (r : Fin 1024) (e : Fin 512) :
    iblk m c 2 t (ix2 r e) = m ((c : Thread nD τ).loc main_arg2) (ix2 (rowOf t r) e) :=
  (congrFun (V_main_arg2 m c) _).trans (entry_eq _ _ (rowOf t r) e (place0 (in_index t).2.2.1.1 _) (place1 (in_index t).2.2.1.2 512 _))

theorem blk3 (c : Dev nD) (t : Fin cfg0.N) (r : Fin 1024) (e : Fin 256) :
    iblk m c 3 t (ix2 r e) = m ((c : Thread nD τ).loc main_arg3) (ix2 (rowOf t r) e) :=
  (congrFun (V_main_arg3 m c) _).trans (entry_eq _ _ (rowOf t r) e (place0 (in_index t).2.2.2.1.1 _) (place1 (in_index t).2.2.2.1.2 256 _))

theorem blk4 (c : Dev nD) (t : Fin cfg0.N) (d : Fin 1024) :
    iblk m c 4 t (ix2 0 d) = m ((c : Thread nD τ).loc main_arg4) (ix2 0 d) :=
  (congrFun (V_main_arg4 m c) _).trans (entry_eq _ _ 0 d (place1 (in_index t).2.2.2.2.1.1 1 _) (place1 (in_index t).2.2.2.2.1.2 1024 _))

theorem blk5 (c : Dev nD) (t : Fin cfg0.N) (k d : Fin 1024) :
    iblk m c 5 t (ix2 k d) = m ((c : Thread nD τ).loc main_arg5) (ix2 k d) :=
  (congrFun (V_main_arg5 m c) _).trans (entry_eq _ _ k d (place1 (in_index t).2.2.2.2.2.1.1 1024 _) (place1 (in_index t).2.2.2.2.2.1.2 1024 _))

theorem blk6 (c : Dev nD) (t : Fin cfg0.N) (d : Fin 1024) :
    iblk m c 6 t (ix2 0 d) = m ((c : Thread nD τ).loc main_arg6) (ix2 0 d) :=
  (congrFun (V_main_arg6 m c) _).trans (entry_eq _ _ 0 d (place1 (in_index t).2.2.2.2.2.2.1 1 _) (place1 (in_index t).2.2.2.2.2.2.2 1024 _))

/-- A part of the gain, loaded from column `o` on. -/
theorem part_apply (q : Vec Ideal S1x1024 .f32) (n o : ℕ) (inb : ∀ a, (![0, o] : Fin 2 → ℕ) a + (![1, n] : Fin 2 → ℕ) a ≤ S1x1024.size a) (e : Fin n)
    (h : o + e.val < 1024) :
    View.ld (Val := Elt Ideal) q (Rect.unit (s := S1x1024) ![0, o] ![1, n] inb) (ix2 0 e) = q (ix2 0 ⟨o + e.val, h⟩) := by
  refine entry_eq q _ 0 ⟨o + e.val, h⟩ ?_ ?_
  · show 0 + 1 * 0 = 0; rfl
  · show o + 1 * e.val = o + e.val; rw [Nat.one_mul]

/-- The product a point computes. -/
theorem prod_blk (c : Dev nD) (t : Fin cfg0.N) (r d : Fin 1024) :
    k0_pay1
        (k0_pay6 (iblk m c 0 t) (iblk m c 1 t) (iblk m c 2 t) (iblk m c 3 t) (iblk m c 4 t) (iblk m c 5 t) (iblk m c 6 t))
        (k0_pay7 (iblk m c 0 t) (iblk m c 1 t) (iblk m c 2 t) (iblk m c 3 t) (iblk m c 4 t) (iblk m c 5 t) (iblk m c 6 t))
        (k0_pay8 (iblk m c 0 t) (iblk m c 1 t) (iblk m c 2 t) (iblk m c 3 t) (iblk m c 4 t) (iblk m c 5 t) (iblk m c 6 t))
        (View.ld (iblk m c 4 t) r0_4) (iblk m c 5 t) (ix2 r d)
      = mixed (m ((c : Thread nD τ).loc main_arg1)) (m ((c : Thread nD τ).loc main_arg2)) (m ((c : Thread nD τ).loc main_arg3))
          (m ((c : Thread nD τ).loc main_arg4)) (m ((c : Thread nD τ).loc main_arg5)) (rowOf t r) d := by
  have hz : (![0, 0] : Fin 2 → ℕ) = fun _ => 0 := by decide
  have e1 : View.ld (iblk m c 1 t) r0_0 = iblk m c 1 t := View.ld_unit_zero (S := S1024x256) hz _ _
  have e2 : View.ld (iblk m c 2 t) r0_2 = iblk m c 2 t := View.ld_unit_zero (S := S1024x512) hz _ _
  have e3 : View.ld (iblk m c 3 t) r0_0 = iblk m c 3 t := View.ld_unit_zero (S := S1024x256) hz _ _
  have z (e : Fin 256) : (⟨0 + e.val, by omega⟩ : Fin 1024) = ⟨e.val, by omega⟩ := Fin.ext (Nat.zero_add _)
  refine (pay1_apply _ _ _ _ _ r d).trans (congrArg₂ dotp ?_ (funext fun k => blk5 m c t k d))
  have ha : (fun e => k0_pay6 (iblk m c 0 t) (iblk m c 1 t) (iblk m c 2 t) (iblk m c 3 t) (iblk m c 4 t) (iblk m c 5 t) (iblk m c 6 t) (ix2 r e))
      = normA (m ((c : Thread nD τ).loc main_arg1)) (m ((c : Thread nD τ).loc main_arg4)) (rowOf t r) := funext fun e => by
    unfold k0_pay6
    refine (congrFun (congrArg (fun v => k0_pay3 v _) e1) (ix2 r e)).trans ?_
    refine (pay3_apply _ _ r e).trans (congrArg₂ (· * ·) (congrArg (scaled _ · e) (funext fun e => blk1 m c t r e)) ?_)
    exact (part_apply _ 256 0 _ e (by omega)).trans ((blk4 m c t _).trans (congrArg (fun k => m ((c : Thread nD τ).loc main_arg4) (ix2 0 k)) (z e)))
  have hb : (fun e => k0_pay7 (iblk m c 0 t) (iblk m c 1 t) (iblk m c 2 t) (iblk m c 3 t) (iblk m c 4 t) (iblk m c 5 t) (iblk m c 6 t) (ix2 r e))
      = normB (m ((c : Thread nD τ).loc main_arg2)) (m ((c : Thread nD τ).loc main_arg4)) (rowOf t r) := funext fun e => by
    unfold k0_pay7
    refine (congrFun (congrArg (fun v => k0_pay4 v _) e2) (ix2 r e)).trans ?_
    refine (pay4_apply _ _ r e).trans (congrArg₂ (· * ·) (congrArg (scaled _ · e) (funext fun e => blk2 m c t r e)) ?_)
    exact (part_apply _ 512 256 _ e (by omega)).trans (blk4 m c t _)
  have hc : (fun e => k0_pay8 (iblk m c 0 t) (iblk m c 1 t) (iblk m c 2 t) (iblk m c 3 t) (iblk m c 4 t) (iblk m c 5 t) (iblk m c 6 t) (ix2 r e)
        * View.ld (iblk m c 4 t) r0_4 (ix2 0 e))
      = normC (m ((c : Thread nD τ).loc main_arg3)) (m ((c : Thread nD τ).loc main_arg4)) (rowOf t r) := funext fun e => by
    unfold k0_pay8
    refine congrArg₂ (· * ·) ((congrFun (congrArg (fun v => k0_pay5 v) e3) (ix2 r e)).trans <| (pay5_apply _ r e).trans (congrArg (scaled _ · e) (funext fun e => blk3 m c t r e))) ?_
    exact (part_apply _ 256 768 _ e (by omega)).trans (blk4 m c t _)
  exact (congrArg₂ (fun a b => joined a b _) ha hb).trans (congrArg (joined _ _) hc)

/-! ## The result arrays -/

theorem final7 (c : Dev nD) : (dats m 0 c).arrAt 7 cfg0.N
    = outX (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  frame_out
  obtain ⟨r, d, rfl⟩ : ∃ r d : Fin 1024, y = ix2 r d := ⟨y 0, y 1, eq_ix2 y⟩
  refine (pay2_apply _ _ _ _ _ _ _ r d).trans (Eq.trans ?_
    (entry_eq (a := 4096) (b := 1024) (outX _ _ _ _ _ _ _) _ (rowOf t r) d (place0 (out_index t).1.1 _) (place1 (out_index t).1.2 1024 _)).symm)
  exact congrArg₂ (fun a b : EReal => a + b) (blk0 m c t r d)
    (congrArg₂ (normed · · d) (funext fun d => prod_blk m c t r d) (funext fun d => blk6 m c t d))

theorem final8 (c : Dev nD) : (dats m 0 c).arrAt 8 cfg0.N
    = outO (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 8 _ (by decide +kernel) fun t hf y => ?_
  blk_simp
  rw [after0_8]
  frame_out
  obtain ⟨r, d, rfl⟩ : ∃ r d : Fin 1024, y = ix2 r d := ⟨y 0, y 1, eq_ix2 y⟩
  exact (prod_blk m c t r d).trans
    (entry_eq (a := 4096) (b := 1024) (outO _ _ _ _ _) _ (rowOf t r) d (place0 (out_index t).2.1 _) (place1 (out_index t).2.2 1024 _)).symm

end Cert.Merge

end
-- ==== Proof.Merge.Ref.lean ====
/-
  The mixer's output projection the reference computes: its two result arrays, entry by entry.
-/
module

public import proofs.«01_k».proof.Proof.Merge.Kernel
public import proofs.«01_k».proof.Proof.Gen.MixOutRefIdeal.Run
public import Idealize.ShloMosaic.Lib.KernelVsHost
public import proofs.«01_k».proof.Defs

@[expose] public section

set_option maxRecDepth 16384

noncomputable section

namespace Cert.Merge.Ref

open Idealize.ShloMosaic Idealize.ShloMosaic.TcCoe Idealize.SL.Sem
open Cert.Fwd (Rows Gain normed dotp)
open Cert.MixOutRefIdeal Cert.MixOutRefIdeal.Gen Cert.MixOutRefIdeal.Value

/-! ## The steps, as the reference spells them -/

def stepA (y : FVec Ideal S4096x256 .f32) (q : FVec Ideal S1x1024 .f32) : FVec Ideal S4096x256 .f32 :=
  mulf (mulf y (broadcastInDim S4096x256 ![0, 1] bcast_S4096x1_S4096x256_0_1 (Host.rsqrt (addf (Host.divf (broadcastInDim S4096x1 ![0] bcast_S4096_S4096x1_0 (Host.reduceAdd (mulf y y) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32)))))) (broadcastInDim S4096x256 ![0, 1] bcast_S1x256_S4096x256_0_1 (extractStridedSlice S1x256 ![0, 0] q slices_S1x1024_S1x256_0_0))

def stepB (y : FVec Ideal S4096x512 .f32) (q : FVec Ideal S1x1024 .f32) : FVec Ideal S4096x512 .f32 :=
  mulf (mulf y (broadcastInDim S4096x512 ![0, 1] bcast_S4096x1_S4096x512_0_1 (Host.rsqrt (addf (Host.divf (broadcastInDim S4096x1 ![0] bcast_S4096_S4096x1_0 (Host.reduceAdd (mulf y y) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 (extractStridedSlice S1x512 ![0, 256] q slices_S1x1024_S1x512_0_256))

def stepC (y : FVec Ideal S4096x256 .f32) (q : FVec Ideal S1x1024 .f32) : FVec Ideal S4096x256 .f32 :=
  mulf (mulf y (broadcastInDim S4096x256 ![0, 1] bcast_S4096x1_S4096x256_0_1 (Host.rsqrt (addf (Host.divf (broadcastInDim S4096x1 ![0] bcast_S4096_S4096x1_0 (Host.reduceAdd (mulf y y) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32)))))) (broadcastInDim S4096x256 ![0, 1] bcast_S1x256_S4096x256_0_1 (extractStridedSlice S1x256 ![0, 768] q slices_S1x1024_S1x256_0_768))

def join (a : FVec Ideal S4096x256 .f32) (b : FVec Ideal S4096x512 .f32) (c : FVec Ideal S4096x256 .f32) : FVec Ideal S4096x1024 .f32 :=
  concatenate S4096x1024 1 [⟨S4096x256, a⟩, ⟨S4096x512, b⟩, ⟨S4096x256, c⟩] concatenates_S4096x256_S4096x512_S4096x256_S4096x1024_d1

def prodH (a : FVec Ideal S4096x1024 .f32) (w : FVec Ideal S1024x1024 .bf16) : FVec Ideal S4096x1024 .f32 :=
  Host.dotGeneral dot_S4096x1024_S1024x1024_S4096x1024_1_0_0_1_n_n none a (extf .f32 w bitsLt_bf16_f32)

def sumH (x z : FVec Ideal S4096x1024 .f32) (p : FVec Ideal S1x1024 .f32) : FVec Ideal S4096x1024 .f32 :=
  addf x (mulf (mulf z (broadcastInDim S4096x1024 ![0, 1] bcast_S4096x1_S4096x1024_0_1 (Host.rsqrt (addf (Host.divf (broadcastInDim S4096x1 ![0] bcast_S4096_S4096x1_0 (Host.reduceAdd (mulf z z) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 p))

/-! ## The steps at an entry -/

theorem stepA_at (y : FVec Ideal S4096x256 .f32) (q : FVec Ideal S1x1024 .f32) (r : Fin 4096) (e : Fin 256) :
    stepA y q (ix2 r e) = normA y q r e := by
  unfold stepA normA scaled; pointwise

theorem stepB_at (y : FVec Ideal S4096x512 .f32) (q : FVec Ideal S1x1024 .f32) (r : Fin 4096) (e : Fin 512) :
    stepB y q (ix2 r e) = normB y q r e := by
  unfold stepB normB scaled; pointwise

theorem stepC_at (y : FVec Ideal S4096x256 .f32) (q : FVec Ideal S1x1024 .f32) (r : Fin 4096) (e : Fin 256) :
    stepC y q (ix2 r e) = normC y q r e := by
  unfold stepC normC scaled; pointwise

theorem prod_at (a : FVec Ideal S4096x256 .f32) (b : FVec Ideal S4096x512 .f32) (c : FVec Ideal S4096x256 .f32) (w : FVec Ideal S1024x1024 .bf16)
    (r : Fin 4096) (d : Fin 1024) :
    prodH (join a b c) w (ix2 r d)
      = dotp (joined (fun e => a (ix2 r e)) (fun e => b (ix2 r e)) (fun e => c (ix2 r e))) (fun k => w (ix2 k d)) := by
  unfold prodH join dotp joined
  pointwise

theorem sum_at (x z : FVec Ideal S4096x1024 .f32) (p : FVec Ideal S1x1024 .f32) (r : Fin 4096) (d : Fin 1024) :
    sumH x z p (ix2 r d) = (x (ix2 r d) : EReal) + normed (fun d => z (ix2 r d)) (fun d => p (ix2 0 d)) d := by
  unfold sumH normed; pointwise

/-! ## The results -/

theorem resO (ya : FVec Ideal S4096x256 .f32) (yb : FVec Ideal S4096x512 .f32) (yc : FVec Ideal S4096x256 .f32) (q : FVec Ideal S1x1024 .f32)
    (w : FVec Ideal S1024x1024 .bf16) : prodH (join (stepA ya q) (stepB yb q) (stepC yc q)) w = outO ya yb yc q w := by
  funext i
  obtain ⟨r, d, rfl⟩ : ∃ (r : Fin 4096) (d : Fin 1024), i = ix2 r d := ⟨i 0, i 1, eq_ix2 i⟩
  refine (prod_at _ _ _ w r d).trans (congrArg (dotp · fun k => w (ix2 k d)) ?_)
  exact (congrArg₂ (fun a b => joined a b _) (funext fun e => stepA_at ya q r e) (funext fun e => stepB_at yb q r e)).trans
    (congrArg (joined _ _) (funext fun e => stepC_at yc q r e))

theorem resX (x : FVec Ideal S4096x1024 .f32) (ya : FVec Ideal S4096x256 .f32) (yb : FVec Ideal S4096x512 .f32) (yc : FVec Ideal S4096x256 .f32)
    (q : FVec Ideal S1x1024 .f32) (w : FVec Ideal S1024x1024 .bf16) (p : FVec Ideal S1x1024 .f32) :
    sumH x (prodH (join (stepA ya q) (stepB yb q) (stepC yc q)) w) p = outX x ya yb yc q w p := by
  rw [resO]
  funext i
  obtain ⟨r, d, rfl⟩ : ∃ (r : Fin 4096) (d : Fin 1024), i = ix2 r d := ⟨i 0, i 1, eq_ix2 i⟩
  exact sum_at x _ p r d

theorem raw0 (m : (ℓ : Loc nD τ sig) → Buf (Elt Ideal) ℓ) (c : Dev nD) :
    res_main_v54 m c = sumH (m ((c.tc : Thread nD τ).loc main_arg0)) (prodH (join (stepA (m ((c.tc : Thread nD τ).loc main_arg1)) (m ((c.tc : Thread nD τ).loc main_arg4))) (stepB (m ((c.tc : Thread nD τ).loc main_arg2)) (m ((c.tc : Thread nD τ).loc main_arg4)))
      (stepC (m ((c.tc : Thread nD τ).loc main_arg3)) (m ((c.tc : Thread nD τ).loc main_arg4)))) (m ((c.tc : Thread nD τ).loc main_arg5))) (m ((c.tc : Thread nD τ).loc main_arg6)) := rfl

/-- From any launch, the kernel's result arrays and the reference's are the same functions of the arguments. -/
theorem algebraic : Cert.algebraic_MixOutIdeal_MixOutRefIdeal := fun m g m' g' _ hagree =>
  ⟨fun c => outX (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)),
    fun c => outO (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)),
    (θ_run _ _ _).mono (fun _ h c => ⟨(h c).1.trans (Cert.Merge.final7 m c), (h c).2.1.trans (Cert.Merge.final8 m c), (h c).2.2⟩) (Cert.MixOutIdeal.Value.run_blocks m g),
    (θ_run _ _ _).mono (fun _ h c => by
      obtain ⟨e0, e1, e2, e3, e4, e5, e6⟩ := hagree c
      refine ⟨(h c).1.trans ((raw0 m' c).trans ((resX _ _ _ _ _ _ _).trans ?_)), (h c).2.1.trans ((resO _ _ _ _ _).trans ?_), (h c).2.2⟩
      · rw [e0, e1, e2, e3, e4, e5, e6]
      · rw [e1, e2, e3, e4, e5]) (run m' g')⟩

end Cert.Merge.Ref

end
-- ==== Proof.lean ====
module

public import proofs.«01_k».proof.Defs
public import proofs.«01_k».proof.Proof.Gen.FfnF
public import proofs.«01_k».proof.Proof.Gen.FfnF.Skeleton
public import proofs.«01_k».proof.Proof.Gen.FfnF.Launch
public import proofs.«01_k».proof.Proof.Gen.FfnF.Points
public import proofs.«01_k».proof.Proof.Gen.FfnF.Frame
public import proofs.«01_k».proof.Proof.Gen.FfnFIdeal
public import proofs.«01_k».proof.Proof.Gen.FfnFIdeal.Skeleton
public import proofs.«01_k».proof.Proof.Gen.FfnFIdeal.Launch
public import proofs.«01_k».proof.Proof.Gen.FfnFIdeal.Points
public import proofs.«01_k».proof.Proof.Gen.FfnFIdeal.Frame
public import proofs.«01_k».proof.Proof.Gen.FfnFRefIdeal
public import proofs.«01_k».proof.Proof.Gen.FfnFRefIdeal.Run
public import proofs.«01_k».proof.Proof.Gen.FfnB
public import proofs.«01_k».proof.Proof.Gen.FfnB.Skeleton
public import proofs.«01_k».proof.Proof.Gen.FfnB.Launch
public import proofs.«01_k».proof.Proof.Gen.FfnB.Points
public import proofs.«01_k».proof.Proof.Gen.FfnB.Frame
public import proofs.«01_k».proof.Proof.Gen.FfnBIdeal
public import proofs.«01_k».proof.Proof.Gen.FfnBIdeal.Skeleton
public import proofs.«01_k».proof.Proof.Gen.FfnBIdeal.Launch
public import proofs.«01_k».proof.Proof.Gen.FfnBIdeal.Points
public import proofs.«01_k».proof.Proof.Gen.FfnBIdeal.Frame
public import proofs.«01_k».proof.Proof.Gen.FfnBRefIdeal
public import proofs.«01_k».proof.Proof.Gen.FfnBRefIdeal.Run
public import proofs.«01_k».proof.Proof.Gen.FfnL
public import proofs.«01_k».proof.Proof.Gen.FfnL.Skeleton
public import proofs.«01_k».proof.Proof.Gen.FfnL.Launch
public import proofs.«01_k».proof.Proof.Gen.FfnL.Points
public import proofs.«01_k».proof.Proof.Gen.FfnL.Frame
public import proofs.«01_k».proof.Proof.Gen.FfnLIdeal
public import proofs.«01_k».proof.Proof.Gen.FfnLIdeal.Skeleton
public import proofs.«01_k».proof.Proof.Gen.FfnLIdeal.Launch
public import proofs.«01_k».proof.Proof.Gen.FfnLIdeal.Points
public import proofs.«01_k».proof.Proof.Gen.FfnLIdeal.Frame
public import proofs.«01_k».proof.Proof.Gen.FfnLRefIdeal
public import proofs.«01_k».proof.Proof.Gen.FfnLRefIdeal.Run
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.GluBwd
public import proofs.«01_k».proof.Proof.Gen.GluBwd.Skeleton
public import proofs.«01_k».proof.Proof.Gen.GluBwd.Launch
public import proofs.«01_k».proof.Proof.Gen.GluBwd.Points
public import proofs.«01_k».proof.Proof.Gen.GluBwd.Frame
public import proofs.«01_k».proof.Proof.Gen.GluBwdIdeal
public import proofs.«01_k».proof.Proof.Gen.GluBwdIdeal.Skeleton
public import proofs.«01_k».proof.Proof.Gen.GluBwdIdeal.Launch
public import proofs.«01_k».proof.Proof.Gen.GluBwdIdeal.Points
public import proofs.«01_k».proof.Proof.Gen.GluBwdIdeal.Frame
public import proofs.«01_k».proof.Proof.Gen.GluRefIdeal
public import proofs.«01_k».proof.Proof.Gen.FfnW
public import proofs.«01_k».proof.Proof.Gen.FfnW.Skeleton
public import proofs.«01_k».proof.Proof.Gen.FfnW.Launch
public import proofs.«01_k».proof.Proof.Gen.FfnW.Points
public import proofs.«01_k».proof.Proof.Gen.FfnW.Frame
public import proofs.«01_k».proof.Proof.Gen.FfnWIdeal
public import proofs.«01_k».proof.Proof.Gen.FfnWIdeal.Skeleton
public import proofs.«01_k».proof.Proof.Gen.FfnWIdeal.Launch
public import proofs.«01_k».proof.Proof.Gen.FfnWIdeal.Points
public import proofs.«01_k».proof.Proof.Gen.FfnWIdeal.Frame
public import proofs.«01_k».proof.Proof.Gen.FfnWRefIdeal
public import proofs.«01_k».proof.Proof.Glu.Ref
public import proofs.«01_k».proof.Proof.WGrad.Ref
public import proofs.«01_k».proof.Proof.Fwd.Ref
public import proofs.«01_k».proof.Proof.Fwd.Bitwise
public import proofs.«01_k».proof.Proof.Bwd.Ref
public import proofs.«01_k».proof.Proof.Bwd.Bitwise
public import proofs.«01_k».proof.Proof.Loss.Ref
public import proofs.«01_k».proof.Proof.Loss.Bitwise
public import proofs.«01_k».proof.Proof.Proj.Ref
public import proofs.«01_k».proof.Proof.Merge.Ref
public import proofs.«01_k».proof.Proof.Gen.GluBwdIdeal.Value
public import proofs.«01_k».proof.Proof.Gen.GluRefIdeal.Run
public import proofs.«01_k».proof.Proof.Gen.FfnWIdeal.Value
public import proofs.«01_k».proof.Proof.Gen.FfnWRefIdeal.Run
public import Idealize.ShloMosaic.Adequacy
public import Idealize.ShloMosaic.Init

@[expose] public section

noncomputable section

namespace Cert.Proof

open Idealize.ShloMosaic Idealize.SL.Sem Cert.GluBwd

theorem frame_glu_ref : Cert.quiescent_GluRefIdeal := fun m ρ _ =>
  (θ_run _ _ _).mono (fun r h => ⟨fun c => (h c).2, sem_eq_zero_of_no_sems (by decide) r.2⟩) (Cert.GluRefIdeal.Value.run m ρ)

theorem frame_ffn_w_ref : Cert.quiescent_FfnWRefIdeal := fun m ρ _ =>
  (θ_run _ _ _).mono (fun r h => ⟨fun c => (h c).2.2.2, sem_eq_zero_of_no_sems (by decide) r.2⟩) (Cert.FfnWRefIdeal.Value.run m ρ)

theorem frame_ffn_f_ref : Cert.quiescent_FfnFRefIdeal := fun m ρ _ =>
  (θ_run _ _ _).mono (fun r h => ⟨fun c => (h c).2.2.2.2.2, sem_eq_zero_of_no_sems (by decide) r.2⟩) (Cert.FfnFRefIdeal.Value.run m ρ)

theorem frame_ffn_b_ref : Cert.quiescent_FfnBRefIdeal := fun m ρ _ =>
  (θ_run _ _ _).mono (fun r h => ⟨fun c => (h c).2.2.2.2.2.2, sem_eq_zero_of_no_sems (by decide) r.2⟩) (Cert.FfnBRefIdeal.Value.run m ρ)

theorem frame_ffn_l_ref : Cert.quiescent_FfnLRefIdeal := fun m ρ _ =>
  (θ_run _ _ _).mono (fun r h => ⟨fun c => (h c).2.2.2.2.2.2.2, sem_eq_zero_of_no_sems (by decide) r.2⟩) (Cert.FfnLRefIdeal.Value.run m ρ)

theorem frame_mix_in_ref : Cert.quiescent_MixInRefIdeal := fun m ρ _ =>
  (θ_run _ _ _).mono (fun r h => ⟨fun c => (h c).2.2.2.2.2.2.2, sem_eq_zero_of_no_sems (by decide) r.2⟩) (Cert.MixInRefIdeal.Value.run m ρ)

theorem frame_mix_out_ref : Cert.quiescent_MixOutRefIdeal := fun m ρ _ =>
  (θ_run _ _ _).mono (fun r h => ⟨fun c => (h c).2.2, sem_eq_zero_of_no_sems (by decide) r.2⟩) (Cert.MixOutRefIdeal.Value.run m ρ)

/-- The side conditions of the preconditions' operations. -/
theorem facts_finite : Cert.Pre_finite.Facts where
  bcast_S_S4096x1024 := by decide
  reducesTo_S4096x1024_S_d0_1 := by decide
  h_S_ := by decide
  bcast_S_S1x1024 := by decide
  reducesTo_S1x1024_S_d0_1 := by decide
  bitsLt_bf16_f32 := by decide
  bcast_S_S4x4096x704 := by decide
  reducesTo_S4x4096x704_S_d0_1_2 := by decide
  bcast_S_S8x352x1024 := by decide
  reducesTo_S8x352x1024_S_d0_1_2 := by decide

theorem facts_finite_l : Cert.Pre_finite_l.Facts where
  bcast_S_S4096x1024 := by decide
  reducesTo_S4096x1024_S_d0_1 := by decide
  h_S_ := by decide
  bcast_S_S1x1024 := by decide
  reducesTo_S1x1024_S_d0_1 := by decide
  bitsLt_bf16_f32 := by decide
  bcast_S_S4x4096x704 := by decide
  reducesTo_S4x4096x704_S_d0_1_2 := by decide
  bcast_S_S8x352x1024 := by decide
  reducesTo_S8x352x1024_S_d0_1_2 := by decide

theorem claim : Cert.Claim := ⟨Cert.GluBwd.Gen.facts, Cert.GluBwdIdeal.Gen.facts, Cert.GluRefIdeal.Gen.facts, Cert.FfnW.Gen.facts, Cert.FfnWIdeal.Gen.facts, Cert.FfnWRefIdeal.Gen.facts,
  Cert.FfnF.Gen.facts, Cert.FfnFIdeal.Gen.facts, Cert.FfnFRefIdeal.Gen.facts,
  Cert.FfnB.Gen.facts, Cert.FfnBIdeal.Gen.facts, Cert.FfnBRefIdeal.Gen.facts,
  Cert.FfnL.Gen.facts, Cert.FfnLIdeal.Gen.facts, Cert.FfnLRefIdeal.Gen.facts,
  Cert.MixIn.Gen.facts, Cert.MixInIdeal.Gen.facts, Cert.MixInRefIdeal.Gen.facts, Cert.MixOut.Gen.facts, Cert.MixOutIdeal.Gen.facts, Cert.MixOutRefIdeal.Gen.facts,
  facts_finite, facts_finite_l, ⟨
  fun m ρ _ => Cert.GluBwd.Gen.frame m ρ, fun m ρ _ => Cert.GluBwdIdeal.Gen.frame m ρ, frame_glu_ref,
  fun m ρ _ => Cert.FfnW.Gen.frame m ρ, fun m ρ _ => Cert.FfnWIdeal.Gen.frame m ρ, frame_ffn_w_ref,
  Cert.Fwd.frame_kernel, fun m ρ _ => Cert.Fwd.frame (F := Ideal) m ρ, frame_ffn_f_ref,
  Cert.Bwd.frame_kernel, fun m ρ _ => Cert.Bwd.frame (F := Ideal) m ρ, fun m ρ _ => Cert.Bwd.frame (F := Ideal) m ρ,
  frame_ffn_b_ref, fun m ρ _ => frame_ffn_b_ref m ρ trivial,
  Cert.Loss.frame_kernel, fun m ρ _ => Cert.Loss.frame (F := Ideal) m ρ, fun m ρ _ => Cert.Loss.frame (F := Ideal) m ρ,
  frame_ffn_l_ref, fun m ρ _ => frame_ffn_l_ref m ρ trivial,
  fun m ρ _ => Cert.MixIn.Gen.frame m ρ, fun m ρ _ => Cert.MixInIdeal.Gen.frame m ρ, frame_mix_in_ref,
  fun m ρ _ => Cert.MixOut.Gen.frame m ρ, fun m ρ _ => Cert.MixOutIdeal.Gen.frame m ρ, frame_mix_out_ref,
  trivial, Cert.Glu.Ref.algebraic, trivial, Cert.WGrad.Ref.algebraic, trivial, Cert.Fwd.Ref.algebraic,
  trivial, Cert.Bwd.Ref.algebraic (hf := facts_finite),
  trivial, Cert.Loss.Ref.algebraic (hf := facts_finite_l),
  trivial, Cert.Proj.Ref.algebraic, trivial, Cert.Merge.Ref.algebraic⟩⟩

end Cert.Proof

end
